-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "c_scale" .f32 0x3E0293EE#32 (((Real.sqrt 128)⁻¹ * (Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v68_0)) (v1 : (c : Dev Cert.Kernel2Ideal.nD) → Buf (Elt Ideal) ((c.tc : Thread Cert.Kernel2Ideal.nD Cert.Kernel2Ideal.τ).loc Cert.Kernel2Ideal.main_v68_1)) (v2 : (c : Dev Cert.Kernel2Ideal.nD) → Buf (Elt Ideal) ((c.tc : Thread Cert.Kernel2Ideal.nD Cert.Kernel2Ideal.τ).loc Cert.Kernel2Ideal.main_v68_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v68_0) = v0 c
          ∧ r.2.mem ((c.tc : Thread Cert.Kernel2Ideal.nD Cert.Kernel2Ideal.τ).loc Cert.Kernel2Ideal.main_v68_1) = v1 c
          ∧ r.2.mem ((c.tc : Thread Cert.Kernel2Ideal.nD Cert.Kernel2Ideal.τ).loc Cert.Kernel2Ideal.main_v68_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v150) = v0 c
          ∧ r.2.mem ((c.tc : Thread Cert.Reference2Ideal.nD Cert.Reference2Ideal.τ).loc Cert.Reference2Ideal.main_v151) = v1 c
          ∧ r.2.mem ((c.tc : Thread Cert.Reference2Ideal.nD Cert.Reference2Ideal.τ).loc Cert.Reference2Ideal.main_v153) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16x2048x4x2x64 : Shape := ⟨5, ![16, 2048, 4, 2, 64]⟩
abbrev S16x2048x512 : Shape := ⟨3, ![16, 2048, 512]⟩
abbrev S32768x6144 : Shape := ⟨2, ![32768, 6144]⟩
abbrev S4x64 : Shape := ⟨2, ![4, 64]⟩
abbrev S128 : Shape := ⟨1, ![128]⟩
abbrev S_ : Shape := ⟨0, ![]⟩

class Facts : Prop where
  bcast_S_S16x2048x4x2x64 : S_.BroadcastsInDim S16x2048x4x2x64 (![] : Fin 0 → Fin S16x2048x4x2x64.rank)
  bcast_S_S16x2048x512 : S_.BroadcastsInDim S16x2048x512 (![] : Fin 0 → Fin S16x2048x512.rank)
  bcast_S_S4x64 : S_.BroadcastsInDim S4x64 (![] : Fin 0 → Fin S4x64.rank)

variable [Facts]

def fn {F : FTy → Type} [FloatOps F] (main_arg0 : FVec F S16x2048x4x2x64 .f32) (main_arg1 : FVec F S16x2048x4x2x64 .f32) (main_arg2 : FVec F S16x2048x512 .f32) (main_arg3 : FVec F S16x2048x512 .f32) (main_arg4 : FVec F S32768x6144 .f32) (main_arg5 : FVec F S4x64 .f32) (main_arg6 : FVec F S128 .f32) : IVec S16x2048x4x2x64 1 × IVec S16x2048x4x2x64 1 × IVec S16x2048x512 1 × IVec S4x64 1 :=
  let main_v0 : FVec F S16x2048x4x2x64 .f32 := Host.absf main_arg0
  let main_cst : FVec F S_ .f32 := constant S_ .f32 0x7F800000#32
  let main_v1 : FVec F S16x2048x4x2x64 .f32 := broadcastInDim S16x2048x4x2x64 ![] bcast_S_S16x2048x4x2x64 main_cst
  let main_v2 : IVec S16x2048x4x2x64 1 := cmpf .olt main_v0 main_v1
  let main_v3 : FVec F S16x2048x4x2x64 .f32 := Host.absf main_arg1
  let main_cst_0 : FVec F S_ .f32 := constant S_ .f32 0x7F800000#32
  let main_v4 : FVec F S16x2048x4x2x64 .f32 := broadcastInDim S16x2048x4x2x64 ![] bcast_S_S16x2048x4x2x64 main_cst_0
  let main_v5 : IVec S16x2048x4x2x64 1 := cmpf .olt main_v3 main_v4
  let main_v6 : FVec F S16x2048x512 .f32 := Host.absf main_arg2
  let main_cst_1 : FVec F S_ .f32 := constant S_ .f32 0x7F800000#32
  let main_v7 : FVec F S16x2048x512 .f32 := broadcastInDim S16x2048x512 ![] bcast_S_S16x2048x512 main_cst_1
  let main_v8 : IVec S16x2048x512 1 := cmpf .olt main_v6 main_v7
  let main_v9 : FVec F S4x64 .f32 := Host.absf main_arg5
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  (main_v2, main_v5, main_v8, main_v11)
-- ==== Pre_finite2.lean ====
abbrev S16x2048x1024 : Shape := ⟨3, ![16, 2048, 1024]⟩
abbrev S1024 : Shape := ⟨1, ![1024]⟩
abbrev S1024x8320 : Shape := ⟨2, ![1024, 8320]⟩
abbrev S64 : Shape := ⟨1, ![64]⟩
abbrev S128 : Shape := ⟨1, ![128]⟩
abbrev S16x256x512 : Shape := ⟨3, ![16, 256, 512]⟩
abbrev S_ : Shape := ⟨0, ![]⟩

class Facts : Prop where
  bcast_S_S16x2048x1024 : S_.BroadcastsInDim S16x2048x1024 (![] : Fin 0 → Fin S16x2048x1024.rank)
  bcast_S_S1024 : S_.BroadcastsInDim S1024 (![] : Fin 0 → Fin S1024.rank)
  bcast_S_S1024x8320 : S_.BroadcastsInDim S1024x8320 (![] : Fin 0 → Fin S1024x8320.rank)
  bcast_S_S128 : S_.BroadcastsInDim S128 (![] : Fin 0 → Fin S128.rank)
  bcast_S_S16x256x512 : S_.BroadcastsInDim S16x256x512 (![] : Fin 0 → Fin S16x256x512.rank)

variable [Facts]

def fn {F : FTy → Type} [FloatOps F] (main_arg0 : FVec F S16x2048x1024 .f32) (main_arg1 : FVec F S1024 .f32) (main_arg2 : FVec F S1024x8320 .f32) (main_arg3 : FVec F S64 .f32) (main_arg4 : FVec F S64 .f32) (main_arg5 : FVec F S128 .f32) (main_arg6 : FVec F S16x256x512 .f32) (main_arg7 : FVec F S16x256x512 .f32) : IVec S16x2048x1024 1 × IVec S1024 1 × IVec S1024x8320 1 × IVec S128 1 × IVec S16x256x512 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x8320 .f32 := Host.absf main_arg2
  let main_cst_1 : FVec F S_ .f32 := constant S_ .f32 0x7F800000#32
  let main_v7 : FVec F S1024x8320 .f32 := broadcastInDim S1024x8320 ![] bcast_S_S1024x8320 main_cst_1
  let main_v8 : IVec S1024x8320 1 := cmpf .olt main_v6 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S16x256x512 .f32 := Host.absf main_arg6
  let main_cst_3 : FVec F S_ .f32 := constant S_ .f32 0x7F800000#32
  let main_v13 : FVec F S16x256x512 .f32 := broadcastInDim S16x256x512 ![] bcast_S_S16x256x512 main_cst_3
  let main_v14 : IVec S16x256x512 1 := cmpf .olt main_v12 main_v13
  (main_v2, main_v5, main_v8, main_v11, main_v14)
-- ==== Kernel.lean ====
abbrev S16x2048x4x2x64 : Shape := ⟨5, ![16, 2048, 4, 2, 64]⟩
abbrev S16x2048x512 : Shape := ⟨3, ![16, 2048, 512]⟩
abbrev S32768x6144 : Shape := ⟨2, ![32768, 6144]⟩
abbrev S4x64 : Shape := ⟨2, ![4, 64]⟩
abbrev S128 : Shape := ⟨1, ![128]⟩
abbrev S32768x512 : Shape := ⟨2, ![32768, 512]⟩
abbrev S32768x8192 : Shape := ⟨2, ![32768, 8192]⟩
abbrev S1x128 : Shape := ⟨2, ![1, 128]⟩
abbrev S256x512 : Shape := ⟨2, ![256, 512]⟩
abbrev S2048x512 : Shape := ⟨2, ![2048, 512]⟩
abbrev S4x512x128 : Shape := ⟨3, ![4, 512, 128]⟩
abbrev S8x4x512x256 : Shape := ⟨4, ![8, 4, 512, 256]⟩
abbrev S256x128 : Shape := ⟨2, ![256, 128]⟩
abbrev S512x128 : Shape := ⟨2, ![512, 128]⟩
abbrev S1x512x128 : Shape := ⟨3, ![1, 512, 128]⟩
abbrev S512x256 : Shape := ⟨2, ![512, 256]⟩
abbrev S1x1x512x256 : Shape := ⟨4, ![1, 1, 512, 256]⟩
abbrev S512 : Shape := ⟨1, ![512]⟩
abbrev S512x1 : Shape := ⟨2, ![512, 1]⟩
abbrev S512x512 : Shape := ⟨2, ![512, 512]⟩
abbrev S1x64 : Shape := ⟨2, ![1, 64]⟩
abbrev S1 : Shape := ⟨1, ![1]⟩
abbrev S1x1 : Shape := ⟨2, ![1, 1]⟩
abbrev S256x1 : Shape := ⟨2, ![256, 1]⟩
abbrev S256 : Shape := ⟨1, ![256]⟩

abbrev nBuf : Space → Nat
  | .hbm => 15
  | .vmem => 17
  | .smem => 0
  | _ => 0

abbrev bufTy : (tb : Table) → Fin (tcTables nBuf tb) → BufTy
  | .hbm, ⟨0, _⟩ => ⟨S16x2048x4x2x64, .f32⟩
  | .hbm, ⟨1, _⟩ => ⟨S16x2048x4x2x64, .f32⟩
  | .hbm, ⟨2, _⟩ => ⟨S16x2048x512, .f32⟩
  | .hbm, ⟨3, _⟩ => ⟨S16x2048x512, .f32⟩
  | .hbm, ⟨4, _⟩ => ⟨S32768x6144, .f32⟩
  | .hbm, ⟨5, _⟩ => ⟨S4x64, .f32⟩
  | .hbm, ⟨6, _⟩ => ⟨S128, .f32⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S32768x8192, .f32⟩
  | .hbm, ⟨12, _⟩ => ⟨S32768x8192, .bf16⟩
  | .hbm, ⟨13, _⟩ => ⟨S1x128, .f32⟩
  | .hbm, ⟨14, _⟩ => ⟨S32768x512, .bf16⟩
  | .local _ .vmem, ⟨0, _⟩ => ⟨S4x64, .f32⟩
  | .local _ .vmem, ⟨1, _⟩ => ⟨S256x512, .bf16⟩
  | .local _ .vmem, ⟨2, _⟩ => ⟨S256x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S256x512, .bf16⟩
  | .local _ .vmem, ⟨8, _⟩ => ⟨S256x512, .bf16⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S4x512x128, .bf16⟩
  | .local _ .vmem, ⟨13, _⟩ => ⟨S4x512x128, .f32⟩
  | .local _ .vmem, ⟨14, _⟩ => ⟨S4x512x128, .f32⟩
  | .local _ .vmem, ⟨15, _⟩ => ⟨S4x512x128, .f32⟩
  | .local _ .vmem, ⟨16, _⟩ => ⟨S8x4x512x256, .f32⟩
  | _, _ => ⟨S16x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c0_i32 : BitVec 32 := 0#32
  let v69 : BitVec 32 := Scalar.addi arg1 c0_i32
  let c256_i32 : BitVec 32 := 256#32
  let v70 : BitVec 32 := Scalar.muli v69 c256_i32
  v70
def k0_off1 (i : grid0.Coords) : Fin 2 → Nat :=
  let arg1 : BitVec 32 := BitVec.ofNat 32 (i 1).val
  let c0_i32 : BitVec 32 := 0#32
  let v69 : BitVec 32 := Scalar.addi arg1 c0_i32
  let c256_i32 : BitVec 32 := 256#32
  let v70 : BitVec 32 := Scalar.muli v69 c256_i32
  let v71 : BitVec 32 := v70
  let v74 : Index := Scalar.indexCast v71
  let c0_30 : Index := 0#32
  ![v74.toNat, 0]
def k0_off2 (i : grid0.Coords) : Fin 2 → Nat :=
  let arg1 : BitVec 32 := BitVec.ofNat 32 (i 1).val
  let c0_i32 : BitVec 32 := 0#32
  let v69 : BitVec 32 := Scalar.addi arg1 c0_i32
  let c256_i32 : BitVec 32 := 256#32
  let v70 : BitVec 32 := Scalar.muli v69 c256_i32
  let v71 : BitVec 32 := v70
  let v90 : Index := Scalar.indexCast v71
  let c128_38 : Index := 128#32
  ![v90.toNat, 128]
def k0_off3 (i : grid0.Coords) : Fin 2 → Nat :=
  let arg1 : BitVec 32 := BitVec.ofNat 32 (i 1).val
  let c0_i32 : BitVec 32 := 0#32
  let v69 : BitVec 32 := Scalar.addi arg1 c0_i32
  let c256_i32 : BitVec 32 := 256#32
  let v70 : BitVec 32 := Scalar.muli v69 c256_i32
  let v71 : BitVec 32 := v70
  let v106 : Index := Scalar.indexCast v71
  let c256_46 : Index := 256#32
  ![v106.toNat, 256]
def k0_off4 (i : grid0.Coords) : Fin 2 → Nat :=
  let arg1 : BitVec 32 := BitVec.ofNat 32 (i 1).val
  let c0_i32 : BitVec 32 := 0#32
  let v69 : BitVec 32 := Scalar.addi arg1 c0_i32
  let c256_i32 : BitVec 32 := 256#32
  let v70 : BitVec 32 := Scalar.muli v69 c256_i32
  let v71 : BitVec 32 := v70
  let v122 : Index := Scalar.indexCast v71
  let c384_54 : Index := 384#32
  ![v122.toNat, 384]
def k0_off5 (i : grid0.Coords) : Fin 4 → Nat :=
  let arg1 : BitVec 32 := BitVec.ofNat 32 (i 1).val
  let c0_i32_59 : BitVec 32 := 0#32
  let v136 : BitVec 32 := Scalar.addi arg1 c0_i32_59
  let v137 : Index := Scalar.indexCast v136
  let c0_60 : Index := 0#32
  let c0_61 : Index := 0#32
  let c0_62 : Index := 0#32
  ![v137.toNat, 0, 0, 0]
def k0_off6 (i : grid0.Coords) : Fin 4 → Nat :=
  let arg1 : BitVec 32 := BitVec.ofNat 32 (i 1).val
  let c0_i32_66 : BitVec 32 := 0#32
  let v147 : BitVec 32 := Scalar.addi arg1 c0_i32_66
  let v148 : Index := Scalar.indexCast v147
  let c1_67 : Index := 1#32
  let c0_68 : Index := 0#32
  let c0_69 : Index := 0#32
  ![v148.toNat, 1, 0, 0]
def k0_off7 (i : grid0.Coords) : Fin 4 → Nat :=
  let arg1 : BitVec 32 := BitVec.ofNat 32 (i 1).val
  let c0_i32_73 : BitVec 32 := 0#32
  let v158 : BitVec 32 := Scalar.addi arg1 c0_i32_73
  let v159 : Index := Scalar.indexCast v158
  let c2_74 : Index := 2#32
  let c0_75 : Index := 0#32
  let c0_76 : Index := 0#32
  ![v159.toNat, 2, 0, 0]
def k0_off8 (i : grid0.Coords) : Fin 4 → Nat :=
  let arg1 : BitVec 32 := BitVec.ofNat 32 (i 1).val
  let c0_i32_80 : BitVec 32 := 0#32
  let v169 : BitVec 32 := Scalar.addi arg1 c0_i32_80
  let v170 : Index := Scalar.indexCast v169
  let c3_81 : Index := 3#32
  let c0_82 : Index := 0#32
  let c0_83 : Index := 0#32
  ![v170.toNat, 3, 0, 0]
@[reducible] def k0_t1_loop (i : grid0.Coords) : Scf.Loop 32 :=
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_90 : BitVec 32 := 1#32
  ⟨c0_i32_88, v185, c1_i32_90⟩
def k0_mult2 (i : grid0.Coords) (k0_t1 : Fin (k0_t1_loop i).trips) : BitVec 32 :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let c0_i32_278 : BitVec 32 := 0#32
  let v535 : BitVec 32 := Scalar.addi v534 c0_i32_278
  let c256_i32_279 : BitVec 32 := 256#32
  let v536 : BitVec 32 := Scalar.muli v535 c256_i32_279
  v536
def k0_off9 (i : grid0.Coords) (k0_t1 : Fin (k0_t1_loop i).trips) (c0_i32_278 : BitVec 32) : Fin 2 → Nat :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let v535 : BitVec 32 := Scalar.addi v534 c0_i32_278
  let c256_i32_279 : BitVec 32 := 256#32
  let v536 : BitVec 32 := Scalar.muli v535 c256_i32_279
  let v537 : BitVec 32 := v536
  let v540 : Index := Scalar.indexCast v537
  let c0_283 : Index := 0#32
  ![v540.toNat, 0]
def k0_off10 (i : grid0.Coords) (k0_t1 : Fin (k0_t1_loop i).trips) (c0_i32_278 : BitVec 32) : Fin 2 → Nat :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let v535 : BitVec 32 := Scalar.addi v534 c0_i32_278
  let c256_i32_279 : BitVec 32 := 256#32
  let v536 : BitVec 32 := Scalar.muli v535 c256_i32_279
  let v537 : BitVec 32 := v536
  let v546 : Index := Scalar.indexCast v537
  let c128_288 : Index := 128#32
  ![v546.toNat, 128]
def k0_off11 (i : grid0.Coords) (k0_t1 : Fin (k0_t1_loop i).trips) (c0_i32_278 : BitVec 32) : Fin 2 → Nat :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let v535 : BitVec 32 := Scalar.addi v534 c0_i32_278
  let c256_i32_279 : BitVec 32 := 256#32
  let v536 : BitVec 32 := Scalar.muli v535 c256_i32_279
  let v537 : BitVec 32 := v536
  let v552 : Index := Scalar.indexCast v537
  let c256_293 : Index := 256#32
  ![v552.toNat, 256]
def k0_off12 (i : grid0.Coords) (k0_t1 : Fin (k0_t1_loop i).trips) (c0_i32_278 : BitVec 32) : Fin 2 → Nat :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let v535 : BitVec 32 := Scalar.addi v534 c0_i32_278
  let c256_i32_279 : BitVec 32 := 256#32
  let v536 : BitVec 32 := Scalar.muli v535 c256_i32_279
  let v537 : BitVec 32 := v536
  let v558 : Index := Scalar.indexCast v537
  let c384_298 : Index := 384#32
  ![v558.toNat, 384]
def k0_mult3 (i : grid0.Coords) (k0_t1 : Fin (k0_t1_loop i).trips) : BitVec 32 :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let c1_i32_300 : BitVec 32 := 1#32
  let v562 : BitVec 32 := Scalar.addi v534 c1_i32_300
  let c256_i32_301 : BitVec 32 := 256#32
  let v563 : BitVec 32 := Scalar.muli v562 c256_i32_301
  v563
def k0_off13 (i : grid0.Coords) (k0_t1 : Fin (k0_t1_loop i).trips) (c0_i32_322 : BitVec 32) : Fin 4 → Nat :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let v589 : BitVec 32 := Scalar.addi v534 c0_i32_322
  let v590 : Index := Scalar.indexCast v589
  let c0_323 : Index := 0#32
  let c0_324 : Index := 0#32
  let c0_325 : Index := 0#32
  ![v590.toNat, 0, 0, 0]
def k0_off14 (i : grid0.Coords) (k0_t1 : Fin (k0_t1_loop i).trips) (c0_i32_336 : BitVec 32) : Fin 4 → Nat :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let v612 : BitVec 32 := Scalar.addi v534 c0_i32_336
  let v613 : Index := Scalar.indexCast v612
  let c1_337 : Index := 1#32
  let c0_338 : Index := 0#32
  let c0_339 : Index := 0#32
  ![v613.toNat, 1, 0, 0]
def k0_off15 (i : grid0.Coords) (k0_t1 : Fin (k0_t1_loop i).trips) (c0_i32_350 : BitVec 32) : Fin 4 → Nat :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let v635 : BitVec 32 := Scalar.addi v534 c0_i32_350
  let v636 : Index := Scalar.indexCast v635
  let c2_351 : Index := 2#32
  let c0_352 : Index := 0#32
  let c0_353 : Index := 0#32
  ![v636.toNat, 2, 0, 0]
def k0_off16 (i : grid0.Coords) (k0_t1 : Fin (k0_t1_loop i).trips) (c0_i32_364 : BitVec 32) : Fin 4 → Nat :=
  let c2_i32 : BitVec 32 := 2#32
  let c0_i32_88 : BitVec 32 := 0#32
  let c1_i32_90 : BitVec 32 := 1#32
  let arg14 : BitVec 32 := Scf.iv c0_i32_88 c1_i32_90 k0_t1
  let v534 : BitVec 32 := Scalar.muli c2_i32 arg14
  let v658 : BitVec 32 := Scalar.addi v534 c0_i32_364
  let v659 : Index := Scalar.indexCast v658
  let c3_365 : Index := 3#32
  let c0_366 : Index := 0#32
  let c0_367 : Index := 0#32
  ![v659.toNat, 3, 0, 0]
@[reducible] def k0_t2_loop (i : grid0.Coords) : Scf.Loop 32 :=
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let v182 : BitVec 32 := Scalar.addi c0_i32_88 v181
  let c1_i32_91 : BitVec 32 := 1#32
  ⟨v185, v182, c1_i32_91⟩
def k0_mult4 (i : grid0.Coords) (k0_t2 : Fin (k0_t2_loop i).trips) : BitVec 32 :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let c0_i32_278 : BitVec 32 := 0#32
  let v535 : BitVec 32 := Scalar.addi v534 c0_i32_278
  let c256_i32_279 : BitVec 32 := 256#32
  let v536 : BitVec 32 := Scalar.muli v535 c256_i32_279
  v536
def k0_off17 (i : grid0.Coords) (k0_t2 : Fin (k0_t2_loop i).trips) (c0_i32_278 : BitVec 32) : Fin 2 → Nat :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let v535 : BitVec 32 := Scalar.addi v534 c0_i32_278
  let c256_i32_279 : BitVec 32 := 256#32
  let v536 : BitVec 32 := Scalar.muli v535 c256_i32_279
  let v537 : BitVec 32 := v536
  let v540 : Index := Scalar.indexCast v537
  let c0_283 : Index := 0#32
  ![v540.toNat, 0]
def k0_off18 (i : grid0.Coords) (k0_t2 : Fin (k0_t2_loop i).trips) (c0_i32_278 : BitVec 32) : Fin 2 → Nat :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let v535 : BitVec 32 := Scalar.addi v534 c0_i32_278
  let c256_i32_279 : BitVec 32 := 256#32
  let v536 : BitVec 32 := Scalar.muli v535 c256_i32_279
  let v537 : BitVec 32 := v536
  let v546 : Index := Scalar.indexCast v537
  let c128_288 : Index := 128#32
  ![v546.toNat, 128]
def k0_off19 (i : grid0.Coords) (k0_t2 : Fin (k0_t2_loop i).trips) (c0_i32_278 : BitVec 32) : Fin 2 → Nat :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let v535 : BitVec 32 := Scalar.addi v534 c0_i32_278
  let c256_i32_279 : BitVec 32 := 256#32
  let v536 : BitVec 32 := Scalar.muli v535 c256_i32_279
  let v537 : BitVec 32 := v536
  let v552 : Index := Scalar.indexCast v537
  let c256_293 : Index := 256#32
  ![v552.toNat, 256]
def k0_off20 (i : grid0.Coords) (k0_t2 : Fin (k0_t2_loop i).trips) (c0_i32_278 : BitVec 32) : Fin 2 → Nat :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let v535 : BitVec 32 := Scalar.addi v534 c0_i32_278
  let c256_i32_279 : BitVec 32 := 256#32
  let v536 : BitVec 32 := Scalar.muli v535 c256_i32_279
  let v537 : BitVec 32 := v536
  let v558 : Index := Scalar.indexCast v537
  let c384_298 : Index := 384#32
  ![v558.toNat, 384]
def k0_mult5 (i : grid0.Coords) (k0_t2 : Fin (k0_t2_loop i).trips) : BitVec 32 :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let c1_i32_300 : BitVec 32 := 1#32
  let v562 : BitVec 32 := Scalar.addi v534 c1_i32_300
  let c256_i32_301 : BitVec 32 := 256#32
  let v563 : BitVec 32 := Scalar.muli v562 c256_i32_301
  v563
def k0_off21 (i : grid0.Coords) (k0_t2 : Fin (k0_t2_loop i).trips) (c0_i32_322 : BitVec 32) : Fin 4 → Nat :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let v589 : BitVec 32 := Scalar.addi v534 c0_i32_322
  let v590 : Index := Scalar.indexCast v589
  let c0_323 : Index := 0#32
  let c0_324 : Index := 0#32
  let c0_325 : Index := 0#32
  ![v590.toNat, 0, 0, 0]
def k0_off22 (i : grid0.Coords) (k0_t2 : Fin (k0_t2_loop i).trips) (c0_i32_336 : BitVec 32) : Fin 4 → Nat :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let v612 : BitVec 32 := Scalar.addi v534 c0_i32_336
  let v613 : Index := Scalar.indexCast v612
  let c1_337 : Index := 1#32
  let c0_338 : Index := 0#32
  let c0_339 : Index := 0#32
  ![v613.toNat, 1, 0, 0]
def k0_off23 (i : grid0.Coords) (k0_t2 : Fin (k0_t2_loop i).trips) (c0_i32_350 : BitVec 32) : Fin 4 → Nat :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let v635 : BitVec 32 := Scalar.addi v534 c0_i32_350
  let v636 : Index := Scalar.indexCast v635
  let c2_351 : Index := 2#32
  let c0_352 : Index := 0#32
  let c0_353 : Index := 0#32
  ![v636.toNat, 2, 0, 0]
def k0_off24 (i : grid0.Coords) (k0_t2 : Fin (k0_t2_loop i).trips) (c0_i32_364 : BitVec 32) : Fin 4 → Nat :=
  let c2_i32 : BitVec 32 := 2#32
  let c0_i32_88 : BitVec 32 := 0#32
  let arg1 : BitVec 32 := BitVec.ofNat 32 (i 1).val
  let c1_i32 : BitVec 32 := 1#32
  let v180 : BitVec 32 := Scalar.shrui arg1 c1_i32
  let v181 : BitVec 32 := Scalar.subi v180 c0_i32_88
  let c1_i32_89 : BitVec 32 := 1#32
  let v183 : BitVec 32 := Scalar.divsi v181 c1_i32_89
  let v184 : BitVec 32 := Scalar.muli v183 c1_i32_89
  let v185 : BitVec 32 := Scalar.addi c0_i32_88 v184
  let c1_i32_91 : BitVec 32 := 1#32
  let arg14 : BitVec 32 := Scf.iv v185 c1_i32_91 k0_t2
  let v534 : BitVec 32 := Scalar.muli c2_i32 arg14
  let v658 : BitVec 32 := Scalar.addi v534 c0_i32_364
  let v659 : Index := Scalar.indexCast v658
  let c3_365 : Index := 3#32
  let c0_366 : Index := 0#32
  let c0_367 : Index := 0#32
  ![v659.toNat, 3, 0, 0]
def k0_cond1 (i : grid0.Coords) : BitVec 1 :=
  let arg1 : BitVec 32 := BitVec.ofNat 32 (i 1).val
  let c1_i32_92 : BitVec 32 := 1#32
  let v186 : BitVec 32 := Scalar.andi arg1 c1_i32_92
  let c1_i32_93 : BitVec 32 := 1#32
  let v187 : BitVec 1 := Scalar.cmpi .eq v186 c1_i32_93
  let v188 : BitVec 32 := Scalar.extui v187
  let c0_i32_94 : BitVec 32 := 0#32
  let v189 : BitVec 1 := Scalar.cmpi .ne v188 c0_i32_94
  v189

def k0_mult6 (i : grid0.Coords) : BitVec 32 :=
  let arg1 : BitVec 32 := BitVec.ofNat 32 (i 1).val
  let c1_i32_278 : BitVec 32 := 1#32
  let v534 : BitVec 32 := Scalar.subi arg1 c1_i32_278
  let c0_i32_279 : BitVec 32 := 0#32
  let v535 : BitVec 32 := Scalar.addi v534 c0_i32_279
  let c256_i32_280 : BitVec 32 := 256#32
  let v536 : BitVec 32 := Scalar.muli v535 c256_i32_280
  v536
def k0_off25 (i : grid0.Coords) : Fin 2 → Nat :=
  let arg1 : BitVec 32 := BitVec.ofNat 32 (i 1).val
  let c1_i32_278 : BitVec 32 := 1#32
  let v534 : BitVec 32 := Scalar.subi arg1 c1_i32_278
  let c0_i32_279 : BitVec 32 := 0#32
  let v535 : BitVec 32 := Scalar.addi v534 c0_i32_279
  let c256_i32_280 : BitVec 32 := 256#32
  let v536 : BitVec 32 := Scalar.muli v535 c256_i32_280
  let v537 : BitVec 32 := v536
  let v540 : Index := Scalar.indexCast v537
  let c0_284 : Index := 0#32
  ![v540.toNat, 0]
def k0_off26 (i : grid0.Coords) : Fin 2 → Nat :=
  let arg1 : BitVec 32 := BitVec.ofNat 32 (i 1).val
  let c1_i32_278 : BitVec 32 := 1#32
  let v534 : BitVec 32 := Scalar.subi arg1 c1_i32_278
  let c0_i32_279 : BitVec 32 := 0#32
  let v535 : BitVec 32 := Scalar.addi v534 c0_i32_279
  let c256_i32_280 : BitVec 32 := 256#32
  let v536 : BitVec 32 := Scalar.muli v535 c256_i32_280
  let v537 : BitVec 32 := v536
  let v546 : Index := Scalar.indexCast v537
  let c128_289 : Index := 128#32
  ![v546.toNat, 128]
def k0_off27 (i : grid0.Coords) : Fin 2 → Nat :=
  let arg1 : BitVec 32 := BitVec.ofNat 32 (i 1).val
  let c1_i32_278 : BitVec 32 := 1#32
  let v534 : BitVec 32 := Scalar.subi arg1 c1_i32_278
  let c0_i32_279 : BitVec 32 := 0#32
  let v535 : BitVec 32 := Scalar.addi v534 c0_i32_279
  let c256_i32_280 : BitVec 32 := 256#32
  let v536 : BitVec 32 := Scalar.muli v535 c256_i32_280
  let v537 : BitVec 32 := v536
  let v552 : Index := Scalar.indexCast v537
  let c256_294 : Index := 256#32
  ![v552.toNat, 256]
def k0_off28 (i : grid0.Coords) : Fin 2 → Nat :=
  let arg1 : BitVec 32 := BitVec.ofNat 32 (i 1).val
  let c1_i32_278 : BitVec 32 := 1#32
  let v534 : BitVec 32 := Scalar.subi arg1 c1_i32_278
  let c0_i32_279 : BitVec 32 := 0#32
  let v535 : BitVec 32 := Scalar.addi v534 c0_i32_279
  let c256_i32_280 : BitVec 32 := 256#32
  let v536 : BitVec 32 := Scalar.muli v535 c256_i32_280
  let v537 : BitVec 32 := v536
  let v558 : Index := Scalar.indexCast v537
  let c384_299 : Index := 384#32
  ![v558.toNat, 384]
def k0_off29 (i : grid0.Coords) : Fin 4 → Nat :=
  let arg1 : BitVec 32 := BitVec.ofNat 32 (i 1).val
  let c1_i32_278 : BitVec 32 := 1#32
  let v534 : BitVec 32 := Scalar.subi arg1 c1_i32_278
  let c0_i32_301 : BitVec 32 := 0#32
  let v562 : BitVec 32 := Scalar.addi v534 c0_i32_301
  let v563 : Index := Scalar.indexCast v562
  let c0_302 : Index := 0#32
  let c0_303 : Index := 0#32
  let c0_304 : Index := 0#32
  ![v563.toNat, 0, 0, 0]
def k0_off30 (i : grid0.Coords) : Fin 4 → Nat :=
  let arg1 : BitVec 32 := BitVec.ofNat 32 (i 1).val
  let c1_i32_278 : BitVec 32 := 1#32
  let v534 : BitVec 32 := Scalar.subi arg1 c1_i32_278
  let c0_i32_311 : BitVec 32 := 0#32
  let v576 : BitVec 32 := Scalar.addi v534 c0_i32_311
  let v577 : Index := Scalar.indexCast v576
  let c1_312 : Index := 1#32
  let c0_313 : Index := 0#32
  let c0_314 : Index := 0#32
  ![v577.toNat, 1, 0, 0]
def k0_off31 (i : grid0.Coords) : Fin 4 → Nat :=
  let arg1 : BitVec 32 := BitVec.ofNat 32 (i 1).val
  let c1_i32_278 : BitVec 32 := 1#32
  let v534 : BitVec 32 := Scalar.subi arg1 c1_i32_278
  let c0_i32_321 : BitVec 32 := 0#32
  let v590 : BitVec 32 := Scalar.addi v534 c0_i32_321
  let v591 : Index := Scalar.indexCast v590
  let c2_322 : Index := 2#32
  let c0_323 : Index := 0#32
  let c0_324 : Index := 0#32
  ![v591.toNat, 2, 0, 0]
def k0_off32 (i : grid0.Coords) : Fin 4 → Nat :=
  let arg1 : BitVec 32 := BitVec.ofNat 32 (i 1).val
  let c1_i32_278 : BitVec 32 := 1#32
  let v534 : BitVec 32 := Scalar.subi arg1 c1_i32_278
  let c0_i32_331 : BitVec 32 := 0#32
  let v604 : BitVec 32 := Scalar.addi v534 c0_i32_331
  let v605 : Index := Scalar.indexCast v604
  let c3_332 : Index := 3#32
  let c0_333 : Index := 0#32
  let c0_334 : Index := 0#32
  ![v605.toNat, 3, 0, 0]
def k0_mult7 (i : grid0.Coords) : BitVec 32 :=
  let arg1 : BitVec 32 := BitVec.ofNat 32 (i 1).val
  let c256_i32_123 : BitVec 32 := 256#32
  let v226 : BitVec 32 := Scalar.muli arg1 c256_i32_123
  v226
def k0_off33 (i : grid0.Coords) : Fin 2 → Nat :=
  let arg1 : BitVec 32 := BitVec.ofNat 32 (i 1).val
  let c256_i32_123 : BitVec 32 := 256#32
  let v226 : BitVec 32 := Scalar.muli arg1 c256_i32_123
  let v227 : BitVec 32 := v226
  let v292 : Index := Scalar.indexCast v227
  let c0_164 : Index := 0#32
  ![v292.toNat, 0]
def k0_off34 (i : grid0.Coords) : Fin 2 → Nat :=
  let arg1 : BitVec 32 := BitVec.ofNat 32 (i 1).val
  let c256_i32_123 : BitVec 32 := 256#32
  let v226 : BitVec 32 := Scalar.muli arg1 c256_i32_123
  let v227 : BitVec 32 := v226
  let v299 : Index := Scalar.indexCast v227
  let c128_169 : Index := 128#32
  ![v299.toNat, 128]
def k0_off35 (i : grid0.Coords) : Fin 2 → Nat :=
  let arg1 : BitVec 32 := BitVec.ofNat 32 (i 1).val
  let c256_i32_123 : BitVec 32 := 256#32
  let v226 : BitVec 32 := Scalar.muli arg1 c256_i32_123
  let v227 : BitVec 32 := v226
  let v306 : Index := Scalar.indexCast v227
  let c256_174 : Index := 256#32
  ![v306.toNat, 256]
def k0_off36 (i : grid0.Coords) : Fin 2 → Nat :=
  let arg1 : BitVec 32 := BitVec.ofNat 32 (i 1).val
  let c256_i32_123 : BitVec 32 := 256#32
  let v226 : BitVec 32 := Scalar.muli arg1 c256_i32_123
  let v227 : BitVec 32 := v226
  let v313 : Index := Scalar.indexCast v227
  let c384_179 : Index := 384#32
  ![v313.toNat, 384]
@[reducible] def k0_t3_loop (i : grid0.Coords) : Scf.Loop 32 :=
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_188 : BitVec 32 := 1#32
  ⟨c0_i32_186, v325, c1_i32_188⟩
def k0_mult8 (i : grid0.Coords) (k0_t3 : Fin (k0_t3_loop i).trips) : BitVec 32 :=
  let c2_i32 : BitVec 32 := 2#32
  let c0_i32_186 : BitVec 32 := 0#32
  let c1_i32_188 : BitVec 32 := 1#32
  let arg14 : BitVec 32 := Scf.iv c0_i32_186 c1_i32_188 k0_t3
  let v534 : BitVec 32 := Scalar.muli c2_i32 arg14
  let c256_i32_278 : BitVec 32 := 256#32
  let v535 : BitVec 32 := Scalar.muli v534 c256_i32_278
  v535
def k0_off37 (i : grid0.Coords) (k0_t3 : Fin (k0_t3_loop i).trips) (c0_i32_282 : BitVec 32) : Fin 4 → Nat :=
  let c2_i32 : BitVec 32 := 2#32
  let c0_i32_186 : BitVec 32 := 0#32
  let c1_i32_188 : BitVec 32 := 1#32
  let arg14 : BitVec 32 := Scf.iv c0_i32_186 c1_i32_188 k0_t3
  let v534 : BitVec 32 := Scalar.muli c2_i32 arg14
  let v540 : BitVec 32 := Scalar.addi v534 c0_i32_282
  let v541 : Index := Scalar.indexCast v540
  let c0_283 : Index := 0#32
  let c0_284 : Index := 0#32
  let c0_285 : Index := 0#32
  ![v541.toNat, 0, 0, 0]
def k0_off38 (i : grid0.Coords) (k0_t3 : Fin (k0_t3_loop i).trips) (c0_i32_299 : BitVec 32) : Fin 4 → Nat :=
  let c2_i32 : BitVec 32 := 2#32
  let c0_i32_186 : BitVec 32 := 0#32
  let c1_i32_188 : BitVec 32 := 1#32
  let arg14 : BitVec 32 := Scf.iv c0_i32_186 c1_i32_188 k0_t3
  let v534 : BitVec 32 := Scalar.muli c2_i32 arg14
  let v571 : BitVec 32 := Scalar.addi v534 c0_i32_299
  let v572 : Index := Scalar.indexCast v571
  let c1_300 : Index := 1#32
  let c0_301 : Index := 0#32
  let c0_302 : Index := 0#32
  ![v572.toNat, 1, 0, 0]
def k0_off39 (i : grid0.Coords) (k0_t3 : Fin (k0_t3_loop i).trips) (c0_i32_316 : BitVec 32) : Fin 4 → Nat :=
  let c2_i32 : BitVec 32 := 2#32
  let c0_i32_186 : BitVec 32 := 0#32
  let c1_i32_188 : BitVec 32 := 1#32
  let arg14 : BitVec 32 := Scf.iv c0_i32_186 c1_i32_188 k0_t3
  let v534 : BitVec 32 := Scalar.muli c2_i32 arg14
  let v602 : BitVec 32 := Scalar.addi v534 c0_i32_316
  let v603 : Index := Scalar.indexCast v602
  let c2_317 : Index := 2#32
  let c0_318 : Index := 0#32
  let c0_319 : Index := 0#32
  ![v603.toNat, 2, 0, 0]
def k0_off40 (i : grid0.Coords) (k0_t3 : Fin (k0_t3_loop i).trips) (c0_i32_333 : BitVec 32) : Fin 4 → Nat :=
  let c2_i32 : BitVec 32 := 2#32
  let c0_i32_186 : BitVec 32 := 0#32
  let c1_i32_188 : BitVec 32 := 1#32
  let arg14 : BitVec 32 := Scf.iv c0_i32_186 c1_i32_188 k0_t3
  let v534 : BitVec 32 := Scalar.muli c2_i32 arg14
  let v633 : BitVec 32 := Scalar.addi v534 c0_i32_333
  let v634 : Index := Scalar.indexCast v633
  let c3_334 : Index := 3#32
  let c0_335 : Index := 0#32
  let c0_336 : Index := 0#32
  ![v634.toNat, 3, 0, 0]
def k0_off41 (i : grid0.Coords) (k0_t3 : Fin (k0_t3_loop i).trips) : Fin 2 → Nat :=
  let c2_i32 : BitVec 32 := 2#32
  let c0_i32_186 : BitVec 32 := 0#32
  let c1_i32_188 : BitVec 32 := 1#32
  let arg14 : BitVec 32 := Scf.iv c0_i32_186 c1_i32_188 k0_t3
  let v534 : BitVec 32 := Scalar.muli c2_i32 arg14
  let c256_i32_278 : BitVec 32 := 256#32
  let v535 : BitVec 32 := Scalar.muli v534 c256_i32_278
  let v536 : BitVec 32 := v535
  let v661 : Index := Scalar.indexCast v536
  let c0_347 : Index := 0#32
  ![v661.toNat, 0]
def k0_off42 (i : grid0.Coords) (k0_t3 : Fin (k0_t3_loop i).trips) : Fin 2 → Nat :=
  let c2_i32 : BitVec 32 := 2#32
  let c0_i32_186 : BitVec 32 := 0#32
  let c1_i32_188 : BitVec 32 := 1#32
  let arg14 : BitVec 32 := Scf.iv c0_i32_186 c1_i32_188 k0_t3
  let v534 : BitVec 32 := Scalar.muli c2_i32 arg14
  let c256_i32_278 : BitVec 32 := 256#32
  let v535 : BitVec 32 := Scalar.muli v534 c256_i32_278
  let v536 : BitVec 32 := v535
  let v671 : Index := Scalar.indexCast v536
  let c128_355 : Index := 128#32
  ![v671.toNat, 128]
def k0_off43 (i : grid0.Coords) (k0_t3 : Fin (k0_t3_loop i).trips) : Fin 2 → Nat :=
  let c2_i32 : BitVec 32 := 2#32
  let c0_i32_186 : BitVec 32 := 0#32
  let c1_i32_188 : BitVec 32 := 1#32
  let arg14 : BitVec 32 := Scf.iv c0_i32_186 c1_i32_188 k0_t3
  let v534 : BitVec 32 := Scalar.muli c2_i32 arg14
  let c256_i32_278 : BitVec 32 := 256#32
  let v535 : BitVec 32 := Scalar.muli v534 c256_i32_278
  let v536 : BitVec 32 := v535
  let v681 : Index := Scalar.indexCast v536
  let c256_363 : Index := 256#32
  ![v681.toNat, 256]
def k0_off44 (i : grid0.Coords) (k0_t3 : Fin (k0_t3_loop i).trips) : Fin 2 → Nat :=
  let c2_i32 : BitVec 32 := 2#32
  let c0_i32_186 : BitVec 32 := 0#32
  let c1_i32_188 : BitVec 32 := 1#32
  let arg14 : BitVec 32 := Scf.iv c0_i32_186 c1_i32_188 k0_t3
  let v534 : BitVec 32 := Scalar.muli c2_i32 arg14
  let c256_i32_278 : BitVec 32 := 256#32
  let v535 : BitVec 32 := Scalar.muli v534 c256_i32_278
  let v536 : BitVec 32 := v535
  let v691 : Index := Scalar.indexCast v536
  let c384_371 : Index := 384#32
  ![v691.toNat, 384]
@[reducible] def k0_t4_loop (i : grid0.Coords) : Scf.Loop 32 :=
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let v322 : BitVec 32 := Scalar.addi c0_i32_186 v321
  let c1_i32_189 : BitVec 32 := 1#32
  ⟨v325, v322, c1_i32_189⟩
def k0_mult9 (i : grid0.Coords) (k0_t4 : Fin (k0_t4_loop i).trips) : BitVec 32 :=
  let c2_i32 : BitVec 32 := 2#32
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_189 : BitVec 32 := 1#32
  let arg14 : BitVec 32 := Scf.iv v325 c1_i32_189 k0_t4
  let v534 : BitVec 32 := Scalar.muli c2_i32 arg14
  let c256_i32_278 : BitVec 32 := 256#32
  let v535 : BitVec 32 := Scalar.muli v534 c256_i32_278
  v535
def k0_off45 (i : grid0.Coords) (k0_t4 : Fin (k0_t4_loop i).trips) (c0_i32_282 : BitVec 32) : Fin 4 → Nat :=
  let c2_i32 : BitVec 32 := 2#32
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_189 : BitVec 32 := 1#32
  let arg14 : BitVec 32 := Scf.iv v325 c1_i32_189 k0_t4
  let v534 : BitVec 32 := Scalar.muli c2_i32 arg14
  let v540 : BitVec 32 := Scalar.addi v534 c0_i32_282
  let v541 : Index := Scalar.indexCast v540
  let c0_283 : Index := 0#32
  let c0_284 : Index := 0#32
  let c0_285 : Index := 0#32
  ![v541.toNat, 0, 0, 0]
def k0_off46 (i : grid0.Coords) (k0_t4 : Fin (k0_t4_loop i).trips) (c0_i32_299 : BitVec 32) : Fin 4 → Nat :=
  let c2_i32 : BitVec 32 := 2#32
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_189 : BitVec 32 := 1#32
  let arg14 : BitVec 32 := Scf.iv v325 c1_i32_189 k0_t4
  let v534 : BitVec 32 := Scalar.muli c2_i32 arg14
  let v571 : BitVec 32 := Scalar.addi v534 c0_i32_299
  let v572 : Index := Scalar.indexCast v571
  let c1_300 : Index := 1#32
  let c0_301 : Index := 0#32
  let c0_302 : Index := 0#32
  ![v572.toNat, 1, 0, 0]
def k0_off47 (i : grid0.Coords) (k0_t4 : Fin (k0_t4_loop i).trips) (c0_i32_316 : BitVec 32) : Fin 4 → Nat :=
  let c2_i32 : BitVec 32 := 2#32
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_189 : BitVec 32 := 1#32
  let arg14 : BitVec 32 := Scf.iv v325 c1_i32_189 k0_t4
  let v534 : BitVec 32 := Scalar.muli c2_i32 arg14
  let v602 : BitVec 32 := Scalar.addi v534 c0_i32_316
  let v603 : Index := Scalar.indexCast v602
  let c2_317 : Index := 2#32
  let c0_318 : Index := 0#32
  let c0_319 : Index := 0#32
  ![v603.toNat, 2, 0, 0]
def k0_off48 (i : grid0.Coords) (k0_t4 : Fin (k0_t4_loop i).trips) (c0_i32_333 : BitVec 32) : Fin 4 → Nat :=
  let c2_i32 : BitVec 32 := 2#32
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_189 : BitVec 32 := 1#32
  let arg14 : BitVec 32 := Scf.iv v325 c1_i32_189 k0_t4
  let v534 : BitVec 32 := Scalar.muli c2_i32 arg14
  let v633 : BitVec 32 := Scalar.addi v534 c0_i32_333
  let v634 : Index := Scalar.indexCast v633
  let c3_334 : Index := 3#32
  let c0_335 : Index := 0#32
  let c0_336 : Index := 0#32
  ![v634.toNat, 3, 0, 0]
def k0_off49 (i : grid0.Coords) (k0_t4 : Fin (k0_t4_loop i).trips) : Fin 2 → Nat :=
  let c2_i32 : BitVec 32 := 2#32
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_189 : BitVec 32 := 1#32
  let arg14 : BitVec 32 := Scf.iv v325 c1_i32_189 k0_t4
  let v534 : BitVec 32 := Scalar.muli c2_i32 arg14
  let c256_i32_278 : BitVec 32 := 256#32
  let v535 : BitVec 32 := Scalar.muli v534 c256_i32_278
  let v536 : BitVec 32 := v535
  let v661 : Index := Scalar.indexCast v536
  let c0_347 : Index := 0#32
  ![v661.toNat, 0]
def k0_off50 (i : grid0.Coords) (k0_t4 : Fin (k0_t4_loop i).trips) : Fin 2 → Nat :=
  let c2_i32 : BitVec 32 := 2#32
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_189 : BitVec 32 := 1#32
  let arg14 : BitVec 32 := Scf.iv v325 c1_i32_189 k0_t4
  let v534 : BitVec 32 := Scalar.muli c2_i32 arg14
  let c256_i32_278 : BitVec 32 := 256#32
  let v535 : BitVec 32 := Scalar.muli v534 c256_i32_278
  let v536 : BitVec 32 := v535
  let v671 : Index := Scalar.indexCast v536
  let c128_355 : Index := 128#32
  ![v671.toNat, 128]
def k0_off51 (i : grid0.Coords) (k0_t4 : Fin (k0_t4_loop i).trips) : Fin 2 → Nat :=
  let c2_i32 : BitVec 32 := 2#32
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_189 : BitVec 32 := 1#32
  let arg14 : BitVec 32 := Scf.iv v325 c1_i32_189 k0_t4
  let v534 : BitVec 32 := Scalar.muli c2_i32 arg14
  let c256_i32_278 : BitVec 32 := 256#32
  let v535 : BitVec 32 := Scalar.muli v534 c256_i32_278
  let v536 : BitVec 32 := v535
  let v681 : Index := Scalar.indexCast v536
  let c256_363 : Index := 256#32
  ![v681.toNat, 256]
def k0_off52 (i : grid0.Coords) (k0_t4 : Fin (k0_t4_loop i).trips) : Fin 2 → Nat :=
  let c2_i32 : BitVec 32 := 2#32
  let c0_i32_186 : BitVec 32 := 0#32
  let arg1 : BitVec 32 := BitVec.ofNat 32 (i 1).val
  let c1_i32_184 : BitVec 32 := 1#32
  let v320 : BitVec 32 := Scalar.shrui arg1 c1_i32_184
  let v321 : BitVec 32 := Scalar.subi v320 c0_i32_186
  let c1_i32_187 : BitVec 32 := 1#32
  let v323 : BitVec 32 := Scalar.divsi v321 c1_i32_187
  let v324 : BitVec 32 := Scalar.muli v323 c1_i32_187
  let v325 : BitVec 32 := Scalar.addi c0_i32_186 v324
  let c1_i32_189 : BitVec 32 := 1#32
  let arg14 : BitVec 32 := Scf.iv v325 c1_i32_189 k0_t4
  let v534 : BitVec 32 := Scalar.muli c2_i32 arg14
  let c256_i32_278 : BitVec 32 := 256#32
  let v535 : BitVec 32 := Scalar.muli v534 c256_i32_278
  let v536 : BitVec 32 := v535
  let v691 : Index := Scalar.indexCast v536
  let c384_371 : Index := 384#32
  ![v691.toNat, 384]
def k0_cond2 (i : grid0.Coords) : BitVec 1 :=
  let arg1 : BitVec 32 := BitVec.ofNat 32 (i 1).val
  let c1_i32_190 : BitVec 32 := 1#32
  let v326 : BitVec 32 := Scalar.andi arg1 c1_i32_190
  let c1_i32_191 : BitVec 32 := 1#32
  let v327 : BitVec 1 := Scalar.cmpi .eq v326 c1_i32_191
  let v328 : BitVec 32 := Scalar.extui v327
  let c0_i32_192 : BitVec 32 := 0#32
  let v329 : BitVec 1 := Scalar.cmpi .ne v328 c0_i32_192
  v329

def k0_mult10 (i : grid0.Coords) : BitVec 32 :=
  let arg1 : BitVec 32 := BitVec.ofNat 32 (i 1).val
  let c1_i32_278 : BitVec 32 := 1#32
  let v534 : BitVec 32 := Scalar.subi arg1 c1_i32_278
  let c256_i32_279 : BitVec 32 := 256#32
  let v535 : BitVec 32 := Scalar.muli v534 c256_i32_279
  v535
def k0_off53 (i : grid0.Coords) : Fin 4 → Nat :=
  let arg1 : BitVec 32 := BitVec.ofNat 32 (i 1).val
  let c1_i32_278 : BitVec 32 := 1#32
  let v534 : BitVec 32 := Scalar.subi arg1 c1_i32_278
  let c0_i32_283 : BitVec 32 := 0#32
  let v540 : BitVec 32 := Scalar.addi v534 c0_i32_283
  let v541 : Index := Scalar.indexCast v540
  let c0_284 : Index := 0#32
  let c0_285 : Index := 0#32
  let c0_286 : Index := 0#32
  ![v541.toNat, 0, 0, 0]
def k0_off54 (i : grid0.Coords) : Fin 4 → Nat :=
  let arg1 : BitVec 32 := BitVec.ofNat 32 (i 1).val
  let c1_i32_278 : BitVec 32 := 1#32
  let v534 : BitVec 32 := Scalar.subi arg1 c1_i32_278
  let c0_i32_296 : BitVec 32 := 0#32
  let v559 : BitVec 32 := Scalar.addi v534 c0_i32_296
  let v560 : Index := Scalar.indexCast v559
  let c1_297 : Index := 1#32
  let c0_298 : Index := 0#32
  let c0_299 : Index := 0#32
  ![v560.toNat, 1, 0, 0]
def k0_off55 (i : grid0.Coords) : Fin 4 → Nat :=
  let arg1 : BitVec 32 := BitVec.ofNat 32 (i 1).val
  let c1_i32_278 : BitVec 32 := 1#32
  let v534 : BitVec 32 := Scalar.subi arg1 c1_i32_278
  let c0_i32_309 : BitVec 32 := 0#32
  let v578 : BitVec 32 := Scalar.addi v534 c0_i32_309
  let v579 : Index := Scalar.indexCast v578
  let c2_310 : Index := 2#32
  let c0_311 : Index := 0#32
  let c0_312 : Index := 0#32
  ![v579.toNat, 2, 0, 0]
def k0_off56 (i : grid0.Coords) : Fin 4 → Nat :=
  let arg1 : BitVec 32 := BitVec.ofNat 32 (i 1).val
  let c1_i32_278 : BitVec 32 := 1#32
  let v534 : BitVec 32 := Scalar.subi arg1 c1_i32_278
  let c0_i32_322 : BitVec 32 := 0#32
  let v597 : BitVec 32 := Scalar.addi v534 c0_i32_322
  let v598 : Index := Scalar.indexCast v597
  let c3_323 : Index := 3#32
  let c0_324 : Index := 0#32
  let c0_325 : Index := 0#32
  ![v598.toNat, 3, 0, 0]
def k0_off57 (i : grid0.Coords) : Fin 2 → Nat :=
  let arg1 : BitVec 32 := BitVec.ofNat 32 (i 1).val
  let c1_i32_278 : BitVec 32 := 1#32
  let v534 : BitVec 32 := Scalar.subi arg1 c1_i32_278
  let c256_i32_279 : BitVec 32 := 256#32
  let v535 : BitVec 32 := Scalar.muli v534 c256_i32_279
  let v536 : BitVec 32 := v535
  let v613 : Index := Scalar.indexCast v536
  let c0_332 : Index := 0#32
  ![v613.toNat, 0]
def k0_off58 (i : grid0.Coords) : Fin 2 → Nat :=
  let arg1 : BitVec 32 := BitVec.ofNat 32 (i 1).val
  let c1_i32_278 : BitVec 32 := 1#32
  let v534 : BitVec 32 := Scalar.subi arg1 c1_i32_278
  let c256_i32_279 : BitVec 32 := 256#32
  let v535 : BitVec 32 := Scalar.muli v534 c256_i32_279
  let v536 : BitVec 32 := v535
  let v623 : Index := Scalar.indexCast v536
  let c128_340 : Index := 128#32
  ![v623.toNat, 128]
def k0_off59 (i : grid0.Coords) : Fin 2 → Nat :=
  let arg1 : BitVec 32 := BitVec.ofNat 32 (i 1).val
  let c1_i32_278 : BitVec 32 := 1#32
  let v534 : BitVec 32 := Scalar.subi arg1 c1_i32_278
  let c256_i32_279 : BitVec 32 := 256#32
  let v535 : BitVec 32 := Scalar.muli v534 c256_i32_279
  let v536 : BitVec 32 := v535
  let v633 : Index := Scalar.indexCast v536
  let c256_348 : Index := 256#32
  ![v633.toNat, 256]
def k0_off60 (i : grid0.Coords) : Fin 2 → Nat :=
  let arg1 : BitVec 32 := BitVec.ofNat 32 (i 1).val
  let c1_i32_278 : BitVec 32 := 1#32
  let v534 : BitVec 32 := Scalar.subi arg1 c1_i32_278
  let c256_i32_279 : BitVec 32 := 256#32
  let v535 : BitVec 32 := Scalar.muli v534 c256_i32_279
  let v536 : BitVec 32 := v535
  let v643 : Index := Scalar.indexCast v536
  let c384_356 : Index := 384#32
  ![v643.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "q_scale" => some ((8⁻¹ * (Real.log 2)⁻¹ : ℝ) : EReal)
  | _ => none
-- ==== ReferenceIdeal.lean ====
abbrev S16x2048x4x2x64 : Shape := ⟨5, ![16, 2048, 4, 2, 64]⟩
abbrev S16x2048x512 : Shape := ⟨3, ![16, 2048, 512]⟩
abbrev S32768x6144 : Shape := ⟨2, ![32768, 6144]⟩
abbrev S4x64 : Shape := ⟨2, ![4, 64]⟩
abbrev S128 : Shape := ⟨1, ![128]⟩
abbrev S16x2048x4x128 : Shape := ⟨4, ![16, 2048, 4, 128]⟩
abbrev S1x64 : Shape := ⟨2, ![1, 64]⟩
abbrev S64 : Shape := ⟨1, ![64]⟩
abbrev S_ : Shape := ⟨0, ![]⟩
abbrev S16x4x2x2048x2048 : Shape := ⟨5, ![16, 4, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x4x2x2048 : Shape := ⟨4, ![16, 4, 2, 2048]⟩
abbrev S16x4x2x2048x1 : Shape := ⟨5, ![16, 4, 2, 2048, 1]⟩
abbrev S16x4x1x2048x2048 : Shape := ⟨5, ![16, 4, 1, 2048, 2048]⟩
abbrev S16x4x2048x2048 : Shape := ⟨4, ![16, 4, 2048, 2048]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S32768x512 : Shape := ⟨2, ![32768, 512]⟩

abbrev nBuf : Space → Nat
  | .hbm => 98
  | .vmem => 0
  | .smem => 0
  | _ => 0

abbrev bufTy : (tb : Table) → Fin (tcTables nBuf tb) → BufTy
  | .hbm, ⟨0, _⟩ => ⟨S16x2048x4x2x64, .f32⟩
  | .hbm, ⟨1, _⟩ => ⟨S16x2048x4x2x64, .f32⟩
  | .hbm, ⟨2, _⟩ => ⟨S16x2048x512, .f32⟩
  | .hbm, ⟨3, _⟩ => ⟨S16x2048x512, .f32⟩
  | .hbm, ⟨4, _⟩ => ⟨S32768x6144, .f32⟩
  | .hbm, ⟨5, _⟩ => ⟨S4x64, .f32⟩
  | .hbm, ⟨6, _⟩ => ⟨S128, .f32⟩
  | .hbm, ⟨7, _⟩ => ⟨S16x2048x4x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x4x2x2048x2048, .f32⟩
  | .hbm, ⟨28, _⟩ => ⟨S_, .f32⟩
  | .hbm, ⟨29, _⟩ => ⟨S16x4x2x2048x2048, .f32⟩
  | .hbm, ⟨30, _⟩ => ⟨S16x4x2x2048x2048, .f32⟩
  | .hbm, ⟨31, _⟩ => ⟨S2048, .i32⟩
  | .hbm, ⟨32, _⟩ => ⟨S2048x1, .i32⟩
  | .hbm, ⟨33, _⟩ => ⟨S2048, .i32⟩
  | .hbm, ⟨34, _⟩ => ⟨S1x2048, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S16x4x2x2048x2048, .i1⟩
  | .hbm, ⟨41, _⟩ => ⟨S16x4x2x2048x2048, .f32⟩
  | .hbm, ⟨42, _⟩ => ⟨S16x4x2x2048x2048, .f32⟩
  | .hbm, ⟨43, _⟩ => ⟨S_, .f32⟩
  | .hbm, ⟨44, _⟩ => ⟨S16x4x2x2048, .f32⟩
  | .hbm, ⟨45, _⟩ => ⟨S_, .f32⟩
  | .hbm, ⟨46, _⟩ => ⟨S16x4x2x2048, .f32⟩
  | .hbm, ⟨47, _⟩ => ⟨S16x4x2x2048, .f32⟩
  | .hbm, ⟨48, _⟩ => ⟨S16x4x2x2048x1, .f32⟩
  | .hbm, ⟨49, _⟩ => ⟨S16x4x2x2048x2048, .f32⟩
  | .hbm, ⟨50, _⟩ => ⟨S16x4x2x2048x2048, .f32⟩
  | .hbm, ⟨51, _⟩ => ⟨S16x4x2x2048x2048, .f32⟩
  | .hbm, ⟨52, _⟩ => ⟨S_, .f32⟩
  | .hbm, ⟨53, _⟩ => ⟨S16x4x2x2048, .f32⟩
  | .hbm, ⟨54, _⟩ => ⟨S16x4x2x2048x1, .f32⟩
  | .hbm, ⟨55, _⟩ => ⟨S16x4x2x2048x2048, .f32⟩
  | .hbm, ⟨56, _⟩ => ⟨S16x4x2x2048x2048, .f32⟩
  | .hbm, ⟨57, _⟩ => ⟨S16x4x1x2048x2048, .f32⟩
  | .hbm, ⟨58, _⟩ => ⟨S16x4x2048x2048, .f32⟩
  | .hbm, ⟨59, _⟩ => ⟨S16x4x1x2048x2048, .f32⟩
  | .hbm, ⟨60, _⟩ => ⟨S16x4x2048x2048, .f32⟩
  | .hbm, ⟨61, _⟩ => ⟨S16x4x2048x2048, .f32⟩
  | .hbm, ⟨62, _⟩ => ⟨S16x4x2048x2048, .f32⟩
  | .hbm, ⟨63, _⟩ => ⟨S16x4x2048x2048, .f32⟩
  | .hbm, ⟨64, _⟩ => ⟨S16x4x128x2048, .f32⟩
  | .hbm, ⟨65, _⟩ => ⟨S16x2048x4x128, .f32⟩
  | .hbm, ⟨66, _⟩ => ⟨S16x2048x4x128, .f32⟩
  | .hbm, ⟨67, _⟩ => ⟨S_, .f32⟩
  | .hbm, ⟨68, _⟩ => ⟨S16x2048x4, .f32⟩
  | .hbm, ⟨69, _⟩ => ⟨S16x2048x4x1, .f32⟩
  | .hbm, ⟨70, _⟩ => ⟨S_, .f32⟩
  | .hbm, ⟨71, _⟩ => ⟨S16x2048x4x1, .f32⟩
  | .hbm, ⟨72, _⟩ => ⟨S16x2048x4x1, .f32⟩
  | .hbm, ⟨73, _⟩ => ⟨S_, .f32⟩
  | .hbm, ⟨74, _⟩ => ⟨S16x2048x4x1, .f32⟩
  | .hbm, ⟨75, _⟩ => ⟨S16x2048x4x1, .f32⟩
  | .hbm, ⟨76, _⟩ => ⟨S16x2048x4x1, .f32⟩
  | .hbm, ⟨77, _⟩ => ⟨S16x2048x4x128, .f32⟩
  | .hbm, ⟨78, _⟩ => ⟨S16x2048x4x128, .f32⟩
  | .hbm, ⟨79, _⟩ => ⟨S1x1x1x128, .f32⟩
  | .hbm, ⟨80, _⟩ => ⟨S16x2048x4x128, .f32⟩
  | .hbm, ⟨81, _⟩ => ⟨S16x2048x4x128, .f32⟩
  | .hbm, ⟨82, _⟩ => ⟨S_, .f32⟩
  | .hbm, ⟨83, _⟩ => ⟨S16x2048x4x128, .f32⟩
  | .hbm, ⟨84, _⟩ => ⟨S16x2048x4x128, .f32⟩
  | .hbm, ⟨85, _⟩ => ⟨S16x2048x512, .f32⟩
  | .hbm, ⟨86, _⟩ => ⟨S16x2048x512, .f32⟩
  | .hbm, ⟨87, _⟩ => ⟨S16x2048x512, .f32⟩
  | .hbm, ⟨88, _⟩ => ⟨S_, .f32⟩
  | .hbm, ⟨89, _⟩ => ⟨S16x2048x512, .f32⟩
  | .hbm, ⟨90, _⟩ => ⟨S16x2048x512, .f32⟩
  | .hbm, ⟨91, _⟩ => ⟨S_, .f32⟩
  | .hbm, ⟨92, _⟩ => ⟨S16x2048x512, .f32⟩
  | .hbm, ⟨93, _⟩ => ⟨S16x2048x512, .f32⟩
  | .hbm, ⟨94, _⟩ => ⟨S16x2048x512, .f32⟩
  | .hbm, ⟨95, _⟩ => ⟨S16x2048x512, .f32⟩
  | .hbm, ⟨96, _⟩ => ⟨S32768x512, .f32⟩
  | .hbm, ⟨97, _⟩ => ⟨S32768x512, .bf16⟩
  | _, _ => ⟨S16x2048x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x8320 : Shape := ⟨2, ![1024, 8320]⟩
abbrev S64 : Shape := ⟨1, ![64]⟩
abbrev S128 : Shape := ⟨1, ![128]⟩
abbrev S16x256x512 : Shape := ⟨3, ![16, 256, 512]⟩
abbrev S1024x2048 : Shape := ⟨2, ![1024, 2048]⟩
abbrev S1024x1536 : Shape := ⟨2, ![1024, 1536]⟩
abbrev S1024x128 : Shape := ⟨2, ![1024, 128]⟩
abbrev S1024x512 : Shape := ⟨2, ![1024, 512]⟩
abbrev S1024x4096 : Shape := ⟨2, ![1024, 4096]⟩
abbrev S1024x8192 : Shape := ⟨2, ![1024, 8192]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S_ : Shape := ⟨0, ![]⟩
abbrev S512x1 : Shape := ⟨2, ![512, 1]⟩
abbrev S512x512 : Shape := ⟨2, ![512, 512]⟩
abbrev S32768x1024 : Shape := ⟨2, ![32768, 1024]⟩
abbrev S1x1024 : Shape := ⟨2, ![1, 1024]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4096x512 : Shape := ⟨2, ![4096, 512]⟩
abbrev S1x128 : Shape := ⟨2, ![1, 128]⟩
abbrev S32768x8192 : Shape := ⟨2, ![32768, 8192]⟩
abbrev S32768x128 : Shape := ⟨2, ![32768, 128]⟩
abbrev S32768x512 : Shape := ⟨2, ![32768, 512]⟩
abbrev S512x1024 : Shape := ⟨2, ![512, 1024]⟩
abbrev S512x128 : Shape := ⟨2, ![512, 128]⟩
abbrev S256x512 : Shape := ⟨2, ![256, 512]⟩
abbrev S512x8192 : Shape := ⟨2, ![512, 8192]⟩
abbrev S256x128 : Shape := ⟨2, ![256, 128]⟩
abbrev S512x256 : Shape := ⟨2, ![512, 256]⟩

abbrev nBuf : Space → Nat
  | .hbm => 105
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x8320, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S16x256x512, .f32⟩
  | .hbm, ⟨7, _⟩ => ⟨S16x256x512, .f32⟩
  | .hbm, ⟨8, _⟩ => ⟨S1024x2048, .f32⟩
  | .hbm, ⟨9, _⟩ => ⟨S1024x1536, .f32⟩
  | .hbm, ⟨10, _⟩ => ⟨S1024x128, .f32⟩
  | .hbm, ⟨11, _⟩ => ⟨S1024x512, .f32⟩
  | .hbm, ⟨12, _⟩ => ⟨S1024x4096, .f32⟩
  | .hbm, ⟨13, _⟩ => ⟨S1024x8192, .f32⟩
  | .hbm, ⟨14, _⟩ => ⟨S1024x8192, .bf16⟩
  | .hbm, ⟨15, _⟩ => ⟨S1024x128, .bf16⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S_, .f32⟩
  | .hbm, ⟨21, _⟩ => ⟨S1x512, .f32⟩
  | .hbm, ⟨22, _⟩ => ⟨S1x512, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S512x1, .i32⟩
  | .hbm, ⟨47, _⟩ => ⟨S1x512, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S512x512, .bf16⟩
  | .hbm, ⟨52, _⟩ => ⟨S32768x1024, .f32⟩
  | .hbm, ⟨53, _⟩ => ⟨S1x1024, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S2048, .f32⟩
  | .hbm, ⟨71, _⟩ => ⟨S2048x1, .f32⟩
  | .hbm, ⟨72, _⟩ => ⟨S1x8, .f32⟩
  | .hbm, ⟨73, _⟩ => ⟨S2048x8, .f32⟩
  | .hbm, ⟨74, _⟩ => ⟨S2048x8, .f32⟩
  | .hbm, ⟨75, _⟩ => ⟨S2048x8, .f32⟩
  | .hbm, ⟨76, _⟩ => ⟨S2048x8, .f32⟩
  | .hbm, ⟨77, _⟩ => ⟨S2048x8, .f32⟩
  | .hbm, ⟨78, _⟩ => ⟨S_, .f32⟩
  | .hbm, ⟨79, _⟩ => ⟨S2048x48, .f32⟩
  | .hbm, ⟨80, _⟩ => ⟨S_, .f32⟩
  | .hbm, ⟨81, _⟩ => ⟨S2048x48, .f32⟩
  | .hbm, ⟨82, _⟩ => ⟨S_, .f32⟩
  | .hbm, ⟨83, _⟩ => ⟨S2048x8, .f32⟩
  | .hbm, ⟨84, _⟩ => ⟨S2048x64, .f32⟩
  | .hbm, ⟨85, _⟩ => ⟨S2048x8, .f32⟩
  | .hbm, ⟨86, _⟩ => ⟨S2048x64, .f32⟩
  | .hbm, ⟨87, _⟩ => ⟨S2048x64, .f32⟩
  | .hbm, ⟨88, _⟩ => ⟨S1x2048x1x64, .f32⟩
  | .hbm, ⟨89, _⟩ => ⟨S1x2048x2x64, .f32⟩
  | .hbm, ⟨90, _⟩ => ⟨S2048x128, .f32⟩
  | .hbm, ⟨91, _⟩ => ⟨S1x2048x1x64, .f32⟩
  | .hbm, ⟨92, _⟩ => ⟨S1x2048x2x64, .f32⟩
  | .hbm, ⟨93, _⟩ => ⟨S2048x128, .f32⟩
  | .hbm, ⟨94, _⟩ => ⟨S1x2048x1x64, .f32⟩
  | .hbm, ⟨95, _⟩ => ⟨S1x2048x2x64, .f32⟩
  | .hbm, ⟨96, _⟩ => ⟨S2048x128, .f32⟩
  | .hbm, ⟨97, _⟩ => ⟨S4096x512, .f32⟩
  | .hbm, ⟨98, _⟩ => ⟨S4096x512, .bf16⟩
  | .hbm, ⟨99, _⟩ => ⟨S4096x512, .f32⟩
  | .hbm, ⟨100, _⟩ => ⟨S4096x512, .bf16⟩
  | .hbm, ⟨101, _⟩ => ⟨S1x128, .f32⟩
  | .hbm, ⟨102, _⟩ => ⟨S32768x8192, .bf16⟩
  | .hbm, ⟨103, _⟩ => ⟨S32768x128, .f32⟩
  | .hbm, ⟨104, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8192, .bf16⟩
  | .local _ .vmem, ⟨4, _⟩ => ⟨S1024x128, .bf16⟩
  | .local _ .vmem, ⟨5, _⟩ => ⟨S1x512, .f32⟩
  | .local _ .vmem, ⟨6, _⟩ => ⟨S1x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S1x128, .f32⟩
  | .local _ .vmem, ⟨19, _⟩ => ⟨S512x8192, .bf16⟩
  | .local _ .vmem, ⟨20, _⟩ => ⟨S512x8192, .bf16⟩
  | .local _ .vmem, ⟨21, _⟩ => ⟨S512x128, .f32⟩
  | .local _ .vmem, ⟨22, _⟩ => ⟨S512x128, .f32⟩
  | .local _ .vmem, ⟨23, _⟩ => ⟨S512x512, .bf16⟩
  | .local _ .vmem, ⟨24, _⟩ => ⟨S512x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_0 : Ref sig .tc := ⟨.hbm, 55, rfl⟩
abbrev main_v29 : Ref sig .tc := ⟨.hbm, 56, rfl⟩
abbrev main_v30 : Ref sig .tc := ⟨.hbm, 57, rfl⟩
abbrev main_cst_1 : Ref sig .tc := ⟨.hbm, 58, rfl⟩
abbrev main_v31 : Ref sig .tc := ⟨.hbm, 59, rfl⟩
abbrev main_v32 : Ref sig .tc := ⟨.hbm, 60, rfl⟩
abbrev main_cst_2 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_cst_7 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68_0 : Ref sig .tc := ⟨.hbm, 102, rfl⟩
abbrev main_v68_1 : Ref sig .tc := ⟨.hbm, 103, rfl⟩
abbrev main_v68_2 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_11 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
variable {F : FTy → Type} [FloatOps F] [Named F]
def κ : String → Option EReal := fun
  | "c_scale" => some (((Real.sqrt 128)⁻¹ * (Real.log 2)⁻¹ : ℝ) : EReal)
  | _ => none
-- ==== Reference2Ideal.lean ====
abbrev S16x2048x1024 : Shape := ⟨3, ![16, 2048, 1024]⟩
abbrev S1024 : Shape := ⟨1, ![1024]⟩
abbrev S1024x8320 : Shape := ⟨2, ![1024, 8320]⟩
abbrev S64 : Shape := ⟨1, ![64]⟩
abbrev S128 : Shape := ⟨1, ![128]⟩
abbrev S16x256x512 : Shape := ⟨3, ![16, 256, 512]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S16x2048 : Shape := ⟨2, ![16, 2048]⟩
abbrev S16x2048x1 : Shape := ⟨3, ![16, 2048, 1]⟩
abbrev S1x1x1024 : Shape := ⟨3, ![1, 1, 1024]⟩
abbrev S16x2048x8320 : Shape := ⟨3, ![16, 2048, 8320]⟩
abbrev S16x2048x512 : Shape := ⟨3, ![16, 2048, 512]⟩
abbrev S16x2048x4x2x64 : Shape := ⟨5, ![16, 2048, 4, 2, 64]⟩
abbrev S16x2048x4x2 : Shape := ⟨4, ![16, 2048, 4, 2]⟩
abbrev S16x2048x4x2x1 : Shape := ⟨5, ![16, 2048, 4, 2, 1]⟩
abbrev S1x1x1x1x64 : Shape := ⟨5, ![1, 1, 1, 1, 64]⟩
abbrev S16x2048x4x2x8 : Shape := ⟨5, ![16, 2048, 4, 2, 8]⟩
abbrev S16x2048x4x2x48 : Shape := ⟨5, ![16, 2048, 4, 2, 48]⟩
abbrev S2048x1x1x8 : Shape := ⟨4, ![2048, 1, 1, 8]⟩
abbrev S1x2048x1x1x8 : Shape := ⟨5, ![1, 2048, 1, 1, 8]⟩
abbrev S16x2048x2560 : Shape := ⟨3, ![16, 2048, 2560]⟩
abbrev S16x2048x4608 : Shape := ⟨3, ![16, 2048, 4608]⟩
abbrev S16x2048x8192 : Shape := ⟨3, ![16, 2048, 8192]⟩
abbrev S16x2048x128 : Shape := ⟨3, ![16, 2048, 128]⟩
abbrev S16x256x4x128 : Shape := ⟨4, ![16, 256, 4, 128]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S32768x8192 : Shape := ⟨2, ![32768, 8192]⟩
abbrev S32768x128 : Shape := ⟨2, ![32768, 128]⟩
abbrev S32768x512 : Shape := ⟨2, ![32768, 512]⟩

abbrev nBuf : Space → Nat
  | .hbm => 192
  | .vmem => 0
  | .smem => 0
  | _ => 0

abbrev hbmTy0_0 (i : Nat) : BufTy := match i % 128 with
  | 0 => ⟨S16x2048x1024, .f32⟩
  | 1 => ⟨S1024, .f32⟩
  | 2 => ⟨S1024x8320, .f32⟩
  | 3 => ⟨S64, .f32⟩
  | 4 => ⟨S64, .f32⟩
  | 5 => ⟨S128, .f32⟩
  | 6 => ⟨S16x256x512, .f32⟩
  | 7 => ⟨S16x256x512, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S2048, .f32⟩
  | 25 => ⟨S2048x1, .f32⟩
  | 26 => ⟨S1x8, .f32⟩
  | 27 => ⟨S2048x8, .f32⟩
  | 28 => ⟨S2048x8, .f32⟩
  | 29 => ⟨S2048x8, .f32⟩
  | 30 => ⟨S2048x8, .f32⟩
  | 31 => ⟨S2048x8, .f32⟩
  | 32 => ⟨S16x2048x1024, .f32⟩
  | 33 => ⟨S_, .f32⟩
  | 34 => ⟨S16x2048, .f32⟩
  | 35 => ⟨S16x2048x1, .f32⟩
  | 36 => ⟨S_, .f32⟩
  | 37 => ⟨S16x2048x1, .f32⟩
  | 38 => ⟨S16x2048x1, .f32⟩
  | 39 => ⟨S_, .f32⟩
  | 40 => ⟨S16x2048x1, .f32⟩
  | 41 => ⟨S16x2048x1, .f32⟩
  | 42 => ⟨S16x2048x1, .f32⟩
  | 43 => ⟨S16x2048x1024, .f32⟩
  | 44 => ⟨S16x2048x1024, .f32⟩
  | 45 => ⟨S1x1x1024, .f32⟩
  | 46 => ⟨S16x2048x1024, .f32⟩
  | 47 => ⟨S16x2048x1024, .f32⟩
  | 48 => ⟨S16x2048x8320, .f32⟩
  | 49 => ⟨S16x2048x512, .f32⟩
  | 50 => ⟨S16x2048x512, .f32⟩
  | 51 => ⟨S16x2048x4x2x64, .f32⟩
  | 52 => ⟨S16x2048x4x2x64, .f32⟩
  | 53 => ⟨S_, .f32⟩
  | 54 => ⟨S16x2048x4x2, .f32⟩
  | 55 => ⟨S16x2048x4x2x1, .f32⟩
  | 56 => ⟨S_, .f32⟩
  | 57 => ⟨S16x2048x4x2x1, .f32⟩
  | 58 => ⟨S16x2048x4x2x1, .f32⟩
  | 59 => ⟨S_, .f32⟩
  | 60 => ⟨S16x2048x4x2x1, .f32⟩
  | 61 => ⟨S16x2048x4x2x1, .f32⟩
  | 62 => ⟨S16x2048x4x2x1, .f32⟩
  | 63 => ⟨S16x2048x4x2x64, .f32⟩
  | 64 => ⟨S16x2048x4x2x64, .f32⟩
  | 65 => ⟨S1x1x1x1x64, .f32⟩
  | 66 => ⟨S16x2048x4x2x64, .f32⟩
  | 67 => ⟨S16x2048x4x2x64, .f32⟩
  | 68 => ⟨S16x2048x4x2x8, .f32⟩
  | 69 => ⟨S16x2048x4x2x8, .f32⟩
  | 70 => ⟨S16x2048x4x2x48, .f32⟩
  | 71 => ⟨S2048x1x1x8, .f32⟩
  | 72 => ⟨S2048x1x1x8, .f32⟩
  | 73 => ⟨S1x2048x1x1x8, .f32⟩
  | 74 => ⟨S16x2048x4x2x8, .f32⟩
  | 75 => ⟨S16x2048x4x2x8, .f32⟩
  | 76 => ⟨S1x2048x1x1x8, .f32⟩
  | 77 => ⟨S16x2048x4x2x8, .f32⟩
  | 78 => ⟨S16x2048x4x2x8, .f32⟩
  | 79 => ⟨S16x2048x4x2x8, .f32⟩
  | 80 => ⟨S1x2048x1x1x8, .f32⟩
  | 81 => ⟨S16x2048x4x2x8, .f32⟩
  | 82 => ⟨S16x2048x4x2x8, .f32⟩
  | 83 => ⟨S1x2048x1x1x8, .f32⟩
  | 84 => ⟨S16x2048x4x2x8, .f32⟩
  | 85 => ⟨S16x2048x4x2x8, .f32⟩
  | 86 => ⟨S16x2048x4x2x8, .f32⟩
  | 87 => ⟨S16x2048x4x2x64, .f32⟩
  | 88 => ⟨S_, .f32⟩
  | 89 => ⟨S16x2048x4x2x64, .f32⟩
  | 90 => ⟨S16x2048x4x2x64, .f32⟩
  | 91 => ⟨S16x2048x4x2x64, .f32⟩
  | 92 => ⟨S16x2048x4x2x64, .f32⟩
  | 93 => ⟨S_, .f32⟩
  | 94 => ⟨S16x2048x4x2, .f32⟩
  | 95 => ⟨S16x2048x4x2x1, .f32⟩
  | 96 => ⟨S_, .f32⟩
  | 97 => ⟨S16x2048x4x2x1, .f32⟩
  | 98 => ⟨S16x2048x4x2x1, .f32⟩
  | 99 => ⟨S_, .f32⟩
  | 100 => ⟨S16x2048x4x2x1, .f32⟩
  | 101 => ⟨S16x2048x4x2x1, .f32⟩
  | 102 => ⟨S16x2048x4x2x1, .f32⟩
  | 103 => ⟨S16x2048x4x2x64, .f32⟩
  | 104 => ⟨S16x2048x4x2x64, .f32⟩
  | 105 => ⟨S1x1x1x1x64, .f32⟩
  | 106 => ⟨S16x2048x4x2x64, .f32⟩
  | 107 => ⟨S16x2048x4x2x64, .f32⟩
  | 108 => ⟨S16x2048x4x2x8, .f32⟩
  | 109 => ⟨S16x2048x4x2x8, .f32⟩
  | 110 => ⟨S16x2048x4x2x48, .f32⟩
  | 111 => ⟨S2048x1x1x8, .f32⟩
  | 112 => ⟨S2048x1x1x8, .f32⟩
  | 113 => ⟨S1x2048x1x1x8, .f32⟩
  | 114 => ⟨S16x2048x4x2x8, .f32⟩
  | 115 => ⟨S16x2048x4x2x8, .f32⟩
  | 116 => ⟨S1x2048x1x1x8, .f32⟩
  | 117 => ⟨S16x2048x4x2x8, .f32⟩
  | 118 => ⟨S16x2048x4x2x8, .f32⟩
  | 119 => ⟨S16x2048x4x2x8, .f32⟩
  | 120 => ⟨S1x2048x1x1x8, .f32⟩
  | 121 => ⟨S16x2048x4x2x8, .f32⟩
  | 122 => ⟨S16x2048x4x2x8, .f32⟩
  | 123 => ⟨S1x2048x1x1x8, .f32⟩
  | 124 => ⟨S16x2048x4x2x8, .f32⟩
  | 125 => ⟨S16x2048x4x2x8, .f32⟩
  | 126 => ⟨S16x2048x4x2x8, .f32⟩
  | 127 => ⟨S16x2048x4x2x64, .f32⟩
  | _ => ⟨S16x2048x1024, .f32⟩

abbrev hbmTy0_1 (i : Nat) : BufTy := match i % 128 with
  | 0 => ⟨S16x2048x512, .f32⟩
  | 1 => ⟨S16x2048x512, .f32⟩
  | 2 => ⟨S16x2048x2560, .f32⟩
  | 3 => ⟨S16x2048x4608, .f32⟩
  | 4 => ⟨S16x2048x8192, .f32⟩
  | 5 => ⟨S16x2048x128, .f32⟩
  | 6 => ⟨S16x2048x512, .f32⟩
  | 7 => ⟨S16x2048x512, .f32⟩
  | 8 => ⟨S16x256x4x128, .f32⟩
  | 9 => ⟨S16x256x4x128, .f32⟩
  | 10 => ⟨S16x2048x4x128, .f32⟩
  | 11 => ⟨S16x2048x4x128, .f32⟩
  | 12 => ⟨S_, .f32⟩
  | 13 => ⟨S16x2048x4, .f32⟩
  | 14 => ⟨S16x2048x4x1, .f32⟩
  | 15 => ⟨S_, .f32⟩
  | 16 => ⟨S16x2048x4x1, .f32⟩
  | 17 => ⟨S16x2048x4x1, .f32⟩
  | 18 => ⟨S_, .f32⟩
  | 19 => ⟨S16x2048x4x1, .f32⟩
  | 20 => ⟨S16x2048x4x1, .f32⟩
  | 21 => ⟨S16x2048x4x1, .f32⟩
  | 22 => ⟨S16x2048x4x128, .f32⟩
  | 23 => ⟨S16x2048x4x128, .f32⟩
  | 24 => ⟨S1x1x1x128, .f32⟩
  | 25 => ⟨S16x2048x4x128, .f32⟩
  | 26 => ⟨S16x2048x4x128, .f32⟩
  | 27 => ⟨S16x4x2048x256, .f32⟩
  | 28 => ⟨S_, .f32⟩
  | 29 => ⟨S_, .f32⟩
  | 30 => ⟨S16x4x2048x256, .f32⟩
  | 31 => ⟨S16x4x2048x256, .f32⟩
  | 32 => ⟨S_, .f32⟩
  | 33 => ⟨S16x4x2048, .f32⟩
  | 34 => ⟨S_, .f32⟩
  | 35 => ⟨S16x4x2048, .f32⟩
  | 36 => ⟨S16x4x2048, .f32⟩
  | 37 => ⟨S16x4x2048x1, .f32⟩
  | 38 => ⟨S16x4x2048x256, .f32⟩
  | 39 => ⟨S16x4x2048x256, .f32⟩
  | 40 => ⟨S16x4x2048x256, .f32⟩
  | 41 => ⟨S_, .f32⟩
  | 42 => ⟨S16x4x2048, .f32⟩
  | 43 => ⟨S16x4x2048x1, .f32⟩
  | 44 => ⟨S16x4x2048x256, .f32⟩
  | 45 => ⟨S16x4x2048x256, .f32⟩
  | 46 => ⟨S16x4x128x2048, .f32⟩
  | 47 => ⟨S16x2048x4x128, .f32⟩
  | 48 => ⟨S16x2048x512, .f32⟩
  | 49 => ⟨S16x2048x512, .f32⟩
  | 50 => ⟨S16x2048x512, .f32⟩
  | 51 => ⟨S_, .f32⟩
  | 52 => ⟨S16x2048x512, .f32⟩
  | 53 => ⟨S16x2048x512, .f32⟩
  | 54 => ⟨S_, .f32⟩
  | 55 => ⟨S16x2048x512, .f32⟩
  | 56 => ⟨S16x2048x512, .f32⟩
  | 57 => ⟨S16x2048x512, .f32⟩
  | 58 => ⟨S16x2048x512, .f32⟩
  | 59 => ⟨S32768x8192, .f32⟩
  | 60 => ⟨S32768x8192, .bf16⟩
  | 61 => ⟨S32768x128, .f32⟩
  | 62 => ⟨S32768x512, .f32⟩
  | 63 => ⟨S32768x512, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_14 : Ref sig .tc := ⟨.hbm, 140, rfl⟩
abbrev main_v117 : Ref sig .tc := ⟨.hbm, 141, rfl⟩
abbrev main_v118 : Ref sig .tc := ⟨.hbm, 142, rfl⟩
abbrev main_cst_15 : Ref sig .tc := ⟨.hbm, 143, rfl⟩
abbrev main_v119 : Ref sig .tc := ⟨.hbm, 144, rfl⟩
abbrev main_v120 : Ref sig .tc := ⟨.hbm, 145, rfl⟩
abbrev main_cst_16 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_17 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_18 : Ref sig .tc := ⟨.hbm, 160, rfl⟩
abbrev main_v133 : Ref sig .tc := ⟨.hbm, 161, rfl⟩
abbrev main_cst_19 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_20 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_call0_v0 : Ref sig .tc := ⟨.hbm, 177, rfl⟩
abbrev main_call0_v1 : Ref sig .tc := ⟨.hbm, 178, rfl⟩
abbrev main_call0_cst : Ref sig .tc := ⟨.hbm, 179, rfl⟩
abbrev main_call0_v2 : Ref sig .tc := ⟨.hbm, 180, rfl⟩
abbrev main_call0_v3 : Ref sig .tc := ⟨.hbm, 181, rfl⟩
abbrev main_call0_cst_0 : Ref sig .tc := ⟨.hbm, 182, rfl⟩
abbrev main_call0_v4 : Ref sig .tc := ⟨.hbm, 183, rfl⟩
abbrev main_call0_v5 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S16x2048x3072 : Shape := ⟨3, ![16, 2048, 3072]⟩
abbrev S3x512x1024 : Shape := ⟨3, ![3, 512, 1024]⟩
abbrev S1024x1024 : Shape := ⟨2, ![1024, 1024]⟩
abbrev S_ : Shape := ⟨0, ![]⟩
abbrev S32768x5120 : Shape := ⟨2, ![32768, 5120]⟩
abbrev S32768x3072 : Shape := ⟨2, ![32768, 3072]⟩
abbrev S32768x8192 : Shape := ⟨2, ![32768, 8192]⟩
abbrev S32768x1024 : Shape := ⟨2, ![32768, 1024]⟩
abbrev S32768x512 : Shape := ⟨2, ![32768, 512]⟩
abbrev S1024x512 : Shape := ⟨2, ![1024, 512]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 22
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x3072, .f32⟩
  | .hbm, ⟨5, _⟩ => ⟨S3x512x1024, .f32⟩
  | .hbm, ⟨6, _⟩ => ⟨S1024x1024, .f32⟩
  | .hbm, ⟨7, _⟩ => ⟨S_, .f32⟩
  | .hbm, ⟨8, _⟩ => ⟨S32768x5120, .f32⟩
  | .hbm, ⟨9, _⟩ => ⟨S32768x3072, .f32⟩
  | .hbm, ⟨10, _⟩ => ⟨S32768x8192, .f32⟩
  | .hbm, ⟨11, _⟩ => ⟨S32768x8192, .bf16⟩
  | .hbm, ⟨12, _⟩ => ⟨S32768x1024, .f32⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S32768x512, .f32⟩
  | .hbm, ⟨18, _⟩ => ⟨S32768x512, .bf16⟩
  | .hbm, ⟨19, _⟩ => ⟨S3x512x1024, .bf16⟩
  | .hbm, ⟨20, _⟩ => ⟨S1024x1024, .bf16⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S3x512x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16x2048x1024 : Shape := ⟨3, ![16, 2048, 1024]⟩
abbrev S16x2048x512 : Shape := ⟨3, ![16, 2048, 512]⟩
abbrev S16x2048x3072 : Shape := ⟨3, ![16, 2048, 3072]⟩
abbrev S3x512x1024 : Shape := ⟨3, ![3, 512, 1024]⟩
abbrev S1024x1024 : Shape := ⟨2, ![1024, 1024]⟩
abbrev S16x2048x3x1024 : Shape := ⟨4, ![16, 2048, 3, 1024]⟩
abbrev S_ : Shape := ⟨0, ![]⟩
abbrev S16x2048x1x512 : Shape := ⟨4, ![16, 2048, 1, 512]⟩
abbrev S16x2048x3x512 : Shape := ⟨4, ![16, 2048, 3, 512]⟩
abbrev S3x1024x16x2048 : Shape := ⟨4, ![3, 1024, 16, 2048]⟩
abbrev S32768x1024 : Shape := ⟨2, ![32768, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x3072, .f32⟩
  | .hbm, ⟨5, _⟩ => ⟨S3x512x1024, .f32⟩
  | .hbm, ⟨6, _⟩ => ⟨S1024x1024, .f32⟩
  | .hbm, ⟨7, _⟩ => ⟨S16x2048x3x1024, .f32⟩
  | .hbm, ⟨8, _⟩ => ⟨S16x2048x3x1024, .f32⟩
  | .hbm, ⟨9, _⟩ => ⟨S16x2048x3x1024, .f32⟩
  | .hbm, ⟨10, _⟩ => ⟨S_, .f32⟩
  | .hbm, ⟨11, _⟩ => ⟨S16x2048x3x1024, .f32⟩
  | .hbm, ⟨12, _⟩ => ⟨S16x2048x3x1024, .f32⟩
  | .hbm, ⟨13, _⟩ => ⟨S_, .f32⟩
  | .hbm, ⟨14, _⟩ => ⟨S16x2048x3x1024, .f32⟩
  | .hbm, ⟨15, _⟩ => ⟨S16x2048x3x1024, .f32⟩
  | .hbm, ⟨16, _⟩ => ⟨S16x2048x1x512, .f32⟩
  | .hbm, ⟨17, _⟩ => ⟨S16x2048x1x512, .f32⟩
  | .hbm, ⟨18, _⟩ => ⟨S16x2048x1x512, .f32⟩
  | .hbm, ⟨19, _⟩ => ⟨S16x2048x3x512, .f32⟩
  | .hbm, ⟨20, _⟩ => ⟨S3x1024x16x2048, .f32⟩
  | .hbm, ⟨21, _⟩ => ⟨S16x2048x3x1024, .f32⟩
  | .hbm, ⟨22, _⟩ => ⟨S16x2048x3x1024, .f32⟩
  | .hbm, ⟨23, _⟩ => ⟨S_, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel4.lean ====
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S4096x1024 : Shape := ⟨2, ![4096, 1024]⟩
abbrev S1x1024 : Shape := ⟨2, ![1, 1024]⟩
abbrev S1x128 : Shape := ⟨2, ![1, 128]⟩
abbrev S4096x512 : Shape := ⟨2, ![4096, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 10
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S4096x1024, .f32⟩
  | .hbm, ⟨5, _⟩ => ⟨S1x1024, .f32⟩
  | .hbm, ⟨6, _⟩ => ⟨S1024x1024, .bf16⟩
  | .hbm, ⟨7, _⟩ => ⟨S1x128, .f32⟩
  | .hbm, ⟨8, _⟩ => ⟨S4096x512, .bf16⟩
  | .hbm, ⟨9, _⟩ => ⟨S4096x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x2x4x128 : Shape := ⟨5, ![16, 256, 2, 4, 128]⟩
abbrev S16x256x1x4x128 : Shape := ⟨5, ![16, 256, 1, 4, 128]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S1x1x1x128 : Shape := ⟨4, ![1, 1, 1, 128]⟩
abbrev S4096x512 : Shape := ⟨2, ![4096, 512]⟩

abbrev nBuf : Space → Nat
  | .hbm => 46
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S16x256x1024, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x1024, .f32⟩
  | .hbm, ⟨16, _⟩ => ⟨S16x256x1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S16x256x1024, .f32⟩
  | .hbm, ⟨21, _⟩ => ⟨S16x256x2x4x128, .f32⟩
  | .hbm, ⟨22, _⟩ => ⟨S16x256x1x4x128, .f32⟩
  | .hbm, ⟨23, _⟩ => ⟨S16x256x4x128, .f32⟩
  | .hbm, ⟨24, _⟩ => ⟨S16x256x4x128, .f32⟩
  | .hbm, ⟨25, _⟩ => ⟨S_, .f32⟩
  | .hbm, ⟨26, _⟩ => ⟨S16x256x4, .f32⟩
  | .hbm, ⟨27, _⟩ => ⟨S16x256x4x1, .f32⟩
  | .hbm, ⟨28, _⟩ => ⟨S_, .f32⟩
  | .hbm, ⟨29, _⟩ => ⟨S16x256x4x1, .f32⟩
  | .hbm, ⟨30, _⟩ => ⟨S16x256x4x1, .f32⟩
  | .hbm, ⟨31, _⟩ => ⟨S_, .f32⟩
  | .hbm, ⟨32, _⟩ => ⟨S16x256x4x1, .f32⟩
  | .hbm, ⟨33, _⟩ => ⟨S16x256x4x1, .f32⟩
  | .hbm, ⟨34, _⟩ => ⟨S16x256x4x1, .f32⟩
  | .hbm, ⟨35, _⟩ => ⟨S16x256x4x128, .f32⟩
  | .hbm, ⟨36, _⟩ => ⟨S16x256x4x128, .f32⟩
  | .hbm, ⟨37, _⟩ => ⟨S1x1x1x128, .f32⟩
  | .hbm, ⟨38, _⟩ => ⟨S16x256x4x128, .f32⟩
  | .hbm, ⟨39, _⟩ => ⟨S16x256x4x128, .f32⟩
  | .hbm, ⟨40, _⟩ => ⟨S16x256x1x4x128, .f32⟩
  | .hbm, ⟨41, _⟩ => ⟨S16x256x4x128, .f32⟩
  | .hbm, ⟨42, _⟩ => ⟨S4096x512, .f32⟩
  | .hbm, ⟨43, _⟩ => ⟨S4096x512, .bf16⟩
  | .hbm, ⟨44, _⟩ => ⟨S4096x512, .f32⟩
  | .hbm, ⟨45, _⟩ => ⟨S4096x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.AttnOffsets.lean ====
/-
  Where the loops of the differential attention read and write: the number of trips of each loop and the offsets of its
  accesses in closed form. The first loop of each pass handles two tiles of keys a trip, the second has no trip.
-/
module

public import proofs.«01_k».proof.Proof.Gen.KernelIdeal.Loops

@[expose] public section

noncomputable section

namespace Cert.KernelIdeal.Attn

open Cert.KernelIdeal Cert.KernelIdeal.Gen
open Idealize.ShloMosaic Idealize.ShloMosaic.TcCoe Idealize.ShloMosaic.Tactic
open Idealize.SL.Sem

/-! ## How often each loop goes round -/

theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, (k0_t3_loop i).trips = (i 1).val / 2 := by decide +kernel
theorem trips4 : ∀ i : grid0.Coords, (k0_t4_loop i).trips = 0 := by decide +kernel

/-! ## Whether a tile is left over -/

theorem cond1_eq : ∀ i : grid0.Coords, k0_cond1 i = 1#1 ↔ (i 1).val % 2 = 1 := by decide +kernel
theorem cond2_eq : ∀ i : grid0.Coords, k0_cond2 i = k0_cond1 i := by decide +kernel

/-! ## The offsets -/

theorem off9_eq : ∀ (i : grid0.Coords) (k : Fin (k0_t1_loop i).trips) (r : Fin 2), k0_off9 i k (BitVec.ofNat 32 r.val) = ![256 * (2 * k.val + r.val), 0] := by decide +kernel
instance closedOff9_0 (i : grid0.Coords) (k : Fin (k0_t1_loop i).trips) : ClosedOff (k0_off9 i k 0#32) := ⟨![256 * (2 * k.val + 0), 0], off9_eq i k 0⟩
instance closedOff9_1 (i : grid0.Coords) (k : Fin (k0_t1_loop i).trips) : ClosedOff (k0_off9 i k 1#32) := ⟨![256 * (2 * k.val + 1), 0], off9_eq i k 1⟩
theorem off10_eq : ∀ (i : grid0.Coords) (k : Fin (k0_t1_loop i).trips) (r : Fin 2), k0_off10 i k (BitVec.ofNat 32 r.val) = ![256 * (2 * k.val + r.val), 128] := by decide +kernel
instance closedOff10_0 (i : grid0.Coords) (k : Fin (k0_t1_loop i).trips) : ClosedOff (k0_off10 i k 0#32) := ⟨![256 * (2 * k.val + 0), 128], off10_eq i k 0⟩
instance closedOff10_1 (i : grid0.Coords) (k : Fin (k0_t1_loop i).trips) : ClosedOff (k0_off10 i k 1#32) := ⟨![256 * (2 * k.val + 1), 128], off10_eq i k 1⟩
theorem off11_eq : ∀ (i : grid0.Coords) (k : Fin (k0_t1_loop i).trips) (r : Fin 2), k0_off11 i k (BitVec.ofNat 32 r.val) = ![256 * (2 * k.val + r.val), 256] := by decide +kernel
instance closedOff11_0 (i : grid0.Coords) (k : Fin (k0_t1_loop i).trips) : ClosedOff (k0_off11 i k 0#32) := ⟨![256 * (2 * k.val + 0), 256], off11_eq i k 0⟩
instance closedOff11_1 (i : grid0.Coords) (k : Fin (k0_t1_loop i).trips) : ClosedOff (k0_off11 i k 1#32) := ⟨![256 * (2 * k.val + 1), 256], off11_eq i k 1⟩
theorem off12_eq : ∀ (i : grid0.Coords) (k : Fin (k0_t1_loop i).trips) (r : Fin 2), k0_off12 i k (BitVec.ofNat 32 r.val) = ![256 * (2 * k.val + r.val), 384] := by decide +kernel
instance closedOff12_0 (i : grid0.Coords) (k : Fin (k0_t1_loop i).trips) : ClosedOff (k0_off12 i k 0#32) := ⟨![256 * (2 * k.val + 0), 384], off12_eq i k 0⟩
instance closedOff12_1 (i : grid0.Coords) (k : Fin (k0_t1_loop i).trips) : ClosedOff (k0_off12 i k 1#32) := ⟨![256 * (2 * k.val + 1), 384], off12_eq i k 1⟩
theorem off13_eq : ∀ (i : grid0.Coords) (k : Fin (k0_t1_loop i).trips) (r : Fin 2), k0_off13 i k (BitVec.ofNat 32 r.val) = ![2 * k.val + r.val, 0, 0, 0] := by decide +kernel
instance closedOff13_0 (i : grid0.Coords) (k : Fin (k0_t1_loop i).trips) : ClosedOff (k0_off13 i k 0#32) := ⟨![2 * k.val + 0, 0, 0, 0], off13_eq i k 0⟩
instance closedOff13_1 (i : grid0.Coords) (k : Fin (k0_t1_loop i).trips) : ClosedOff (k0_off13 i k 1#32) := ⟨![2 * k.val + 1, 0, 0, 0], off13_eq i k 1⟩
theorem off14_eq : ∀ (i : grid0.Coords) (k : Fin (k0_t1_loop i).trips) (r : Fin 2), k0_off14 i k (BitVec.ofNat 32 r.val) = ![2 * k.val + r.val, 1, 0, 0] := by decide +kernel
instance closedOff14_0 (i : grid0.Coords) (k : Fin (k0_t1_loop i).trips) : ClosedOff (k0_off14 i k 0#32) := ⟨![2 * k.val + 0, 1, 0, 0], off14_eq i k 0⟩
instance closedOff14_1 (i : grid0.Coords) (k : Fin (k0_t1_loop i).trips) : ClosedOff (k0_off14 i k 1#32) := ⟨![2 * k.val + 1, 1, 0, 0], off14_eq i k 1⟩
theorem off15_eq : ∀ (i : grid0.Coords) (k : Fin (k0_t1_loop i).trips) (r : Fin 2), k0_off15 i k (BitVec.ofNat 32 r.val) = ![2 * k.val + r.val, 2, 0, 0] := by decide +kernel
instance closedOff15_0 (i : grid0.Coords) (k : Fin (k0_t1_loop i).trips) : ClosedOff (k0_off15 i k 0#32) := ⟨![2 * k.val + 0, 2, 0, 0], off15_eq i k 0⟩
instance closedOff15_1 (i : grid0.Coords) (k : Fin (k0_t1_loop i).trips) : ClosedOff (k0_off15 i k 1#32) := ⟨![2 * k.val + 1, 2, 0, 0], off15_eq i k 1⟩
theorem off16_eq : ∀ (i : grid0.Coords) (k : Fin (k0_t1_loop i).trips) (r : Fin 2), k0_off16 i k (BitVec.ofNat 32 r.val) = ![2 * k.val + r.val, 3, 0, 0] := by decide +kernel
instance closedOff16_0 (i : grid0.Coords) (k : Fin (k0_t1_loop i).trips) : ClosedOff (k0_off16 i k 0#32) := ⟨![2 * k.val + 0, 3, 0, 0], off16_eq i k 0⟩
instance closedOff16_1 (i : grid0.Coords) (k : Fin (k0_t1_loop i).trips) : ClosedOff (k0_off16 i k 1#32) := ⟨![2 * k.val + 1, 3, 0, 0], off16_eq i k 1⟩
theorem off25_eq : ∀ i : grid0.Coords, (i 1).val % 2 = 1 → k0_off25 i = ![256 * ((i 1).val - 1), 0] := by decide +kernel
theorem off26_eq : ∀ i : grid0.Coords, (i 1).val % 2 = 1 → k0_off26 i = ![256 * ((i 1).val - 1), 128] := by decide +kernel
theorem off27_eq : ∀ i : grid0.Coords, (i 1).val % 2 = 1 → k0_off27 i = ![256 * ((i 1).val - 1), 256] := by decide +kernel
theorem off28_eq : ∀ i : grid0.Coords, (i 1).val % 2 = 1 → k0_off28 i = ![256 * ((i 1).val - 1), 384] := by decide +kernel
theorem off29_eq : ∀ i : grid0.Coords, (i 1).val % 2 = 1 → k0_off29 i = ![(i 1).val - 1, 0, 0, 0] := by decide +kernel
theorem off30_eq : ∀ i : grid0.Coords, (i 1).val % 2 = 1 → k0_off30 i = ![(i 1).val - 1, 1, 0, 0] := by decide +kernel
theorem off31_eq : ∀ i : grid0.Coords, (i 1).val % 2 = 1 → k0_off31 i = ![(i 1).val - 1, 2, 0, 0] := by decide +kernel
theorem off32_eq : ∀ i : grid0.Coords, (i 1).val % 2 = 1 → k0_off32 i = ![(i 1).val - 1, 3, 0, 0] := by decide +kernel
theorem off37_eq : ∀ (i : grid0.Coords) (k : Fin (k0_t3_loop i).trips) (r : Fin 2), k0_off37 i k (BitVec.ofNat 32 r.val) = ![2 * k.val + r.val, 0, 0, 0] := by decide +kernel
instance closedOff37_0 (i : grid0.Coords) (k : Fin (k0_t3_loop i).trips) : ClosedOff (k0_off37 i k 0#32) := ⟨![2 * k.val + 0, 0, 0, 0], off37_eq i k 0⟩
instance closedOff37_1 (i : grid0.Coords) (k : Fin (k0_t3_loop i).trips) : ClosedOff (k0_off37 i k 1#32) := ⟨![2 * k.val + 1, 0, 0, 0], off37_eq i k 1⟩
theorem off38_eq : ∀ (i : grid0.Coords) (k : Fin (k0_t3_loop i).trips) (r : Fin 2), k0_off38 i k (BitVec.ofNat 32 r.val) = ![2 * k.val + r.val, 1, 0, 0] := by decide +kernel
instance closedOff38_0 (i : grid0.Coords) (k : Fin (k0_t3_loop i).trips) : ClosedOff (k0_off38 i k 0#32) := ⟨![2 * k.val + 0, 1, 0, 0], off38_eq i k 0⟩
instance closedOff38_1 (i : grid0.Coords) (k : Fin (k0_t3_loop i).trips) : ClosedOff (k0_off38 i k 1#32) := ⟨![2 * k.val + 1, 1, 0, 0], off38_eq i k 1⟩
theorem off39_eq : ∀ (i : grid0.Coords) (k : Fin (k0_t3_loop i).trips) (r : Fin 2), k0_off39 i k (BitVec.ofNat 32 r.val) = ![2 * k.val + r.val, 2, 0, 0] := by decide +kernel
instance closedOff39_0 (i : grid0.Coords) (k : Fin (k0_t3_loop i).trips) : ClosedOff (k0_off39 i k 0#32) := ⟨![2 * k.val + 0, 2, 0, 0], off39_eq i k 0⟩
instance closedOff39_1 (i : grid0.Coords) (k : Fin (k0_t3_loop i).trips) : ClosedOff (k0_off39 i k 1#32) := ⟨![2 * k.val + 1, 2, 0, 0], off39_eq i k 1⟩
theorem off40_eq : ∀ (i : grid0.Coords) (k : Fin (k0_t3_loop i).trips) (r : Fin 2), k0_off40 i k (BitVec.ofNat 32 r.val) = ![2 * k.val + r.val, 3, 0, 0] := by decide +kernel
instance closedOff40_0 (i : grid0.Coords) (k : Fin (k0_t3_loop i).trips) : ClosedOff (k0_off40 i k 0#32) := ⟨![2 * k.val + 0, 3, 0, 0], off40_eq i k 0⟩
instance closedOff40_1 (i : grid0.Coords) (k : Fin (k0_t3_loop i).trips) : ClosedOff (k0_off40 i k 1#32) := ⟨![2 * k.val + 1, 3, 0, 0], off40_eq i k 1⟩
theorem off41_eq : ∀ (i : grid0.Coords) (k : Fin (k0_t3_loop i).trips), k0_off41 i k = ![512 * k.val, 0] := by decide +kernel
instance closedOff41 (i : grid0.Coords) (k : Fin (k0_t3_loop i).trips) : ClosedOff (k0_off41 i k) := ⟨![512 * k.val, 0], off41_eq i k⟩
theorem off42_eq : ∀ (i : grid0.Coords) (k : Fin (k0_t3_loop i).trips), k0_off42 i k = ![512 * k.val, 128] := by decide +kernel
instance closedOff42 (i : grid0.Coords) (k : Fin (k0_t3_loop i).trips) : ClosedOff (k0_off42 i k) := ⟨![512 * k.val, 128], off42_eq i k⟩
theorem off43_eq : ∀ (i : grid0.Coords) (k : Fin (k0_t3_loop i).trips), k0_off43 i k = ![512 * k.val, 256] := by decide +kernel
instance closedOff43 (i : grid0.Coords) (k : Fin (k0_t3_loop i).trips) : ClosedOff (k0_off43 i k) := ⟨![512 * k.val, 256], off43_eq i k⟩
theorem off44_eq : ∀ (i : grid0.Coords) (k : Fin (k0_t3_loop i).trips), k0_off44 i k = ![512 * k.val, 384] := by decide +kernel
instance closedOff44 (i : grid0.Coords) (k : Fin (k0_t3_loop i).trips) : ClosedOff (k0_off44 i k) := ⟨![512 * k.val, 384], off44_eq i k⟩
theorem off53_eq : ∀ i : grid0.Coords, (i 1).val % 2 = 1 → k0_off53 i = ![(i 1).val - 1, 0, 0, 0] := by decide +kernel
theorem off54_eq : ∀ i : grid0.Coords, (i 1).val % 2 = 1 → k0_off54 i = ![(i 1).val - 1, 1, 0, 0] := by decide +kernel
theorem off55_eq : ∀ i : grid0.Coords, (i 1).val % 2 = 1 → k0_off55 i = ![(i 1).val - 1, 2, 0, 0] := by decide +kernel
theorem off56_eq : ∀ i : grid0.Coords, (i 1).val % 2 = 1 → k0_off56 i = ![(i 1).val - 1, 3, 0, 0] := by decide +kernel
theorem off57_eq : ∀ i : grid0.Coords, (i 1).val % 2 = 1 → k0_off57 i = ![256 * ((i 1).val - 1), 0] := by decide +kernel
theorem off58_eq : ∀ i : grid0.Coords, (i 1).val % 2 = 1 → k0_off58 i = ![256 * ((i 1).val - 1), 128] := by decide +kernel
theorem off59_eq : ∀ i : grid0.Coords, (i 1).val % 2 = 1 → k0_off59 i = ![256 * ((i 1).val - 1), 256] := by decide +kernel
theorem off60_eq : ∀ i : grid0.Coords, (i 1).val % 2 = 1 → k0_off60 i = ![256 * ((i 1).val - 1), 384] := by decide +kernel

/-! The odd tile's offsets, at the points that have one. -/

instance closedOff25 (i : grid0.Coords) [h : Fact ((i 1).val % 2 = 1)] : ClosedOff (k0_off25 i) := ⟨![256 * ((i 1).val - 1), 0], off25_eq i h.out⟩
instance closedOff26 (i : grid0.Coords) [h : Fact ((i 1).val % 2 = 1)] : ClosedOff (k0_off26 i) := ⟨![256 * ((i 1).val - 1), 128], off26_eq i h.out⟩
instance closedOff27 (i : grid0.Coords) [h : Fact ((i 1).val % 2 = 1)] : ClosedOff (k0_off27 i) := ⟨![256 * ((i 1).val - 1), 256], off27_eq i h.out⟩
instance closedOff28 (i : grid0.Coords) [h : Fact ((i 1).val % 2 = 1)] : ClosedOff (k0_off28 i) := ⟨![256 * ((i 1).val - 1), 384], off28_eq i h.out⟩
instance closedOff29 (i : grid0.Coords) [h : Fact ((i 1).val % 2 = 1)] : ClosedOff (k0_off29 i) := ⟨![(i 1).val - 1, 0, 0, 0], off29_eq i h.out⟩
instance closedOff30 (i : grid0.Coords) [h : Fact ((i 1).val % 2 = 1)] : ClosedOff (k0_off30 i) := ⟨![(i 1).val - 1, 1, 0, 0], off30_eq i h.out⟩
instance closedOff31 (i : grid0.Coords) [h : Fact ((i 1).val % 2 = 1)] : ClosedOff (k0_off31 i) := ⟨![(i 1).val - 1, 2, 0, 0], off31_eq i h.out⟩
instance closedOff32 (i : grid0.Coords) [h : Fact ((i 1).val % 2 = 1)] : ClosedOff (k0_off32 i) := ⟨![(i 1).val - 1, 3, 0, 0], off32_eq i h.out⟩
instance closedOff53 (i : grid0.Coords) [h : Fact ((i 1).val % 2 = 1)] : ClosedOff (k0_off53 i) := ⟨![(i 1).val - 1, 0, 0, 0], off53_eq i h.out⟩
instance closedOff54 (i : grid0.Coords) [h : Fact ((i 1).val % 2 = 1)] : ClosedOff (k0_off54 i) := ⟨![(i 1).val - 1, 1, 0, 0], off54_eq i h.out⟩
instance closedOff55 (i : grid0.Coords) [h : Fact ((i 1).val % 2 = 1)] : ClosedOff (k0_off55 i) := ⟨![(i 1).val - 1, 2, 0, 0], off55_eq i h.out⟩
instance closedOff56 (i : grid0.Coords) [h : Fact ((i 1).val % 2 = 1)] : ClosedOff (k0_off56 i) := ⟨![(i 1).val - 1, 3, 0, 0], off56_eq i h.out⟩
instance closedOff57 (i : grid0.Coords) [h : Fact ((i 1).val % 2 = 1)] : ClosedOff (k0_off57 i) := ⟨![256 * ((i 1).val - 1), 0], off57_eq i h.out⟩
instance closedOff58 (i : grid0.Coords) [h : Fact ((i 1).val % 2 = 1)] : ClosedOff (k0_off58 i) := ⟨![256 * ((i 1).val - 1), 128], off58_eq i h.out⟩
instance closedOff59 (i : grid0.Coords) [h : Fact ((i 1).val % 2 = 1)] : ClosedOff (k0_off59 i) := ⟨![256 * ((i 1).val - 1), 256], off59_eq i h.out⟩
instance closedOff60 (i : grid0.Coords) [h : Fact ((i 1).val % 2 = 1)] : ClosedOff (k0_off60 i) := ⟨![256 * ((i 1).val - 1), 384], off60_eq i h.out⟩

end Cert.KernelIdeal.Attn

end
-- ==== Proof.AttnLoops.lean ====
/-
  The first loop of each pass. In the score pass each trip stores the scores of two tiles of keys, for the four heads, and folds
  them into the running maxima. One trip is run once; the invariant says what the buffers hold before trip `k`.
-/
module

public import proofs.«01_k».proof.Proof.AttnOffsets

@[expose] public section

set_option maxRecDepth 10000
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄A" => MT nD τ sig Unit (Elt F) ℕ (UR sig nD τ) ℕ

/-- What a trip of the score loop holds: the queries and the keys at their contents, the scores and the maxima. -/
abbrev ScoreBuffers (c : Dev nD) (arg9 : Memref sig .tc .vmem S4x512x128 .bf16) (arg4 : Memref sig .tc .vmem S2048x512 .bf16)
    (arg13 : Memref sig .tc .vmem S8x4x512x256 .f32) (arg10 : Memref sig .tc .vmem S4x512x128 .f32)
    (X9 : BufTy.Contents (Elt F) arg9.view.ty) (X4 : BufTy.Contents (Elt F) arg4.view.ty) (f13 : BufTy.Contents (Elt F) arg13.view.ty) (f10 : BufTy.Contents (Elt F) arg10.view.ty) : sProp 𝕄A :=
  iprop((arg9.view.loc (c : Thread nD τ) ↦[arg9.view.set]{fullShare} X9) ∗ (arg4.view.loc (c : Thread nD τ) ↦[arg4.view.set]{fullShare} X4)
    ∗ (arg13.view.loc (c : Thread nD τ) ↦[arg13.view.set]{fullShare} f13) ∗ (arg10.view.loc (c : Thread nD τ) ↦[arg10.view.set]{fullShare} f10))

/-- One trip of the score loop, at any contents of the scores and the maxima: the pieces it writes. -/
def scoreTrip (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt F) arg9.view.ty) (X4 : BufTy.Contents (Elt F) arg4.view.ty) (k : Fin (k0_t1_loop i).trips) :
    Σ' (L13 : List (View.Piece (Elt F) S8x4x512x256 .f32)),
      { L10 : BufTy.Contents (Elt F) arg10.view.ty → List (View.Piece (Elt F) S4x512x128 .f32) //
        ∀ (E : Set ℕ) (f13 : BufTy.Contents (Elt F) arg13.view.ty) (f10 : BufTy.Contents (Elt F) arg10.view.ty),
          ScoreBuffers (F := F) c arg9 arg4 arg13 arg10 X9 X4 f13 f10
          ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 0#32 0#32 0#32 0#32 k PUnit.unit)
            (fun _ => ScoreBuffers (F := F) c arg9 arg4 arg13 arg10 X9 X4 (arg13.view.writes (Elt F) f13 L13)
              (arg10.view.writes (Elt F) f10 (L10 f10))) } := by
  refine ⟨?_, ?_, fun E f13 f10 => ?run⟩
  case run =>
    unfold k0_t1_body
    iintro ⟨H9, H4, H13, H10⟩
    sl_exec
    sl_step
    sl_close

/-- The contents of the scores before trip `k`, from those at loop entry. -/
abbrev scoresAt (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt F) arg9.view.ty) (X4 : BufTy.Contents (Elt F) arg4.view.ty) (G13 : BufTy.Contents (Elt F) arg13.view.ty) (k : ℕ) : BufTy.Contents (Elt F) arg13.view.ty :=
  Nat.rec (motive := fun _ => BufTy.Contents (Elt F) arg13.view.ty) G13 (fun k f =>
    if h : k < (k0_t1_loop i).trips then arg13.view.writes (Elt F) f (scoreTrip (F := F) 𝒱 c bd i arg2 harg2 arg3 harg3 arg4 harg4 arg5 harg5 arg6 harg6 arg7 harg7 arg8 harg8 arg9 harg9 arg10 harg10 arg11 harg11 arg12 harg12 arg13 harg13 X9 X4 ⟨k, h⟩).1 else f) k

/-- The contents of the maxima before trip `k`, from those at loop entry. -/
abbrev maximaAt (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt F) arg9.view.ty) (X4 : BufTy.Contents (Elt F) arg4.view.ty) (G10 : BufTy.Contents (Elt F) arg10.view.ty) (k : ℕ) : BufTy.Contents (Elt F) arg10.view.ty :=
  Nat.rec (motive := fun _ => BufTy.Contents (Elt F) arg10.view.ty) G10 (fun k f =>
    if h : k < (k0_t1_loop i).trips then arg10.view.writes (Elt F) f ((scoreTrip (F := F) 𝒱 c bd i arg2 harg2 arg3 harg3 arg4 harg4 arg5 harg5 arg6 harg6 arg7 harg7 arg8 harg8 arg9 harg9 arg10 harg10 arg11 harg11 arg12 harg12 arg13 harg13 X9 X4 ⟨k, h⟩).2.1 f) else f) k

theorem scoresAt_succ (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt F) arg9.view.ty) (X4 : BufTy.Contents (Elt F) arg4.view.ty) (G13 : BufTy.Contents (Elt F) arg13.view.ty) (k : Fin (k0_t1_loop i).trips) :
    scoresAt (F := F) 𝒱 c bd i arg2 harg2 arg3 harg3 arg4 harg4 arg5 harg5 arg6 harg6 arg7 harg7 arg8 harg8 arg9 harg9 arg10 harg10 arg11 harg11 arg12 harg12 arg13 harg13 X9 X4 G13 (k.val + 1)
      = arg13.view.writes (Elt F) (scoresAt 𝒱 c bd i arg2 harg2 arg3 harg3 arg4 harg4 arg5 harg5 arg6 harg6 arg7 harg7 arg8 harg8 arg9 harg9 arg10 harg10 arg11 harg11 arg12 harg12 arg13 harg13 X9 X4 G13 k.val) (scoreTrip (F := F) 𝒱 c bd i arg2 harg2 arg3 harg3 arg4 harg4 arg5 harg5 arg6 harg6 arg7 harg7 arg8 harg8 arg9 harg9 arg10 harg10 arg11 harg11 arg12 harg12 arg13 harg13 X9 X4 k).1 :=
  dif_pos k.isLt

theorem maximaAt_succ (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt F) arg9.view.ty) (X4 : BufTy.Contents (Elt F) arg4.view.ty) (G10 : BufTy.Contents (Elt F) arg10.view.ty) (k : Fin (k0_t1_loop i).trips) :
    maximaAt (F := F) 𝒱 c bd i arg2 harg2 arg3 harg3 arg4 harg4 arg5 harg5 arg6 harg6 arg7 harg7 arg8 harg8 arg9 harg9 arg10 harg10 arg11 harg11 arg12 harg12 arg13 harg13 X9 X4 G10 (k.val + 1)
      = arg10.view.writes (Elt F) (maximaAt 𝒱 c bd i arg2 harg2 arg3 harg3 arg4 harg4 arg5 harg5 arg6 harg6 arg7 harg7 arg8 harg8 arg9 harg9 arg10 harg10 arg11 harg11 arg12 harg12 arg13 harg13 X9 X4 G10 k.val) ((scoreTrip (F := F) 𝒱 c bd i arg2 harg2 arg3 harg3 arg4 harg4 arg5 harg5 arg6 harg6 arg7 harg7 arg8 harg8 arg9 harg9 arg10 harg10 arg11 harg11 arg12 harg12 arg13 harg13 X9 X4 k).2.1
          (maximaAt 𝒱 c bd i arg2 harg2 arg3 harg3 arg4 harg4 arg5 harg5 arg6 harg6 arg7 harg7 arg8 harg8 arg9 harg9 arg10 harg10 arg11 harg11 arg12 harg12 arg13 harg13 X9 X4 G10 k.val)) :=
  dif_pos k.isLt

set_option warn.classDefReducibility false in
/-- The score loop by its invariant: before trip `k` the buffers hold what the trips before it left. -/
@[sl_loop] def scoreLoop (𝒱 : Variants) (c : Dev nD) (bd : Option 𝒱.V) (E : Set ℕ) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt F) arg9.view.ty) (X4 : BufTy.Contents (Elt F) arg4.view.ty) (G13 : BufTy.Contents (Elt F) arg13.view.ty) (G10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 0#32 0#32 0#32 0#32 where
  inv := fun k _ => iprop((arg9.view.loc (c : Thread nD τ) ↦[arg9.view.set]{fullShare} X9) ∗ (arg4.view.loc (c : Thread nD τ) ↦[arg4.view.set]{fullShare} X4)
    ∗ (∃ f, (arg13.view.loc (c : Thread nD τ) ↦[arg13.view.set]{fullShare} f) ∗ ⌜f = scoresAt (F := F) 𝒱 c bd i arg2 harg2 arg3 harg3 arg4 harg4 arg5 harg5 arg6 harg6 arg7 harg7 arg8 harg8 arg9 harg9 arg10 harg10 arg11 harg11 arg12 harg12 arg13 harg13 X9 X4 G13 k⌝)
    ∗ (∃ f, (arg10.view.loc (c : Thread nD τ) ↦[arg10.view.set]{fullShare} f) ∗ ⌜f = maximaAt (F := F) 𝒱 c bd i arg2 harg2 arg3 harg3 arg4 harg4 arg5 harg5 arg6 harg6 arg7 harg7 arg8 harg8 arg9 harg9 arg10 harg10 arg11 harg11 arg12 harg12 arg13 harg13 X9 X4 G10 k⌝))
  step k acc := by
    iintro ⟨H9, H4, ⟨%f13, H13, %h13⟩, ⟨%f10, H10, %h10⟩⟩
    iapply (wp_wand_r Idealize.ShloMosaic.frame (wpE (defs₀ (F := F)) 𝒱 (c : Thread nD τ) bd) E)
    isplitl [H9 H4 H13 H10]
    · iapply ((scoreTrip (F := F) 𝒱 c bd i arg2 harg2 arg3 harg3 arg4 harg4 arg5 harg5 arg6 harg6 arg7 harg7 arg8 harg8 arg9 harg9 arg10 harg10 arg11 harg11 arg12 harg12 arg13 harg13  X9 X4 k).2.2 E f13 f10)
      isplitl [H9]; · iexact H9
      isplitl [H4]; · iexact H4
      isplitl [H13]; · iexact H13
      iexact H10
    · iintro %_ ⟨H9, H4, H13, H10⟩
      isplitl [H9]; · iexact H9
      isplitl [H4]; · iexact H4
      isplitl [H13]
      · iexists _; isplitl [H13]; · iexact H13
        ipureintro; rw [h13]; exact (scoresAt_succ 𝒱 c bd i arg2 harg2 arg3 harg3 arg4 harg4 arg5 harg5 arg6 harg6 arg7 harg7 arg8 harg8 arg9 harg9 arg10 harg10 arg11 harg11 arg12 harg12 arg13 harg13 X9 X4 G13 k).symm
      iexists _; isplitl [H10]; · iexact H10
      ipureintro; rw [h10]; exact (maximaAt_succ 𝒱 c bd i arg2 harg2 arg3 harg3 arg4 harg4 arg5 harg5 arg6 harg6 arg7 harg7 arg8 harg8 arg9 harg9 arg10 harg10 arg11 harg11 arg12 harg12 arg13 harg13 X9 X4 G10 k).symm

/-- What a trip of the summing loop holds: the row maxima, the scores and the values at their contents, the sums of
    the weights and the weighted values. -/
abbrev SumBuffers (c : Dev nD) (arg5 : Memref sig .tc .vmem S2048x512 .bf16) (arg10 : Memref sig .tc .vmem S4x512x128 .f32)
    (arg13 : Memref sig .tc .vmem S8x4x512x256 .f32) (arg11 arg12 : Memref sig .tc .vmem S4x512x128 .f32)
    (X5 : BufTy.Contents (Elt F) arg5.view.ty) (X10 : BufTy.Contents (Elt F) arg10.view.ty) (X13 : BufTy.Contents (Elt F) arg13.view.ty) (f11 : BufTy.Contents (Elt F) arg11.view.ty) (f12 : BufTy.Contents (Elt F) arg12.view.ty) : sProp 𝕄A :=
  iprop((arg5.view.loc (c : Thread nD τ) ↦[arg5.view.set]{fullShare} X5) ∗ (arg10.view.loc (c : Thread nD τ) ↦[arg10.view.set]{fullShare} X10)
    ∗ (arg13.view.loc (c : Thread nD τ) ↦[arg13.view.set]{fullShare} X13) ∗ (arg11.view.loc (c : Thread nD τ) ↦[arg11.view.set]{fullShare} f11)
    ∗ (arg12.view.loc (c : Thread nD τ) ↦[arg12.view.set]{fullShare} f12))

/-- One trip of the summing loop, at any contents of the sums and of the weighted values: the pieces it writes. -/
def sumTrip (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt F) arg5.view.ty) (X10 : BufTy.Contents (Elt F) arg10.view.ty) (X13 : BufTy.Contents (Elt F) arg13.view.ty) (k : Fin (k0_t3_loop i).trips) :
    Σ' (L11 : BufTy.Contents (Elt F) arg11.view.ty → List (View.Piece (Elt F) S4x512x128 .f32)),
      { L12 : BufTy.Contents (Elt F) arg12.view.ty → List (View.Piece (Elt F) S4x512x128 .f32) //
        ∀ (E : Set ℕ) (f11 : BufTy.Contents (Elt F) arg11.view.ty) (f12 : BufTy.Contents (Elt F) arg12.view.ty),
          SumBuffers (F := F) c arg5 arg10 arg13 arg11 arg12 X5 X10 X13 f11 f12
          ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 0#32 (fun _ => FloatOps.ofBits .f32 0#32) k PUnit.unit)
            (fun _ => SumBuffers (F := F) c arg5 arg10 arg13 arg11 arg12 X5 X10 X13 (arg11.view.writes (Elt F) f11 (L11 f11))
              (arg12.view.writes (Elt F) f12 (L12 f12))) } := by
  refine ⟨?_, ?_, fun E f11 f12 => ?run⟩
  case run =>
    unfold k0_t3_body
    iintro ⟨H5, H10, H13, H11, H12⟩
    sl_exec
    sl_step
    sl_close

/-- The contents of the sums of the weights before trip `k`, from those at loop entry. -/
abbrev sumsAt (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt F) arg5.view.ty) (X10 : BufTy.Contents (Elt F) arg10.view.ty) (X13 : BufTy.Contents (Elt F) arg13.view.ty) (G : BufTy.Contents (Elt F) arg11.view.ty) (k : ℕ) : BufTy.Contents (Elt F) arg11.view.ty :=
  Nat.rec (motive := fun _ => BufTy.Contents (Elt F) arg11.view.ty) G (fun k f =>
    if h : k < (k0_t3_loop i).trips then arg11.view.writes (Elt F) f ((sumTrip (F := F) 𝒱 c bd i arg2 harg2 arg3 harg3 arg4 harg4 arg5 harg5 arg6 harg6 arg7 harg7 arg8 harg8 arg9 harg9 arg10 harg10 arg11 harg11 arg12 harg12 arg13 harg13 X5 X10 X13 ⟨k, h⟩).1 f) else f) k

theorem sumsAt_succ (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt F) arg5.view.ty) (X10 : BufTy.Contents (Elt F) arg10.view.ty) (X13 : BufTy.Contents (Elt F) arg13.view.ty) (G : BufTy.Contents (Elt F) arg11.view.ty) (k : Fin (k0_t3_loop i).trips) :
    sumsAt (F := F) 𝒱 c bd i arg2 harg2 arg3 harg3 arg4 harg4 arg5 harg5 arg6 harg6 arg7 harg7 arg8 harg8 arg9 harg9 arg10 harg10 arg11 harg11 arg12 harg12 arg13 harg13 X5 X10 X13 G (k.val + 1)
      = arg11.view.writes (Elt F) (sumsAt 𝒱 c bd i arg2 harg2 arg3 harg3 arg4 harg4 arg5 harg5 arg6 harg6 arg7 harg7 arg8 harg8 arg9 harg9 arg10 harg10 arg11 harg11 arg12 harg12 arg13 harg13 X5 X10 X13 G k.val) ((sumTrip (F := F) 𝒱 c bd i arg2 harg2 arg3 harg3 arg4 harg4 arg5 harg5 arg6 harg6 arg7 harg7 arg8 harg8 arg9 harg9 arg10 harg10 arg11 harg11 arg12 harg12 arg13 harg13 X5 X10 X13 k).1
          (sumsAt 𝒱 c bd i arg2 harg2 arg3 harg3 arg4 harg4 arg5 harg5 arg6 harg6 arg7 harg7 arg8 harg8 arg9 harg9 arg10 harg10 arg11 harg11 arg12 harg12 arg13 harg13 X5 X10 X13 G k.val)) :=
  dif_pos k.isLt

/-- The contents of the weighted values before trip `k`, from those at loop entry. -/
abbrev weightedAt (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt F) arg5.view.ty) (X10 : BufTy.Contents (Elt F) arg10.view.ty) (X13 : BufTy.Contents (Elt F) arg13.view.ty) (G : BufTy.Contents (Elt F) arg12.view.ty) (k : ℕ) : BufTy.Contents (Elt F) arg12.view.ty :=
  Nat.rec (motive := fun _ => BufTy.Contents (Elt F) arg12.view.ty) G (fun k f =>
    if h : k < (k0_t3_loop i).trips then arg12.view.writes (Elt F) f ((sumTrip (F := F) 𝒱 c bd i arg2 harg2 arg3 harg3 arg4 harg4 arg5 harg5 arg6 harg6 arg7 harg7 arg8 harg8 arg9 harg9 arg10 harg10 arg11 harg11 arg12 harg12 arg13 harg13 X5 X10 X13 ⟨k, h⟩).2.1 f) else f) k

theorem weightedAt_succ (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt F) arg5.view.ty) (X10 : BufTy.Contents (Elt F) arg10.view.ty) (X13 : BufTy.Contents (Elt F) arg13.view.ty) (G : BufTy.Contents (Elt F) arg12.view.ty) (k : Fin (k0_t3_loop i).trips) :
    weightedAt (F := F) 𝒱 c bd i arg2 harg2 arg3 harg3 arg4 harg4 arg5 harg5 arg6 harg6 arg7 harg7 arg8 harg8 arg9 harg9 arg10 harg10 arg11 harg11 arg12 harg12 arg13 harg13 X5 X10 X13 G (k.val + 1)
      = arg12.view.writes (Elt F) (weightedAt 𝒱 c bd i arg2 harg2 arg3 harg3 arg4 harg4 arg5 harg5 arg6 harg6 arg7 harg7 arg8 harg8 arg9 harg9 arg10 harg10 arg11 harg11 arg12 harg12 arg13 harg13 X5 X10 X13 G k.val) ((sumTrip (F := F) 𝒱 c bd i arg2 harg2 arg3 harg3 arg4 harg4 arg5 harg5 arg6 harg6 arg7 harg7 arg8 harg8 arg9 harg9 arg10 harg10 arg11 harg11 arg12 harg12 arg13 harg13 X5 X10 X13 k).2.1
          (weightedAt 𝒱 c bd i arg2 harg2 arg3 harg3 arg4 harg4 arg5 harg5 arg6 harg6 arg7 harg7 arg8 harg8 arg9 harg9 arg10 harg10 arg11 harg11 arg12 harg12 arg13 harg13 X5 X10 X13 G k.val)) :=
  dif_pos k.isLt

set_option warn.classDefReducibility false in
/-- The summing loop by its invariant: before trip `k` the buffers hold what the trips before it left. -/
@[sl_loop] def sumLoop (𝒱 : Variants) (c : Dev nD) (bd : Option 𝒱.V) (E : Set ℕ) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt F) arg5.view.ty) (X10 : BufTy.Contents (Elt F) arg10.view.ty) (X13 : BufTy.Contents (Elt F) arg13.view.ty) (G11 : BufTy.Contents (Elt F) arg11.view.ty) (G12 : BufTy.Contents (Elt F) arg12.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 0#32 (fun _ => FloatOps.ofBits .f32 0#32) where
  inv := fun k _ => iprop((arg5.view.loc (c : Thread nD τ) ↦[arg5.view.set]{fullShare} X5) ∗ (arg10.view.loc (c : Thread nD τ) ↦[arg10.view.set]{fullShare} X10)
    ∗ (arg13.view.loc (c : Thread nD τ) ↦[arg13.view.set]{fullShare} X13)
    ∗ (∃ f, (arg11.view.loc (c : Thread nD τ) ↦[arg11.view.set]{fullShare} f) ∗ ⌜f = sumsAt (F := F) 𝒱 c bd i arg2 harg2 arg3 harg3 arg4 harg4 arg5 harg5 arg6 harg6 arg7 harg7 arg8 harg8 arg9 harg9 arg10 harg10 arg11 harg11 arg12 harg12 arg13 harg13 X5 X10 X13 G11 k⌝)
    ∗ (∃ f, (arg12.view.loc (c : Thread nD τ) ↦[arg12.view.set]{fullShare} f) ∗ ⌜f = weightedAt (F := F) 𝒱 c bd i arg2 harg2 arg3 harg3 arg4 harg4 arg5 harg5 arg6 harg6 arg7 harg7 arg8 harg8 arg9 harg9 arg10 harg10 arg11 harg11 arg12 harg12 arg13 harg13 X5 X10 X13 G12 k⌝))
  step k acc := by
    iintro ⟨H5, H10, H13, ⟨%f11, H11, %h11⟩, ⟨%f12, H12, %h12⟩⟩
    iapply (wp_wand_r Idealize.ShloMosaic.frame (wpE (defs₀ (F := F)) 𝒱 (c : Thread nD τ) bd) E)
    isplitl [H5 H10 H13 H11 H12]
    · iapply ((sumTrip (F := F) 𝒱 c bd i arg2 harg2 arg3 harg3 arg4 harg4 arg5 harg5 arg6 harg6 arg7 harg7 arg8 harg8 arg9 harg9 arg10 harg10 arg11 harg11 arg12 harg12 arg13 harg13 X5 X10 X13 k).2.2 E f11 f12)
      isplitl [H5]; · iexact H5
      isplitl [H10]; · iexact H10
      isplitl [H13]; · iexact H13
      isplitl [H11]; · iexact H11
      iexact H12
    · iintro %_ ⟨H5, H10, H13, H11, H12⟩
      isplitl [H5]; · iexact H5
      isplitl [H10]; · iexact H10
      isplitl [H13]; · iexact H13
      isplitl [H11]
      · iexists _; isplitl [H11]; · iexact H11
        ipureintro; rw [h11]; exact (sumsAt_succ 𝒱 c bd i arg2 harg2 arg3 harg3 arg4 harg4 arg5 harg5 arg6 harg6 arg7 harg7 arg8 harg8 arg9 harg9 arg10 harg10 arg11 harg11 arg12 harg12 arg13 harg13 X5 X10 X13 G11 k).symm
      iexists _; isplitl [H12]; · iexact H12
      ipureintro; rw [h12]; exact (weightedAt_succ 𝒱 c bd i arg2 harg2 arg3 harg3 arg4 harg4 arg5 harg5 arg6 harg6 arg7 harg7 arg8 harg8 arg9 harg9 arg10 harg10 arg11 harg11 arg12 harg12 arg13 harg13 X5 X10 X13 G12 k).symm

end Cert.KernelIdeal.Attn

end
-- ==== Proof.AttnBody.lean ====
/-
  One grid point of the differential attention, run once where the number of earlier tiles is even and once where it is
  odd: what it writes into the output block, as pieces over the blocks it reads and the scratch contents it finds.
-/
module

public import proofs.«01_k».proof.Proof.AttnLoops

@[expose] public section

set_option maxRecDepth 10000
set_option maxHeartbeats 40000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄A" => MT nD τ sig Unit (Elt F) ℕ (UR sig nD τ) ℕ

/-- A grid point with no tile left over after the pairs. -/
def bodyEven (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole) (hc1 : ¬ k0_cond1 i = 1#1) (hc2 : ¬ k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) :
    { L8 : List (View.Piece (Elt F) S256x512 .bf16) // ∀ (E : Set ℕ) (f8 : BufTy.Contents (Elt F) arg8.view.ty),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13))
      ⊢ wp frame (wpE (defs₀ (F := F)) 𝒱 (c : Thread nD τ) bd) E (cc0_diff_attn (F := F) i arg2 harg2 arg3 harg3 arg4 harg4 arg5 harg5 arg6 harg6 arg7 harg7 arg8 harg8 arg9 harg9 arg10 harg10 arg11 harg11 arg12 harg12 arg13 harg13)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) f8 L8)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) : _ → sProp 𝕄A) } := by
  have htr2 := trips2 i
  have htr4 := trips4 i
  have hi : (i 1).val < 8 := (i 1).isLt
  refine ⟨?_, fun E f8 => ?run⟩
  case run =>
    simp only [cc0_diff_attn_eq_skeleton]
    unfold cc0_diff_attn_skel
    iintro ⟨H2, H3, H4, H5, H6, H7, H8, H9, H10, H11, H12, H13⟩
    sl_exec
    sl_step
    sl_close

/-- A grid point with one tile left over after the pairs. -/
def bodyOdd (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole) (hc1 : k0_cond1 i = 1#1) (hc2 : k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) :
    { L8 : List (View.Piece (Elt F) S256x512 .bf16) // ∀ (E : Set ℕ) (f8 : BufTy.Contents (Elt F) arg8.view.ty),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13))
      ⊢ wp frame (wpE (defs₀ (F := F)) 𝒱 (c : Thread nD τ) bd) E (cc0_diff_attn (F := F) i arg2 harg2 arg3 harg3 arg4 harg4 arg5 harg5 arg6 harg6 arg7 harg7 arg8 harg8 arg9 harg9 arg10 harg10 arg11 harg11 arg12 harg12 arg13 harg13)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) f8 L8)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) : _ → sProp 𝕄A) } := by
  have htr2 := trips2 i
  have htr4 := trips4 i
  have hi : (i 1).val < 8 := (i 1).isLt
  have hodd := (cond1_eq i).mp hc1
  haveI : Fact ((i 1).val % 2 = 1) := ⟨hodd⟩
  refine ⟨?_, fun E f8 => ?run⟩
  case run =>
    simp only [cc0_diff_attn_eq_skeleton]
    unfold cc0_diff_attn_skel
    iintro ⟨H2, H3, H4, H5, H6, H7, H8, H9, H10, H11, H12, H13⟩
    sl_exec
    sl_step
    sl_close

end Cert.KernelIdeal.Attn

end
-- ==== Proof.AttnPoint.lean ====
/-
  One grid point of the differential attention over owned blocks: the inputs' blocks are left as they are, the output's
  block satisfies whatever holds of what the run writes, and the scratch buffers hold something.
-/
module

public import proofs.«01_k».proof.Proof.AttnBody

@[expose] public section

set_option maxRecDepth 10000
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄A" => MT nD τ sig Unit (Elt F) ℕ (UR sig nD τ) ℕ

theorem point (𝒱 : Variants) (c : Dev nD) (bd : Option 𝒱.V) (E : Set ℕ) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (x2 : Vec F S4x64 .f32) (x3 : Vec F S256x512 .bf16) (x4 : Vec F S2048x512 .bf16) (x5 : Vec F S2048x512 .bf16) (x6 : Vec F S256x512 .bf16) (x7 : Vec F S1x128 .f32) (P : Vec F S256x512 .bf16 → Prop)
    (hE : ∀ (h1 : ¬ k0_cond1 i = 1#1) (h2 : ¬ k0_cond2 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (f8 : BufTy.Contents (Elt F) arg8.view.ty),
      arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 →
      P (arg8.view.read (Elt F) (arg8.view.writes (Elt F) f8 (bodyEven (F := F) 𝒱 c bd i arg2 harg2 arg3 harg3 arg4 harg4 arg5 harg5 arg6 harg6 arg7 harg7 arg8 harg8 arg9 harg9 arg10 harg10 arg11 harg11 arg12 harg12 arg13 harg13 h1 h2 X2 X3 X4 X5 X6 X7 g9 g10 g11 g12 g13).1)))
    (hO : ∀ (h1 : k0_cond1 i = 1#1) (h2 : k0_cond2 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (f8 : BufTy.Contents (Elt F) arg8.view.ty),
      arg2.view.read (Elt F) X2 = x2 → arg3.view.read (Elt F) X3 = x3 → arg4.view.read (Elt F) X4 = x4 → arg5.view.read (Elt F) X5 = x5 → arg6.view.read (Elt F) X6 = x6 → arg7.view.read (Elt F) X7 = x7 →
      P (arg8.view.read (Elt F) (arg8.view.writes (Elt F) f8 (bodyOdd (F := F) 𝒱 c bd i arg2 harg2 arg3 harg3 arg4 harg4 arg5 harg5 arg6 harg6 arg7 harg7 arg8 harg8 arg9 harg9 arg10 harg10 arg11 harg11 arg12 harg12 arg13 harg13 h1 h2 X2 X3 X4 X5 X6 X7 g9 g10 g11 g12 g13).1))) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))
    ⊢ wp frame (wpE (defs₀ (F := F)) 𝒱 (c : Thread nD τ) bd) E (cc0_diff_attn (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d ∗ ⌜P d⌝) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) : _ → sProp 𝕄A) := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%d8, %f8, -, H8⟩, ⟨%d9, %g9, -, H9⟩, ⟨%d10, %g10, -, H10⟩, ⟨%d11, %g11, -, H11⟩, ⟨%d12, %g12, -, H12⟩, ⟨%d13, %g13, -, H13⟩⟩
  by_cases hc1 : k0_cond1 i = 1#1
  · have hc2 : k0_cond2 i = 1#1 := (cond2_eq i).trans hc1
    iapply (wp_wand_r Idealize.ShloMosaic.frame (wpE (defs₀ (F := F)) 𝒱 (c : Thread nD τ) bd) E)
    isplitl [H2 H3 H4 H5 H6 H7 H8 H9 H10 H11 H12 H13]
    · iapply ((bodyOdd (F := F) 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g9 g10 g11 g12 g13).2 E f8)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iintro %_ ⟨H2, H3, H4, H5, H6, H7, H8, ⟨%k9, H9⟩, ⟨%k10, H10⟩, ⟨%k11, H11⟩, ⟨%k12, H12⟩, ⟨%k13, H13⟩⟩
      isplitl [H2]
      · iexists X2; isplitr; · ipureintro; exact h2
        iexact H2
      isplitl [H3]
      · iexists X3; isplitr; · ipureintro; exact h3
        iexact H3
      isplitl [H4]
      · iexists X4; isplitr; · ipureintro; exact h4
        iexact H4
      isplitl [H5]
      · iexists X5; isplitr; · ipureintro; exact h5
        iexact H5
      isplitl [H6]
      · iexists X6; isplitr; · ipureintro; exact h6
        iexact H6
      isplitl [H7]
      · iexists X7; isplitr; · ipureintro; exact h7
        iexact H7
      isplitl [H8]
      · iexists _; isplitl [H8]
        · iexists _; isplitr
          swap; · iexact H8
          ipureintro; rfl
        ipureintro
        exact hO hc1 hc2 X2 X3 X4 X5 X6 X7 g9 g10 g11 g12 g13 f8 h2 h3 h4 h5 h6 h7
      isplitl [H9]
      · iexists arg9.view.read (Elt F) k9, k9; isplitr; · ipureintro; rfl
        iexact H9
      isplitl [H10]
      · iexists arg10.view.read (Elt F) k10, k10; isplitr; · ipureintro; rfl
        iexact H10
      isplitl [H11]
      · iexists arg11.view.read (Elt F) k11, k11; isplitr; · ipureintro; rfl
        iexact H11
      isplitl [H12]
      · iexists arg12.view.read (Elt F) k12, k12; isplitr; · ipureintro; rfl
        iexact H12
      iexists arg13.view.read (Elt F) k13, k13; isplitr; · ipureintro; rfl
      iexact H13
  · have hc2 : ¬ k0_cond2 i = 1#1 := fun h => hc1 ((cond2_eq i).symm.trans h)
    iapply (wp_wand_r Idealize.ShloMosaic.frame (wpE (defs₀ (F := F)) 𝒱 (c : Thread nD τ) bd) E)
    isplitl [H2 H3 H4 H5 H6 H7 H8 H9 H10 H11 H12 H13]
    · iapply ((bodyEven (F := F) 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g9 g10 g11 g12 g13).2 E f8)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iintro %_ ⟨H2, H3, H4, H5, H6, H7, H8, ⟨%k9, H9⟩, ⟨%k10, H10⟩, ⟨%k11, H11⟩, ⟨%k12, H12⟩, ⟨%k13, H13⟩⟩
      isplitl [H2]
      · iexists X2; isplitr; · ipureintro; exact h2
        iexact H2
      isplitl [H3]
      · iexists X3; isplitr; · ipureintro; exact h3
        iexact H3
      isplitl [H4]
      · iexists X4; isplitr; · ipureintro; exact h4
        iexact H4
      isplitl [H5]
      · iexists X5; isplitr; · ipureintro; exact h5
        iexact H5
      isplitl [H6]
      · iexists X6; isplitr; · ipureintro; exact h6
        iexact H6
      isplitl [H7]
      · iexists X7; isplitr; · ipureintro; exact h7
        iexact H7
      isplitl [H8]
      · iexists _; isplitl [H8]
        · iexists _; isplitr
          swap; · iexact H8
          ipureintro; rfl
        ipureintro
        exact hE hc1 hc2 X2 X3 X4 X5 X6 X7 g9 g10 g11 g12 g13 f8 h2 h3 h4 h5 h6 h7
      isplitl [H9]
      · iexists arg9.view.read (Elt F) k9, k9; isplitr; · ipureintro; rfl
        iexact H9
      isplitl [H10]
      · iexists arg10.view.read (Elt F) k10, k10; isplitr; · ipureintro; rfl
        iexact H10
      isplitl [H11]
      · iexists arg11.view.read (Elt F) k11, k11; isplitr; · ipureintro; rfl
        iexact H11
      isplitl [H12]
      · iexists arg12.view.read (Elt F) k12, k12; isplitr; · ipureintro; rfl
        iexact H12
      iexists arg13.view.read (Elt F) k13, k13; isplitr; · ipureintro; rfl
      iexact H13

end Cert.KernelIdeal.Attn

end
-- ==== Proof.AttnFrame.lean ====
/-
  The launch of the differential attention: every grid point leaves its inputs' blocks as they are, so the argument
  arrays end unchanged and every semaphore at zero.  The output's block is left open in the frame (`forgotten`);
  the same point lemma fixes it where it is known.
-/
module

public import proofs.«01_k».proof.Proof.AttnPoint
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: each input's buffer at its block after a point, the output's at `O`, the scratch buffers at anything. -/
def dats (O : Dev nD → Fin cfg0.N → Vec F S256x512 .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => O c t
  Φ _ := Pipeline.ΦA spec0 c
  q w := Pipeline.shareOf spec0 w
  owed _ := 0

variable (O : Dev nD → Fin cfg0.N → Vec F S256x512 .bf16)

theorem A_eq (c : Dev nD) (w : Fin cfg0.W) : (dats m O 0 c).A w = V m c (Pipeline.arrRef spec0 w) := by
  dsimp only [dats]

theorem after_0 (c : Dev nD) (t : Fin cfg0.N) : (dats m O 0 c).after 0 t = iblk m c 0 t := by dsimp only [dats]
theorem after_1 (c : Dev nD) (t : Fin cfg0.N) : (dats m O 0 c).after 1 t = iblk m c 1 t := by dsimp only [dats]
theorem after_2 (c : Dev nD) (t : Fin cfg0.N) : (dats m O 0 c).after 2 t = iblk m c 2 t := by dsimp only [dats]
theorem after_3 (c : Dev nD) (t : Fin cfg0.N) : (dats m O 0 c).after 3 t = iblk m c 3 t := by dsimp only [dats]
theorem after_4 (c : Dev nD) (t : Fin cfg0.N) : (dats m O 0 c).after 4 t = iblk m c 4 t := by dsimp only [dats]
theorem after_5 (c : Dev nD) (t : Fin cfg0.N) : (dats m O 0 c).after 5 t = iblk m c 5 t := by dsimp only [dats]
theorem after_6 (c : Dev nD) (t : Fin cfg0.N) : (dats m O 0 c).after 6 t = O c t := by dsimp only [dats]

theorem before_0 (c : Dev nD) (t : Fin cfg0.N) (d) : (dats m O 0 c).before 0 t d = iblk m c 0 t :=
  before0_0_of m (dats m O 0 c) (A_eq m O c 0) (after_0 m O c) t d
theorem before_1 (c : Dev nD) (t : Fin cfg0.N) (d) : (dats m O 0 c).before 1 t d = iblk m c 1 t :=
  before0_1_of m (dats m O 0 c) (A_eq m O c 1) (after_1 m O c) t d
theorem before_2 (c : Dev nD) (t : Fin cfg0.N) (d) : (dats m O 0 c).before 2 t d = iblk m c 2 t :=
  before0_2_of m (dats m O 0 c) (A_eq m O c 2) (after_2 m O c) t d
theorem before_3 (c : Dev nD) (t : Fin cfg0.N) (d) : (dats m O 0 c).before 3 t d = iblk m c 3 t :=
  before0_3_of m (dats m O 0 c) (A_eq m O c 3) (after_3 m O c) t d
theorem before_4 (c : Dev nD) (t : Fin cfg0.N) (d) : (dats m O 0 c).before 4 t d = iblk m c 4 t :=
  before0_4_of m (dats m O 0 c) (A_eq m O c 4) (after_4 m O c) t d
theorem before_5 (c : Dev nD) (t : Fin cfg0.N) (d) : (dats m O 0 c).before 5 t d = iblk m c 5 t :=
  before0_5_of m (dats m O 0 c) (A_eq m O c 5) (after_5 m O c) t d

/-- The invariant's scoped rest is the five scratch buffers, each at some contents. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) := by
  rw [scopedRest0_eq]; simp only [owns_whole]

/-- One point of the launch, with whatever holds of what is written to the output's block. -/
def PointHolds (c : Dev nD) (t : Fin cfg0.N) (P : Vec F S256x512 .bf16 → Prop) : Prop :=
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d))
    ⊢ wp frame (wpE (defs₀ (F := F)) Variants.none c none) Set.univ (bodyAt0 t)
      (fun _ => iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d ∗ ⌜P d⌝) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) : _ → sProp 𝕄)

theorem pointHolds_true (c : Dev nD) (t : Fin cfg0.N) : PointHolds (F := F) m c t (fun _ => True) := by
  unfold PointHolds bodyAt0
  exact point (F := F) Variants.none c none Set.univ (grid0.coords t) _ _ _ _ _ _ _ _ _ _ _ _ _ _ _ _ _ _ _ _ _ _ _ _
    _ _ _ _ _ _ (fun _ => True) (fun _ _ _ _ _ _ _ _ _ _ _ _ _ _ _ _ _ _ _ _ => trivial) (fun _ _ _ _ _ _ _ _ _ _ _ _ _ _ _ _ _ _ _ _ => trivial)

/-- The output is the window left open. -/
def forgotten : Fin 7 → Bool := fun w => w == 6

/-- What the body is called with at a point and what it returns. -/
def bodyPre (c : Dev nD) (t : Fin cfg0.N) : sProp 𝕄 :=
  iprop((dats m O 0 c).Φ t.castSucc ∗ (dats m O 0 c).owesAt () t.castSucc ∗ (∃ d, owns (c : Thread nD τ) (st0_0 t) fullShare ((dats m O 0 c).before 0 t d)) ∗ (∃ d, owns (c : Thread nD τ) (st0_1 t) fullShare ((dats m O 0 c).before 1 t d)) ∗ (∃ d, owns (c : Thread nD τ) (st0_2 t) fullShare ((dats m O 0 c).before 2 t d)) ∗ (∃ d, owns (c : Thread nD τ) (st0_3 t) fullShare ((dats m O 0 c).before 3 t d)) ∗ (∃ d, owns (c : Thread nD τ) (st0_4 t) fullShare ((dats m O 0 c).before 4 t d)) ∗ (∃ d, owns (c : Thread nD τ) (st0_5 t) fullShare ((dats m O 0 c).before 5 t d)) ∗ (∃ d, owns (c : Thread nD τ) (st0_6 t) fullShare d))
def bodyPost (c : Dev nD) (t : Fin cfg0.N) : sProp 𝕄 :=
  iprop((dats m O 0 c).Φ t.succ ∗ (dats m O 0 c).owesAt () t.succ ∗ owns (c : Thread nD τ) (st0_0 t) fullShare ((dats m O 0 c).after 0 t) ∗ owns (c : Thread nD τ) (st0_1 t) fullShare ((dats m O 0 c).after 1 t) ∗ owns (c : Thread nD τ) (st0_2 t) fullShare ((dats m O 0 c).after 2 t) ∗ owns (c : Thread nD τ) (st0_3 t) fullShare ((dats m O 0 c).after 3 t) ∗ owns (c : Thread nD τ) (st0_4 t) fullShare ((dats m O 0 c).after 4 t) ∗ owns (c : Thread nD τ) (st0_5 t) fullShare ((dats m O 0 c).after 5 t) ∗ (∃ d, owns (c : Thread nD τ) (st0_6 t) fullShare d))

theorem sound_body (c : Dev nD) (t : Fin cfg0.N) :
    bodyPre m O c t ⊢ wp frame (wpE (defs₀ (F := F)) Variants.none c none) Set.univ (bodyAt0 t) (fun _ => bodyPost m O c t) := by
  have key := pointHolds_true m c t
  unfold PointHolds at key
  unfold bodyPre bodyPost
  simp only [before_0, before_1, before_2, before_3, before_4, before_5]
  rw [show (dats m O 0 c).Φ t.succ = (dats m O 0 c).Φ t.castSucc from rfl,
    show (dats m O 0 c).owesAt () t.succ = (dats m O 0 c).owesAt () t.castSucc from rfl,
    after_0, after_1, after_2, after_3, after_4, after_5,
    show (dats m O 0 c).Φ t.castSucc = Pipeline.ΦA spec0 c from rfl]
  unfold Pipeline.ΦA
  rw [scratch_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩⟩
  iapply (wp_wand_r Idealize.ShloMosaic.frame (wpE (defs₀ (F := F)) Variants.none (c : Thread nD τ) none) Set.univ)
  isplitl [H0 H1 H2 H3 H4 H5 H6 S0 S1 S2 S3 S4]
  · iapply key
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    iexact S4
  · iintro %_ ⟨H0, H1, H2, H3, H4, H5, ⟨%d, H6, %hP⟩, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The body table's row at a point is the body there. -/
theorem row_eq (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m O 0 c) (defs₀ (F := F)) Variants.none () Set.univ forgotten := fun t => by
  rw [bigSep_W0, bigSep_W0, row_eq]
  exact triple_restated (sound_body m O c t) rfl .rfl fun _ => .rfl

set_option backward.isDefEq.respectTransparency.types false in
theorem run_main : θ_run defs (onTc (τ := τ) (main (F := F))) (s₀ m ρ)
    (fun r => Pipeline.RDat.FramePost (cfgs 0) (fun c => (dats m O 0 c).toRForget forgotten) (V m) r ∧ r.2.sem = fun _ => 0) :=
  Pipeline.θ_run_frame_forget_shared (Q' := _) cfgs (dats m O) (0 : Fin 1) launch₀0 defs₀ Variants.none forgotten m ρ main
    (hbody := fun c => (body_obligation m O c).loose) (hq := fun _ _ _ => rfl) (howed := fun _ _ => rfl)
    (V := V m) (hmain := hmain m Variants.none) (hA := A_eq m O) (hΦ := fun _ _ => rfl)

/-- The argument arrays end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main m ρ (fun c t => iblk m c 1 t))
  have hc := h.1 c
  refine ⟨?_, ?_, ?_, ?_, ?_, ?_, ?_⟩
  · exact (hc.2 main_arg0 (Pipeline.mem_restRefs_of main_arg0 (by decide) (by decide))).trans (V_main_arg0 m c)
  · exact (hc.2 main_arg1 (Pipeline.mem_restRefs_of main_arg1 (by decide) (by decide))).trans (V_main_arg1 m c)
  · exact (hc.2 main_arg2 (Pipeline.mem_restRefs_of main_arg2 (by decide) (by decide))).trans (V_main_arg2 m c)
  · exact (hc.2 main_arg3 (Pipeline.mem_restRefs_of main_arg3 (by decide) (by decide))).trans (V_main_arg3 m c)
  · exact (hc.2 main_arg4 (Pipeline.mem_restRefs_of main_arg4 (by decide) (by decide))).trans (V_main_arg4 m c)
  · exact (((dats m _ 0 c).toRForget_arrAt_iff (w := (0 : Fin cfg0.W)) rfl _ _).mp (hc.1 0)).trans
      (((dats m _ 0 c).arrAt_in 0 rfl _).trans (V_main_arg5 m c))
  · exact (hc.2 main_arg6 (Pipeline.mem_restRefs_of main_arg6 (by decide) (by decide))).trans (V_main_arg6 m c)

end Cert.KernelIdeal.Attn

end
-- ==== Proof.AttnFrameBits.lean ====
/-
  The attention's frame for the program as printed: it is the run of the idealized text, with each named constant read as
  the bits it was printed with, since the two texts then agree.
-/
module

public import proofs.«01_k».proof.Proof.AttnFrame
public import proofs.«01_k».proof.Proof.Gen.Kernel.Frame
public import proofs.«01_k».proof.Defs

@[expose] public section

namespace Cert.KernelIdeal.Attn

open Idealize.ShloMosaic Idealize.SL.Sem

/-- The named constants read as the bits they were printed with. -/
@[reducible] def bitsNamed : Named Bits := ⟨fun _ _ _ b => Scalar.ofBits _ b⟩

set_option maxRecDepth 16384
set_option backward.isDefEq.respectTransparency false
set_option maxHeartbeats 4000000

theorem defs₀_eq : @Cert.Kernel.defs₀ Bits _ Cert.Kernel.Gen.facts = @Cert.KernelIdeal.defs₀ Bits _ bitsNamed Cert.KernelIdeal.Gen.facts := by
  unfold Cert.Kernel.defs₀ Cert.KernelIdeal.defs₀
  congr 1
  funext l a
  match l, a with
  | 0, (t, s) => rfl

theorem defs_eq : @Cert.Kernel.defs Bits _ Cert.Kernel.Gen.facts = @Cert.KernelIdeal.defs Bits _ bitsNamed Cert.KernelIdeal.Gen.facts :=
  congrArg (Pipeline.defs Cert.KernelIdeal.pcfgs) defs₀_eq

theorem main_same : @Cert.Kernel.main Bits _ Cert.Kernel.Gen.facts = @Cert.KernelIdeal.main Bits _ Cert.KernelIdeal.Gen.facts := rfl

theorem frame_bits : Cert.quiescent_Kernel (hKernel := Cert.Kernel.Gen.facts) := fun m ρ _ =>
  Eq.mpr (congrArg (fun d => θ_run d (onTc (τ := Cert.KernelIdeal.τ) (@Cert.KernelIdeal.main Bits _ Cert.KernelIdeal.Gen.facts)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)) defs_eq) (@Cert.KernelIdeal.Attn.frame Bits _ bitsNamed m ρ)

end Cert.KernelIdeal.Attn
-- ==== Proof.Rms.lean ====
/-
  The root mean square normalisation of a vector, as both programs write it.
-/
module

public import Idealize.ShloMosaic.Lib.Pointwise

@[expose] public section

noncomputable section

namespace Cert.Proof

open Idealize.ShloMosaic

/-- Entry `k` of `y · rsqrt (Σ y² / d + ε) · g`; `d` the divisor of the mean, `ε` the float32 nearest `1e-6`. -/
def rms {n : ℕ} (d : EReal) (y g : Fin n → EReal) (k : Fin n) : EReal :=
  y k * Ideal.rsqrt (Ideal.div (∑ j : Fin n, y j * y j) d + Ideal.ofBits .f32 0x358637BD#32) * g k

end Cert.Proof

end
-- ==== Proof.Softmax.lean ====
/-
  Softmax over finitely many real scores: with powers of two of the scores over log 2, divided once at the end, it is the
  softmax with exponentials, each weight divided.
-/
module

public import proofs.«01_k».proof.Proof.Rms

@[expose] public section

noncomputable section

namespace Cert.Proof

open Idealize.ShloMosaic

theorem bot_f32 : Ideal.ofBits .f32 0xFF800000#32 = ⊥ := by
  simp [Ideal.ofBits, Ideal.ieee]
theorem eps_f32 : ∃ r : ℝ, 0 < r ∧ Ideal.ofBits .f32 0x358637BD#32 = (r : EReal) := by
  refine ⟨_, ?_, by simp [Ideal.ofBits, Ideal.ieee, -EReal.coe_mul]; rfl⟩
  positivity
theorem f32_128 : Ideal.ofBits .f32 0x43000000#32 = ((128 : ℝ) : EReal) := by
  simp [Ideal.ofBits, Ideal.ieee, -EReal.coe_mul]; norm_num
theorem f32_1024 : Ideal.ofBits .f32 0x44800000#32 = ((1024 : ℝ) : EReal) := by
  simp [Ideal.ofBits, Ideal.ieee, -EReal.coe_mul]; norm_num

/-! ## Finite extended reals -/

/-- Neither infinity. -/
def Fin' (x : EReal) : Prop := ∃ r : ℝ, x = (r : EReal)

theorem Fin'.mul {x y : EReal} : Fin' x → Fin' y → Fin' (x * y) := by
  rintro ⟨a, rfl⟩ ⟨b, rfl⟩; exact ⟨a * b, (EReal.coe_mul a b).symm⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem Fin'.sum {ι : Type} (s : Finset ι) {f : ι → EReal} (h : ∀ i, Fin' (f i)) : Fin' (∑ i ∈ s, f i) := by
  choose g hg using h
  exact ⟨∑ i ∈ s, g i, by rw [← coe_sum]; exact Finset.sum_congr rfl fun i _ => hg i⟩

theorem div_coe (x : EReal) {l : ℝ} (hl : l ≠ 0) : Ideal.div x (l : EReal) = x * ((l⁻¹ : ℝ) : EReal) := by
  rw [Ideal.div, if_neg (by exact_mod_cast hl), EReal.coe_inv]

theorem rsqrt_coe {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 hr.le), if_neg hr.ne']

/-- A normalised vector of finite entries has finite entries. -/
theorem Fin'.rms {n : ℕ} {d : ℝ} (hd : 0 < d) {y g : Fin n → EReal} (hy : ∀ i, Fin' (y i)) (hg : ∀ i, Fin' (g i)) (k : Fin n) :
    Fin' (rms (d : EReal) y g k) := by
  choose y' hy' using hy
  obtain ⟨ε, hε, hε'⟩ := eps_f32
  unfold Cert.Proof.rms
  refine Fin'.mul (Fin'.mul ⟨y' k, hy' k⟩ ?_) (hg k)
  have e : (∑ j : Fin n, y j * y j) = ((∑ j : Fin n, y' j * y' j : ℝ) : EReal) := by
    rw [← coe_sum]; exact Finset.sum_congr rfl fun j _ => by rw [hy' j, EReal.coe_mul]
  have h0 : 0 ≤ (∑ j : Fin n, y' j * y' j) * d⁻¹ := mul_nonneg (Finset.sum_nonneg fun j _ => mul_self_nonneg _) (inv_nonneg.2 hd.le)
  rw [e, div_coe _ hd.ne', hε', ← EReal.coe_mul, ← EReal.coe_add, rsqrt_coe (by linarith)]
  exact ⟨_, rfl⟩

/-! ## The greatest score -/

theorem fold_max {n : ℕ} (f : Fin n → EReal) : Finset.fold max (Ideal.ofBits .f32 0xFF800000#32) f Finset.univ = Finset.univ.sup f := by
  rw [bot_f32]; rfl

/-- The greatest of finitely many is one of them. -/
theorem sup_attained {n : ℕ} [NeZero n] (f : Fin n → EReal) : ∃ t₀, Finset.univ.sup f = f t₀ ∧ ∀ t, f t ≤ f t₀ := by
  obtain ⟨t₀, _, h⟩ := Finset.exists_mem_eq_sup Finset.univ ⟨(0 : Fin n), Finset.mem_univ _⟩ f
  exact ⟨t₀, h, fun t => h ▸ Finset.le_sup (Finset.mem_univ t)⟩

theorem exp2_coe (x : ℝ) : Ideal.exp2 (((x * (Real.log 2)⁻¹ : ℝ) : EReal)) = ((Real.exp x : ℝ) : EReal) := by
  show ((Real.rpow 2 (x * (Real.log 2)⁻¹) : ℝ) : EReal) = _
  have h : Real.log 2 ≠ 0 := (Real.log_pos (by norm_num)).ne'
  rw [Real.rpow_eq_pow, Real.rpow_def_of_pos (by norm_num)]
  congr 2
  field_simp

/-- The two softmax weights are the same exponentials. -/
theorem weights {n : ℕ} [NeZero n] (σ : Fin n → ℝ) : ∃ e : Fin n → ℝ, (∀ t, 0 < e t)
    ∧ (∀ t, Ideal.exp ((σ t : EReal) - max (Ideal.ofBits .f32 0xFF800000#32) (Finset.fold max (Ideal.ofBits .f32 0xFF800000#32) (fun t => (σ t : EReal)) Finset.univ)) = (e t : EReal))
    ∧ (∀ t, Ideal.exp2 (((σ t * (Real.log 2)⁻¹ : ℝ) : EReal) - Finset.fold max (Ideal.ofBits .f32 0xFF800000#32) (fun t => ((σ t * (Real.log 2)⁻¹ : ℝ) : EReal)) Finset.univ) = (e t : EReal)) := by
  obtain ⟨t₀, h, hle⟩ := sup_attained fun t => (σ t : EReal)
  have hpos : 0 ≤ (Real.log 2)⁻¹ := inv_nonneg.2 (Real.log_pos (by norm_num)).le
  have h2 : Finset.univ.sup (fun t => ((σ t * (Real.log 2)⁻¹ : ℝ) : EReal)) = ((σ t₀ * (Real.log 2)⁻¹ : ℝ) : EReal) := by
    apply le_antisymm
    · exact Finset.sup_le fun t _ => EReal.coe_le_coe_iff.2 (mul_le_mul_of_nonneg_right (EReal.coe_le_coe_iff.1 (hle t)) hpos)
    · exact Finset.le_sup (f := fun t => ((σ t * (Real.log 2)⁻¹ : ℝ) : EReal)) (Finset.mem_univ t₀)
  refine ⟨fun t => Real.exp (σ t - σ t₀), fun t => Real.exp_pos _, fun t => ?_, fun t => ?_⟩
  · rw [fold_max, h, bot_f32, max_eq_right bot_le, ← EReal.coe_sub]; rfl
  · rw [fold_max, h2, ← EReal.coe_sub, ← sub_mul, exp2_coe]

/-- Dividing a weighted sum by a positive real divides the weights, whatever the values. -/
theorem div_sum {n : ℕ} (e : Fin n → ℝ) (v : Fin n → EReal) {l : ℝ} (hl : 0 < l) :
    Ideal.div (∑ t, (e t : EReal) * v t) (l : EReal) = ∑ t, v t * Ideal.div (e t : EReal) (l : EReal) := by
  have hd : ∀ s : Finset (Fin n), (∑ t ∈ s, (e t : EReal) * v t) * ((l⁻¹ : ℝ) : EReal) = ∑ t ∈ s, (e t : EReal) * v t * ((l⁻¹ : ℝ) : EReal) := by
    classical
    intro s
    induction s using Finset.induction_on with
    | empty => simp
    | insert a s ha ih =>
      rw [Finset.sum_insert ha, Finset.sum_insert ha, ← ih]
      exact EReal.right_distrib_of_nonneg_of_ne_top (EReal.coe_nonneg.2 (inv_nonneg.2 hl.le)) (EReal.coe_ne_top _) _ _
  rw [div_coe _ hl.ne', hd]
  refine Finset.sum_congr rfl fun t _ => ?_
  rw [div_coe _ hl.ne', mul_comm ((e t : EReal)) (v t), mul_assoc]

end Cert.Proof

end
-- ==== Proof.AttnReads.lean ====
/-
  Reading the attention's buffers at an index: a store of one head's slab, of one tile's slab, a load of a slab or of a tile.
-/
module

public import proofs.«01_k».proof.Proof.AttnBody
public import Idealize.ShloMosaic.Lib.WritesUnit
public import proofs.«01_k».proof.Proof.Softmax

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {κ : Kind} {sp : Space} {e : EltTy} {Val : EltTy → Type}

/-- A store of head `b`'s slab. -/
theorem slab3 (v : View sig κ sp S4x512x128 e) (f : v.ty.Contents Val) (b : ℕ) {off : Fin 3 → ℕ} (heq : off = ![b, 0, 0])
    (inb : ∀ a, off a + S1x512x128.size a ≤ S4x512x128.size a) (w : (Rect.unit (s := S4x512x128) off S1x512x128.size inb).shape.Idx → Val e)
    (L : List (View.Piece Val S4x512x128 e)) (h : Fin 4) (r : Fin 512) (l : Fin 128) :
    v.read Val (v.writes Val f ((⟨Rect.unit off S1x512x128.size inb, w⟩ : View.Piece Val S4x512x128 e) :: L)) (ix3 h r l)
      = if h.1 = b then w (ix3 (0 : Fin 1) r l) else v.read Val (v.writes Val f L) (ix3 h r l) := by
  by_cases hb : h.1 = b
  · rw [if_pos hb]
    refine View.read_writes_cons_unit_of_mem v f inb w L _ (ix3 (0 : Fin 1) r l) heq ?_
    intro a; fin_cases a
    · exact hb
    · exact (Nat.zero_add _).symm
    · exact (Nat.zero_add _).symm
  · rw [if_neg hb]
    refine View.read_writes_cons_unit_of_not_mem v f inb w L _ heq (0 : Fin 3) ?_
    show h.1 < b ∨ b + 1 ≤ h.1
    omega

/-- A store of tile `a`'s slab of head `b`. -/
theorem slab4 (v : View sig κ sp S8x4x512x256 e) (f : v.ty.Contents Val) (a b : ℕ) {off : Fin 4 → ℕ} (heq : off = ![a, b, 0, 0])
    (inb : ∀ x, off x + S1x1x512x256.size x ≤ S8x4x512x256.size x) (w : (Rect.unit (s := S8x4x512x256) off S1x1x512x256.size inb).shape.Idx → Val e)
    (L : List (View.Piece Val S8x4x512x256 e)) (j : Fin 8) (h : Fin 4) (r : Fin 512) (l : Fin 256) :
    v.read Val (v.writes Val f ((⟨Rect.unit off S1x1x512x256.size inb, w⟩ : View.Piece Val S8x4x512x256 e) :: L)) (ix4 j h r l)
      = if j.1 = a ∧ h.1 = b then w (ix4 (0 : Fin 1) (0 : Fin 1) r l) else v.read Val (v.writes Val f L) (ix4 j h r l) := by
  by_cases hb : j.1 = a ∧ h.1 = b
  · rw [if_pos hb]
    refine View.read_writes_cons_unit_of_mem v f inb w L _ (ix4 (0 : Fin 1) (0 : Fin 1) r l) heq ?_
    intro a; fin_cases a
    · exact hb.1
    · exact hb.2
    · exact (Nat.zero_add _).symm
    · exact (Nat.zero_add _).symm
  · rw [if_neg hb]
    by_cases hj : j.1 = a
    · refine View.read_writes_cons_unit_of_not_mem v f inb w L _ heq (1 : Fin 4) ?_
      show h.1 < b ∨ b + 1 ≤ h.1
      omega
    · refine View.read_writes_cons_unit_of_not_mem v f inb w L _ heq (0 : Fin 4) ?_
      show j.1 < a ∨ a + 1 ≤ j.1
      omega

/-- A store of head `b`'s columns of the output's block. -/
theorem slab2 (v : View sig κ sp S256x512 e) (f : v.ty.Contents Val) (b : ℕ) {off : Fin 2 → ℕ} (heq : off = ![0, 128 * b])
    (inb : ∀ x, off x + S256x128.size x ≤ S256x512.size x) (w : (Rect.unit (s := S256x512) off S256x128.size inb).shape.Idx → Val e)
    (L : List (View.Piece Val S256x512 e)) (r : Fin 256) (h : Fin 4) (l : Fin 128) :
    v.read Val (v.writes Val f ((⟨Rect.unit off S256x128.size inb, w⟩ : View.Piece Val S256x512 e) :: L)) (ix2 r (⟨128 * h.1 + l.1, by omega⟩ : Fin 512))
      = if h.1 = b then w (ix2 r l) else v.read Val (v.writes Val f L) (ix2 r (⟨128 * h.1 + l.1, by omega⟩ : Fin 512)) := by
  by_cases hb : h.1 = b
  · rw [if_pos hb]
    refine View.read_writes_cons_unit_of_mem v f inb w L _ (ix2 r l) heq ?_
    intro a; fin_cases a
    · exact (Nat.zero_add _).symm
    · subst hb; rfl
  · rw [if_neg hb]
    refine View.read_writes_cons_unit_of_not_mem v f inb w L _ heq (1 : Fin 2) ?_
    show 128 * h.1 + l.1 < 128 * b ∨ 128 * b + 128 ≤ 128 * h.1 + l.1
    omega

theorem load3 (v : View sig κ sp S4x512x128 e) (f : v.ty.Contents Val) (h : Fin 4) {off : Fin 3 → ℕ} (heq : off = ![h.1, 0, 0])
    (inb : ∀ a, off a + S1x512x128.size a ≤ S4x512x128.size a) (z : Fin 1) (r : Fin 512) (l : Fin 128) :
    v.readAt Val (Rect.unit (s := S4x512x128) off S1x512x128.size inb).toLoadRect f (ix3 z r l) = v.read Val f (ix3 h r l) := by
  subst heq
  rw [View.readAt_apply]
  refine congrArg (v.read Val f) (funext fun a => Fin.ext ?_)
  have hz : z.1 = 0 := by omega
  fin_cases a
  · show h.1 + 1 * z.1 = h.1; omega
  · show 0 + 1 * r.1 = r.1; omega
  · show 0 + 1 * l.1 = l.1; omega

theorem load4 (v : View sig κ sp S8x4x512x256 e) (f : v.ty.Contents Val) (j : Fin 8) (h : Fin 4) {off : Fin 4 → ℕ} (heq : off = ![j.1, h.1, 0, 0])
    (inb : ∀ a, off a + S1x1x512x256.size a ≤ S8x4x512x256.size a) (z z' : Fin 1) (r : Fin 512) (l : Fin 256) :
    v.readAt Val (Rect.unit (s := S8x4x512x256) off S1x1x512x256.size inb).toLoadRect f (ix4 z z' r l) = v.read Val f (ix4 j h r l) := by
  subst heq
  rw [View.readAt_apply]
  refine congrArg (v.read Val f) (funext fun a => Fin.ext ?_)
  have hz : z.1 = 0 := by omega
  have hz' : z'.1 = 0 := by omega
  fin_cases a
  · show j.1 + 1 * z.1 = j.1; omega
  · show h.1 + 1 * z'.1 = h.1; omega
  · show 0 + 1 * r.1 = r.1; omega
  · show 0 + 1 * l.1 = l.1; omega

/-- A load of a rectangle of a matrix. -/
theorem load2 {m n p q : ℕ} (v : View sig κ sp (⟨2, ![m, n]⟩ : Shape) e) (f : v.ty.Contents Val) (x y : ℕ) {off : Fin 2 → ℕ} (heq : off = ![x, y])
    (inb : ∀ a, off a + (![p, q] : Fin 2 → ℕ) a ≤ (⟨2, ![m, n]⟩ : Shape).size a) (hx : x + p ≤ m) (hy : y + q ≤ n) (r : Fin p) (l : Fin q) :
    v.readAt Val (Rect.unit (s := (⟨2, ![m, n]⟩ : Shape)) off ![p, q] inb).toLoadRect f (ix2 r l)
      = v.read Val f (ix2 (⟨x + r.1, by omega⟩ : Fin m) (⟨y + l.1, by omega⟩ : Fin n)) := by
  subst heq
  rw [View.readAt_apply]
  refine congrArg (v.read Val f) (funext fun a => Fin.ext ?_)
  fin_cases a
  · show x + 1 * r.1 = x + r.1; omega
  · show y + 1 * l.1 = y + l.1; omega

end Cert.KernelIdeal.Attn

end
-- ==== Proof.AttnTrips.lean ====
/-
  What a trip of the score loop leaves in the scores and in the row maxima, at an index.
-/
module

public import proofs.«01_k».proof.Proof.AttnReads

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The products of a head's queries with tile `j`'s keys. -/
def scoreOf (Q : Vec Ideal S4x512x128 .bf16) (K : Vec Ideal S2048x512 .bf16) (j : Fin 8) (h : Fin 4) (r : Fin 512) (c : Fin 256) : EReal :=
  ∑ l : Fin 128, (Q (ix3 h r l) : EReal) * K (ix2 (⟨256 * j.1 + c.1, by omega⟩ : Fin 2048) (⟨128 * h.1 + l.1, by omega⟩ : Fin 512))

theorem score_product (P : Vec Ideal S1x512x128 .bf16) (B : Vec Ideal S256x128 .bf16) (r : Fin 512) (c : Fin 256) :
    matmul dot_S512x128_S256x128_S512x256_1_1_0_0_n_n none (shapeCast S512x128 P shapeCasts_S1x512x128_S512x128 : FVec Ideal S512x128 .bf16) (shapeCast S256x128 B shapeCasts_S256x128_S256x128 : FVec Ideal S256x128 .bf16) (constant S512x256 .f32 0#32) (ix2 r c)
      = ∑ l : Fin 128, (P (ix3 (0 : Fin 1) r l) : EReal) * B (ix2 c l) := by
  pointwise

theorem chain {α : Type} {p : Prop} [Decidable p] {a b c d : α} (h₁ : d = if p then a else b) (h₂ : b = c) : d = if p then a else c := h₂ ▸ h₁

theorem cast4 (w : FVec Ideal S512x256 .f32) (r : Fin 512) (c : Fin 256) :
    (shapeCast S1x1x512x256 w shapeCasts_S512x256_S1x1x512x256 : FVec Ideal S1x1x512x256 .f32) (ix4 (0 : Fin 1) (0 : Fin 1) r c) = w (ix2 r c) := by
  pointwise

/-- One tile's fold with the row maxima before it. -/
theorem max_fold (P : Vec Ideal S1x512x128 .f32) (w : FVec Ideal S512x128 .f32) (r : Fin 512) (l : Fin 128) :
    (shapeCast S1x512x128 (maximumf (shapeCast S512x128 P shapeCasts_S1x512x128_S512x128 : FVec Ideal S512x128 .f32) w) shapeCasts_S512x128_S1x512x128 : FVec Ideal S1x512x128 .f32) (ix3 (0 : Fin 1) r l)
      = max (P (ix3 (0 : Fin 1) r l) : EReal) (w (ix2 r l)) := by
  pointwise

theorem half_fold (w : FVec Ideal S512x256 .f32) (r : Fin 512) (l : Fin 128) :
    (maximumf (extractStridedSlice S512x128 ![0, 0] w slices_S512x256_o0_0_S512x128 : FVec Ideal S512x128 .f32) (extractStridedSlice S512x128 ![0, 128] w slices_S512x256_o0_128_S512x128)) (ix2 r l)
      = max (w (ix2 r (⟨l.1, by omega⟩ : Fin 256)) : EReal) (w (ix2 r (⟨128 + l.1, by omega⟩ : Fin 256))) := by
  pointwise

theorem score_load (arg9 : Memref sig .tc .vmem S4x512x128 .bf16) (arg4 : Memref sig .tc .vmem S2048x512 .bf16)
    (X9 : BufTy.Contents (Elt Ideal) arg9.view.ty) (X4 : BufTy.Contents (Elt Ideal) arg4.view.ty) (j : Fin 8) (h : Fin 4)
    {o9 : Fin 3 → ℕ} {o4 : Fin 2 → ℕ} (e9 : o9 = ![h.1, 0, 0]) (e4 : o4 = ![256 * j.1, 128 * h.1])
    (inb9 : ∀ a, o9 a + S1x512x128.size a ≤ S4x512x128.size a) (inb4 : ∀ a, o4 a + S256x128.size a ≤ S2048x512.size a) (r : Fin 512) (c : Fin 256) :
    matmul dot_S512x128_S256x128_S512x256_1_1_0_0_n_n none
        (shapeCast S512x128 (arg9.view.readAt (Elt Ideal) (Rect.unit (s := S4x512x128) o9 S1x512x128.size inb9).toLoadRect X9) shapeCasts_S1x512x128_S512x128 : FVec Ideal S512x128 .bf16)
        (shapeCast S256x128 (arg4.view.readAt (Elt Ideal) (Rect.unit (s := S2048x512) o4 S256x128.size inb4).toLoadRect X4) shapeCasts_S256x128_S256x128 : FVec Ideal S256x128 .bf16)
        (constant S512x256 .f32 0#32) (ix2 r c)
      = scoreOf (arg9.view.read (Elt Ideal) X9) (arg4.view.read (Elt Ideal) X4) j h r c :=
  (score_product _ _ r c).trans (Finset.sum_congr rfl fun l _ => congrArg₂ (fun a b : EReal => a * b) (load3 arg9.view X9 h e9 inb9 0 r l)
    (load2 (Val := Elt Ideal) arg4.view X4 (256 * j.1) (128 * h.1) e4 inb4 (by omega) (by omega) c l))

theorem tile_lt (i : grid0.Coords) (k : Fin (k0_t1_loop i).trips) (b : Fin 2) : 2 * k.val + b.val < (i 1).val := by
  have h := k.isLt
  have := trips1 i
  omega
theorem tile_lt8 (i : grid0.Coords) (k : Fin (k0_t1_loop i).trips) (b : Fin 2) : 2 * k.val + b.val < 8 := by
  have := tile_lt i k b
  have : (i 1).val < 8 := (i 1).isLt
  omega
/-- The two tiles of trip `k`. -/
abbrev tileOf (i : grid0.Coords) (k : Fin (k0_t1_loop i).trips) (b : Fin 2) : Fin 8 := ⟨2 * k.val + b.val, tile_lt8 i k b⟩

theorem v543_at (arg9 : Memref sig .tc .vmem S4x512x128 .bf16) (arg4 : Memref sig .tc .vmem S2048x512 .bf16) (X9 : BufTy.Contents (Elt Ideal) arg9.view.ty) (X4 : BufTy.Contents (Elt Ideal) arg4.view.ty) (i : grid0.Coords) (k : Fin (k0_t1_loop i).trips) (r : Fin 512) (c : Fin 256) :
    (scoreTrip.sl.v543 (F := Ideal) i arg4 arg9 X9 X4 k) (ix2 r c) = scoreOf (arg9.view.read (Elt Ideal) X9) (arg4.view.read (Elt Ideal) X4) (tileOf i k 0) 0 r c :=
  score_load arg9 arg4 X9 X4 (tileOf i k 0) 0 rfl (off9_eq i k 0) _ _ r c

theorem v549_at (arg9 : Memref sig .tc .vmem S4x512x128 .bf16) (arg4 : Memref sig .tc .vmem S2048x512 .bf16) (X9 : BufTy.Contents (Elt Ideal) arg9.view.ty) (X4 : BufTy.Contents (Elt Ideal) arg4.view.ty) (i : grid0.Coords) (k : Fin (k0_t1_loop i).trips) (r : Fin 512) (c : Fin 256) :
    (scoreTrip.sl.v549 (F := Ideal) i arg4 arg9 X9 X4 k) (ix2 r c) = scoreOf (arg9.view.read (Elt Ideal) X9) (arg4.view.read (Elt Ideal) X4) (tileOf i k 0) 1 r c :=
  score_load arg9 arg4 X9 X4 (tileOf i k 0) 1 rfl (off10_eq i k 0) _ _ r c

theorem v555_at (arg9 : Memref sig .tc .vmem S4x512x128 .bf16) (arg4 : Memref sig .tc .vmem S2048x512 .bf16) (X9 : BufTy.Contents (Elt Ideal) arg9.view.ty) (X4 : BufTy.Contents (Elt Ideal) arg4.view.ty) (i : grid0.Coords) (k : Fin (k0_t1_loop i).trips) (r : Fin 512) (c : Fin 256) :
    (scoreTrip.sl.v555 (F := Ideal) i arg4 arg9 X9 X4 k) (ix2 r c) = scoreOf (arg9.view.read (Elt Ideal) X9) (arg4.view.read (Elt Ideal) X4) (tileOf i k 0) 2 r c :=
  score_load arg9 arg4 X9 X4 (tileOf i k 0) 2 rfl (off11_eq i k 0) _ _ r c

theorem v561_at (arg9 : Memref sig .tc .vmem S4x512x128 .bf16) (arg4 : Memref sig .tc .vmem S2048x512 .bf16) (X9 : BufTy.Contents (Elt Ideal) arg9.view.ty) (X4 : BufTy.Contents (Elt Ideal) arg4.view.ty) (i : grid0.Coords) (k : Fin (k0_t1_loop i).trips) (r : Fin 512) (c : Fin 256) :
    (scoreTrip.sl.v561 (F := Ideal) i arg4 arg9 X9 X4 k) (ix2 r c) = scoreOf (arg9.view.read (Elt Ideal) X9) (arg4.view.read (Elt Ideal) X4) (tileOf i k 0) 3 r c :=
  score_load arg9 arg4 X9 X4 (tileOf i k 0) 3 rfl (off12_eq i k 0) _ _ r c

theorem v570_at (arg9 : Memref sig .tc .vmem S4x512x128 .bf16) (arg4 : Memref sig .tc .vmem S2048x512 .bf16) (X9 : BufTy.Contents (Elt Ideal) arg9.view.ty) (X4 : BufTy.Contents (Elt Ideal) arg4.view.ty) (i : grid0.Coords) (k : Fin (k0_t1_loop i).trips) (r : Fin 512) (c : Fin 256) :
    (scoreTrip.sl.v570 (F := Ideal) i arg4 arg9 X9 X4 k) (ix2 r c) = scoreOf (arg9.view.read (Elt Ideal) X9) (arg4.view.read (Elt Ideal) X4) (tileOf i k 1) 0 r c :=
  score_load arg9 arg4 X9 X4 (tileOf i k 1) 0 rfl (off9_eq i k 1) _ _ r c

theorem v576_at (arg9 : Memref sig .tc .vmem S4x512x128 .bf16) (arg4 : Memref sig .tc .vmem S2048x512 .bf16) (X9 : BufTy.Contents (Elt Ideal) arg9.view.ty) (X4 : BufTy.Contents (Elt Ideal) arg4.view.ty) (i : grid0.Coords) (k : Fin (k0_t1_loop i).trips) (r : Fin 512) (c : Fin 256) :
    (scoreTrip.sl.v576 (F := Ideal) i arg4 arg9 X9 X4 k) (ix2 r c) = scoreOf (arg9.view.read (Elt Ideal) X9) (arg4.view.read (Elt Ideal) X4) (tileOf i k 1) 1 r c :=
  score_load arg9 arg4 X9 X4 (tileOf i k 1) 1 rfl (off10_eq i k 1) _ _ r c

theorem v582_at (arg9 : Memref sig .tc .vmem S4x512x128 .bf16) (arg4 : Memref sig .tc .vmem S2048x512 .bf16) (X9 : BufTy.Contents (Elt Ideal) arg9.view.ty) (X4 : BufTy.Contents (Elt Ideal) arg4.view.ty) (i : grid0.Coords) (k : Fin (k0_t1_loop i).trips) (r : Fin 512) (c : Fin 256) :
    (scoreTrip.sl.v582 (F := Ideal) i arg4 arg9 X9 X4 k) (ix2 r c) = scoreOf (arg9.view.read (Elt Ideal) X9) (arg4.view.read (Elt Ideal) X4) (tileOf i k 1) 2 r c :=
  score_load arg9 arg4 X9 X4 (tileOf i k 1) 2 rfl (off11_eq i k 1) _ _ r c

theorem v588_at (arg9 : Memref sig .tc .vmem S4x512x128 .bf16) (arg4 : Memref sig .tc .vmem S2048x512 .bf16) (X9 : BufTy.Contents (Elt Ideal) arg9.view.ty) (X4 : BufTy.Contents (Elt Ideal) arg4.view.ty) (i : grid0.Coords) (k : Fin (k0_t1_loop i).trips) (r : Fin 512) (c : Fin 256) :
    (scoreTrip.sl.v588 (F := Ideal) i arg4 arg9 X9 X4 k) (ix2 r c) = scoreOf (arg9.view.read (Elt Ideal) X9) (arg4.view.read (Elt Ideal) X4) (tileOf i k 1) 3 r c :=
  score_load arg9 arg4 X9 X4 (tileOf i k 1) 3 rfl (off12_eq i k 1) _ _ r c

/-- The scores after a trip: its two tiles' products, the others as before. -/
theorem scoreTrip_scores (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt Ideal) arg9.view.ty) (X4 : BufTy.Contents (Elt Ideal) arg4.view.ty) (f13 : BufTy.Contents (Elt Ideal) arg13.view.ty) (k : Fin (k0_t1_loop i).trips) (j : Fin 8) (h : Fin 4) (r : Fin 512) (cc : Fin 256) :
    arg13.view.read (Elt Ideal) (arg13.view.writes (Elt Ideal) f13 (scoreTrip (F := Ideal) 𝒱 c bd i arg2 harg2 arg3 harg3 arg4 harg4 arg5 harg5 arg6 harg6 arg7 harg7 arg8 harg8 arg9 harg9 arg10 harg10 arg11 harg11 arg12 harg12 arg13 harg13 X9 X4 k).1) (ix4 j h r cc)
      = if j.1 = 2 * k.val ∨ j.1 = 2 * k.val + 1 then scoreOf (arg9.view.read (Elt Ideal) X9) (arg4.view.read (Elt Ideal) X4) j h r cc else arg13.view.read (Elt Ideal) f13 (ix4 j h r cc) := by
  unfold scoreTrip
  dsimp only
  refine (chain (slab4 arg13.view _ (2 * k.val + 1) 3 (off16_eq i k 1) _ _ _ j h r cc) (chain (slab4 arg13.view _ (2 * k.val + 0) 3 (off16_eq i k 0) _ _ _ j h r cc) (chain (slab4 arg13.view _ (2 * k.val + 1) 2 (off15_eq i k 1) _ _ _ j h r cc) (chain (slab4 arg13.view _ (2 * k.val + 0) 2 (off15_eq i k 0) _ _ _ j h r cc) (chain (slab4 arg13.view _ (2 * k.val + 1) 1 (off14_eq i k 1) _ _ _ j h r cc) (chain (slab4 arg13.view _ (2 * k.val + 0) 1 (off14_eq i k 0) _ _ _ j h r cc) (chain (slab4 arg13.view _ (2 * k.val + 1) 0 (off13_eq i k 1) _ _ _ j h r cc) (chain (slab4 arg13.view _ (2 * k.val + 0) 0 (off13_eq i k 0) _ _ _ j h r cc) (rfl))))))))).trans ?_
  by_cases h1 : j.1 = 2 * k.val + 1
  · have e : j = tileOf i k 1 := Fin.ext h1
    rw [if_pos (Or.inr h1), e]
    fin_cases h
    · simp only [tileOf]; norm_num; exact (cast4 _ r cc).trans (v570_at arg9 arg4 X9 X4 i k r cc)
    · simp only [tileOf]; norm_num; exact (cast4 _ r cc).trans (v576_at arg9 arg4 X9 X4 i k r cc)
    · simp only [tileOf]; norm_num; exact (cast4 _ r cc).trans (v582_at arg9 arg4 X9 X4 i k r cc)
    · simp only [tileOf]; norm_num; exact (cast4 _ r cc).trans (v588_at arg9 arg4 X9 X4 i k r cc)
  by_cases h0 : j.1 = 2 * k.val
  · have e : j = tileOf i k 0 := Fin.ext h0
    rw [if_pos (Or.inl h0), e]
    fin_cases h
    · simp only [tileOf]; norm_num; exact (cast4 _ r cc).trans (v543_at arg9 arg4 X9 X4 i k r cc)
    · simp only [tileOf]; norm_num; exact (cast4 _ r cc).trans (v549_at arg9 arg4 X9 X4 i k r cc)
    · simp only [tileOf]; norm_num; exact (cast4 _ r cc).trans (v555_at arg9 arg4 X9 X4 i k r cc)
    · simp only [tileOf]; norm_num; exact (cast4 _ r cc).trans (v561_at arg9 arg4 X9 X4 i k r cc)
  simp only [Nat.add_zero, h0, h1, false_and, if_false, View.writes_nil, or_self]

theorem two_ne_top {a b : EReal} (ha : a ≠ ⊤) (hb : b ≠ ⊤) : max a b ≠ ⊤ := by
  rcases max_choice a b with h | h <;> rw [h] <;> assumption

theorem pair_ne_top (w w' : FVec Ideal S512x256 .f32) (h : ∀ r c, (w (ix2 r c) : EReal) ≠ ⊤) (h' : ∀ r c, (w' (ix2 r c) : EReal) ≠ ⊤) (r : Fin 512) (l : Fin 128) :
    ((maximumf (maximumf (extractStridedSlice S512x128 ![0, 0] w slices_S512x256_o0_0_S512x128 : FVec Ideal S512x128 .f32) (extractStridedSlice S512x128 ![0, 128] w slices_S512x256_o0_128_S512x128))
      (maximumf (extractStridedSlice S512x128 ![0, 0] w' slices_S512x256_o0_0_S512x128 : FVec Ideal S512x128 .f32) (extractStridedSlice S512x128 ![0, 128] w' slices_S512x256_o0_128_S512x128))) (ix2 r l) : EReal) ≠ ⊤ :=
  two_ne_top (fun e => two_ne_top (h _ _) (h _ _) ((half_fold w r l).symm.trans e)) (fun e => two_ne_top (h' _ _) (h' _ _) ((half_fold w' r l).symm.trans e))

/-- The row maxima after a trip: the maximum of what they were and something that isn't `⊤`. -/
theorem scoreTrip_maxima (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt Ideal) arg9.view.ty) (X4 : BufTy.Contents (Elt Ideal) arg4.view.ty) (f10 : BufTy.Contents (Elt Ideal) arg10.view.ty) (k : Fin (k0_t1_loop i).trips)
    (hS : ∀ j h r c, scoreOf (arg9.view.read (Elt Ideal) X9) (arg4.view.read (Elt Ideal) X4) j h r c ≠ ⊤) (h : Fin 4) (r : Fin 512) (l : Fin 128) :
    ∃ w : EReal, w ≠ ⊤ ∧ arg10.view.read (Elt Ideal) (arg10.view.writes (Elt Ideal) f10 ((scoreTrip (F := Ideal) 𝒱 c bd i arg2 harg2 arg3 harg3 arg4 harg4 arg5 harg5 arg6 harg6 arg7 harg7 arg8 harg8 arg9 harg9 arg10 harg10 arg11 harg11 arg12 harg12 arg13 harg13 X9 X4 k).2.1 f10)) (ix3 h r l)
      = max (arg10.view.read (Elt Ideal) f10 (ix3 h r l)) w := by
  unfold scoreTrip
  dsimp only
  fin_cases h
  · refine ⟨_, pair_ne_top ((scoreTrip.sl.v543 (F := Ideal) i arg4 arg9 X9 X4 k)) ((scoreTrip.sl.v570 (F := Ideal) i arg4 arg9 X9 X4 k)) (fun r cc => (v543_at arg9 arg4 X9 X4 i k r cc).symm ▸ hS _ _ _ _) (fun r cc => (v570_at arg9 arg4 X9 X4 i k r cc).symm ▸ hS _ _ _ _) r l, ?_⟩
    refine ((slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_neg (by decide)).trans ((slab3 arg10.view _ 0 rfl _ _ _ _ r l).trans ((if_pos rfl).trans ((max_fold _ _ r l).trans (congrArg (fun a : EReal => max a _) (load3 arg10.view f10 0 rfl _ 0 r l)))))))))))
  · refine ⟨_, pair_ne_top ((scoreTrip.sl.v549 (F := Ideal) i arg4 arg9 X9 X4 k)) ((scoreTrip.sl.v576 (F := Ideal) i arg4 arg9 X9 X4 k)) (fun r cc => (v549_at arg9 arg4 X9 X4 i k r cc).symm ▸ hS _ _ _ _) (fun r cc => (v576_at arg9 arg4 X9 X4 i k r cc).symm ▸ hS _ _ _ _) r l, ?_⟩
    refine ((slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_pos rfl).trans ((max_fold _ _ r l).trans (congrArg (fun a : EReal => max a _) (load3 arg10.view f10 1 rfl _ 0 r l)))))))))
  · refine ⟨_, pair_ne_top ((scoreTrip.sl.v555 (F := Ideal) i arg4 arg9 X9 X4 k)) ((scoreTrip.sl.v582 (F := Ideal) i arg4 arg9 X9 X4 k)) (fun r cc => (v555_at arg9 arg4 X9 X4 i k r cc).symm ▸ hS _ _ _ _) (fun r cc => (v582_at arg9 arg4 X9 X4 i k r cc).symm ▸ hS _ _ _ _) r l, ?_⟩
    refine ((slab3 arg10.view _ 3 rfl _ _ _ _ r l).trans ((if_neg (by decide)).trans ((slab3 arg10.view _ 2 rfl _ _ _ _ r l).trans ((if_pos rfl).trans ((max_fold _ _ r l).trans (congrArg (fun a : EReal => max a _) (load3 arg10.view f10 2 rfl _ 0 r l)))))))
  · refine ⟨_, pair_ne_top ((scoreTrip.sl.v561 (F := Ideal) i arg4 arg9 X9 X4 k)) ((scoreTrip.sl.v588 (F := Ideal) i arg4 arg9 X9 X4 k)) (fun r cc => (v561_at arg9 arg4 X9 X4 i k r cc).symm ▸ hS _ _ _ _) (fun r cc => (v588_at arg9 arg4 X9 X4 i k r cc).symm ▸ hS _ _ _ _) r l, ?_⟩
    refine ((slab3 arg10.view _ 3 rfl _ _ _ _ r l).trans ((if_pos rfl).trans ((max_fold _ _ r l).trans (congrArg (fun a : EReal => max a _) (load3 arg10.view f10 3 rfl _ 0 r l)))))

end Cert.KernelIdeal.Attn

end
-- ==== Proof.AttnSums.lean ====
/-
  What a trip of the sum loop adds to the row sums and to the weighted sums, at an index.
-/
module

public import proofs.«01_k».proof.Proof.AttnTrips

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The weight of a column: two to the score less the row's maximum. -/
def weight (M : Vec Ideal S4x512x128 .f32) (S : Vec Ideal S8x4x512x256 .f32) (j : Fin 8) (h : Fin 4) (r : Fin 512) (c : Fin 256) : EReal :=
  Ideal.exp2 ((S (ix4 j h r c) : EReal) - M (ix3 h r (0 : Fin 128)))

theorem weight_tile (P : Vec Ideal S1x512x128 .f32) (B : Vec Ideal S1x1x512x256 .f32) (m : EReal) (r : Fin 512) (hP : ∀ l, (P (ix3 (0 : Fin 1) r l) : EReal) = m) (c : Fin 256) :
    (exp2 (subf (shapeCast S512x256 B shapeCasts_S1x1x512x256_S512x256 : FVec Ideal S512x256 .f32)
      (concatenate S512x256 1 [⟨S512x128, shapeCast S512x128 P shapeCasts_S1x512x128_S512x128⟩, ⟨S512x128, shapeCast S512x128 P shapeCasts_S1x512x128_S512x128⟩] concatenates_S512x128_S512x128_S512x256_d1)) : FVec Ideal S512x256 .f32) (ix2 r c)
      = Ideal.exp2 ((B (ix4 (0 : Fin 1) (0 : Fin 1) r c) : EReal) - m) := by
  pointwise
  refine congrArg (fun s : EReal => Ideal.exp2 ((B (ix4 (0 : Fin 1) (0 : Fin 1) r c) : EReal) - s)) ?_
  split <;> exact hP _

theorem sum_fold (P : Vec Ideal S1x512x128 .f32) (w w' : FVec Ideal S512x256 .f32) (r : Fin 512) (l : Fin 128) :
    (shapeCast S1x512x128 (addf (shapeCast S512x128 P shapeCasts_S1x512x128_S512x128 : FVec Ideal S512x128 .f32)
      (addf (addf (extractStridedSlice S512x128 ![0, 0] w slices_S512x256_o0_0_S512x128 : FVec Ideal S512x128 .f32) (extractStridedSlice S512x128 ![0, 128] w slices_S512x256_o0_128_S512x128))
        (addf (extractStridedSlice S512x128 ![0, 0] w' slices_S512x256_o0_0_S512x128 : FVec Ideal S512x128 .f32) (extractStridedSlice S512x128 ![0, 128] w' slices_S512x256_o0_128_S512x128)))) shapeCasts_S512x128_S1x512x128 : FVec Ideal S1x512x128 .f32) (ix3 (0 : Fin 1) r l)
      = (P (ix3 (0 : Fin 1) r l) : EReal) + ((w (ix2 r (⟨l.1, by omega⟩ : Fin 256)) + w (ix2 r (⟨128 + l.1, by omega⟩ : Fin 256))) + (w' (ix2 r (⟨l.1, by omega⟩ : Fin 256)) + w' (ix2 r (⟨128 + l.1, by omega⟩ : Fin 256)))) := by
  pointwise

theorem acc_fold (P : Vec Ideal S1x512x128 .f32) (w w' : FVec Ideal S512x256 .f32) (B : Vec Ideal S512x128 .bf16) (r : Fin 512) (l : Fin 128) :
    (shapeCast S1x512x128 (addf (shapeCast S512x128 P shapeCasts_S1x512x128_S512x128 : FVec Ideal S512x128 .f32)
      (matmul dot_S512x512_S512x128_S512x128_1_0_0_1_n_n none
        (concatenate S512x512 1 [⟨S512x256, (truncf .bf16 w bitsLt_bf16_f32 : FVec Ideal S512x256 .bf16)⟩, ⟨S512x256, (truncf .bf16 w' bitsLt_bf16_f32 : FVec Ideal S512x256 .bf16)⟩] concatenates_S512x256_S512x256_S512x512_d1)
        (shapeCast S512x128 B shapeCasts_S512x128_S512x128 : FVec Ideal S512x128 .bf16) (constant S512x128 .f32 0x00000000#32))) shapeCasts_S512x128_S1x512x128 : FVec Ideal S1x512x128 .f32) (ix3 (0 : Fin 1) r l)
      = (P (ix3 (0 : Fin 1) r l) : EReal) + ∑ x : Fin 512, (if hx : x.1 < 256 then (w (ix2 r (⟨x.1, hx⟩ : Fin 256)) : EReal) else w' (ix2 r (⟨x.1 - 256, by omega⟩ : Fin 256))) * B (ix2 x l) := by
  pointwise
  trace_state

theorem tile_lt3 (i : grid0.Coords) (k : Fin (k0_t3_loop i).trips) (b : Fin 2) : 2 * k.val + b.val < (i 1).val := by
  have h := k.isLt
  have := trips3 i
  omega
theorem tile_lt38 (i : grid0.Coords) (k : Fin (k0_t3_loop i).trips) (b : Fin 2) : 2 * k.val + b.val < 8 := by
  have := tile_lt3 i k b
  have : (i 1).val < 8 := (i 1).isLt
  omega
/-- The two tiles of trip `k`. -/
abbrev tileOf3 (i : grid0.Coords) (k : Fin (k0_t3_loop i).trips) (b : Fin 2) : Fin 8 := ⟨2 * k.val + b.val, tile_lt38 i k b⟩

theorem weight_load (arg10 : Memref sig .tc .vmem S4x512x128 .f32) (arg13 : Memref sig .tc .vmem S8x4x512x256 .f32)
    (X10 : BufTy.Contents (Elt Ideal) arg10.view.ty) (X13 : BufTy.Contents (Elt Ideal) arg13.view.ty) (hM : ∀ h r l, ((arg10.view.read (Elt Ideal) X10) (ix3 h r l) : EReal) = (arg10.view.read (Elt Ideal) X10) (ix3 h r (0 : Fin 128))) (j : Fin 8) (h : Fin 4)
    {o3 : Fin 3 → ℕ} {o4 : Fin 4 → ℕ} (e3 : o3 = ![h.1, 0, 0]) (e4 : o4 = ![j.1, h.1, 0, 0])
    (inb3 : ∀ a, o3 a + S1x512x128.size a ≤ S4x512x128.size a) (inb4 : ∀ a, o4 a + S1x1x512x256.size a ≤ S8x4x512x256.size a) (r : Fin 512) (cc : Fin 256) :
    (exp2 (subf (shapeCast S512x256 (arg13.view.readAt (Elt Ideal) (Rect.unit (s := S8x4x512x256) o4 S1x1x512x256.size inb4).toLoadRect X13) shapeCasts_S1x1x512x256_S512x256 : FVec Ideal S512x256 .f32)
      (concatenate S512x256 1 [⟨S512x128, shapeCast S512x128 (arg10.view.readAt (Elt Ideal) (Rect.unit (s := S4x512x128) o3 S1x512x128.size inb3).toLoadRect X10) shapeCasts_S1x512x128_S512x128⟩, ⟨S512x128, shapeCast S512x128 (arg10.view.readAt (Elt Ideal) (Rect.unit (s := S4x512x128) o3 S1x512x128.size inb3).toLoadRect X10) shapeCasts_S1x512x128_S512x128⟩] concatenates_S512x128_S512x128_S512x256_d1)) : FVec Ideal S512x256 .f32) (ix2 r cc)
      = weight (arg10.view.read (Elt Ideal) X10) (arg13.view.read (Elt Ideal) X13) j h r cc :=
  (weight_tile _ _ ((arg10.view.read (Elt Ideal) X10) (ix3 h r (0 : Fin 128))) r (fun l => (load3 arg10.view X10 h e3 inb3 0 r l).trans (hM h r l)) cc).trans
    (congrArg (fun s : EReal => Ideal.exp2 (s - (arg10.view.read (Elt Ideal) X10) (ix3 h r (0 : Fin 128)))) (load4 arg13.view X13 j h e4 inb4 0 0 r cc))

theorem v545_weight (arg10 : Memref sig .tc .vmem S4x512x128 .f32) (arg13 : Memref sig .tc .vmem S8x4x512x256 .f32) (X10 : BufTy.Contents (Elt Ideal) arg10.view.ty) (X13 : BufTy.Contents (Elt Ideal) arg13.view.ty) (i : grid0.Coords) (k : Fin (k0_t3_loop i).trips) (hM : ∀ h r l, ((arg10.view.read (Elt Ideal) X10) (ix3 h r l) : EReal) = (arg10.view.read (Elt Ideal) X10) (ix3 h r (0 : Fin 128))) (r : Fin 512) (cc : Fin 256) :
    (sumTrip.sl.v545 (F := Ideal) i arg10 arg13 X10 X13 k) (ix2 r cc) = weight (arg10.view.read (Elt Ideal) X10) (arg13.view.read (Elt Ideal) X13) (tileOf3 i k 0) 0 r cc :=
  weight_load arg10 arg13 X10 X13 hM (tileOf3 i k 0) 0 rfl (off37_eq i k 0) _ _ r cc

theorem v576_weight (arg10 : Memref sig .tc .vmem S4x512x128 .f32) (arg13 : Memref sig .tc .vmem S8x4x512x256 .f32) (X10 : BufTy.Contents (Elt Ideal) arg10.view.ty) (X13 : BufTy.Contents (Elt Ideal) arg13.view.ty) (i : grid0.Coords) (k : Fin (k0_t3_loop i).trips) (hM : ∀ h r l, ((arg10.view.read (Elt Ideal) X10) (ix3 h r l) : EReal) = (arg10.view.read (Elt Ideal) X10) (ix3 h r (0 : Fin 128))) (r : Fin 512) (cc : Fin 256) :
    (sumTrip.sl.v576 (F := Ideal) i arg10 arg13 X10 X13 k) (ix2 r cc) = weight (arg10.view.read (Elt Ideal) X10) (arg13.view.read (Elt Ideal) X13) (tileOf3 i k 0) 1 r cc :=
  weight_load arg10 arg13 X10 X13 hM (tileOf3 i k 0) 1 rfl (off38_eq i k 0) _ _ r cc

theorem v607_weight (arg10 : Memref sig .tc .vmem S4x512x128 .f32) (arg13 : Memref sig .tc .vmem S8x4x512x256 .f32) (X10 : BufTy.Contents (Elt Ideal) arg10.view.ty) (X13 : BufTy.Contents (Elt Ideal) arg13.view.ty) (i : grid0.Coords) (k : Fin (k0_t3_loop i).trips) (hM : ∀ h r l, ((arg10.view.read (Elt Ideal) X10) (ix3 h r l) : EReal) = (arg10.view.read (Elt Ideal) X10) (ix3 h r (0 : Fin 128))) (r : Fin 512) (cc : Fin 256) :
    (sumTrip.sl.v607 (F := Ideal) i arg10 arg13 X10 X13 k) (ix2 r cc) = weight (arg10.view.read (Elt Ideal) X10) (arg13.view.read (Elt Ideal) X13) (tileOf3 i k 0) 2 r cc :=
  weight_load arg10 arg13 X10 X13 hM (tileOf3 i k 0) 2 rfl (off39_eq i k 0) _ _ r cc

theorem v638_weight (arg10 : Memref sig .tc .vmem S4x512x128 .f32) (arg13 : Memref sig .tc .vmem S8x4x512x256 .f32) (X10 : BufTy.Contents (Elt Ideal) arg10.view.ty) (X13 : BufTy.Contents (Elt Ideal) arg13.view.ty) (i : grid0.Coords) (k : Fin (k0_t3_loop i).trips) (hM : ∀ h r l, ((arg10.view.read (Elt Ideal) X10) (ix3 h r l) : EReal) = (arg10.view.read (Elt Ideal) X10) (ix3 h r (0 : Fin 128))) (r : Fin 512) (cc : Fin 256) :
    (sumTrip.sl.v638 (F := Ideal) i arg10 arg13 X10 X13 k) (ix2 r cc) = weight (arg10.view.read (Elt Ideal) X10) (arg13.view.read (Elt Ideal) X13) (tileOf3 i k 0) 3 r cc :=
  weight_load arg10 arg13 X10 X13 hM (tileOf3 i k 0) 3 rfl (off40_eq i k 0) _ _ r cc

theorem v555_weight (arg10 : Memref sig .tc .vmem S4x512x128 .f32) (arg13 : Memref sig .tc .vmem S8x4x512x256 .f32) (X10 : BufTy.Contents (Elt Ideal) arg10.view.ty) (X13 : BufTy.Contents (Elt Ideal) arg13.view.ty) (i : grid0.Coords) (k : Fin (k0_t3_loop i).trips) (hM : ∀ h r l, ((arg10.view.read (Elt Ideal) X10) (ix3 h r l) : EReal) = (arg10.view.read (Elt Ideal) X10) (ix3 h r (0 : Fin 128))) (r : Fin 512) (cc : Fin 256) :
    (sumTrip.sl.v555 (F := Ideal) i arg10 arg13 X10 X13 k) (ix2 r cc) = weight (arg10.view.read (Elt Ideal) X10) (arg13.view.read (Elt Ideal) X13) (tileOf3 i k 1) 0 r cc :=
  weight_load arg10 arg13 X10 X13 hM (tileOf3 i k 1) 0 rfl (off37_eq i k 1) _ _ r cc

theorem v586_weight (arg10 : Memref sig .tc .vmem S4x512x128 .f32) (arg13 : Memref sig .tc .vmem S8x4x512x256 .f32) (X10 : BufTy.Contents (Elt Ideal) arg10.view.ty) (X13 : BufTy.Contents (Elt Ideal) arg13.view.ty) (i : grid0.Coords) (k : Fin (k0_t3_loop i).trips) (hM : ∀ h r l, ((arg10.view.read (Elt Ideal) X10) (ix3 h r l) : EReal) = (arg10.view.read (Elt Ideal) X10) (ix3 h r (0 : Fin 128))) (r : Fin 512) (cc : Fin 256) :
    (sumTrip.sl.v586 (F := Ideal) i arg10 arg13 X10 X13 k) (ix2 r cc) = weight (arg10.view.read (Elt Ideal) X10) (arg13.view.read (Elt Ideal) X13) (tileOf3 i k 1) 1 r cc :=
  weight_load arg10 arg13 X10 X13 hM (tileOf3 i k 1) 1 rfl (off38_eq i k 1) _ _ r cc

theorem v617_weight (arg10 : Memref sig .tc .vmem S4x512x128 .f32) (arg13 : Memref sig .tc .vmem S8x4x512x256 .f32) (X10 : BufTy.Contents (Elt Ideal) arg10.view.ty) (X13 : BufTy.Contents (Elt Ideal) arg13.view.ty) (i : grid0.Coords) (k : Fin (k0_t3_loop i).trips) (hM : ∀ h r l, ((arg10.view.read (Elt Ideal) X10) (ix3 h r l) : EReal) = (arg10.view.read (Elt Ideal) X10) (ix3 h r (0 : Fin 128))) (r : Fin 512) (cc : Fin 256) :
    (sumTrip.sl.v617 (F := Ideal) i arg10 arg13 X10 X13 k) (ix2 r cc) = weight (arg10.view.read (Elt Ideal) X10) (arg13.view.read (Elt Ideal) X13) (tileOf3 i k 1) 2 r cc :=
  weight_load arg10 arg13 X10 X13 hM (tileOf3 i k 1) 2 rfl (off39_eq i k 1) _ _ r cc

theorem v648_weight (arg10 : Memref sig .tc .vmem S4x512x128 .f32) (arg13 : Memref sig .tc .vmem S8x4x512x256 .f32) (X10 : BufTy.Contents (Elt Ideal) arg10.view.ty) (X13 : BufTy.Contents (Elt Ideal) arg13.view.ty) (i : grid0.Coords) (k : Fin (k0_t3_loop i).trips) (hM : ∀ h r l, ((arg10.view.read (Elt Ideal) X10) (ix3 h r l) : EReal) = (arg10.view.read (Elt Ideal) X10) (ix3 h r (0 : Fin 128))) (r : Fin 512) (cc : Fin 256) :
    (sumTrip.sl.v648 (F := Ideal) i arg10 arg13 X10 X13 k) (ix2 r cc) = weight (arg10.view.read (Elt Ideal) X10) (arg13.view.read (Elt Ideal) X13) (tileOf3 i k 1) 3 r cc :=
  weight_load arg10 arg13 X10 X13 hM (tileOf3 i k 1) 3 rfl (off40_eq i k 1) _ _ r cc

/-- The row sums after a trip. -/
theorem sumTrip_sums (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt Ideal) arg5.view.ty) (X10 : BufTy.Contents (Elt Ideal) arg10.view.ty) (X13 : BufTy.Contents (Elt Ideal) arg13.view.ty) (f11 : BufTy.Contents (Elt Ideal) arg11.view.ty) (k : Fin (k0_t3_loop i).trips) (hM : ∀ h r l, ((arg10.view.read (Elt Ideal) X10) (ix3 h r l) : EReal) = (arg10.view.read (Elt Ideal) X10) (ix3 h r (0 : Fin 128))) (h : Fin 4) (r : Fin 512) (l : Fin 128) :
    arg11.view.read (Elt Ideal) (arg11.view.writes (Elt Ideal) f11 ((sumTrip (F := Ideal) 𝒱 c bd i arg2 harg2 arg3 harg3 arg4 harg4 arg5 harg5 arg6 harg6 arg7 harg7 arg8 harg8 arg9 harg9 arg10 harg10 arg11 harg11 arg12 harg12 arg13 harg13 X5 X10 X13 k).1 f11)) (ix3 h r l)
      = (arg11.view.read (Elt Ideal) f11 (ix3 h r l) : EReal)
        + ((weight (arg10.view.read (Elt Ideal) X10) (arg13.view.read (Elt Ideal) X13) (tileOf3 i k 0) h r ⟨l.1, by omega⟩ + weight (arg10.view.read (Elt Ideal) X10) (arg13.view.read (Elt Ideal) X13) (tileOf3 i k 0) h r ⟨128 + l.1, by omega⟩)
          + (weight (arg10.view.read (Elt Ideal) X10) (arg13.view.read (Elt Ideal) X13) (tileOf3 i k 1) h r ⟨l.1, by omega⟩ + weight (arg10.view.read (Elt Ideal) X10) (arg13.view.read (Elt Ideal) X13) (tileOf3 i k 1) h r ⟨128 + l.1, by omega⟩)) := by
  unfold sumTrip
  dsimp only
  fin_cases h
  · exact (slab3 arg11.view _ 3 rfl _ _ _ _ r l).trans ((if_neg (by decide)).trans ((slab3 arg11.view _ 2 rfl _ _ _ _ r l).trans ((if_neg (by decide)).trans ((slab3 arg11.view _ 1 rfl _ _ _ _ r l).trans ((if_neg (by decide)).trans ((slab3 arg11.view _ 0 rfl _ _ _ _ r l).trans ((if_pos rfl).trans ((sum_fold _ ((sumTrip.sl.v545 (F := Ideal) i arg10 arg13 X10 X13 k)) ((sumTrip.sl.v555 (F := Ideal) i arg10 arg13 X10 X13 k)) r l).trans (congrArg₂ (fun a b : EReal => a + b) (load3 arg11.view f11 0 rfl _ 0 r l) (congrArg₂ (fun a b : EReal => a + b) (congrArg₂ (fun a b : EReal => a + b) (v545_weight arg10 arg13 X10 X13 i k hM r _) (v545_weight arg10 arg13 X10 X13 i k hM r _)) (congrArg₂ (fun a b : EReal => a + b) (v555_weight arg10 arg13 X10 X13 i k hM r _) (v555_weight arg10 arg13 X10 X13 i k hM r _))))))))))))
  · exact (slab3 arg11.view _ 3 rfl _ _ _ _ r l).trans ((if_neg (by decide)).trans ((slab3 arg11.view _ 2 rfl _ _ _ _ r l).trans ((if_neg (by decide)).trans ((slab3 arg11.view _ 1 rfl _ _ _ _ r l).trans ((if_pos rfl).trans ((sum_fold _ ((sumTrip.sl.v576 (F := Ideal) i arg10 arg13 X10 X13 k)) ((sumTrip.sl.v586 (F := Ideal) i arg10 arg13 X10 X13 k)) r l).trans (congrArg₂ (fun a b : EReal => a + b) (load3 arg11.view f11 1 rfl _ 0 r l) (congrArg₂ (fun a b : EReal => a + b) (congrArg₂ (fun a b : EReal => a + b) (v576_weight arg10 arg13 X10 X13 i k hM r _) (v576_weight arg10 arg13 X10 X13 i k hM r _)) (congrArg₂ (fun a b : EReal => a + b) (v586_weight arg10 arg13 X10 X13 i k hM r _) (v586_weight arg10 arg13 X10 X13 i k hM r _))))))))))
  · exact (slab3 arg11.view _ 3 rfl _ _ _ _ r l).trans ((if_neg (by decide)).trans ((slab3 arg11.view _ 2 rfl _ _ _ _ r l).trans ((if_pos rfl).trans ((sum_fold _ ((sumTrip.sl.v607 (F := Ideal) i arg10 arg13 X10 X13 k)) ((sumTrip.sl.v617 (F := Ideal) i arg10 arg13 X10 X13 k)) r l).trans (congrArg₂ (fun a b : EReal => a + b) (load3 arg11.view f11 2 rfl _ 0 r l) (congrArg₂ (fun a b : EReal => a + b) (congrArg₂ (fun a b : EReal => a + b) (v607_weight arg10 arg13 X10 X13 i k hM r _) (v607_weight arg10 arg13 X10 X13 i k hM r _)) (congrArg₂ (fun a b : EReal => a + b) (v617_weight arg10 arg13 X10 X13 i k hM r _) (v617_weight arg10 arg13 X10 X13 i k hM r _))))))))
  · exact (slab3 arg11.view _ 3 rfl _ _ _ _ r l).trans ((if_pos rfl).trans ((sum_fold _ ((sumTrip.sl.v638 (F := Ideal) i arg10 arg13 X10 X13 k)) ((sumTrip.sl.v648 (F := Ideal) i arg10 arg13 X10 X13 k)) r l).trans (congrArg₂ (fun a b : EReal => a + b) (load3 arg11.view f11 3 rfl _ 0 r l) (congrArg₂ (fun a b : EReal => a + b) (congrArg₂ (fun a b : EReal => a + b) (v638_weight arg10 arg13 X10 X13 i k hM r _) (v638_weight arg10 arg13 X10 X13 i k hM r _)) (congrArg₂ (fun a b : EReal => a + b) (v648_weight arg10 arg13 X10 X13 i k hM r _) (v648_weight arg10 arg13 X10 X13 i k hM r _))))))

/-- The weighted sums after a trip. -/
theorem sumTrip_weighted (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt Ideal) arg5.view.ty) (X10 : BufTy.Contents (Elt Ideal) arg10.view.ty) (X13 : BufTy.Contents (Elt Ideal) arg13.view.ty) (f12 : BufTy.Contents (Elt Ideal) arg12.view.ty) (k : Fin (k0_t3_loop i).trips) (hM : ∀ h r l, ((arg10.view.read (Elt Ideal) X10) (ix3 h r l) : EReal) = (arg10.view.read (Elt Ideal) X10) (ix3 h r (0 : Fin 128))) (h : Fin 4) (r : Fin 512) (l : Fin 128) :
    arg12.view.read (Elt Ideal) (arg12.view.writes (Elt Ideal) f12 ((sumTrip (F := Ideal) 𝒱 c bd i arg2 harg2 arg3 harg3 arg4 harg4 arg5 harg5 arg6 harg6 arg7 harg7 arg8 harg8 arg9 harg9 arg10 harg10 arg11 harg11 arg12 harg12 arg13 harg13 X5 X10 X13 k).2.1 f12)) (ix3 h r l)
      = (arg12.view.read (Elt Ideal) f12 (ix3 h r l) : EReal)
        + ∑ x : Fin 512, (if hx : x.1 < 256 then weight (arg10.view.read (Elt Ideal) X10) (arg13.view.read (Elt Ideal) X13) (tileOf3 i k 0) h r ⟨x.1, hx⟩ else weight (arg10.view.read (Elt Ideal) X10) (arg13.view.read (Elt Ideal) X13) (tileOf3 i k 1) h r ⟨x.1 - 256, by omega⟩)
          * (arg5.view.read (Elt Ideal) X5) (ix2 (⟨512 * k.1 + x.1, by have := tile_lt38 i k 1; have : 2 * k.1 + 1 < 8 := this; omega⟩ : Fin 2048) (⟨128 * h.1 + l.1, by omega⟩ : Fin 512)) := by
  unfold sumTrip
  dsimp only
  have hk : 2 * k.1 + 1 < 8 := tile_lt38 i k 1
  fin_cases h
  · exact (slab3 arg12.view _ 3 rfl _ _ _ _ r l).trans ((if_neg (by decide)).trans ((slab3 arg12.view _ 2 rfl _ _ _ _ r l).trans ((if_neg (by decide)).trans ((slab3 arg12.view _ 1 rfl _ _ _ _ r l).trans ((if_neg (by decide)).trans ((slab3 arg12.view _ 0 rfl _ _ _ _ r l).trans ((if_pos rfl).trans ((acc_fold _ ((sumTrip.sl.v545 (F := Ideal) i arg10 arg13 X10 X13 k)) ((sumTrip.sl.v555 (F := Ideal) i arg10 arg13 X10 X13 k)) _ r l).trans (congrArg₂ (fun a b : EReal => a + b) (load3 arg12.view f12 0 rfl _ 0 r l) (Finset.sum_congr rfl fun x _ => congrArg₂ (fun a b : EReal => a * b) (dite_congr rfl (fun _ => (v545_weight arg10 arg13 X10 X13 i k hM r _)) (fun _ => (v555_weight arg10 arg13 X10 X13 i k hM r _))) (load2 (Val := Elt Ideal) arg5.view X5 (512 * k.1) 0 (off41_eq i k) _ (by omega) (by omega) x l)))))))))))
  · exact (slab3 arg12.view _ 3 rfl _ _ _ _ r l).trans ((if_neg (by decide)).trans ((slab3 arg12.view _ 2 rfl _ _ _ _ r l).trans ((if_neg (by decide)).trans ((slab3 arg12.view _ 1 rfl _ _ _ _ r l).trans ((if_pos rfl).trans ((acc_fold _ ((sumTrip.sl.v576 (F := Ideal) i arg10 arg13 X10 X13 k)) ((sumTrip.sl.v586 (F := Ideal) i arg10 arg13 X10 X13 k)) _ r l).trans (congrArg₂ (fun a b : EReal => a + b) (load3 arg12.view f12 1 rfl _ 0 r l) (Finset.sum_congr rfl fun x _ => congrArg₂ (fun a b : EReal => a * b) (dite_congr rfl (fun _ => (v576_weight arg10 arg13 X10 X13 i k hM r _)) (fun _ => (v586_weight arg10 arg13 X10 X13 i k hM r _))) (load2 (Val := Elt Ideal) arg5.view X5 (512 * k.1) 128 (off42_eq i k) _ (by omega) (by omega) x l)))))))))
  · exact (slab3 arg12.view _ 3 rfl _ _ _ _ r l).trans ((if_neg (by decide)).trans ((slab3 arg12.view _ 2 rfl _ _ _ _ r l).trans ((if_pos rfl).trans ((acc_fold _ ((sumTrip.sl.v607 (F := Ideal) i arg10 arg13 X10 X13 k)) ((sumTrip.sl.v617 (F := Ideal) i arg10 arg13 X10 X13 k)) _ r l).trans (congrArg₂ (fun a b : EReal => a + b) (load3 arg12.view f12 2 rfl _ 0 r l) (Finset.sum_congr rfl fun x _ => congrArg₂ (fun a b : EReal => a * b) (dite_congr rfl (fun _ => (v607_weight arg10 arg13 X10 X13 i k hM r _)) (fun _ => (v617_weight arg10 arg13 X10 X13 i k hM r _))) (load2 (Val := Elt Ideal) arg5.view X5 (512 * k.1) 256 (off43_eq i k) _ (by omega) (by omega) x l)))))))
  · exact (slab3 arg12.view _ 3 rfl _ _ _ _ r l).trans ((if_pos rfl).trans ((acc_fold _ ((sumTrip.sl.v638 (F := Ideal) i arg10 arg13 X10 X13 k)) ((sumTrip.sl.v648 (F := Ideal) i arg10 arg13 X10 X13 k)) _ r l).trans (congrArg₂ (fun a b : EReal => a + b) (load3 arg12.view f12 3 rfl _ 0 r l) (Finset.sum_congr rfl fun x _ => congrArg₂ (fun a b : EReal => a * b) (dite_congr rfl (fun _ => (v638_weight arg10 arg13 X10 X13 i k hM r _)) (fun _ => (v648_weight arg10 arg13 X10 X13 i k hM r _))) (load2 (Val := Elt Ideal) arg5.view X5 (512 * k.1) 384 (off44_eq i k) _ (by omega) (by omega) x l)))))

end Cert.KernelIdeal.Attn

end
-- ==== Proof.AttnLoopValues.lean ====
/-
  What the two loops leave, at an index, after any number of trips.
-/
module

public import proofs.«01_k».proof.Proof.AttnSums

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The sum over the tiles before `2 * (k + 1)`, from the one over those before `2 * k`. -/
theorem two_more (T : Fin 8 → EReal) (k : ℕ) (a b : Fin 8) (ha : a.1 = 2 * k + 0) (hb : b.1 = 2 * k + 1) :
    (∑ j : Fin 8, if j.1 < 2 * (k + 1) then T j else 0) = (∑ j : Fin 8, if j.1 < 2 * k then T j else 0) + (T a + T b) := by
  have e : ∀ j : Fin 8, (if j.1 < 2 * (k + 1) then T j else 0) = (if j.1 < 2 * k then T j else 0) + ((if j = a then T j else 0) + (if j = b then T j else 0)) := by
    intro j
    have ea : j = a ↔ j.1 = 2 * k := by rw [Fin.ext_iff]; omega
    have eb : j = b ↔ j.1 = 2 * k + 1 := by rw [Fin.ext_iff]; omega
    simp only [ea, eb]
    split_ifs <;> first | omega | simp
  rw [Finset.sum_congr rfl fun j _ => e j]
  simp [Finset.sum_add_distrib]

theorem halves (f : Fin 512 → EReal) : (∑ x, f x) = (∑ x : Fin 256, f ⟨x.1, by omega⟩) + ∑ x : Fin 256, f ⟨256 + x.1, by omega⟩ :=
  Fin.sum_univ_add (a := 256) (b := 256) f

theorem scores_read (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt Ideal) arg9.view.ty) (X4 : BufTy.Contents (Elt Ideal) arg4.view.ty) (G13 : BufTy.Contents (Elt Ideal) arg13.view.ty) (j : Fin 8) (h : Fin 4) (r : Fin 512) (cc : Fin 256) :
    ∀ k ≤ (k0_t1_loop i).trips, arg13.view.read (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 X9 X4 G13 k) (ix4 j h r cc)
      = if j.1 < 2 * k then scoreOf (arg9.view.read (Elt Ideal) X9) (arg4.view.read (Elt Ideal) X4) j h r cc else arg13.view.read (Elt Ideal) G13 (ix4 j h r cc)
  | 0, _ => (if_neg (by omega)).symm
  | k + 1, hk => by
    rw [scoresAt_succ 𝒱 c bd i arg2 harg2 arg3 harg3 arg4 harg4 arg5 harg5 arg6 harg6 arg7 harg7 arg8 harg8 arg9 harg9 arg10 harg10 arg11 harg11 arg12 harg12 arg13 harg13 X9 X4 G13 ⟨k, hk⟩]
    refine (scoreTrip_scores 𝒱 c bd i arg2 harg2 arg3 harg3 arg4 harg4 arg5 harg5 arg6 harg6 arg7 harg7 arg8 harg8 arg9 harg9 arg10 harg10 arg11 harg11 arg12 harg12 arg13 harg13 X9 X4 _ ⟨k, hk⟩ j h r cc).trans ?_
    rw [scores_read 𝒱 c bd i arg2 harg2 arg3 harg3 arg4 harg4 arg5 harg5 arg6 harg6 arg7 harg7 arg8 harg8 arg9 harg9 arg10 harg10 arg11 harg11 arg12 harg12 arg13 harg13 X9 X4 G13 j h r cc k (Nat.le_of_succ_le hk)]
    split_ifs <;> first | rfl | (simp only at *; omega)

/-- No maximum is `⊤` and that of the first lane isn't `⊥` either. -/
def Sound (M : Vec Ideal S4x512x128 .f32) : Prop := ∀ h r l, (M (ix3 h r l) : EReal) ≠ ⊤ ∧ (M (ix3 h r (0 : Fin 128)) : EReal) ≠ ⊥

theorem maxima_sound (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X9 : BufTy.Contents (Elt Ideal) arg9.view.ty) (X4 : BufTy.Contents (Elt Ideal) arg4.view.ty) (G10 : BufTy.Contents (Elt Ideal) arg10.view.ty)
    (hS : ∀ j h r c, scoreOf (arg9.view.read (Elt Ideal) X9) (arg4.view.read (Elt Ideal) X4) j h r c ≠ ⊤) (h0 : Sound (arg10.view.read (Elt Ideal) G10)) :
    ∀ k ≤ (k0_t1_loop i).trips, Sound (arg10.view.read (Elt Ideal) (maximaAt (F := Ideal) 𝒱 c bd i arg2 harg2 arg3 harg3 arg4 harg4 arg5 harg5 arg6 harg6 arg7 harg7 arg8 harg8 arg9 harg9 arg10 harg10 arg11 harg11 arg12 harg12 arg13 harg13 X9 X4 G10 k))
  | 0, _ => h0
  | k + 1, hk => by
    rw [maximaAt_succ 𝒱 c bd i arg2 harg2 arg3 harg3 arg4 harg4 arg5 harg5 arg6 harg6 arg7 harg7 arg8 harg8 arg9 harg9 arg10 harg10 arg11 harg11 arg12 harg12 arg13 harg13 X9 X4 G10 ⟨k, hk⟩]
    intro h r l
    have ih := maxima_sound 𝒱 c bd i arg2 harg2 arg3 harg3 arg4 harg4 arg5 harg5 arg6 harg6 arg7 harg7 arg8 harg8 arg9 harg9 arg10 harg10 arg11 harg11 arg12 harg12 arg13 harg13 X9 X4 G10 hS h0 k (Nat.le_of_succ_le hk) h r
    obtain ⟨w, hw, e⟩ := scoreTrip_maxima 𝒱 c bd i arg2 harg2 arg3 harg3 arg4 harg4 arg5 harg5 arg6 harg6 arg7 harg7 arg8 harg8 arg9 harg9 arg10 harg10 arg11 harg11 arg12 harg12 arg13 harg13 X9 X4 (maximaAt (F := Ideal) 𝒱 c bd i arg2 harg2 arg3 harg3 arg4 harg4 arg5 harg5 arg6 harg6 arg7 harg7 arg8 harg8 arg9 harg9 arg10 harg10 arg11 harg11 arg12 harg12 arg13 harg13 X9 X4 G10 k) ⟨k, hk⟩ hS h r l
    obtain ⟨w', _, e'⟩ := scoreTrip_maxima 𝒱 c bd i arg2 harg2 arg3 harg3 arg4 harg4 arg5 harg5 arg6 harg6 arg7 harg7 arg8 harg8 arg9 harg9 arg10 harg10 arg11 harg11 arg12 harg12 arg13 harg13 X9 X4 (maximaAt (F := Ideal) 𝒱 c bd i arg2 harg2 arg3 harg3 arg4 harg4 arg5 harg5 arg6 harg6 arg7 harg7 arg8 harg8 arg9 harg9 arg10 harg10 arg11 harg11 arg12 harg12 arg13 harg13 X9 X4 G10 k) ⟨k, hk⟩ hS h r 0
    refine ⟨fun t => two_ne_top (ih l).1 hw (e.symm.trans t), fun t => (ih l).2 (le_bot_iff.mp ?_)⟩
    exact (le_max_left _ w').trans_eq (e'.symm.trans t)

/-- One tile's columns in a lane of the row sums. -/
def laneSum (M : Vec Ideal S4x512x128 .f32) (S : Vec Ideal S8x4x512x256 .f32) (h : Fin 4) (r : Fin 512) (l : Fin 128) (j : Fin 8) : EReal :=
  weight M S j h r ⟨l.1, by omega⟩ + weight M S j h r ⟨128 + l.1, by omega⟩

/-- One tile's part of the weighted sums. -/
def tileSum (M : Vec Ideal S4x512x128 .f32) (S : Vec Ideal S8x4x512x256 .f32) (V : Vec Ideal S2048x512 .bf16) (h : Fin 4) (r : Fin 512) (l : Fin 128) (j : Fin 8) : EReal :=
  ∑ x : Fin 256, weight M S j h r x * V (ix2 (⟨256 * j.1 + x.1, by omega⟩ : Fin 2048) (⟨128 * h.1 + l.1, by omega⟩ : Fin 512))

theorem sums_read (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt Ideal) arg5.view.ty) (X10 : BufTy.Contents (Elt Ideal) arg10.view.ty) (X13 : BufTy.Contents (Elt Ideal) arg13.view.ty) (G11 : BufTy.Contents (Elt Ideal) arg11.view.ty) (hM : ∀ h r l, ((arg10.view.read (Elt Ideal) X10) (ix3 h r l) : EReal) = (arg10.view.read (Elt Ideal) X10) (ix3 h r (0 : Fin 128))) (h : Fin 4) (r : Fin 512) (l : Fin 128) :
    ∀ k ≤ (k0_t3_loop i).trips, (arg11.view.read (Elt Ideal) (sumsAt (F := Ideal) 𝒱 c bd i arg2 harg2 arg3 harg3 arg4 harg4 arg5 harg5 arg6 harg6 arg7 harg7 arg8 harg8 arg9 harg9 arg10 harg10 arg11 harg11 arg12 harg12 arg13 harg13 X5 X10 X13 G11 k) (ix3 h r l) : EReal)
      = (arg11.view.read (Elt Ideal) G11 (ix3 h r l) : EReal) + ∑ j : Fin 8, if j.1 < 2 * k then laneSum (arg10.view.read (Elt Ideal) X10) (arg13.view.read (Elt Ideal) X13) h r l j else 0
  | 0, _ => by simp
  | k + 1, hk => by
    rw [sumsAt_succ 𝒱 c bd i arg2 harg2 arg3 harg3 arg4 harg4 arg5 harg5 arg6 harg6 arg7 harg7 arg8 harg8 arg9 harg9 arg10 harg10 arg11 harg11 arg12 harg12 arg13 harg13 X5 X10 X13 G11 ⟨k, hk⟩]
    refine (sumTrip_sums 𝒱 c bd i arg2 harg2 arg3 harg3 arg4 harg4 arg5 harg5 arg6 harg6 arg7 harg7 arg8 harg8 arg9 harg9 arg10 harg10 arg11 harg11 arg12 harg12 arg13 harg13 X5 X10 X13 _ ⟨k, hk⟩ hM h r l).trans ?_
    rw [two_more _ k (tileOf3 i ⟨k, hk⟩ 0) (tileOf3 i ⟨k, hk⟩ 1) rfl rfl]
    refine Eq.trans ?_ (add_assoc _ _ _)
    exact congrArg₂ (fun a b : EReal => a + b) (sums_read 𝒱 c bd i arg2 harg2 arg3 harg3 arg4 harg4 arg5 harg5 arg6 harg6 arg7 harg7 arg8 harg8 arg9 harg9 arg10 harg10 arg11 harg11 arg12 harg12 arg13 harg13 X5 X10 X13 G11 hM h r l k (Nat.le_of_succ_le hk)) rfl

theorem weighted_read (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole)
    (X5 : BufTy.Contents (Elt Ideal) arg5.view.ty) (X10 : BufTy.Contents (Elt Ideal) arg10.view.ty) (X13 : BufTy.Contents (Elt Ideal) arg13.view.ty) (G12 : BufTy.Contents (Elt Ideal) arg12.view.ty) (hM : ∀ h r l, ((arg10.view.read (Elt Ideal) X10) (ix3 h r l) : EReal) = (arg10.view.read (Elt Ideal) X10) (ix3 h r (0 : Fin 128))) (h : Fin 4) (r : Fin 512) (l : Fin 128) :
    ∀ k ≤ (k0_t3_loop i).trips, (arg12.view.read (Elt Ideal) (weightedAt (F := Ideal) 𝒱 c bd i arg2 harg2 arg3 harg3 arg4 harg4 arg5 harg5 arg6 harg6 arg7 harg7 arg8 harg8 arg9 harg9 arg10 harg10 arg11 harg11 arg12 harg12 arg13 harg13 X5 X10 X13 G12 k) (ix3 h r l) : EReal)
      = (arg12.view.read (Elt Ideal) G12 (ix3 h r l) : EReal) + ∑ j : Fin 8, if j.1 < 2 * k then tileSum (arg10.view.read (Elt Ideal) X10) (arg13.view.read (Elt Ideal) X13) (arg5.view.read (Elt Ideal) X5) h r l j else 0
  | 0, _ => by simp
  | k + 1, hk => by
    rw [weightedAt_succ 𝒱 c bd i arg2 harg2 arg3 harg3 arg4 harg4 arg5 harg5 arg6 harg6 arg7 harg7 arg8 harg8 arg9 harg9 arg10 harg10 arg11 harg11 arg12 harg12 arg13 harg13 X5 X10 X13 G12 ⟨k, hk⟩]
    refine (sumTrip_weighted 𝒱 c bd i arg2 harg2 arg3 harg3 arg4 harg4 arg5 harg5 arg6 harg6 arg7 harg7 arg8 harg8 arg9 harg9 arg10 harg10 arg11 harg11 arg12 harg12 arg13 harg13 X5 X10 X13 _ ⟨k, hk⟩ hM h r l).trans ?_
    rw [two_more _ k (tileOf3 i ⟨k, hk⟩ 0) (tileOf3 i ⟨k, hk⟩ 1) rfl rfl]
    refine Eq.trans ?_ (add_assoc _ _ _)
    refine congrArg₂ (fun a b : EReal => a + b) (weighted_read 𝒱 c bd i arg2 harg2 arg3 harg3 arg4 harg4 arg5 harg5 arg6 harg6 arg7 harg7 arg8 harg8 arg9 harg9 arg10 harg10 arg11 harg11 arg12 harg12 arg13 harg13 X5 X10 X13 G12 hM h r l k (Nat.le_of_succ_le hk)) ?_
    have hk' : 2 * k + 1 < 8 := tile_lt38 i ⟨k, hk⟩ 1
    refine (halves _).trans (congrArg₂ (fun a b : EReal => a + b) ?_ ?_)
    · refine Finset.sum_congr rfl fun x _ => ?_
      rw [dif_pos (show x.1 < 256 from x.isLt)]
      exact congrArg (fun y : Fin 2048 => weight (arg10.view.read (Elt Ideal) X10) (arg13.view.read (Elt Ideal) X13) (tileOf3 i ⟨k, hk⟩ 0) h r x * (arg5.view.read (Elt Ideal) X5) (ix2 y (⟨128 * h.1 + l.1, by omega⟩ : Fin 512))) (Fin.ext (show 512 * k + x.1 = 256 * (2 * k + 0) + x.1 by omega))
    · refine Finset.sum_congr rfl fun x _ => ?_
      rw [dif_neg (show ¬ 256 + x.1 < 256 by omega)]
      exact congrArg₂ (fun (z : Fin 256) (y : Fin 2048) => weight (arg10.view.read (Elt Ideal) X10) (arg13.view.read (Elt Ideal) X13) (tileOf3 i ⟨k, hk⟩ 1) h r z * (arg5.view.read (Elt Ideal) X5) (ix2 y (⟨128 * h.1 + l.1, by omega⟩ : Fin 512))) (Fin.ext (show 256 + x.1 - 256 = x.1 by omega))
        (Fin.ext (show 512 * k + (256 + x.1) = 256 * (2 * k + 1) + x.1 by omega))

end Cert.KernelIdeal.Attn

end
-- ==== Proof.AttnParts.lean ====
/-
  The straight-line pieces of the attention at an index: the queries set up, the diagonal tile with its
  mask, the row maxima spread over the lanes, the first sums, and the output of a head.
-/
module

public import proofs.«01_k».proof.Proof.AttnLoopValues
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- A head's queries: the scaled lanes of the first half in the rows before 256, those of the second half in the others. -/
def queryOf (f : Fin 256 → Fin 128 → EReal) (r : Fin 512) (l : Fin 128) : EReal :=
  if h : r.1 < 256 then (if l.1 < 64 then f ⟨r.1, h⟩ l * Named.named (F := Ideal) (φ := .f32) κ "q_scale" 0x3E38AA3B#32 else 0)
  else (if 64 ≤ l.1 then f ⟨r.1 - 256, by omega⟩ l * Named.named (F := Ideal) (φ := .f32) κ "q_scale" 0x3E38AA3B#32 else 0)

theorem lane_lt : ∀ l : Fin 128, IntOp.cmpi CmpIPredicate.slt (BitVec.ofNat 32 l.1) 64#32 = if l.1 < 64 then 1#1 else 0#1 := by decide +kernel
theorem lane_ge : ∀ l : Fin 128, IntOp.cmpi CmpIPredicate.sge (BitVec.ofNat 32 l.1) 64#32 = if 64 ≤ l.1 then 1#1 else 0#1 := by decide +kernel
theorem select_ite {α : Type} (p : Prop) [Decidable p] (a b : α) : Scalar.select (if p then 1#1 else 0#1) a b = if p then a else b := by
  by_cases h : p <;> simp [h, Scalar.select]

theorem queries118 (P : Vec Ideal S256x128 .bf16) (r : Fin 512) (l : Fin 128) :
    k0_pay118 (F := Ideal) P (ix3 (0 : Fin 1) r l) = queryOf (fun r l => P (ix2 r l)) r l := by
  pointwise [k0_pay118, lane_lt, lane_ge, select_ite, queryOf]

theorem queries119 (P : Vec Ideal S256x128 .bf16) (r : Fin 512) (l : Fin 128) :
    k0_pay119 (F := Ideal) P (ix3 (0 : Fin 1) r l) = queryOf (fun r l => P (ix2 r l)) r l := by
  pointwise [k0_pay119, lane_lt, lane_ge, select_ite, queryOf]

theorem queries120 (P : Vec Ideal S256x128 .bf16) (r : Fin 512) (l : Fin 128) :
    k0_pay120 (F := Ideal) (iota .tc S256x128 32 [1] iota_S256x128_d1_w32) P (ix3 (0 : Fin 1) r l) = queryOf (fun r l => P (ix2 r l)) r l := by
  pointwise [k0_pay120, lane_lt, lane_ge, select_ite, queryOf]

theorem queries121 (P : Vec Ideal S256x128 .bf16) (r : Fin 512) (l : Fin 128) :
    k0_pay121 (F := Ideal) (iota .tc S256x128 32 [1] iota_S256x128_d1_w32) P (ix3 (0 : Fin 1) r l) = queryOf (fun r l => P (ix2 r l)) r l := by
  pointwise [k0_pay121, lane_lt, lane_ge, select_ite, queryOf]

/-- The diagonal tile's scores: the product where the column isn't after the row, else the least value. -/
def maskTile (s : FVec Ideal S512x256 .f32) : FVec Ideal S512x256 .f32 :=
  select (cmpi .sge (select (cmpi .sge (iota .tc S512x256 32 [0] iota_S512x256_d0_w32) (broadcast S512x256 256#32)) (subi (iota .tc S512x256 32 [0] iota_S512x256_d0_w32) (broadcast S512x256 256#32)) (iota .tc S512x256 32 [0] iota_S512x256_d0_w32)) (iota .tc S512x256 32 [1] iota_S512x256_d1_w32))
    s (broadcast S512x256 (FloatOps.ofBits FTy.f32 4286578688#32))

theorem wrapped : ∀ r : Fin 512, (Scalar.select (IntOp.cmpi CmpIPredicate.sge (BitVec.ofNat 32 r.1) 256#32) (IntOp.subi (BitVec.ofNat 32 r.1) 256#32) (BitVec.ofNat 32 r.1)) = BitVec.ofNat 32 (r.1 % 256) := by decide +kernel

theorem cmpi_sge_small (a b : ℕ) (ha : a < 256) (hb : b < 256) : IntOp.cmpi CmpIPredicate.sge (BitVec.ofNat 32 a) (BitVec.ofNat 32 b) = if b ≤ a then 1#1 else 0#1 := by
  rw [WordCmp.cmpi_sge_ofNat (by norm_num; omega) (by norm_num; omega)]
  by_cases h : b ≤ a <;> simp [h]

theorem minus_inf : Ideal.ofBits FTy.f32 4286578688#32 = (⊥ : EReal) := Cert.Proof.bot_f32

theorem maskTile_at (s : FVec Ideal S512x256 .f32) (r : Fin 512) (cc : Fin 256) :
    maskTile s (ix2 r cc) = if cc.1 ≤ r.1 % 256 then s (ix2 r cc) else (⊥ : EReal) := by
  pointwise [maskTile]
  have e : (Scalar.select (IntOp.cmpi CmpIPredicate.sge (BitVec.ofNat 32 r.1) 256#32) (IntOp.subi (BitVec.ofNat 32 r.1) 256#32) (BitVec.ofNat 32 r.1)) = BitVec.ofNat 32 (r.1 % 256) := wrapped r
  rw [e, cmpi_sge_small (r.1 % 256) cc.1 (by omega) (by omega), select_ite, minus_inf]

/-- The row maxima, spread over the lanes. -/
def spread (P : Vec Ideal S1x512x128 .f32) : FVec Ideal S1x512x128 .f32 :=
  shapeCast S1x512x128 (broadcastTo S512x128 (shapeCast S512x1 (shapeCast S512x1 (multiReduction .maximumf [1] S512 (shapeCast S512x128 P shapeCasts_S1x512x128_S512x128 : FVec Ideal S512x128 .f32) 0xFF800000#32 reduces_S512x128_S512 (.inl rfl) rfl) shapeCasts_S512_S512x1) shapeCasts_S512x1_S512x1 : FVec Ideal S512x1 .f32) broadcasts_S512x1_S512x128) shapeCasts_S512x128_S1x512x128

theorem spread_at (P : Vec Ideal S1x512x128 .f32) (r : Fin 512) (l : Fin 128) :
    spread P (ix3 (0 : Fin 1) r l) = Finset.fold max (⊥ : EReal) (fun x : Fin 128 => P (ix3 (0 : Fin 1) r x)) Finset.univ := by
  pointwise [spread]
  rw [minus_inf]

/-- The spread maximum is real where no maximum is `⊤` and the first lane's isn't `⊥`. -/
theorem spread_real (P : Vec Ideal S1x512x128 .f32) (r : Fin 512) (h : ∀ l, (P (ix3 (0 : Fin 1) r l) : EReal) ≠ ⊤) (h0 : (P (ix3 (0 : Fin 1) r (0 : Fin 128)) : EReal) ≠ ⊥) :
    ∃ m : ℝ, ∀ l, (spread P (ix3 (0 : Fin 1) r l) : EReal) = m := by
  have e := spread_at P r
  have ht : Finset.fold max (⊥ : EReal) (fun x : Fin 128 => (P (ix3 (0 : Fin 1) r x) : EReal)) Finset.univ ≠ ⊤ :=
    ((Finset.fold_max_lt _).mpr ⟨bot_lt_top, fun x _ => lt_top_iff_ne_top.mpr (h x)⟩).ne
  have hb : Finset.fold max (⊥ : EReal) (fun x : Fin 128 => (P (ix3 (0 : Fin 1) r x) : EReal)) Finset.univ ≠ ⊥ := fun t =>
    h0 (le_bot_iff.mp (((Finset.le_fold_max _).mpr (Or.inr ⟨0, Finset.mem_univ _, le_rfl⟩)).trans_eq t))
  exact ⟨EReal.toReal _, fun l => (e l).trans (EReal.coe_toReal ht hb).symm⟩

theorem first_sum (w : FVec Ideal S512x256 .f32) (r : Fin 512) (l : Fin 128) :
    (shapeCast S1x512x128 (addf (extractStridedSlice S512x128 ![0, 0] w slices_S512x256_o0_0_S512x128 : FVec Ideal S512x128 .f32) (extractStridedSlice S512x128 ![0, 128] w slices_S512x256_o0_128_S512x128)) shapeCasts_S512x128_S1x512x128 : FVec Ideal S1x512x128 .f32) (ix3 (0 : Fin 1) r l)
      = ((w (ix2 r (⟨l.1, by omega⟩ : Fin 256)) : EReal) + w (ix2 r (⟨128 + l.1, by omega⟩ : Fin 256))) := by
  pointwise

theorem next_sum (P : Vec Ideal S1x512x128 .f32) (w : FVec Ideal S512x256 .f32) (r : Fin 512) (l : Fin 128) :
    (shapeCast S1x512x128 (addf (shapeCast S512x128 P shapeCasts_S1x512x128_S512x128 : FVec Ideal S512x128 .f32) (addf (extractStridedSlice S512x128 ![0, 0] w slices_S512x256_o0_0_S512x128 : FVec Ideal S512x128 .f32) (extractStridedSlice S512x128 ![0, 128] w slices_S512x256_o0_128_S512x128))) shapeCasts_S512x128_S1x512x128 : FVec Ideal S1x512x128 .f32) (ix3 (0 : Fin 1) r l)
      = (P (ix3 (0 : Fin 1) r l) : EReal) + ((w (ix2 r (⟨l.1, by omega⟩ : Fin 256)) : EReal) + w (ix2 r (⟨128 + l.1, by omega⟩ : Fin 256))) := by
  pointwise

theorem first_max (w : FVec Ideal S512x256 .f32) (r : Fin 512) (l : Fin 128) :
    (shapeCast S1x512x128 (maximumf (extractStridedSlice S512x128 ![0, 0] w slices_S512x256_o0_0_S512x128 : FVec Ideal S512x128 .f32) (extractStridedSlice S512x128 ![0, 128] w slices_S512x256_o0_128_S512x128)) shapeCasts_S512x128_S1x512x128 : FVec Ideal S1x512x128 .f32) (ix3 (0 : Fin 1) r l)
      = max (w (ix2 r (⟨l.1, by omega⟩ : Fin 256)) : EReal) (w (ix2 r (⟨128 + l.1, by omega⟩ : Fin 256))) := by
  pointwise

theorem first_acc (w : FVec Ideal S512x256 .f32) (B : Vec Ideal S256x128 .bf16) (r : Fin 512) (l : Fin 128) :
    (shapeCast S1x512x128 (matmul dot_S512x256_S256x128_S512x128_1_0_0_1_n_n none (truncf .bf16 w bitsLt_bf16_f32 : FVec Ideal S512x256 .bf16)
        (shapeCast S256x128 B shapeCasts_S256x128_S256x128 : FVec Ideal S256x128 .bf16) (constant S512x128 .f32 0x00000000#32)) shapeCasts_S512x128_S1x512x128 : FVec Ideal S1x512x128 .f32) (ix3 (0 : Fin 1) r l)
      = ∑ x : Fin 256, (w (ix2 r x) : EReal) * B (ix2 x l) := by
  pointwise

theorem next_acc (P : Vec Ideal S1x512x128 .f32) (w : FVec Ideal S512x256 .f32) (B : Vec Ideal S256x128 .bf16) (r : Fin 512) (l : Fin 128) :
    (shapeCast S1x512x128 (addf (shapeCast S512x128 P shapeCasts_S1x512x128_S512x128 : FVec Ideal S512x128 .f32) (matmul dot_S512x256_S256x128_S512x128_1_0_0_1_n_n none (truncf .bf16 w bitsLt_bf16_f32 : FVec Ideal S512x256 .bf16)
        (shapeCast S256x128 B shapeCasts_S256x128_S256x128 : FVec Ideal S256x128 .bf16) (constant S512x128 .f32 0x00000000#32))) shapeCasts_S512x128_S1x512x128 : FVec Ideal S1x512x128 .f32) (ix3 (0 : Fin 1) r l)
      = (P (ix3 (0 : Fin 1) r l) : EReal) + ∑ x : Fin 256, (w (ix2 r x) : EReal) * B (ix2 x l) := by
  pointwise

/-- A head's output, from its weighted sums and row sums. -/
def headOut (A L : Vec Ideal S1x512x128 .f32) (x2 : Vec Ideal S4x64 .f32) (x6 : Vec Ideal S256x128 .bf16) (x7 : Vec Ideal S1x128 .f32) : FVec Ideal S256x128 .bf16 :=
  have lam : FVec Ideal S1x1 .f32 := addf (subf
      (exp (shapeCast S1x1 (multiReduction .add [1] S1 (mulf (extractStridedSlice S1x64 ![0, 0] x2 slices_S4x64_o0_0_S1x64 : FVec Ideal S1x64 .f32) (extractStridedSlice S1x64 ![1, 0] x2 slices_S4x64_o1_0_S1x64)) 0x00000000#32 reduces_S1x64_S1 (.inl rfl) rfl) shapeCasts_S1_S1x1))
      (exp (shapeCast S1x1 (multiReduction .add [1] S1 (mulf (extractStridedSlice S1x64 ![2, 0] x2 slices_S4x64_o2_0_S1x64 : FVec Ideal S1x64 .f32) (extractStridedSlice S1x64 ![3, 0] x2 slices_S4x64_o3_0_S1x64)) 0x00000000#32 reduces_S1x64_S1 (.inl rfl) rfl) shapeCasts_S1_S1x1)))
    (broadcast S1x1 (FloatOps.ofBits FTy.f32 1052116297#32))
  have num : FVec Ideal S512x128 .f32 := shapeCast S512x128 A shapeCasts_S1x512x128_S512x128
  have den : FVec Ideal S512x1 .f32 := shapeCast S512x1 (multiReduction .add [1] S512 (shapeCast S512x128 L shapeCasts_S1x512x128_S512x128 : FVec Ideal S512x128 .f32) 0x00000000#32 reduces_S512x128_S512 (.inl rfl) rfl) shapeCasts_S512_S512x1
  have o : FVec Ideal S256x128 .f32 := subf
    (divf (extractStridedSlice S256x128 ![0, 0] num slices_S512x128_o0_0_S256x128) (broadcastTo S256x128 (extractStridedSlice S256x1 ![0, 0] den slices_S512x1_o0_0_S256x1) broadcasts_S256x1_S256x128))
    (mulf (broadcastTo S256x128 lam broadcasts_S1x1_S256x128)
      (divf (extractStridedSlice S256x128 ![256, 0] num slices_S512x128_o256_0_S256x128) (broadcastTo S256x128 (extractStridedSlice S256x1 ![256, 0] den slices_S512x1_o256_0_S256x1) broadcasts_S256x1_S256x128)))
  have rms : FVec Ideal S256x1 .f32 := rsqrt (addf (divf (shapeCast S256x1 (multiReduction .add [1] S256 (mulf o o) 0x00000000#32 reduces_S256x128_S256 (.inl rfl) rfl) shapeCasts_S256_S256x1) (broadcast S256x1 (FloatOps.ofBits FTy.f32 1124073472#32))) (broadcast S256x1 (FloatOps.ofBits FTy.f32 897988541#32)))
  have z : FVec Ideal S256x128 .f32 := extf .f32 (shapeCast S256x128 x6 shapeCasts_S256x128_S256x128 : FVec Ideal S256x128 .bf16) bitsLt_bf16_f32
  have sub : FVec Ideal S1x128 .f32 := shapeCast S1x128 x7 shapeCasts_S1x128_S1x128
  truncf .bf16 (mulf (mulf (mulf (mulf o (broadcastTo S256x128 rms broadcasts_S256x1_S256x128)) (broadcastTo S256x128 sub broadcasts_S1x128_S256x128)) (broadcast S256x128 (FloatOps.ofBits FTy.f32 1059388764#32)))
    (mulf z (divf (broadcast S256x128 (FloatOps.ofBits FTy.f32 1065353216#32)) (addf (broadcast S256x128 (FloatOps.ofBits FTy.f32 1065353216#32)) (exp (subf (broadcast S256x128 (FloatOps.ofBits FTy.f32 0#32)) z)))))) bitsLt_bf16_f32

/-- The weight of the second softmax. -/
def lamOf (x2 : Vec Ideal S4x64 .f32) : EReal :=
  Ideal.exp (∑ x : Fin 64, (x2 (ix2 (0 : Fin 4) x) : EReal) * x2 (ix2 (1 : Fin 4) x)) - Ideal.exp (∑ x : Fin 64, (x2 (ix2 (2 : Fin 4) x) : EReal) * x2 (ix2 (3 : Fin 4) x)) + Ideal.ofBits FTy.f32 1052116297#32

/-- One softmax's mean of the values less `lam` times the other's. -/
def differ (A L : Vec Ideal S1x512x128 .f32) (lam : EReal) (r : Fin 256) (d : Fin 128) : EReal :=
  Ideal.div (A (ix3 (0 : Fin 1) (⟨r.1, by omega⟩ : Fin 512) d)) (∑ x : Fin 128, L (ix3 (0 : Fin 1) (⟨r.1, by omega⟩ : Fin 512) x))
    - lam * Ideal.div (A (ix3 (0 : Fin 1) (⟨256 + r.1, by omega⟩ : Fin 512) d)) (∑ x : Fin 128, L (ix3 (0 : Fin 1) (⟨256 + r.1, by omega⟩ : Fin 512) x))

/-- A row normalised, scaled and gated. -/
def gated (o : Fin 128 → EReal) (sub z : EReal) (d : Fin 128) : EReal :=
  o d * Ideal.rsqrt (Ideal.div (∑ x, o x * o x) (Ideal.ofBits FTy.f32 1124073472#32) + Ideal.ofBits FTy.f32 897988541#32) * sub * Ideal.ofBits FTy.f32 1059388764#32
    * (z * Ideal.div 1 (1 + Ideal.exp (0 - z)))

theorem headOut_at (A L : Vec Ideal S1x512x128 .f32) (x2 : Vec Ideal S4x64 .f32) (x6 : Vec Ideal S256x128 .bf16) (x7 : Vec Ideal S1x128 .f32) (r : Fin 256) (d : Fin 128) :
    headOut A L x2 x6 x7 (ix2 r d) = gated (differ A L (lamOf x2) r) (x7 (ix2 (0 : Fin 1) d)) (x6 (ix2 r d)) d := by
  pointwise [headOut]
  rfl

end Cert.KernelIdeal.Attn

end
-- ==== Proof.AttnSpec.lean ====
/-
  What a grid point of the attention computes: the causal scores of its rows, tile by tile, the weights over a real number
  per row, and the two sums the output is made of.
-/
module

public import proofs.«01_k».proof.Proof.AttnParts

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
theorem off1_eq : ∀ i : grid0.Coords, k0_off1 i = ![256 * (i 1).val, 0] := by decide +kernel
theorem off2_eq : ∀ i : grid0.Coords, k0_off2 i = ![256 * (i 1).val, 128] := by decide +kernel
theorem off3_eq : ∀ i : grid0.Coords, k0_off3 i = ![256 * (i 1).val, 256] := by decide +kernel
theorem off4_eq : ∀ i : grid0.Coords, k0_off4 i = ![256 * (i 1).val, 384] := by decide +kernel
theorem off5_eq : ∀ i : grid0.Coords, k0_off5 i = ![(i 1).val, 0, 0, 0] := by decide +kernel
theorem off6_eq : ∀ i : grid0.Coords, k0_off6 i = ![(i 1).val, 1, 0, 0] := by decide +kernel
theorem off7_eq : ∀ i : grid0.Coords, k0_off7 i = ![(i 1).val, 2, 0, 0] := by decide +kernel
theorem off8_eq : ∀ i : grid0.Coords, k0_off8 i = ![(i 1).val, 3, 0, 0] := by decide +kernel
theorem off33_eq : ∀ i : grid0.Coords, k0_off33 i = ![256 * (i 1).val, 0] := by decide +kernel
theorem off34_eq : ∀ i : grid0.Coords, k0_off34 i = ![256 * (i 1).val, 128] := by decide +kernel
theorem off35_eq : ∀ i : grid0.Coords, k0_off35 i = ![256 * (i 1).val, 256] := by decide +kernel
theorem off36_eq : ∀ i : grid0.Coords, k0_off36 i = ![256 * (i 1).val, 384] := by decide +kernel

/-- The score of a column of tile `j` for the rows of tile `n`: nothing is left of what comes after the row. -/
def scoreM (n : ℕ) (Q : Vec Ideal S4x512x128 .bf16) (K : Vec Ideal S2048x512 .bf16) (j : Fin 8) (h : Fin 4) (r : Fin 512) (cc : Fin 256) : EReal :=
  if j.1 < n then scoreOf Q K j h r cc else if cc.1 ≤ r.1 % 256 then scoreOf Q K j h r cc else ⊥

theorem scoreM_before {n : ℕ} {Q : Vec Ideal S4x512x128 .bf16} {K : Vec Ideal S2048x512 .bf16} {j : Fin 8} {h : Fin 4} {r : Fin 512} {cc : Fin 256} (e : j.1 < n) :
    scoreM n Q K j h r cc = scoreOf Q K j h r cc := if_pos e
theorem scoreM_diagonal {n : ℕ} {Q : Vec Ideal S4x512x128 .bf16} {K : Vec Ideal S2048x512 .bf16} {j : Fin 8} {h : Fin 4} {r : Fin 512} {cc : Fin 256} (e : j.1 = n) :
    scoreM n Q K j h r cc = if cc.1 ≤ r.1 % 256 then scoreOf Q K j h r cc else ⊥ := if_neg (by omega)

/-- A column's weight over the number `m` of its row. -/
def weightM (n : ℕ) (Q : Vec Ideal S4x512x128 .bf16) (K : Vec Ideal S2048x512 .bf16) (m : Fin 4 → Fin 512 → ℝ) (j : Fin 8) (h : Fin 4) (r : Fin 512) (cc : Fin 256) : EReal :=
  Ideal.exp2 (scoreM n Q K j h r cc - (m h r : EReal))

def laneM (n : ℕ) (Q : Vec Ideal S4x512x128 .bf16) (K : Vec Ideal S2048x512 .bf16) (m : Fin 4 → Fin 512 → ℝ) (h : Fin 4) (r : Fin 512) (l : Fin 128) (j : Fin 8) : EReal :=
  weightM n Q K m j h r ⟨l.1, by omega⟩ + weightM n Q K m j h r ⟨128 + l.1, by omega⟩

def tileM (n : ℕ) (Q : Vec Ideal S4x512x128 .bf16) (K : Vec Ideal S2048x512 .bf16) (V : Vec Ideal S2048x512 .bf16) (m : Fin 4 → Fin 512 → ℝ) (h : Fin 4) (r : Fin 512) (l : Fin 128) (j : Fin 8) : EReal :=
  ∑ x : Fin 256, weightM n Q K m j h r x * V (ix2 (⟨256 * j.1 + x.1, by omega⟩ : Fin 2048) (⟨128 * h.1 + l.1, by omega⟩ : Fin 512))

/-- The row sum, lane by lane, over the tiles up to the row's. -/
def denomM (n : ℕ) (Q : Vec Ideal S4x512x128 .bf16) (K : Vec Ideal S2048x512 .bf16) (m : Fin 4 → Fin 512 → ℝ) (h : Fin 4) (r : Fin 512) (l : Fin 128) : EReal :=
  ∑ j : Fin 8, if j.1 ≤ n then laneM n Q K m h r l j else 0

def numerM (n : ℕ) (Q : Vec Ideal S4x512x128 .bf16) (K : Vec Ideal S2048x512 .bf16) (V : Vec Ideal S2048x512 .bf16) (m : Fin 4 → Fin 512 → ℝ) (h : Fin 4) (r : Fin 512) (d : Fin 128) : EReal :=
  ∑ j : Fin 8, if j.1 ≤ n then tileM n Q K V m h r d j else 0

/-- The difference of a head's two means of the values. -/
def differM (n : ℕ) (Q : Vec Ideal S4x512x128 .bf16) (K : Vec Ideal S2048x512 .bf16) (V : Vec Ideal S2048x512 .bf16) (m : Fin 4 → Fin 512 → ℝ) (lam : EReal) (h : Fin 4) (r : Fin 256) (d : Fin 128) : EReal :=
  Ideal.div (numerM n Q K V m h ⟨r.1, by omega⟩ d) (∑ l, denomM n Q K m h ⟨r.1, by omega⟩ l)
    - lam * Ideal.div (numerM n Q K V m h ⟨256 + r.1, by omega⟩ d) (∑ l, denomM n Q K m h ⟨256 + r.1, by omega⟩ l)

theorem up_to (T : Fin 8 → EReal) (n : Fin 8) : T n + (∑ j : Fin 8, if j.1 < n.1 then T j else 0) = ∑ j : Fin 8, if j.1 ≤ n.1 then T j else 0 := by
  have e : ∀ j : Fin 8, (if j.1 ≤ n.1 then T j else 0) = (if j = n then T j else 0) + (if j.1 < n.1 then T j else 0) := by
    intro j
    simp only [Fin.ext_iff]
    split_ifs <;> first | omega | simp
  rw [Finset.sum_congr rfl fun j _ => e j]
  simp [Finset.sum_add_distrib]

theorem up_to_odd (T : Fin 8 → EReal) (n p : Fin 8) (hp : p.1 + 1 = n.1) : (T n + ∑ j : Fin 8, if j.1 < p.1 then T j else 0) + T p = ∑ j : Fin 8, if j.1 ≤ n.1 then T j else 0 := by
  rw [← up_to T n, add_assoc, add_comm _ (T p), up_to T p]
  refine congrArg (fun a : EReal => T n + a) (Finset.sum_congr rfl fun j _ => ?_)
  simp only [show (j.1 ≤ p.1) = (j.1 < n.1) from propext (by omega)]

theorem weight_real {n : ℕ} {Q : Vec Ideal S4x512x128 .bf16} {K : Vec Ideal S2048x512 .bf16} {m : Fin 4 → Fin 512 → ℝ} {M : Vec Ideal S4x512x128 .f32} {S : Vec Ideal S8x4x512x256 .f32}
    (hM : ∀ h r l, (M (ix3 h r l) : EReal) = (m h r : EReal)) (hS : ∀ j h r cc, j.1 ≤ n → (S (ix4 j h r cc) : EReal) = scoreM n Q K j h r cc) (j : Fin 8) (hj : j.1 ≤ n) (h : Fin 4) (r : Fin 512) (cc : Fin 256) :
    weight M S j h r cc = weightM n Q K m j h r cc :=
  congrArg₂ (fun a b : EReal => Ideal.exp2 (a - b)) (hS j h r cc hj) (hM h r 0)

theorem lane_real {n : ℕ} {Q : Vec Ideal S4x512x128 .bf16} {K : Vec Ideal S2048x512 .bf16} {m : Fin 4 → Fin 512 → ℝ} {M : Vec Ideal S4x512x128 .f32} {S : Vec Ideal S8x4x512x256 .f32}
    (hM : ∀ h r l, (M (ix3 h r l) : EReal) = (m h r : EReal)) (hS : ∀ j h r cc, j.1 ≤ n → (S (ix4 j h r cc) : EReal) = scoreM n Q K j h r cc) (h : Fin 4) (r : Fin 512) (l : Fin 128) (j : Fin 8) (hj : j.1 ≤ n) :
    laneSum M S h r l j = laneM n Q K m h r l j :=
  congrArg₂ (fun a b : EReal => a + b) (weight_real hM hS j hj h r _) (weight_real hM hS j hj h r _)

theorem tile_real {n : ℕ} {Q : Vec Ideal S4x512x128 .bf16} {K : Vec Ideal S2048x512 .bf16} {m : Fin 4 → Fin 512 → ℝ} {M : Vec Ideal S4x512x128 .f32} {S : Vec Ideal S8x4x512x256 .f32} (V : Vec Ideal S2048x512 .bf16)
    (hM : ∀ h r l, (M (ix3 h r l) : EReal) = (m h r : EReal)) (hS : ∀ j h r cc, j.1 ≤ n → (S (ix4 j h r cc) : EReal) = scoreM n Q K j h r cc) (h : Fin 4) (r : Fin 512) (l : Fin 128) (j : Fin 8) (hj : j.1 ≤ n) :
    tileSum M S V h r l j = tileM n Q K V m h r l j :=
  Finset.sum_congr rfl fun x _ => congrArg (fun a : EReal => a * _) (weight_real hM hS j hj h r x)

theorem sum_real {T T' : Fin 8 → EReal} (p n : ℕ) (hp : p ≤ n + 1) (e : ∀ j : Fin 8, j.1 ≤ n → T j = T' j) :
    (∑ j : Fin 8, if j.1 < p then T j else 0) = ∑ j : Fin 8, if j.1 < p then T' j else 0 :=
  Finset.sum_congr rfl fun j _ => by
    by_cases h : j.1 < p
    · rw [if_pos h, if_pos h, e j (by omega)]
    · rw [if_neg h, if_neg h]

theorem queryOf_congr {f g : Fin 256 → Fin 128 → EReal} (e : ∀ r l, f r l = g r l) (r : Fin 512) (l : Fin 128) : queryOf f r l = queryOf g r l := by
  rw [show f = g from funext fun r => funext fun l => e r l]

/-- The tile on the diagonal of a grid point. -/
def diagTile (i : grid0.Coords) : Fin 8 := ⟨(i 1).val, (i 1).isLt⟩

/-- The tile in front of it. -/
def leftTile (i : grid0.Coords) : Fin 8 := ⟨(i 1).val - 1, lt_of_le_of_lt (Nat.sub_le _ _) (i 1).isLt⟩

theorem diag_inb (i : grid0.Coords) {o : Fin 4 → ℕ} (h : Fin 4) (e : o = ![(i 1).val, h.1, 0, 0]) : ∀ a, o a + S1x1x512x256.size a ≤ S8x4x512x256.size a := by
  have hi : (i 1).val < 8 := (i 1).isLt
  intro a
  rw [e]
  fin_cases a
  · exact hi
  · exact h.isLt
  · exact Nat.le_refl 512
  · exact Nat.le_refl 256

/-- A whole array, loaded. -/
theorem whole_load {m n : ℕ} {Val : EltTy → Type} {κ : Kind} {sp : Space} {e : EltTy} (v : View sig κ sp (⟨2, ![m, n]⟩ : Shape) e) (f : v.ty.Contents Val)
    (inb : ∀ a, (![0, 0] : Fin 2 → ℕ) a + (![m, n] : Fin 2 → ℕ) a ≤ (⟨2, ![m, n]⟩ : Shape).size a) :
    v.readAt Val (Rect.unit (s := (⟨2, ![m, n]⟩ : Shape)) ![0, 0] ![m, n] inb).toLoadRect f = v.read Val f := by
  funext x
  have e : x = ix2 (x 0) (x 1) := by
    funext a
    fin_cases a <;> rfl
  rw [e]
  refine (load2 (p := m) (q := n) v f 0 0 rfl _ (by omega) (by omega) (x 0) (x 1)).trans (congrArg (v.read Val f) ?_)
  funext a
  fin_cases a
  · exact Fin.ext (Nat.zero_add _)
  · exact Fin.ext (Nat.zero_add _)

end Cert.KernelIdeal.Attn

end
-- ==== Proof.AttnEven.lean ====
/-
  One grid point of the attention with no tile left over after the pairs, at an index of its output block.
-/
module

public import proofs.«01_k».proof.Proof.AttnSpec

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

open Cert.Proof (Fin')

section

variable (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole) (hc1 : ¬ k0_cond1 i = 1#1) (hc2 : ¬ k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (g13 : BufTy.Contents (Elt Ideal) arg13.view.ty)

include 𝒱 c bd arg2 harg2 arg3 harg3 arg4 harg4 arg5 harg5 arg6 harg6 arg7 harg7 arg8 harg8 arg9 harg9 arg10 harg10 arg11 harg11 arg12 harg12 arg13 harg13 hc1 hc2 X2 X3 X4 X5 X6 X7 g13

/-- The stores of the diagonal tile's scores. -/
abbrev even_start  : List (View.Piece (Elt Ideal) S8x4x512x256 .f32) :=
  [⟨(Rect.unit (s := S8x4x512x256) (k0_off8 i) S1x1x512x256.size (diag_inb i 3 (off8_eq i))), (bodyEven.sl.v173 (F := Ideal) i arg3 arg4 arg9 X3 X4)⟩, ⟨(Rect.unit (s := S8x4x512x256) (k0_off7 i) S1x1x512x256.size (diag_inb i 2 (off7_eq i))), (bodyEven.sl.v162 (F := Ideal) i arg3 arg4 arg9 X3 X4)⟩, ⟨(Rect.unit (s := S8x4x512x256) (k0_off6 i) S1x1x512x256.size (diag_inb i 1 (off6_eq i))), (bodyEven.sl.v151 (F := Ideal) i arg3 arg4 arg9 X3 X4)⟩, ⟨(Rect.unit (s := S8x4x512x256) (k0_off5 i) S1x1x512x256.size (diag_inb i 0 (off5_eq i))), (bodyEven.sl.v140 (F := Ideal) i arg3 arg4 arg9 X3 X4)⟩ ]

theorem even_queries  (h : Fin 4) (r : Fin 512) (l : Fin 128) :
    (arg9.view.read (Elt Ideal) (arg9.view.writes (Elt Ideal) arg9.view.junk (bodyEven.sl.H9_4 (F := Ideal) arg3 X3))) (ix3 h r l) = queryOf (fun r l => (arg3.view.read (Elt Ideal) X3) (ix2 r (⟨128 * h.1 + l.1, by omega⟩ : Fin 512))) r l := by
  fin_cases h
  · exact (slab3 arg9.view _ 3 rfl _ _ _ _ r l).trans ((if_neg (by decide)).trans ((slab3 arg9.view _ 2 rfl _ _ _ _ r l).trans ((if_neg (by decide)).trans ((slab3 arg9.view _ 1 rfl _ _ _ _ r l).trans ((if_neg (by decide)).trans ((slab3 arg9.view _ 0 rfl _ _ _ _ r l).trans ((if_pos rfl).trans ((queries118 _ r l).trans (queryOf_congr (fun r l => load2 (Val := Elt Ideal) arg3.view X3 0 0 rfl _ (by omega) (by omega) r l |>.trans (congrArg (fun y : Fin 256 => (arg3.view.read (Elt Ideal) X3) (ix2 y (⟨0 + l.1, by omega⟩ : Fin 512))) (Fin.ext (Nat.zero_add r.1)))) r l)))))))))
  · exact (slab3 arg9.view _ 3 rfl _ _ _ _ r l).trans ((if_neg (by decide)).trans ((slab3 arg9.view _ 2 rfl _ _ _ _ r l).trans ((if_neg (by decide)).trans ((slab3 arg9.view _ 1 rfl _ _ _ _ r l).trans ((if_pos rfl).trans ((queries119 _ r l).trans (queryOf_congr (fun r l => load2 (Val := Elt Ideal) arg3.view X3 0 128 rfl _ (by omega) (by omega) r l |>.trans (congrArg (fun y : Fin 256 => (arg3.view.read (Elt Ideal) X3) (ix2 y (⟨128 + l.1, by omega⟩ : Fin 512))) (Fin.ext (Nat.zero_add r.1)))) r l)))))))
  · exact (slab3 arg9.view _ 3 rfl _ _ _ _ r l).trans ((if_neg (by decide)).trans ((slab3 arg9.view _ 2 rfl _ _ _ _ r l).trans ((if_pos rfl).trans ((queries120 _ r l).trans (queryOf_congr (fun r l => load2 (Val := Elt Ideal) arg3.view X3 0 256 rfl _ (by omega) (by omega) r l |>.trans (congrArg (fun y : Fin 256 => (arg3.view.read (Elt Ideal) X3) (ix2 y (⟨256 + l.1, by omega⟩ : Fin 512))) (Fin.ext (Nat.zero_add r.1)))) r l)))))
  · exact (slab3 arg9.view _ 3 rfl _ _ _ _ r l).trans ((if_pos rfl).trans ((queries121 _ r l).trans (queryOf_congr (fun r l => load2 (Val := Elt Ideal) arg3.view X3 0 384 rfl _ (by omega) (by omega) r l |>.trans (congrArg (fun y : Fin 256 => (arg3.view.read (Elt Ideal) X3) (ix2 y (⟨384 + l.1, by omega⟩ : Fin 512))) (Fin.ext (Nat.zero_add r.1)))) r l)))

theorem even_diagonal0  (r : Fin 512) (cc : Fin 256) :
    (bodyEven.sl.v87 (F := Ideal) i arg3 arg4 arg9 X3 X4) (ix2 r cc) = scoreM (i 1).val (arg9.view.read (Elt Ideal) (arg9.view.writes (Elt Ideal) arg9.view.junk (bodyEven.sl.H9_4 (F := Ideal) arg3 X3))) (arg4.view.read (Elt Ideal) X4) (diagTile i) 0 r cc :=
  (maskTile_at (bodyEven.sl.v77 (F := Ideal) i arg3 arg4 arg9 X3 X4) r cc).trans ((if_congr Iff.rfl (score_load arg9 arg4 (arg9.view.writes (Elt Ideal) arg9.view.junk (bodyEven.sl.H9_4 (F := Ideal) arg3 X3)) X4 (diagTile i) 0 rfl (off1_eq i) _ _ r cc) rfl).trans (scoreM_diagonal rfl).symm)

theorem even_diagonal1  (r : Fin 512) (cc : Fin 256) :
    (bodyEven.sl.v103 (F := Ideal) i arg3 arg4 arg9 X3 X4) (ix2 r cc) = scoreM (i 1).val (arg9.view.read (Elt Ideal) (arg9.view.writes (Elt Ideal) arg9.view.junk (bodyEven.sl.H9_4 (F := Ideal) arg3 X3))) (arg4.view.read (Elt Ideal) X4) (diagTile i) 1 r cc :=
  (maskTile_at (bodyEven.sl.v93 (F := Ideal) i arg3 arg4 arg9 X3 X4) r cc).trans ((if_congr Iff.rfl (score_load arg9 arg4 (arg9.view.writes (Elt Ideal) arg9.view.junk (bodyEven.sl.H9_4 (F := Ideal) arg3 X3)) X4 (diagTile i) 1 rfl (off2_eq i) _ _ r cc) rfl).trans (scoreM_diagonal rfl).symm)

theorem even_diagonal2  (r : Fin 512) (cc : Fin 256) :
    (bodyEven.sl.v119 (F := Ideal) i arg3 arg4 arg9 X3 X4) (ix2 r cc) = scoreM (i 1).val (arg9.view.read (Elt Ideal) (arg9.view.writes (Elt Ideal) arg9.view.junk (bodyEven.sl.H9_4 (F := Ideal) arg3 X3))) (arg4.view.read (Elt Ideal) X4) (diagTile i) 2 r cc :=
  (maskTile_at (bodyEven.sl.v109 (F := Ideal) i arg3 arg4 arg9 X3 X4) r cc).trans ((if_congr Iff.rfl (score_load arg9 arg4 (arg9.view.writes (Elt Ideal) arg9.view.junk (bodyEven.sl.H9_4 (F := Ideal) arg3 X3)) X4 (diagTile i) 2 rfl (off3_eq i) _ _ r cc) rfl).trans (scoreM_diagonal rfl).symm)

theorem even_diagonal3  (r : Fin 512) (cc : Fin 256) :
    (bodyEven.sl.v135 (F := Ideal) i arg3 arg4 arg9 X3 X4) (ix2 r cc) = scoreM (i 1).val (arg9.view.read (Elt Ideal) (arg9.view.writes (Elt Ideal) arg9.view.junk (bodyEven.sl.H9_4 (F := Ideal) arg3 X3))) (arg4.view.read (Elt Ideal) X4) (diagTile i) 3 r cc :=
  (maskTile_at (bodyEven.sl.v125 (F := Ideal) i arg3 arg4 arg9 X3 X4) r cc).trans ((if_congr Iff.rfl (score_load arg9 arg4 (arg9.view.writes (Elt Ideal) arg9.view.junk (bodyEven.sl.H9_4 (F := Ideal) arg3 X3)) X4 (diagTile i) 3 rfl (off4_eq i) _ _ r cc) rfl).trans (scoreM_diagonal rfl).symm)

theorem even_scores_start  (h : Fin 4) (r : Fin 512) (cc : Fin 256) :
    (arg13.view.read (Elt Ideal) (arg13.view.writes (Elt Ideal) g13 (even_start i arg3 arg4 arg9 X3 X4))) (ix4 (diagTile i) h r cc) = scoreM (i 1).val (arg9.view.read (Elt Ideal) (arg9.view.writes (Elt Ideal) arg9.view.junk (bodyEven.sl.H9_4 (F := Ideal) arg3 X3))) (arg4.view.read (Elt Ideal) X4) (diagTile i) h r cc := by
  fin_cases h
  · exact (slab4 arg13.view _ ((diagTile i)).1 3 (off8_eq i) _ _ _ (diagTile i) _ r cc).trans ((if_neg (fun e => absurd e.2 (by decide))).trans ((slab4 arg13.view _ ((diagTile i)).1 2 (off7_eq i) _ _ _ (diagTile i) _ r cc).trans ((if_neg (fun e => absurd e.2 (by decide))).trans ((slab4 arg13.view _ ((diagTile i)).1 1 (off6_eq i) _ _ _ (diagTile i) _ r cc).trans ((if_neg (fun e => absurd e.2 (by decide))).trans ((slab4 arg13.view _ ((diagTile i)).1 0 (off5_eq i) _ _ _ (diagTile i) _ r cc).trans ((if_pos ⟨rfl, rfl⟩).trans ((cast4 _ r cc).trans (even_diagonal0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))))))))
  · exact (slab4 arg13.view _ ((diagTile i)).1 3 (off8_eq i) _ _ _ (diagTile i) _ r cc).trans ((if_neg (fun e => absurd e.2 (by decide))).trans ((slab4 arg13.view _ ((diagTile i)).1 2 (off7_eq i) _ _ _ (diagTile i) _ r cc).trans ((if_neg (fun e => absurd e.2 (by decide))).trans ((slab4 arg13.view _ ((diagTile i)).1 1 (off6_eq i) _ _ _ (diagTile i) _ r cc).trans ((if_pos ⟨rfl, rfl⟩).trans ((cast4 _ r cc).trans (even_diagonal1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))))))
  · exact (slab4 arg13.view _ ((diagTile i)).1 3 (off8_eq i) _ _ _ (diagTile i) _ r cc).trans ((if_neg (fun e => absurd e.2 (by decide))).trans ((slab4 arg13.view _ ((diagTile i)).1 2 (off7_eq i) _ _ _ (diagTile i) _ r cc).trans ((if_pos ⟨rfl, rfl⟩).trans ((cast4 _ r cc).trans (even_diagonal2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))))
  · exact (slab4 arg13.view _ ((diagTile i)).1 3 (off8_eq i) _ _ _ (diagTile i) _ r cc).trans ((if_pos ⟨rfl, rfl⟩).trans ((cast4 _ r cc).trans (even_diagonal3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))

theorem even_parity  : (i 1).val % 2 = 0 := by
  have := mt (cond1_eq i).mpr hc1
  omega

theorem even_scores  (j : Fin 8) (h : Fin 4) (r : Fin 512) (cc : Fin 256) (hj : j.1 ≤ (i 1).val) :
    (arg13.view.read (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips)) (ix4 j h r cc) = scoreM (i 1).val (arg9.view.read (Elt Ideal) (arg9.view.writes (Elt Ideal) arg9.view.junk (bodyEven.sl.H9_4 (F := Ideal) arg3 X3))) (arg4.view.read (Elt Ideal) X4) j h r cc := by
  have hpar := even_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  refine (scores_read 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 _ j h r cc _ le_rfl).trans ?_
  have htr := trips1 i
  by_cases hd : j.1 = (i 1).val
  · have e : j = (diagTile i) := Fin.ext hd
    rw [if_neg (by omega), e]
    exact even_scores_start 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 h r cc
  · rw [if_pos (by omega), scoreM_before (by omega)]

theorem even_sound  (hF : ∀ j h r cc, Cert.Proof.Fin' (scoreOf (arg9.view.read (Elt Ideal) (arg9.view.writes (Elt Ideal) arg9.view.junk (bodyEven.sl.H9_4 (F := Ideal) arg3 X3))) (arg4.view.read (Elt Ideal) X4) j h r cc)) : Sound (arg10.view.read (Elt Ideal) (arg10.view.writes (Elt Ideal) arg10.view.junk (bodyEven.sl.H10_4 (F := Ideal) i arg3 arg4 arg9 X3 X4))) := by
  have hd : ∀ h r cc, scoreM (i 1).val (arg9.view.read (Elt Ideal) (arg9.view.writes (Elt Ideal) arg9.view.junk (bodyEven.sl.H9_4 (F := Ideal) arg3 X3))) (arg4.view.read (Elt Ideal) X4) (diagTile i) h r cc ≠ ⊤ := fun h r cc e => by
    rw [scoreM_diagonal (n := (i 1).val) (j := diagTile i) rfl] at e
    obtain ⟨x, hx⟩ := hF (diagTile i) h r cc
    split at e
    · exact EReal.coe_ne_top x (hx.symm.trans e)
    · exact absurd e bot_ne_top
  have h0 : ∀ h r, scoreM (i 1).val (arg9.view.read (Elt Ideal) (arg9.view.writes (Elt Ideal) arg9.view.junk (bodyEven.sl.H9_4 (F := Ideal) arg3 X3))) (arg4.view.read (Elt Ideal) X4) (diagTile i) h r 0 ≠ ⊥ := fun h r e => by
    rw [scoreM_diagonal (n := (i 1).val) (j := diagTile i) rfl, if_pos (show (0 : Fin 256).1 ≤ r.1 % 256 from Nat.zero_le _)] at e
    obtain ⟨x, hx⟩ := hF (diagTile i) h r 0
    exact EReal.coe_ne_bot x (hx.symm.trans e)
  have key : ∀ h r (l : Fin 128), (arg10.view.read (Elt Ideal) (arg10.view.writes (Elt Ideal) arg10.view.junk (bodyEven.sl.H10_4 (F := Ideal) i arg3 arg4 arg9 X3 X4))) (ix3 h r l)
      = max (scoreM (i 1).val (arg9.view.read (Elt Ideal) (arg9.view.writes (Elt Ideal) arg9.view.junk (bodyEven.sl.H9_4 (F := Ideal) arg3 X3))) (arg4.view.read (Elt Ideal) X4) (diagTile i) h r ⟨l.1, by omega⟩) (scoreM (i 1).val (arg9.view.read (Elt Ideal) (arg9.view.writes (Elt Ideal) arg9.view.junk (bodyEven.sl.H9_4 (F := Ideal) arg3 X3))) (arg4.view.read (Elt Ideal) X4) (diagTile i) h r ⟨128 + l.1, by omega⟩) := by
    intro h r l
    fin_cases h
    · exact (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_neg (by decide)).trans ((slab3 arg10.view _ 0 rfl _ _ _ _ r l).trans ((if_pos rfl).trans ((first_max (bodyEven.sl.v87 (F := Ideal) i arg3 arg4 arg9 X3 X4) r l).trans (congrArg₂ (fun a b : EReal => max a b) (even_diagonal0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (even_diagonal0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))))))
    · exact (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_pos rfl).trans ((first_max (bodyEven.sl.v103 (F := Ideal) i arg3 arg4 arg9 X3 X4) r l).trans (congrArg₂ (fun a b : EReal => max a b) (even_diagonal1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (even_diagonal1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))))
    · exact (slab3 arg10.view _ 3 rfl _ _ _ _ r l).trans ((if_neg (by decide)).trans ((slab3 arg10.view _ 2 rfl _ _ _ _ r l).trans ((if_pos rfl).trans ((first_max (bodyEven.sl.v119 (F := Ideal) i arg3 arg4 arg9 X3 X4) r l).trans (congrArg₂ (fun a b : EReal => max a b) (even_diagonal2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (even_diagonal2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))
    · exact (slab3 arg10.view _ 3 rfl _ _ _ _ r l).trans ((if_pos rfl).trans ((first_max (bodyEven.sl.v135 (F := Ideal) i arg3 arg4 arg9 X3 X4) r l).trans (congrArg₂ (fun a b : EReal => max a b) (even_diagonal3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (even_diagonal3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))
  exact fun h r l => ⟨fun e => two_ne_top (hd h r _) (hd h r _) ((key h r l).symm.trans e), fun e => h0 h r (le_bot_iff.mp ((le_max_left _ _).trans_eq ((key h r 0).symm.trans e)))⟩

theorem even_loop_sound  (hF : ∀ j h r cc, Cert.Proof.Fin' (scoreOf (arg9.view.read (Elt Ideal) (arg9.view.writes (Elt Ideal) arg9.view.junk (bodyEven.sl.H9_4 (F := Ideal) arg3 X3))) (arg4.view.read (Elt Ideal) X4) j h r cc)) : Sound (arg10.view.read (Elt Ideal) (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips)) :=
  maxima_sound 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 _ (fun j h r cc e => by obtain ⟨x, hx⟩ := hF j h r cc; exact EReal.coe_ne_top x (hx.symm.trans e)) (even_sound 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 hF) _ le_rfl

/-- The maxima the weights are taken over: one real number per row. -/
theorem even_maxima  (hF : ∀ j h r cc, Cert.Proof.Fin' (scoreOf (arg9.view.read (Elt Ideal) (arg9.view.writes (Elt Ideal) arg9.view.junk (bodyEven.sl.H9_4 (F := Ideal) arg3 X3))) (arg4.view.read (Elt Ideal) X4) j h r cc)) : ∃ m : Fin 4 → Fin 512 → ℝ, ∀ h r l, ((arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (ix3 h r l) : EReal) = (m h r : EReal) := by
  have hs := even_loop_sound 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 hF
  have key : ∀ h r, ∃ x : ℝ, ∀ l, ((arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (ix3 h r l) : EReal) = (x : EReal) := by
    intro h r
    fin_cases h
    · obtain ⟨x, hx⟩ := spread_real (arg10.view.readAt (Elt Ideal) (Rect.unit (s := S4x512x128) ![0, 0, 0] S1x512x128.size inb_S4x512x128_S1x512x128_0_0_0).toLoadRect (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips)) r (fun l e => (hs 0 r l).1 ((load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips) 0 rfl _ 0 r l).symm.trans e)) (fun e => (hs 0 r 0).2 ((load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips) 0 rfl _ 0 r 0).symm.trans e))
      exact ⟨x, fun l => (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_neg (by decide)).trans ((slab3 arg10.view _ 0 rfl _ _ _ _ r l).trans ((if_pos rfl).trans (hx l))))))))⟩
    · obtain ⟨x, hx⟩ := spread_real (arg10.view.readAt (Elt Ideal) (Rect.unit (s := S4x512x128) ![1, 0, 0] S1x512x128.size inb_S4x512x128_S1x512x128_1_0_0).toLoadRect (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips)) r (fun l e => (hs 1 r l).1 ((load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips) 1 rfl _ 0 r l).symm.trans e)) (fun e => (hs 1 r 0).2 ((load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips) 1 rfl _ 0 r 0).symm.trans e))
      exact ⟨x, fun l => (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_pos rfl).trans (hx l))))))⟩
    · obtain ⟨x, hx⟩ := spread_real (arg10.view.readAt (Elt Ideal) (Rect.unit (s := S4x512x128) ![2, 0, 0] S1x512x128.size inb_S4x512x128_S1x512x128_2_0_0).toLoadRect (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips)) r (fun l e => (hs 2 r l).1 ((load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips) 2 rfl _ 0 r l).symm.trans e)) (fun e => (hs 2 r 0).2 ((load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips) 2 rfl _ 0 r 0).symm.trans e))
      exact ⟨x, fun l => (slab3 arg10.view _ 3 rfl _ _ _ _ r l).trans ((if_neg (by decide)).trans ((slab3 arg10.view _ 2 rfl _ _ _ _ r l).trans ((if_pos rfl).trans (hx l))))⟩
    · obtain ⟨x, hx⟩ := spread_real (arg10.view.readAt (Elt Ideal) (Rect.unit (s := S4x512x128) ![3, 0, 0] S1x512x128.size inb_S4x512x128_S1x512x128_3_0_0).toLoadRect (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips)) r (fun l e => (hs 3 r l).1 ((load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips) 3 rfl _ 0 r l).symm.trans e)) (fun e => (hs 3 r 0).2 ((load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg10.view.writes (Elt Ideal) arg10.view.junk (bodyEven.sl.H10_4 (F := Ideal) i arg3 arg4 arg9 X3 X4)) (k0_t1_loop i).trips) 3 rfl _ 0 r 0).symm.trans e))
      exact ⟨x, fun l => (slab3 arg10.view _ 3 rfl _ _ _ _ r l).trans ((if_pos rfl).trans (hx l))⟩
  choose m hm using key
  exact ⟨m, hm⟩

theorem even_first_sums  (m : Fin 4 → Fin 512 → ℝ) (hM : ∀ h r l, ((arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (ix3 h r l) : EReal) = (m h r : EReal)) (h : Fin 4) (r : Fin 512) (l : Fin 128) :
    (arg11.view.read (Elt Ideal) (arg11.view.writes (Elt Ideal) arg11.view.junk (bodyEven.sl.H11_4 (F := Ideal) 𝒱 c bd i arg2 harg2 arg3 harg3 arg4 harg4 arg5 harg5 arg6 harg6 arg7 harg7 arg8 harg8 arg9 harg9 arg10 harg10 arg11 harg11 arg12 harg12 arg13 harg13 X3 X4 g13))) (ix3 h r l) = laneM (i 1).val (arg9.view.read (Elt Ideal) (arg9.view.writes (Elt Ideal) arg9.view.junk (bodyEven.sl.H9_4 (F := Ideal) arg3 X3))) (arg4.view.read (Elt Ideal) X4) m h r l (diagTile i) := by
  fin_cases h
  · exact (slab3 arg11.view _ 3 rfl _ _ _ _ r l).trans ((if_neg (by decide)).trans ((slab3 arg11.view _ 2 rfl _ _ _ _ r l).trans ((if_neg (by decide)).trans ((slab3 arg11.view _ 1 rfl _ _ _ _ r l).trans ((if_neg (by decide)).trans ((slab3 arg11.view _ 0 rfl _ _ _ _ r l).trans ((if_pos rfl).trans ((first_sum (bodyEven.sl.v236 (F := Ideal) 𝒱 c bd i arg2 harg2 arg3 harg3 arg4 harg4 arg5 harg5 arg6 harg6 arg7 harg7 arg8 harg8 arg9 harg9 arg10 harg10 arg11 harg11 arg12 harg12 arg13 harg13 X3 X4 g13) r l).trans (congrArg₂ (fun a b : EReal => a + b) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 0 rfl (off5_eq i) _ _ r _).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 0 r _)) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 0 rfl (off5_eq i) _ _ r _).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 0 r _)))))))))))
  · exact (slab3 arg11.view _ 3 rfl _ _ _ _ r l).trans ((if_neg (by decide)).trans ((slab3 arg11.view _ 2 rfl _ _ _ _ r l).trans ((if_neg (by decide)).trans ((slab3 arg11.view _ 1 rfl _ _ _ _ r l).trans ((if_pos rfl).trans ((first_sum (bodyEven.sl.v252 (F := Ideal) 𝒱 c bd i arg2 harg2 arg3 harg3 arg4 harg4 arg5 harg5 arg6 harg6 arg7 harg7 arg8 harg8 arg9 harg9 arg10 harg10 arg11 harg11 arg12 harg12 arg13 harg13 X3 X4 g13) r l).trans (congrArg₂ (fun a b : EReal => a + b) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 1 rfl (off6_eq i) _ _ r _).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 1 r _)) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 1 rfl (off6_eq i) _ _ r _).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 1 r _)))))))))
  · exact (slab3 arg11.view _ 3 rfl _ _ _ _ r l).trans ((if_neg (by decide)).trans ((slab3 arg11.view _ 2 rfl _ _ _ _ r l).trans ((if_pos rfl).trans ((first_sum (bodyEven.sl.v268 (F := Ideal) 𝒱 c bd i arg2 harg2 arg3 harg3 arg4 harg4 arg5 harg5 arg6 harg6 arg7 harg7 arg8 harg8 arg9 harg9 arg10 harg10 arg11 harg11 arg12 harg12 arg13 harg13 X3 X4 g13) r l).trans (congrArg₂ (fun a b : EReal => a + b) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 2 rfl (off7_eq i) _ _ r _).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 2 r _)) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 2 rfl (off7_eq i) _ _ r _).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 2 r _)))))))
  · exact (slab3 arg11.view _ 3 rfl _ _ _ _ r l).trans ((if_pos rfl).trans ((first_sum (bodyEven.sl.v284 (F := Ideal) 𝒱 c bd i arg2 harg2 arg3 harg3 arg4 harg4 arg5 harg5 arg6 harg6 arg7 harg7 arg8 harg8 arg9 harg9 arg10 harg10 arg11 harg11 arg12 harg12 arg13 harg13 X3 X4 g13) r l).trans (congrArg₂ (fun a b : EReal => a + b) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 3 rfl (off8_eq i) _ _ r _).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 3 r _)) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 3 rfl (off8_eq i) _ _ r _).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 3 r _)))))

theorem even_first_weighted  (m : Fin 4 → Fin 512 → ℝ) (hM : ∀ h r l, ((arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (ix3 h r l) : EReal) = (m h r : EReal)) (h : Fin 4) (r : Fin 512) (l : Fin 128) :
    (arg12.view.read (Elt Ideal) (arg12.view.writes (Elt Ideal) arg12.view.junk (bodyEven.sl.H12_4 (F := Ideal) 𝒱 c bd i arg2 harg2 arg3 harg3 arg4 harg4 arg5 harg5 arg6 harg6 arg7 harg7 arg8 harg8 arg9 harg9 arg10 harg10 arg11 harg11 arg12 harg12 arg13 harg13 X3 X4 X5 g13))) (ix3 h r l) = tileM (i 1).val (arg9.view.read (Elt Ideal) (arg9.view.writes (Elt Ideal) arg9.view.junk (bodyEven.sl.H9_4 (F := Ideal) arg3 X3))) (arg4.view.read (Elt Ideal) X4) (arg5.view.read (Elt Ideal) X5) m h r l (diagTile i) := by
  have hi : (i 1).val < 8 := (i 1).isLt
  fin_cases h
  · exact (slab3 arg12.view _ 3 rfl _ _ _ _ r l).trans ((if_neg (by decide)).trans ((slab3 arg12.view _ 2 rfl _ _ _ _ r l).trans ((if_neg (by decide)).trans ((slab3 arg12.view _ 1 rfl _ _ _ _ r l).trans ((if_neg (by decide)).trans ((slab3 arg12.view _ 0 rfl _ _ _ _ r l).trans ((if_pos rfl).trans ((first_acc (bodyEven.sl.v236 (F := Ideal) 𝒱 c bd i arg2 harg2 arg3 harg3 arg4 harg4 arg5 harg5 arg6 harg6 arg7 harg7 arg8 harg8 arg9 harg9 arg10 harg10 arg11 harg11 arg12 harg12 arg13 harg13 X3 X4 g13) _ r l).trans (Finset.sum_congr rfl fun x _ => congrArg₂ (fun a b : EReal => a * b) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 0 rfl (off5_eq i) _ _ r x).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 0 r x)) (load2 (Val := Elt Ideal) arg5.view X5 (256 * (i 1).val) 0 (off33_eq i) _ (by omega) (by omega) x l))))))))))
  · exact (slab3 arg12.view _ 3 rfl _ _ _ _ r l).trans ((if_neg (by decide)).trans ((slab3 arg12.view _ 2 rfl _ _ _ _ r l).trans ((if_neg (by decide)).trans ((slab3 arg12.view _ 1 rfl _ _ _ _ r l).trans ((if_pos rfl).trans ((first_acc (bodyEven.sl.v252 (F := Ideal) 𝒱 c bd i arg2 harg2 arg3 harg3 arg4 harg4 arg5 harg5 arg6 harg6 arg7 harg7 arg8 harg8 arg9 harg9 arg10 harg10 arg11 harg11 arg12 harg12 arg13 harg13 X3 X4 g13) _ r l).trans (Finset.sum_congr rfl fun x _ => congrArg₂ (fun a b : EReal => a * b) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 1 rfl (off6_eq i) _ _ r x).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 1 r x)) (load2 (Val := Elt Ideal) arg5.view X5 (256 * (i 1).val) 128 (off34_eq i) _ (by omega) (by omega) x l))))))))
  · exact (slab3 arg12.view _ 3 rfl _ _ _ _ r l).trans ((if_neg (by decide)).trans ((slab3 arg12.view _ 2 rfl _ _ _ _ r l).trans ((if_pos rfl).trans ((first_acc (bodyEven.sl.v268 (F := Ideal) 𝒱 c bd i arg2 harg2 arg3 harg3 arg4 harg4 arg5 harg5 arg6 harg6 arg7 harg7 arg8 harg8 arg9 harg9 arg10 harg10 arg11 harg11 arg12 harg12 arg13 harg13 X3 X4 g13) _ r l).trans (Finset.sum_congr rfl fun x _ => congrArg₂ (fun a b : EReal => a * b) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 2 rfl (off7_eq i) _ _ r x).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 2 r x)) (load2 (Val := Elt Ideal) arg5.view X5 (256 * (i 1).val) 256 (off35_eq i) _ (by omega) (by omega) x l))))))
  · exact (slab3 arg12.view _ 3 rfl _ _ _ _ r l).trans ((if_pos rfl).trans ((first_acc (bodyEven.sl.v284 (F := Ideal) 𝒱 c bd i arg2 harg2 arg3 harg3 arg4 harg4 arg5 harg5 arg6 harg6 arg7 harg7 arg8 harg8 arg9 harg9 arg10 harg10 arg11 harg11 arg12 harg12 arg13 harg13 X3 X4 g13) _ r l).trans (Finset.sum_congr rfl fun x _ => congrArg₂ (fun a b : EReal => a * b) ((weight_load arg10 arg13 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (fun h r l => (hM h r l).trans (hM h r 0).symm) (diagTile i) 3 rfl (off8_eq i) _ _ r x).trans (weight_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 3 r x)) (load2 (Val := Elt Ideal) arg5.view X5 (256 * (i 1).val) 384 (off36_eq i) _ (by omega) (by omega) x l))))

theorem even_loop_sums  (m : Fin 4 → Fin 512 → ℝ) (hM : ∀ h r l, ((arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (ix3 h r l) : EReal) = (m h r : EReal)) (h : Fin 4) (r : Fin 512) (l : Fin 128) :
    ((arg11.view.read (Elt Ideal) (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg11.view.writes (Elt Ideal) arg11.view.junk (bodyEven.sl.H11_4 (F := Ideal) 𝒱 c bd i arg2 harg2 arg3 harg3 arg4 harg4 arg5 harg5 arg6 harg6 arg7 harg7 arg8 harg8 arg9 harg9 arg10 harg10 arg11 harg11 arg12 harg12 arg13 harg13 X3 X4 g13)) (k0_t3_loop i).trips)) (ix3 h r l) : EReal) = laneM (i 1).val (arg9.view.read (Elt Ideal) (arg9.view.writes (Elt Ideal) arg9.view.junk (bodyEven.sl.H9_4 (F := Ideal) arg3 X3))) (arg4.view.read (Elt Ideal) X4) m h r l (diagTile i) + ∑ j : Fin 8, if j.1 < 2 * ((i 1).val / 2) then laneM (i 1).val (arg9.view.read (Elt Ideal) (arg9.view.writes (Elt Ideal) arg9.view.junk (bodyEven.sl.H9_4 (F := Ideal) arg3 X3))) (arg4.view.read (Elt Ideal) X4) m h r l j else 0 := by
  have htr := trips3 i
  have hT : ∀ j : Fin 8, j.1 ≤ (i 1).val → laneSum (arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (arg13.view.read (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips)) h r l j = laneM (i 1).val (arg9.view.read (Elt Ideal) (arg9.view.writes (Elt Ideal) arg9.view.junk (bodyEven.sl.H9_4 (F := Ideal) arg3 X3))) (arg4.view.read (Elt Ideal) X4) m h r l j := fun j hj => lane_real hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) h r l j hj
  refine (sums_read 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) _ (fun h r l => (hM h r l).trans (hM h r 0).symm) h r l _ le_rfl).trans ((congrArg₂ (fun a b : EReal => a + b) (even_first_sums 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM h r l) (sum_real (2 * (k0_t3_loop i).trips) (i 1).val (by omega) hT)).trans ?_)
  rw [trips3 i]

theorem even_loop_weighted  (m : Fin 4 → Fin 512 → ℝ) (hM : ∀ h r l, ((arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (ix3 h r l) : EReal) = (m h r : EReal)) (h : Fin 4) (r : Fin 512) (l : Fin 128) :
    ((arg12.view.read (Elt Ideal) (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg12.view.writes (Elt Ideal) arg12.view.junk (bodyEven.sl.H12_4 (F := Ideal) 𝒱 c bd i arg2 harg2 arg3 harg3 arg4 harg4 arg5 harg5 arg6 harg6 arg7 harg7 arg8 harg8 arg9 harg9 arg10 harg10 arg11 harg11 arg12 harg12 arg13 harg13 X3 X4 X5 g13)) (k0_t3_loop i).trips)) (ix3 h r l) : EReal) = tileM (i 1).val (arg9.view.read (Elt Ideal) (arg9.view.writes (Elt Ideal) arg9.view.junk (bodyEven.sl.H9_4 (F := Ideal) arg3 X3))) (arg4.view.read (Elt Ideal) X4) (arg5.view.read (Elt Ideal) X5) m h r l (diagTile i) + ∑ j : Fin 8, if j.1 < 2 * ((i 1).val / 2) then tileM (i 1).val (arg9.view.read (Elt Ideal) (arg9.view.writes (Elt Ideal) arg9.view.junk (bodyEven.sl.H9_4 (F := Ideal) arg3 X3))) (arg4.view.read (Elt Ideal) X4) (arg5.view.read (Elt Ideal) X5) m h r l j else 0 := by
  have htr := trips3 i
  have hT : ∀ j : Fin 8, j.1 ≤ (i 1).val → tileSum (arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (arg13.view.read (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips)) (arg5.view.read (Elt Ideal) X5) h r l j = tileM (i 1).val (arg9.view.read (Elt Ideal) (arg9.view.writes (Elt Ideal) arg9.view.junk (bodyEven.sl.H9_4 (F := Ideal) arg3 X3))) (arg4.view.read (Elt Ideal) X4) (arg5.view.read (Elt Ideal) X5) m h r l j := fun j hj => tile_real (arg5.view.read (Elt Ideal) X5) hM (even_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) h r l j hj
  refine (weighted_read 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) _ (fun h r l => (hM h r l).trans (hM h r 0).symm) h r l _ le_rfl).trans ((congrArg₂ (fun a b : EReal => a + b) (even_first_weighted 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM h r l) (sum_real (2 * (k0_t3_loop i).trips) (i 1).val (by omega) hT)).trans ?_)
  rw [trips3 i]

theorem even_sums  (m : Fin 4 → Fin 512 → ℝ) (hM : ∀ h r l, ((arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (ix3 h r l) : EReal) = (m h r : EReal)) (h : Fin 4) (r : Fin 512) (l : Fin 128) :
    ((arg11.view.read (Elt Ideal) (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg11.view.writes (Elt Ideal) arg11.view.junk (bodyEven.sl.H11_4 (F := Ideal) 𝒱 c bd i arg2 harg2 arg3 harg3 arg4 harg4 arg5 harg5 arg6 harg6 arg7 harg7 arg8 harg8 arg9 harg9 arg10 harg10 arg11 harg11 arg12 harg12 arg13 harg13 X3 X4 g13)) (k0_t3_loop i).trips)) (ix3 h r l) : EReal) = denomM (i 1).val (arg9.view.read (Elt Ideal) (arg9.view.writes (Elt Ideal) arg9.view.junk (bodyEven.sl.H9_4 (F := Ideal) arg3 X3))) (arg4.view.read (Elt Ideal) X4) m h r l := by
  have hpar := even_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  refine (even_loop_sums 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM h r l).trans ?_
  rw [show 2 * ((i 1).val / 2) = ((diagTile i)).1 from (by show 2 * ((i 1).val / 2) = (i 1).val; omega)]
  exact up_to (laneM (i 1).val (arg9.view.read (Elt Ideal) (arg9.view.writes (Elt Ideal) arg9.view.junk (bodyEven.sl.H9_4 (F := Ideal) arg3 X3))) (arg4.view.read (Elt Ideal) X4) m h r l) (diagTile i)

theorem even_weighted  (m : Fin 4 → Fin 512 → ℝ) (hM : ∀ h r l, ((arg10.view.read (Elt Ideal) (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4))) (ix3 h r l) : EReal) = (m h r : EReal)) (h : Fin 4) (r : Fin 512) (l : Fin 128) :
    ((arg12.view.read (Elt Ideal) (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg12.view.writes (Elt Ideal) arg12.view.junk (bodyEven.sl.H12_4 (F := Ideal) 𝒱 c bd i arg2 harg2 arg3 harg3 arg4 harg4 arg5 harg5 arg6 harg6 arg7 harg7 arg8 harg8 arg9 harg9 arg10 harg10 arg11 harg11 arg12 harg12 arg13 harg13 X3 X4 X5 g13)) (k0_t3_loop i).trips)) (ix3 h r l) : EReal) = numerM (i 1).val (arg9.view.read (Elt Ideal) (arg9.view.writes (Elt Ideal) arg9.view.junk (bodyEven.sl.H9_4 (F := Ideal) arg3 X3))) (arg4.view.read (Elt Ideal) X4) (arg5.view.read (Elt Ideal) X5) m h r l := by
  have hpar := even_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  refine (even_loop_weighted 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM h r l).trans ?_
  rw [show 2 * ((i 1).val / 2) = ((diagTile i)).1 from (by show 2 * ((i 1).val / 2) = (i 1).val; omega)]
  exact up_to (tileM (i 1).val (arg9.view.read (Elt Ideal) (arg9.view.writes (Elt Ideal) arg9.view.junk (bodyEven.sl.H9_4 (F := Ideal) arg3 X3))) (arg4.view.read (Elt Ideal) X4) (arg5.view.read (Elt Ideal) X5) m h r l) (diagTile i)

/-- The output block at an index. -/
theorem even_out  (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (f8 : BufTy.Contents (Elt Ideal) arg8.view.ty)
    (hF : ∀ j h r cc, Cert.Proof.Fin' (scoreOf (arg9.view.read (Elt Ideal) (arg9.view.writes (Elt Ideal) arg9.view.junk (bodyEven.sl.H9_4 (F := Ideal) arg3 X3))) (arg4.view.read (Elt Ideal) X4) j h r cc)) : ∃ m : Fin 4 → Fin 512 → ℝ, ∀ (r : Fin 256) (h : Fin 4) (l : Fin 128),
    arg8.view.read (Elt Ideal) (arg8.view.writes (Elt Ideal) f8 (bodyEven (F := Ideal) 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g9 g10 g11 g12 g13).1) (ix2 r (⟨128 * h.1 + l.1, by omega⟩ : Fin 512))
      = gated (differM (i 1).val (arg9.view.read (Elt Ideal) (arg9.view.writes (Elt Ideal) arg9.view.junk (bodyEven.sl.H9_4 (F := Ideal) arg3 X3))) (arg4.view.read (Elt Ideal) X4) (arg5.view.read (Elt Ideal) X5) m (lamOf (arg2.view.read (Elt Ideal) X2)) h r) ((arg7.view.read (Elt Ideal) X7) (ix2 (0 : Fin 1) l)) ((arg6.view.read (Elt Ideal) X6) (ix2 r (⟨128 * h.1 + l.1, by omega⟩ : Fin 512))) l := by
  obtain ⟨m, hM⟩ := even_maxima 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 hF
  refine ⟨m, fun r h l => ?_⟩
  unfold bodyEven
  dsimp only
  have hL := even_sums 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM
  have hA := even_weighted 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM
  have e2 : (arg2.view.readAt (Elt Ideal) (Rect.unit (s := S4x64) ![0, 0] S4x64.size inb_S4x64_S4x64_0_0).toLoadRect X2 : Vec Ideal S4x64 .f32) = (arg2.view.read (Elt Ideal) X2) := whole_load arg2.view X2 _
  have e7 : (arg7.view.readAt (Elt Ideal) (Rect.unit (s := S1x128) ![0, 0] S1x128.size inb_S1x128_S1x128_0_0).toLoadRect X7 : Vec Ideal S1x128 .f32) = (arg7.view.read (Elt Ideal) X7) := whole_load arg7.view X7 _
  have key : ∀ (h : Fin 4) {o : Fin 3 → ℕ} (eo : o = ![h.1, 0, 0]) (inb : ∀ a, o a + S1x512x128.size a ≤ S4x512x128.size a), differ (arg12.view.readAt (Elt Ideal) (Rect.unit (s := S4x512x128) o S1x512x128.size inb).toLoadRect (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg12.view.writes (Elt Ideal) arg12.view.junk (bodyEven.sl.H12_4 (F := Ideal) 𝒱 c bd i arg2 harg2 arg3 harg3 arg4 harg4 arg5 harg5 arg6 harg6 arg7 harg7 arg8 harg8 arg9 harg9 arg10 harg10 arg11 harg11 arg12 harg12 arg13 harg13 X3 X4 X5 g13)) (k0_t3_loop i).trips)) (arg11.view.readAt (Elt Ideal) (Rect.unit (s := S4x512x128) o S1x512x128.size inb).toLoadRect (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg11.view.writes (Elt Ideal) arg11.view.junk (bodyEven.sl.H11_4 (F := Ideal) 𝒱 c bd i arg2 harg2 arg3 harg3 arg4 harg4 arg5 harg5 arg6 harg6 arg7 harg7 arg8 harg8 arg9 harg9 arg10 harg10 arg11 harg11 arg12 harg12 arg13 harg13 X3 X4 g13)) (k0_t3_loop i).trips)) (lamOf (arg2.view.read (Elt Ideal) X2)) r = differM (i 1).val (arg9.view.read (Elt Ideal) (arg9.view.writes (Elt Ideal) arg9.view.junk (bodyEven.sl.H9_4 (F := Ideal) arg3 X3))) (arg4.view.read (Elt Ideal) X4) (arg5.view.read (Elt Ideal) X5) m (lamOf (arg2.view.read (Elt Ideal) X2)) h r := by
    intro h o eo inb
    funext d
    unfold differ differM
    have a : ∀ r d, (arg12.view.readAt (Elt Ideal) (Rect.unit (s := S4x512x128) o S1x512x128.size inb).toLoadRect (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg12.view.writes (Elt Ideal) arg12.view.junk (bodyEven.sl.H12_4 (F := Ideal) 𝒱 c bd i arg2 harg2 arg3 harg3 arg4 harg4 arg5 harg5 arg6 harg6 arg7 harg7 arg8 harg8 arg9 harg9 arg10 harg10 arg11 harg11 arg12 harg12 arg13 harg13 X3 X4 X5 g13)) (k0_t3_loop i).trips) (ix3 (0 : Fin 1) r d) : EReal) = numerM (i 1).val (arg9.view.read (Elt Ideal) (arg9.view.writes (Elt Ideal) arg9.view.junk (bodyEven.sl.H9_4 (F := Ideal) arg3 X3))) (arg4.view.read (Elt Ideal) X4) (arg5.view.read (Elt Ideal) X5) m h r d := fun r d => (load3 arg12.view _ h eo inb 0 r d).trans (hA h r d)
    have b : ∀ r, (∑ x : Fin 128, (arg11.view.readAt (Elt Ideal) (Rect.unit (s := S4x512x128) o S1x512x128.size inb).toLoadRect (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg11.view.writes (Elt Ideal) arg11.view.junk (bodyEven.sl.H11_4 (F := Ideal) 𝒱 c bd i arg2 harg2 arg3 harg3 arg4 harg4 arg5 harg5 arg6 harg6 arg7 harg7 arg8 harg8 arg9 harg9 arg10 harg10 arg11 harg11 arg12 harg12 arg13 harg13 X3 X4 g13)) (k0_t3_loop i).trips) (ix3 (0 : Fin 1) r x) : EReal)) = ∑ x, denomM (i 1).val (arg9.view.read (Elt Ideal) (arg9.view.writes (Elt Ideal) arg9.view.junk (bodyEven.sl.H9_4 (F := Ideal) arg3 X3))) (arg4.view.read (Elt Ideal) X4) m h r x := fun r => Finset.sum_congr rfl fun x _ => (load3 arg11.view _ h eo inb 0 r x).trans (hL h r x)
    rw [a, a, b, b]
  fin_cases h
  · refine (slab2 arg8.view _ 3 rfl _ _ _ r _ l).trans ((if_neg (by decide)).trans ((slab2 arg8.view _ 2 rfl _ _ _ r _ l).trans ((if_neg (by decide)).trans ((slab2 arg8.view _ 1 rfl _ _ _ r _ l).trans ((if_neg (by decide)).trans ((slab2 arg8.view _ 0 rfl _ _ _ r _ l).trans ((if_pos rfl).trans ((headOut_at (arg12.view.readAt (Elt Ideal) (Rect.unit (s := S4x512x128) ![0, 0, 0] S1x512x128.size inb_S4x512x128_S1x512x128_0_0_0).toLoadRect (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg12.view.writes (Elt Ideal) arg12.view.junk (bodyEven.sl.H12_4 (F := Ideal) 𝒱 c bd i arg2 harg2 arg3 harg3 arg4 harg4 arg5 harg5 arg6 harg6 arg7 harg7 arg8 harg8 arg9 harg9 arg10 harg10 arg11 harg11 arg12 harg12 arg13 harg13 X3 X4 X5 g13)) (k0_t3_loop i).trips)) (arg11.view.readAt (Elt Ideal) (Rect.unit (s := S4x512x128) ![0, 0, 0] S1x512x128.size inb_S4x512x128_S1x512x128_0_0_0).toLoadRect (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg11.view.writes (Elt Ideal) arg11.view.junk (bodyEven.sl.H11_4 (F := Ideal) 𝒱 c bd i arg2 harg2 arg3 harg3 arg4 harg4 arg5 harg5 arg6 harg6 arg7 harg7 arg8 harg8 arg9 harg9 arg10 harg10 arg11 harg11 arg12 harg12 arg13 harg13 X3 X4 g13)) (k0_t3_loop i).trips)) (arg2.view.readAt (Elt Ideal) (Rect.unit (s := S4x64) ![0, 0] S4x64.size inb_S4x64_S4x64_0_0).toLoadRect X2) (arg6.view.readAt (Elt Ideal) (Rect.unit (s := S256x512) ![0, 0] S256x128.size inb_S256x512_S256x128_0_0).toLoadRect X6) (arg7.view.readAt (Elt Ideal) (Rect.unit (s := S1x128) ![0, 0] S1x128.size inb_S1x128_S1x128_0_0).toLoadRect X7) r l).trans ?_))))))))
    rw [e2, e7]
    exact congrArg₂ (fun o z => gated o _ z l) (key 0 rfl _) (load2 (Val := Elt Ideal) arg6.view X6 0 0 rfl _ (by omega) (by omega) r l |>.trans (congrArg (fun y : Fin 256 => (arg6.view.read (Elt Ideal) X6) (ix2 y (⟨0 + l.1, by omega⟩ : Fin 512))) (Fin.ext (Nat.zero_add r.1))))
  · refine (slab2 arg8.view _ 3 rfl _ _ _ r _ l).trans ((if_neg (by decide)).trans ((slab2 arg8.view _ 2 rfl _ _ _ r _ l).trans ((if_neg (by decide)).trans ((slab2 arg8.view _ 1 rfl _ _ _ r _ l).trans ((if_pos rfl).trans ((headOut_at (arg12.view.readAt (Elt Ideal) (Rect.unit (s := S4x512x128) ![1, 0, 0] S1x512x128.size inb_S4x512x128_S1x512x128_1_0_0).toLoadRect (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg12.view.writes (Elt Ideal) arg12.view.junk (bodyEven.sl.H12_4 (F := Ideal) 𝒱 c bd i arg2 harg2 arg3 harg3 arg4 harg4 arg5 harg5 arg6 harg6 arg7 harg7 arg8 harg8 arg9 harg9 arg10 harg10 arg11 harg11 arg12 harg12 arg13 harg13 X3 X4 X5 g13)) (k0_t3_loop i).trips)) (arg11.view.readAt (Elt Ideal) (Rect.unit (s := S4x512x128) ![1, 0, 0] S1x512x128.size inb_S4x512x128_S1x512x128_1_0_0).toLoadRect (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg11.view.writes (Elt Ideal) arg11.view.junk (bodyEven.sl.H11_4 (F := Ideal) 𝒱 c bd i arg2 harg2 arg3 harg3 arg4 harg4 arg5 harg5 arg6 harg6 arg7 harg7 arg8 harg8 arg9 harg9 arg10 harg10 arg11 harg11 arg12 harg12 arg13 harg13 X3 X4 g13)) (k0_t3_loop i).trips)) (arg2.view.readAt (Elt Ideal) (Rect.unit (s := S4x64) ![0, 0] S4x64.size inb_S4x64_S4x64_0_0).toLoadRect X2) (arg6.view.readAt (Elt Ideal) (Rect.unit (s := S256x512) ![0, 128] S256x128.size inb_S256x512_S256x128_0_128).toLoadRect X6) (arg7.view.readAt (Elt Ideal) (Rect.unit (s := S1x128) ![0, 0] S1x128.size inb_S1x128_S1x128_0_0).toLoadRect X7) r l).trans ?_))))))
    rw [e2, e7]
    exact congrArg₂ (fun o z => gated o _ z l) (key 1 rfl _) (load2 (Val := Elt Ideal) arg6.view X6 0 128 rfl _ (by omega) (by omega) r l |>.trans (congrArg (fun y : Fin 256 => (arg6.view.read (Elt Ideal) X6) (ix2 y (⟨128 + l.1, by omega⟩ : Fin 512))) (Fin.ext (Nat.zero_add r.1))))
  · refine (slab2 arg8.view _ 3 rfl _ _ _ r _ l).trans ((if_neg (by decide)).trans ((slab2 arg8.view _ 2 rfl _ _ _ r _ l).trans ((if_pos rfl).trans ((headOut_at (arg12.view.readAt (Elt Ideal) (Rect.unit (s := S4x512x128) ![2, 0, 0] S1x512x128.size inb_S4x512x128_S1x512x128_2_0_0).toLoadRect (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg12.view.writes (Elt Ideal) arg12.view.junk (bodyEven.sl.H12_4 (F := Ideal) 𝒱 c bd i arg2 harg2 arg3 harg3 arg4 harg4 arg5 harg5 arg6 harg6 arg7 harg7 arg8 harg8 arg9 harg9 arg10 harg10 arg11 harg11 arg12 harg12 arg13 harg13 X3 X4 X5 g13)) (k0_t3_loop i).trips)) (arg11.view.readAt (Elt Ideal) (Rect.unit (s := S4x512x128) ![2, 0, 0] S1x512x128.size inb_S4x512x128_S1x512x128_2_0_0).toLoadRect (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg11.view.writes (Elt Ideal) arg11.view.junk (bodyEven.sl.H11_4 (F := Ideal) 𝒱 c bd i arg2 harg2 arg3 harg3 arg4 harg4 arg5 harg5 arg6 harg6 arg7 harg7 arg8 harg8 arg9 harg9 arg10 harg10 arg11 harg11 arg12 harg12 arg13 harg13 X3 X4 g13)) (k0_t3_loop i).trips)) (arg2.view.readAt (Elt Ideal) (Rect.unit (s := S4x64) ![0, 0] S4x64.size inb_S4x64_S4x64_0_0).toLoadRect X2) (arg6.view.readAt (Elt Ideal) (Rect.unit (s := S256x512) ![0, 256] S256x128.size inb_S256x512_S256x128_0_256).toLoadRect X6) (arg7.view.readAt (Elt Ideal) (Rect.unit (s := S1x128) ![0, 0] S1x128.size inb_S1x128_S1x128_0_0).toLoadRect X7) r l).trans ?_))))
    rw [e2, e7]
    exact congrArg₂ (fun o z => gated o _ z l) (key 2 rfl _) (load2 (Val := Elt Ideal) arg6.view X6 0 256 rfl _ (by omega) (by omega) r l |>.trans (congrArg (fun y : Fin 256 => (arg6.view.read (Elt Ideal) X6) (ix2 y (⟨256 + l.1, by omega⟩ : Fin 512))) (Fin.ext (Nat.zero_add r.1))))
  · refine (slab2 arg8.view _ 3 rfl _ _ _ r _ l).trans ((if_pos rfl).trans ((headOut_at (arg12.view.readAt (Elt Ideal) (Rect.unit (s := S4x512x128) ![3, 0, 0] S1x512x128.size inb_S4x512x128_S1x512x128_3_0_0).toLoadRect (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg12.view.writes (Elt Ideal) arg12.view.junk (bodyEven.sl.H12_4 (F := Ideal) 𝒱 c bd i arg2 harg2 arg3 harg3 arg4 harg4 arg5 harg5 arg6 harg6 arg7 harg7 arg8 harg8 arg9 harg9 arg10 harg10 arg11 harg11 arg12 harg12 arg13 harg13 X3 X4 X5 g13)) (k0_t3_loop i).trips)) (arg11.view.readAt (Elt Ideal) (Rect.unit (s := S4x512x128) ![3, 0, 0] S1x512x128.size inb_S4x512x128_S1x512x128_3_0_0).toLoadRect (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyEven.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 X3 X4)) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyEven.sl.H9_4 (F := Ideal) arg3 X3)) X4 (arg13.view.writes (Elt Ideal) g13 (even_start i arg3 arg4 arg9 X3 X4)) (k0_t1_loop i).trips) (arg11.view.writes (Elt Ideal) arg11.view.junk (bodyEven.sl.H11_4 (F := Ideal) 𝒱 c bd i arg2 harg2 arg3 harg3 arg4 harg4 arg5 harg5 arg6 harg6 arg7 harg7 arg8 harg8 arg9 harg9 arg10 harg10 arg11 harg11 arg12 harg12 arg13 harg13 X3 X4 g13)) (k0_t3_loop i).trips)) (arg2.view.readAt (Elt Ideal) (Rect.unit (s := S4x64) ![0, 0] S4x64.size inb_S4x64_S4x64_0_0).toLoadRect X2) (arg6.view.readAt (Elt Ideal) (Rect.unit (s := S256x512) ![0, 384] S256x128.size inb_S256x512_S256x128_0_384).toLoadRect X6) (arg7.view.readAt (Elt Ideal) (Rect.unit (s := S1x128) ![0, 0] S1x128.size inb_S1x128_S1x128_0_0).toLoadRect X7) r l).trans ?_))
    rw [e2, e7]
    exact congrArg₂ (fun o z => gated o _ z l) (key 3 rfl _) (load2 (Val := Elt Ideal) arg6.view X6 0 384 rfl _ (by omega) (by omega) r l |>.trans (congrArg (fun y : Fin 256 => (arg6.view.read (Elt Ideal) X6) (ix2 y (⟨384 + l.1, by omega⟩ : Fin 512))) (Fin.ext (Nat.zero_add r.1))))

end

end Cert.KernelIdeal.Attn

end
-- ==== Proof.AttnOdd.lean ====
/-
  One grid point of the attention with one tile left over after the pairs, at an index of its output block.
-/
module

public import proofs.«01_k».proof.Proof.AttnSpec

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

open Cert.Proof (Fin')

section

variable (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole) (hc1 : k0_cond1 i = 1#1) (hc2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (g13 : BufTy.Contents (Elt Ideal) arg13.view.ty)

include 𝒱 c bd arg2 harg2 arg3 harg3 arg4 harg4 arg5 harg5 arg6 harg6 arg7 harg7 arg8 harg8 arg9 harg9 arg10 harg10 arg11 harg11 arg12 harg12 arg13 harg13 hc1 hc2 X2 X3 X4 X5 X6 X7 g13

/-- The stores of the diagonal tile's scores. -/
abbrev odd_start  : List (View.Piece (Elt Ideal) S8x4x512x256 .f32) :=
  [⟨(Rect.unit (s := S8x4x512x256) (k0_off8 i) S1x1x512x256.size (diag_inb i 3 (off8_eq i))), (bodyOdd.sl.v173 (F := Ideal) i arg3 arg4 arg9 X3 X4)⟩, ⟨(Rect.unit (s := S8x4x512x256) (k0_off7 i) S1x1x512x256.size (diag_inb i 2 (off7_eq i))), (bodyOdd.sl.v162 (F := Ideal) i arg3 arg4 arg9 X3 X4)⟩, ⟨(Rect.unit (s := S8x4x512x256) (k0_off6 i) S1x1x512x256.size (diag_inb i 1 (off6_eq i))), (bodyOdd.sl.v151 (F := Ideal) i arg3 arg4 arg9 X3 X4)⟩, ⟨(Rect.unit (s := S8x4x512x256) (k0_off5 i) S1x1x512x256.size (diag_inb i 0 (off5_eq i))), (bodyOdd.sl.v140 (F := Ideal) i arg3 arg4 arg9 X3 X4)⟩ ]

theorem odd_queries  (h : Fin 4) (r : Fin 512) (l : Fin 128) :
    (arg9.view.read (Elt Ideal) (arg9.view.writes (Elt Ideal) arg9.view.junk (bodyOdd.sl.H9_4 (F := Ideal) arg3 X3))) (ix3 h r l) = queryOf (fun r l => (arg3.view.read (Elt Ideal) X3) (ix2 r (⟨128 * h.1 + l.1, by omega⟩ : Fin 512))) r l := by
  fin_cases h
  · exact (slab3 arg9.view _ 3 rfl _ _ _ _ r l).trans ((if_neg (by decide)).trans ((slab3 arg9.view _ 2 rfl _ _ _ _ r l).trans ((if_neg (by decide)).trans ((slab3 arg9.view _ 1 rfl _ _ _ _ r l).trans ((if_neg (by decide)).trans ((slab3 arg9.view _ 0 rfl _ _ _ _ r l).trans ((if_pos rfl).trans ((queries118 _ r l).trans (queryOf_congr (fun r l => load2 (Val := Elt Ideal) arg3.view X3 0 0 rfl _ (by omega) (by omega) r l |>.trans (congrArg (fun y : Fin 256 => (arg3.view.read (Elt Ideal) X3) (ix2 y (⟨0 + l.1, by omega⟩ : Fin 512))) (Fin.ext (Nat.zero_add r.1)))) r l)))))))))
  · exact (slab3 arg9.view _ 3 rfl _ _ _ _ r l).trans ((if_neg (by decide)).trans ((slab3 arg9.view _ 2 rfl _ _ _ _ r l).trans ((if_neg (by decide)).trans ((slab3 arg9.view _ 1 rfl _ _ _ _ r l).trans ((if_pos rfl).trans ((queries119 _ r l).trans (queryOf_congr (fun r l => load2 (Val := Elt Ideal) arg3.view X3 0 128 rfl _ (by omega) (by omega) r l |>.trans (congrArg (fun y : Fin 256 => (arg3.view.read (Elt Ideal) X3) (ix2 y (⟨128 + l.1, by omega⟩ : Fin 512))) (Fin.ext (Nat.zero_add r.1)))) r l)))))))
  · exact (slab3 arg9.view _ 3 rfl _ _ _ _ r l).trans ((if_neg (by decide)).trans ((slab3 arg9.view _ 2 rfl _ _ _ _ r l).trans ((if_pos rfl).trans ((queries120 _ r l).trans (queryOf_congr (fun r l => load2 (Val := Elt Ideal) arg3.view X3 0 256 rfl _ (by omega) (by omega) r l |>.trans (congrArg (fun y : Fin 256 => (arg3.view.read (Elt Ideal) X3) (ix2 y (⟨256 + l.1, by omega⟩ : Fin 512))) (Fin.ext (Nat.zero_add r.1)))) r l)))))
  · exact (slab3 arg9.view _ 3 rfl _ _ _ _ r l).trans ((if_pos rfl).trans ((queries121 _ r l).trans (queryOf_congr (fun r l => load2 (Val := Elt Ideal) arg3.view X3 0 384 rfl _ (by omega) (by omega) r l |>.trans (congrArg (fun y : Fin 256 => (arg3.view.read (Elt Ideal) X3) (ix2 y (⟨384 + l.1, by omega⟩ : Fin 512))) (Fin.ext (Nat.zero_add r.1)))) r l)))

theorem odd_diagonal0  (r : Fin 512) (cc : Fin 256) :
    (bodyOdd.sl.v87 (F := Ideal) i arg3 arg4 arg9 X3 X4) (ix2 r cc) = scoreM (i 1).val (arg9.view.read (Elt Ideal) (arg9.view.writes (Elt Ideal) arg9.view.junk (bodyOdd.sl.H9_4 (F := Ideal) arg3 X3))) (arg4.view.read (Elt Ideal) X4) (diagTile i) 0 r cc :=
  (maskTile_at (bodyOdd.sl.v77 (F := Ideal) i arg3 arg4 arg9 X3 X4) r cc).trans ((if_congr Iff.rfl (score_load arg9 arg4 (arg9.view.writes (Elt Ideal) arg9.view.junk (bodyOdd.sl.H9_4 (F := Ideal) arg3 X3)) X4 (diagTile i) 0 rfl (off1_eq i) _ _ r cc) rfl).trans (scoreM_diagonal rfl).symm)

theorem odd_diagonal1  (r : Fin 512) (cc : Fin 256) :
    (bodyOdd.sl.v103 (F := Ideal) i arg3 arg4 arg9 X3 X4) (ix2 r cc) = scoreM (i 1).val (arg9.view.read (Elt Ideal) (arg9.view.writes (Elt Ideal) arg9.view.junk (bodyOdd.sl.H9_4 (F := Ideal) arg3 X3))) (arg4.view.read (Elt Ideal) X4) (diagTile i) 1 r cc :=
  (maskTile_at (bodyOdd.sl.v93 (F := Ideal) i arg3 arg4 arg9 X3 X4) r cc).trans ((if_congr Iff.rfl (score_load arg9 arg4 (arg9.view.writes (Elt Ideal) arg9.view.junk (bodyOdd.sl.H9_4 (F := Ideal) arg3 X3)) X4 (diagTile i) 1 rfl (off2_eq i) _ _ r cc) rfl).trans (scoreM_diagonal rfl).symm)

theorem odd_diagonal2  (r : Fin 512) (cc : Fin 256) :
    (bodyOdd.sl.v119 (F := Ideal) i arg3 arg4 arg9 X3 X4) (ix2 r cc) = scoreM (i 1).val (arg9.view.read (Elt Ideal) (arg9.view.writes (Elt Ideal) arg9.view.junk (bodyOdd.sl.H9_4 (F := Ideal) arg3 X3))) (arg4.view.read (Elt Ideal) X4) (diagTile i) 2 r cc :=
  (maskTile_at (bodyOdd.sl.v109 (F := Ideal) i arg3 arg4 arg9 X3 X4) r cc).trans ((if_congr Iff.rfl (score_load arg9 arg4 (arg9.view.writes (Elt Ideal) arg9.view.junk (bodyOdd.sl.H9_4 (F := Ideal) arg3 X3)) X4 (diagTile i) 2 rfl (off3_eq i) _ _ r cc) rfl).trans (scoreM_diagonal rfl).symm)

theorem odd_diagonal3  (r : Fin 512) (cc : Fin 256) :
    (bodyOdd.sl.v135 (F := Ideal) i arg3 arg4 arg9 X3 X4) (ix2 r cc) = scoreM (i 1).val (arg9.view.read (Elt Ideal) (arg9.view.writes (Elt Ideal) arg9.view.junk (bodyOdd.sl.H9_4 (F := Ideal) arg3 X3))) (arg4.view.read (Elt Ideal) X4) (diagTile i) 3 r cc :=
  (maskTile_at (bodyOdd.sl.v125 (F := Ideal) i arg3 arg4 arg9 X3 X4) r cc).trans ((if_congr Iff.rfl (score_load arg9 arg4 (arg9.view.writes (Elt Ideal) arg9.view.junk (bodyOdd.sl.H9_4 (F := Ideal) arg3 X3)) X4 (diagTile i) 3 rfl (off4_eq i) _ _ r cc) rfl).trans (scoreM_diagonal rfl).symm)

theorem odd_scores_start  (h : Fin 4) (r : Fin 512) (cc : Fin 256) :
    (arg13.view.read (Elt Ideal) (arg13.view.writes (Elt Ideal) g13 (odd_start i arg3 arg4 arg9 X3 X4))) (ix4 (diagTile i) h r cc) = scoreM (i 1).val (arg9.view.read (Elt Ideal) (arg9.view.writes (Elt Ideal) arg9.view.junk (bodyOdd.sl.H9_4 (F := Ideal) arg3 X3))) (arg4.view.read (Elt Ideal) X4) (diagTile i) h r cc := by
  fin_cases h
  · exact (slab4 arg13.view _ ((diagTile i)).1 3 (off8_eq i) _ _ _ (diagTile i) _ r cc).trans ((if_neg (fun e => absurd e.2 (by decide))).trans ((slab4 arg13.view _ ((diagTile i)).1 2 (off7_eq i) _ _ _ (diagTile i) _ r cc).trans ((if_neg (fun e => absurd e.2 (by decide))).trans ((slab4 arg13.view _ ((diagTile i)).1 1 (off6_eq i) _ _ _ (diagTile i) _ r cc).trans ((if_neg (fun e => absurd e.2 (by decide))).trans ((slab4 arg13.view _ ((diagTile i)).1 0 (off5_eq i) _ _ _ (diagTile i) _ r cc).trans ((if_pos ⟨rfl, rfl⟩).trans ((cast4 _ r cc).trans (odd_diagonal0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))))))))
  · exact (slab4 arg13.view _ ((diagTile i)).1 3 (off8_eq i) _ _ _ (diagTile i) _ r cc).trans ((if_neg (fun e => absurd e.2 (by decide))).trans ((slab4 arg13.view _ ((diagTile i)).1 2 (off7_eq i) _ _ _ (diagTile i) _ r cc).trans ((if_neg (fun e => absurd e.2 (by decide))).trans ((slab4 arg13.view _ ((diagTile i)).1 1 (off6_eq i) _ _ _ (diagTile i) _ r cc).trans ((if_pos ⟨rfl, rfl⟩).trans ((cast4 _ r cc).trans (odd_diagonal1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))))))
  · exact (slab4 arg13.view _ ((diagTile i)).1 3 (off8_eq i) _ _ _ (diagTile i) _ r cc).trans ((if_neg (fun e => absurd e.2 (by decide))).trans ((slab4 arg13.view _ ((diagTile i)).1 2 (off7_eq i) _ _ _ (diagTile i) _ r cc).trans ((if_pos ⟨rfl, rfl⟩).trans ((cast4 _ r cc).trans (odd_diagonal2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))))
  · exact (slab4 arg13.view _ ((diagTile i)).1 3 (off8_eq i) _ _ _ (diagTile i) _ r cc).trans ((if_pos ⟨rfl, rfl⟩).trans ((cast4 _ r cc).trans (odd_diagonal3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))

theorem odd_parity  : (i 1).val % 2 = 1 := (cond1_eq i).mp hc1

theorem odd_left0  (r : Fin 512) (cc : Fin 256) :
    (bodyOdd.sl.v543 (F := Ideal) i arg3 arg4 arg9 hc1 X3 X4) (ix2 r cc) = scoreOf (arg9.view.read (Elt Ideal) (arg9.view.writes (Elt Ideal) arg9.view.junk (bodyOdd.sl.H9_4 (F := Ideal) arg3 X3))) (arg4.view.read (Elt Ideal) X4) (leftTile i) 0 r cc :=
  score_load arg9 arg4 (arg9.view.writes (Elt Ideal) arg9.view.junk (bodyOdd.sl.H9_4 (F := Ideal) arg3 X3)) X4 (leftTile i) 0 rfl (off25_eq i (odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13)) _ _ r cc

theorem odd_left1  (r : Fin 512) (cc : Fin 256) :
    (bodyOdd.sl.v549 (F := Ideal) i arg3 arg4 arg9 hc1 X3 X4) (ix2 r cc) = scoreOf (arg9.view.read (Elt Ideal) (arg9.view.writes (Elt Ideal) arg9.view.junk (bodyOdd.sl.H9_4 (F := Ideal) arg3 X3))) (arg4.view.read (Elt Ideal) X4) (leftTile i) 1 r cc :=
  score_load arg9 arg4 (arg9.view.writes (Elt Ideal) arg9.view.junk (bodyOdd.sl.H9_4 (F := Ideal) arg3 X3)) X4 (leftTile i) 1 rfl (off26_eq i (odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13)) _ _ r cc

theorem odd_left2  (r : Fin 512) (cc : Fin 256) :
    (bodyOdd.sl.v555 (F := Ideal) i arg3 arg4 arg9 hc1 X3 X4) (ix2 r cc) = scoreOf (arg9.view.read (Elt Ideal) (arg9.view.writes (Elt Ideal) arg9.view.junk (bodyOdd.sl.H9_4 (F := Ideal) arg3 X3))) (arg4.view.read (Elt Ideal) X4) (leftTile i) 2 r cc :=
  score_load arg9 arg4 (arg9.view.writes (Elt Ideal) arg9.view.junk (bodyOdd.sl.H9_4 (F := Ideal) arg3 X3)) X4 (leftTile i) 2 rfl (off27_eq i (odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13)) _ _ r cc

theorem odd_left3  (r : Fin 512) (cc : Fin 256) :
    (bodyOdd.sl.v561 (F := Ideal) i arg3 arg4 arg9 hc1 X3 X4) (ix2 r cc) = scoreOf (arg9.view.read (Elt Ideal) (arg9.view.writes (Elt Ideal) arg9.view.junk (bodyOdd.sl.H9_4 (F := Ideal) arg3 X3))) (arg4.view.read (Elt Ideal) X4) (leftTile i) 3 r cc :=
  score_load arg9 arg4 (arg9.view.writes (Elt Ideal) arg9.view.junk (bodyOdd.sl.H9_4 (F := Ideal) arg3 X3)) X4 (leftTile i) 3 rfl (off28_eq i (odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13)) _ _ r cc

/-- The tile left over, as stored. -/
theorem odd_left  (f : BufTy.Contents (Elt Ideal) arg13.view.ty) (h : Fin 4) (r : Fin 512) (cc : Fin 256) :
    (arg13.view.read (Elt Ideal) (arg13.view.writes (Elt Ideal) f (bodyOdd.sl.H13_4 (F := Ideal) i arg3 arg4 arg9 hc1 X3 X4))) (ix4 (leftTile i) h r cc) = scoreOf (arg9.view.read (Elt Ideal) (arg9.view.writes (Elt Ideal) arg9.view.junk (bodyOdd.sl.H9_4 (F := Ideal) arg3 X3))) (arg4.view.read (Elt Ideal) X4) (leftTile i) h r cc := by
  have hodd := odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  fin_cases h
  · exact (slab4 arg13.view _ ((leftTile i)).1 3 (off32_eq i hodd) _ _ _ (leftTile i) _ r cc).trans ((if_neg (fun e => absurd e.2 (by decide))).trans ((slab4 arg13.view _ ((leftTile i)).1 2 (off31_eq i hodd) _ _ _ (leftTile i) _ r cc).trans ((if_neg (fun e => absurd e.2 (by decide))).trans ((slab4 arg13.view _ ((leftTile i)).1 1 (off30_eq i hodd) _ _ _ (leftTile i) _ r cc).trans ((if_neg (fun e => absurd e.2 (by decide))).trans ((slab4 arg13.view _ ((leftTile i)).1 0 (off29_eq i hodd) _ _ _ (leftTile i) _ r cc).trans ((if_pos ⟨rfl, rfl⟩).trans ((cast4 _ r cc).trans (odd_left0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))))))))
  · exact (slab4 arg13.view _ ((leftTile i)).1 3 (off32_eq i hodd) _ _ _ (leftTile i) _ r cc).trans ((if_neg (fun e => absurd e.2 (by decide))).trans ((slab4 arg13.view _ ((leftTile i)).1 2 (off31_eq i hodd) _ _ _ (leftTile i) _ r cc).trans ((if_neg (fun e => absurd e.2 (by decide))).trans ((slab4 arg13.view _ ((leftTile i)).1 1 (off30_eq i hodd) _ _ _ (leftTile i) _ r cc).trans ((if_pos ⟨rfl, rfl⟩).trans ((cast4 _ r cc).trans (odd_left1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))))))
  · exact (slab4 arg13.view _ ((leftTile i)).1 3 (off32_eq i hodd) _ _ _ (leftTile i) _ r cc).trans ((if_neg (fun e => absurd e.2 (by decide))).trans ((slab4 arg13.view _ ((leftTile i)).1 2 (off31_eq i hodd) _ _ _ (leftTile i) _ r cc).trans ((if_pos ⟨rfl, rfl⟩).trans ((cast4 _ r cc).trans (odd_left2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))))
  · exact (slab4 arg13.view _ ((leftTile i)).1 3 (off32_eq i hodd) _ _ _ (leftTile i) _ r cc).trans ((if_pos ⟨rfl, rfl⟩).trans ((cast4 _ r cc).trans (odd_left3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r cc)))

theorem odd_left_other  (f : BufTy.Contents (Elt Ideal) arg13.view.ty) (j : Fin 8) (hj : j.1 ≠ (i 1).val - 1) (h : Fin 4) (r : Fin 512) (cc : Fin 256) :
    (arg13.view.read (Elt Ideal) (arg13.view.writes (Elt Ideal) f (bodyOdd.sl.H13_4 (F := Ideal) i arg3 arg4 arg9 hc1 X3 X4))) (ix4 j h r cc) = (arg13.view.read (Elt Ideal) f) (ix4 j h r cc) := by
  have hodd := odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  exact (slab4 arg13.view _ ((i 1).val - 1) 3 (off32_eq i hodd) _ _ _ j h r cc).trans ((if_neg (fun e => hj e.1)).trans ((slab4 arg13.view _ ((i 1).val - 1) 2 (off31_eq i hodd) _ _ _ j h r cc).trans ((if_neg (fun e => hj e.1)).trans ((slab4 arg13.view _ ((i 1).val - 1) 1 (off30_eq i hodd) _ _ _ j h r cc).trans ((if_neg (fun e => hj e.1)).trans ((slab4 arg13.view _ ((i 1).val - 1) 0 (off29_eq i hodd) _ _ _ j h r cc).trans ((if_neg (fun e => hj e.1)).trans (rfl))))))))

theorem odd_scores  (j : Fin 8) (h : Fin 4) (r : Fin 512) (cc : Fin 256) (hj : j.1 ≤ (i 1).val) :
    (arg13.view.read (Elt Ideal) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4))) (ix4 j h r cc) = scoreM (i 1).val (arg9.view.read (Elt Ideal) (arg9.view.writes (Elt Ideal) arg9.view.junk (bodyOdd.sl.H9_4 (F := Ideal) arg3 X3))) (arg4.view.read (Elt Ideal) X4) j h r cc := by
  have hodd := odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  by_cases hl : j.1 = (i 1).val - 1
  · have e : j = (leftTile i) := Fin.ext hl
    have hlt : j.1 < (i 1).val := by omega
    subst e
    exact (odd_left 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 _ h r cc).trans (scoreM_before hlt).symm
  refine (odd_left_other 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 _ j hl h r cc).trans ((scores_read 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 _ j h r cc _ le_rfl).trans ?_)
  have htr := trips1 i
  by_cases hd : j.1 = (i 1).val
  · have e : j = (diagTile i) := Fin.ext hd
    rw [if_neg (by omega), e]
    exact odd_scores_start 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 h r cc
  · rw [if_pos (by omega), scoreM_before (by omega)]

theorem odd_sound  (hF : ∀ j h r cc, Cert.Proof.Fin' (scoreOf (arg9.view.read (Elt Ideal) (arg9.view.writes (Elt Ideal) arg9.view.junk (bodyOdd.sl.H9_4 (F := Ideal) arg3 X3))) (arg4.view.read (Elt Ideal) X4) j h r cc)) : Sound (arg10.view.read (Elt Ideal) (arg10.view.writes (Elt Ideal) arg10.view.junk (bodyOdd.sl.H10_4 (F := Ideal) i arg3 arg4 arg9 X3 X4))) := by
  have hd : ∀ h r cc, scoreM (i 1).val (arg9.view.read (Elt Ideal) (arg9.view.writes (Elt Ideal) arg9.view.junk (bodyOdd.sl.H9_4 (F := Ideal) arg3 X3))) (arg4.view.read (Elt Ideal) X4) (diagTile i) h r cc ≠ ⊤ := fun h r cc e => by
    rw [scoreM_diagonal (n := (i 1).val) (j := diagTile i) rfl] at e
    obtain ⟨x, hx⟩ := hF (diagTile i) h r cc
    split at e
    · exact EReal.coe_ne_top x (hx.symm.trans e)
    · exact absurd e bot_ne_top
  have h0 : ∀ h r, scoreM (i 1).val (arg9.view.read (Elt Ideal) (arg9.view.writes (Elt Ideal) arg9.view.junk (bodyOdd.sl.H9_4 (F := Ideal) arg3 X3))) (arg4.view.read (Elt Ideal) X4) (diagTile i) h r 0 ≠ ⊥ := fun h r e => by
    rw [scoreM_diagonal (n := (i 1).val) (j := diagTile i) rfl, if_pos (show (0 : Fin 256).1 ≤ r.1 % 256 from Nat.zero_le _)] at e
    obtain ⟨x, hx⟩ := hF (diagTile i) h r 0
    exact EReal.coe_ne_bot x (hx.symm.trans e)
  have key : ∀ h r (l : Fin 128), (arg10.view.read (Elt Ideal) (arg10.view.writes (Elt Ideal) arg10.view.junk (bodyOdd.sl.H10_4 (F := Ideal) i arg3 arg4 arg9 X3 X4))) (ix3 h r l)
      = max (scoreM (i 1).val (arg9.view.read (Elt Ideal) (arg9.view.writes (Elt Ideal) arg9.view.junk (bodyOdd.sl.H9_4 (F := Ideal) arg3 X3))) (arg4.view.read (Elt Ideal) X4) (diagTile i) h r ⟨l.1, by omega⟩) (scoreM (i 1).val (arg9.view.read (Elt Ideal) (arg9.view.writes (Elt Ideal) arg9.view.junk (bodyOdd.sl.H9_4 (F := Ideal) arg3 X3))) (arg4.view.read (Elt Ideal) X4) (diagTile i) h r ⟨128 + l.1, by omega⟩) := by
    intro h r l
    fin_cases h
    · exact (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_neg (by decide)).trans ((slab3 arg10.view _ 0 rfl _ _ _ _ r l).trans ((if_pos rfl).trans ((first_max (bodyOdd.sl.v87 (F := Ideal) i arg3 arg4 arg9 X3 X4) r l).trans (congrArg₂ (fun a b : EReal => max a b) (odd_diagonal0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (odd_diagonal0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))))))
    · exact (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_pos rfl).trans ((first_max (bodyOdd.sl.v103 (F := Ideal) i arg3 arg4 arg9 X3 X4) r l).trans (congrArg₂ (fun a b : EReal => max a b) (odd_diagonal1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (odd_diagonal1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))))
    · exact (slab3 arg10.view _ 3 rfl _ _ _ _ r l).trans ((if_neg (by decide)).trans ((slab3 arg10.view _ 2 rfl _ _ _ _ r l).trans ((if_pos rfl).trans ((first_max (bodyOdd.sl.v119 (F := Ideal) i arg3 arg4 arg9 X3 X4) r l).trans (congrArg₂ (fun a b : EReal => max a b) (odd_diagonal2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (odd_diagonal2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))
    · exact (slab3 arg10.view _ 3 rfl _ _ _ _ r l).trans ((if_pos rfl).trans ((first_max (bodyOdd.sl.v135 (F := Ideal) i arg3 arg4 arg9 X3 X4) r l).trans (congrArg₂ (fun a b : EReal => max a b) (odd_diagonal3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (odd_diagonal3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))
  exact fun h r l => ⟨fun e => two_ne_top (hd h r _) (hd h r _) ((key h r l).symm.trans e), fun e => h0 h r (le_bot_iff.mp ((le_max_left _ _).trans_eq ((key h r 0).symm.trans e)))⟩

theorem odd_loop_sound  (hF : ∀ j h r cc, Cert.Proof.Fin' (scoreOf (arg9.view.read (Elt Ideal) (arg9.view.writes (Elt Ideal) arg9.view.junk (bodyOdd.sl.H9_4 (F := Ideal) arg3 X3))) (arg4.view.read (Elt Ideal) X4) j h r cc)) : Sound (arg10.view.read (Elt Ideal) (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg10.view.writes (Elt Ideal) arg10.view.junk (bodyOdd.sl.H10_4 (F := Ideal) i arg3 arg4 arg9 X3 X4)) (k0_t1_loop i).trips)) :=
  maxima_sound 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 _ (fun j h r cc e => by obtain ⟨x, hx⟩ := hF j h r cc; exact EReal.coe_ne_top x (hx.symm.trans e)) (odd_sound 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 hF) _ le_rfl

theorem odd_all_sound  (hF : ∀ j h r cc, Cert.Proof.Fin' (scoreOf (arg9.view.read (Elt Ideal) (arg9.view.writes (Elt Ideal) arg9.view.junk (bodyOdd.sl.H9_4 (F := Ideal) arg3 X3))) (arg4.view.read (Elt Ideal) X4) j h r cc)) : Sound (arg10.view.read (Elt Ideal) (arg10.view.writes (Elt Ideal) arg10.view.junk (bodyOdd.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) := by
  have hs := odd_loop_sound 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 hF
  have ht : ∀ h r cc, scoreOf (arg9.view.read (Elt Ideal) (arg9.view.writes (Elt Ideal) arg9.view.junk (bodyOdd.sl.H9_4 (F := Ideal) arg3 X3))) (arg4.view.read (Elt Ideal) X4) (leftTile i) h r cc ≠ ⊤ := fun h r cc e => by obtain ⟨x, hx⟩ := hF (leftTile i) h r cc; exact EReal.coe_ne_top x (hx.symm.trans e)
  have key : ∀ h r (l : Fin 128), (arg10.view.read (Elt Ideal) (arg10.view.writes (Elt Ideal) arg10.view.junk (bodyOdd.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l)
      = max ((arg10.view.read (Elt Ideal) (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg10.view.writes (Elt Ideal) arg10.view.junk (bodyOdd.sl.H10_4 (F := Ideal) i arg3 arg4 arg9 X3 X4)) (k0_t1_loop i).trips)) (ix3 h r l) : EReal) (max (scoreOf (arg9.view.read (Elt Ideal) (arg9.view.writes (Elt Ideal) arg9.view.junk (bodyOdd.sl.H9_4 (F := Ideal) arg3 X3))) (arg4.view.read (Elt Ideal) X4) (leftTile i) h r ⟨l.1, by omega⟩) (scoreOf (arg9.view.read (Elt Ideal) (arg9.view.writes (Elt Ideal) arg9.view.junk (bodyOdd.sl.H9_4 (F := Ideal) arg3 X3))) (arg4.view.read (Elt Ideal) X4) (leftTile i) h r ⟨128 + l.1, by omega⟩)) := by
    intro h r l
    fin_cases h
    · exact (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_neg (by decide)).trans ((slab3 arg10.view _ 0 rfl _ _ _ _ r l).trans ((if_pos rfl).trans ((max_fold _ _ r l).trans (congrArg₂ (fun a b : EReal => max a b) (load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg10.view.writes (Elt Ideal) arg10.view.junk (bodyOdd.sl.H10_4 (F := Ideal) i arg3 arg4 arg9 X3 X4)) (k0_t1_loop i).trips) 0 rfl _ 0 r l) ((half_fold (bodyOdd.sl.v543 (F := Ideal) i arg3 arg4 arg9 hc1 X3 X4) r l).trans (congrArg₂ (fun a b : EReal => max a b) (odd_left0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (odd_left0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))))))))
    · exact (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_pos rfl).trans ((max_fold _ _ r l).trans (congrArg₂ (fun a b : EReal => max a b) (load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg10.view.writes (Elt Ideal) arg10.view.junk (bodyOdd.sl.H10_4 (F := Ideal) i arg3 arg4 arg9 X3 X4)) (k0_t1_loop i).trips) 1 rfl _ 0 r l) ((half_fold (bodyOdd.sl.v549 (F := Ideal) i arg3 arg4 arg9 hc1 X3 X4) r l).trans (congrArg₂ (fun a b : EReal => max a b) (odd_left1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (odd_left1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))))))
    · exact (slab3 arg10.view _ 3 rfl _ _ _ _ r l).trans ((if_neg (by decide)).trans ((slab3 arg10.view _ 2 rfl _ _ _ _ r l).trans ((if_pos rfl).trans ((max_fold _ _ r l).trans (congrArg₂ (fun a b : EReal => max a b) (load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg10.view.writes (Elt Ideal) arg10.view.junk (bodyOdd.sl.H10_4 (F := Ideal) i arg3 arg4 arg9 X3 X4)) (k0_t1_loop i).trips) 2 rfl _ 0 r l) ((half_fold (bodyOdd.sl.v555 (F := Ideal) i arg3 arg4 arg9 hc1 X3 X4) r l).trans (congrArg₂ (fun a b : EReal => max a b) (odd_left2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (odd_left2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))))
    · exact (slab3 arg10.view _ 3 rfl _ _ _ _ r l).trans ((if_pos rfl).trans ((max_fold _ _ r l).trans (congrArg₂ (fun a b : EReal => max a b) (load3 arg10.view (maximaAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg10.view.writes (Elt Ideal) arg10.view.junk (bodyOdd.sl.H10_4 (F := Ideal) i arg3 arg4 arg9 X3 X4)) (k0_t1_loop i).trips) 3 rfl _ 0 r l) ((half_fold (bodyOdd.sl.v561 (F := Ideal) i arg3 arg4 arg9 hc1 X3 X4) r l).trans (congrArg₂ (fun a b : EReal => max a b) (odd_left3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _) (odd_left3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 r _))))))
  exact fun h r l => ⟨fun e => two_ne_top (hs h r l).1 (two_ne_top (ht h r _) (ht h r _)) ((key h r l).symm.trans e), fun e => (hs h r 0).2 (le_bot_iff.mp ((le_max_left _ _).trans_eq ((key h r 0).symm.trans e)))⟩

/-- The maxima the weights are taken over: one real number per row. -/
theorem odd_maxima  (hF : ∀ j h r cc, Cert.Proof.Fin' (scoreOf (arg9.view.read (Elt Ideal) (arg9.view.writes (Elt Ideal) arg9.view.junk (bodyOdd.sl.H9_4 (F := Ideal) arg3 X3))) (arg4.view.read (Elt Ideal) X4) j h r cc)) : ∃ m : Fin 4 → Fin 512 → ℝ, ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal) := by
  have hs := odd_all_sound 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 hF
  have key : ∀ h r, ∃ x : ℝ, ∀ l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (x : EReal) := by
    intro h r
    fin_cases h
    · obtain ⟨x, hx⟩ := spread_real (arg10.view.readAt (Elt Ideal) (Rect.unit (s := S4x512x128) ![0, 0, 0] S1x512x128.size inb_S4x512x128_S1x512x128_0_0_0).toLoadRect (arg10.view.writes (Elt Ideal) arg10.view.junk (bodyOdd.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) r (fun l e => (hs 0 r l).1 ((load3 arg10.view (arg10.view.writes (Elt Ideal) arg10.view.junk (bodyOdd.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) 0 rfl _ 0 r l).symm.trans e)) (fun e => (hs 0 r 0).2 ((load3 arg10.view (arg10.view.writes (Elt Ideal) arg10.view.junk (bodyOdd.sl.H10_4_1 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) 0 rfl _ 0 r 0).symm.trans e))
      exact ⟨x, fun l => (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_neg (by decide)).trans ((slab3 arg10.view _ 0 rfl _ _ _ _ r l).trans ((if_pos rfl).trans (hx l))))))))⟩
    · obtain ⟨x, hx⟩ := spread_real (arg10.view.readAt (Elt Ideal) (Rect.unit (s := S4x512x128) ![1, 0, 0] S1x512x128.size inb_S4x512x128_S1x512x128_1_0_0).toLoadRect (arg10.view.writes (Elt Ideal) arg10.view.junk (bodyOdd.sl.H10_5 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) r (fun l e => (hs 1 r l).1 (((load3 arg10.view (arg10.view.writes (Elt Ideal) arg10.view.junk (bodyOdd.sl.H10_5 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) 1 rfl _ 0 r l).trans ((slab3 arg10.view _ 0 rfl _ _ _ 1 r l).trans (if_neg (by decide)))).symm.trans e)) (fun e => (hs 1 r 0).2 (((load3 arg10.view (arg10.view.writes (Elt Ideal) arg10.view.junk (bodyOdd.sl.H10_5 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) 1 rfl _ 0 r 0).trans ((slab3 arg10.view _ 0 rfl _ _ _ 1 r 0).trans (if_neg (by decide)))).symm.trans e))
      exact ⟨x, fun l => (slab3 arg10.view _ 3 rfl _ _ _ _ r l).trans ((if_neg (by decide)).trans ((slab3 arg10.view _ 2 rfl _ _ _ _ r l).trans ((if_neg (by decide)).trans ((slab3 arg10.view _ 1 rfl _ _ _ _ r l).trans ((if_pos rfl).trans (hx l))))))⟩
    · obtain ⟨x, hx⟩ := spread_real (arg10.view.readAt (Elt Ideal) (Rect.unit (s := S4x512x128) ![2, 0, 0] S1x512x128.size inb_S4x512x128_S1x512x128_2_0_0).toLoadRect (arg10.view.writes (Elt Ideal) arg10.view.junk (bodyOdd.sl.H10_6 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) r (fun l e => (hs 2 r l).1 ((((load3 arg10.view (arg10.view.writes (Elt Ideal) arg10.view.junk (bodyOdd.sl.H10_6 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) 2 rfl _ 0 r l).trans ((slab3 arg10.view _ 1 rfl _ _ _ 2 r l).trans (if_neg (by decide)))).trans ((slab3 arg10.view _ 0 rfl _ _ _ 2 r l).trans (if_neg (by decide)))).symm.trans e)) (fun e => (hs 2 r 0).2 ((((load3 arg10.view (arg10.view.writes (Elt Ideal) arg10.view.junk (bodyOdd.sl.H10_6 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) 2 rfl _ 0 r 0).trans ((slab3 arg10.view _ 1 rfl _ _ _ 2 r 0).trans (if_neg (by decide)))).trans ((slab3 arg10.view _ 0 rfl _ _ _ 2 r 0).trans (if_neg (by decide)))).symm.trans e))
      exact ⟨x, fun l => (slab3 arg10.view _ 3 rfl _ _ _ _ r l).trans ((if_neg (by decide)).trans ((slab3 arg10.view _ 2 rfl _ _ _ _ r l).trans ((if_pos rfl).trans (hx l))))⟩
    · obtain ⟨x, hx⟩ := spread_real (arg10.view.readAt (Elt Ideal) (Rect.unit (s := S4x512x128) ![3, 0, 0] S1x512x128.size inb_S4x512x128_S1x512x128_3_0_0).toLoadRect (arg10.view.writes (Elt Ideal) arg10.view.junk (bodyOdd.sl.H10_7 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) r (fun l e => (hs 3 r l).1 (((((load3 arg10.view (arg10.view.writes (Elt Ideal) arg10.view.junk (bodyOdd.sl.H10_7 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) 3 rfl _ 0 r l).trans ((slab3 arg10.view _ 2 rfl _ _ _ 3 r l).trans (if_neg (by decide)))).trans ((slab3 arg10.view _ 1 rfl _ _ _ 3 r l).trans (if_neg (by decide)))).trans ((slab3 arg10.view _ 0 rfl _ _ _ 3 r l).trans (if_neg (by decide)))).symm.trans e)) (fun e => (hs 3 r 0).2 (((((load3 arg10.view (arg10.view.writes (Elt Ideal) arg10.view.junk (bodyOdd.sl.H10_7 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) 3 rfl _ 0 r 0).trans ((slab3 arg10.view _ 2 rfl _ _ _ 3 r 0).trans (if_neg (by decide)))).trans ((slab3 arg10.view _ 1 rfl _ _ _ 3 r 0).trans (if_neg (by decide)))).trans ((slab3 arg10.view _ 0 rfl _ _ _ 3 r 0).trans (if_neg (by decide)))).symm.trans e))
      exact ⟨x, fun l => (slab3 arg10.view _ 3 rfl _ _ _ _ r l).trans ((if_pos rfl).trans (hx l))⟩
  choose m hm using key
  exact ⟨m, hm⟩

theorem odd_first_sums  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (h : Fin 4) (r : Fin 512) (l : Fin 128) :
    (arg11.view.read (Elt Ideal) (arg11.view.writes (Elt Ideal) arg11.view.junk (bodyOdd.sl.H11_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13))) (ix3 h r l) = laneM (i 1).val (arg9.view.read (Elt Ideal) (arg9.view.writes (Elt Ideal) arg9.view.junk (bodyOdd.sl.H9_4 (F := Ideal) arg3 X3))) (arg4.view.read (Elt Ideal) X4) m h r l (diagTile i) := by
  fin_cases h
  · exact (slab3 arg11.view _ 3 rfl _ _ _ _ r l).trans ((if_neg (by decide)).trans ((slab3 arg11.view _ 2 rfl _ _ _ _ r l).trans ((if_neg (by decide)).trans ((slab3 arg11.view _ 1 rfl _ _ _ _ r l).trans ((if_neg (by decide)).trans ((slab3 arg11.view _ 0 rfl _ _ _ _ r l).trans ((if_pos rfl).trans ((first_sum (bodyOdd.sl.v236 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13) r l).trans (congrArg₂ (fun a b : EReal => a + b) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 0 rfl (off5_eq i) _ _ r _).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 0 r _)) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 0 rfl (off5_eq i) _ _ r _).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 0 r _)))))))))))
  · exact (slab3 arg11.view _ 3 rfl _ _ _ _ r l).trans ((if_neg (by decide)).trans ((slab3 arg11.view _ 2 rfl _ _ _ _ r l).trans ((if_neg (by decide)).trans ((slab3 arg11.view _ 1 rfl _ _ _ _ r l).trans ((if_pos rfl).trans ((first_sum (bodyOdd.sl.v252 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13) r l).trans (congrArg₂ (fun a b : EReal => a + b) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 1 rfl (off6_eq i) _ _ r _).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 1 r _)) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 1 rfl (off6_eq i) _ _ r _).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 1 r _)))))))))
  · exact (slab3 arg11.view _ 3 rfl _ _ _ _ r l).trans ((if_neg (by decide)).trans ((slab3 arg11.view _ 2 rfl _ _ _ _ r l).trans ((if_pos rfl).trans ((first_sum (bodyOdd.sl.v268 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13) r l).trans (congrArg₂ (fun a b : EReal => a + b) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 2 rfl (off7_eq i) _ _ r _).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 2 r _)) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 2 rfl (off7_eq i) _ _ r _).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 2 r _)))))))
  · exact (slab3 arg11.view _ 3 rfl _ _ _ _ r l).trans ((if_pos rfl).trans ((first_sum (bodyOdd.sl.v284 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13) r l).trans (congrArg₂ (fun a b : EReal => a + b) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 3 rfl (off8_eq i) _ _ r _).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 3 r _)) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 3 rfl (off8_eq i) _ _ r _).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 3 r _)))))

theorem odd_first_weighted  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (h : Fin 4) (r : Fin 512) (l : Fin 128) :
    (arg12.view.read (Elt Ideal) (arg12.view.writes (Elt Ideal) arg12.view.junk (bodyOdd.sl.H12_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 X5 g13))) (ix3 h r l) = tileM (i 1).val (arg9.view.read (Elt Ideal) (arg9.view.writes (Elt Ideal) arg9.view.junk (bodyOdd.sl.H9_4 (F := Ideal) arg3 X3))) (arg4.view.read (Elt Ideal) X4) (arg5.view.read (Elt Ideal) X5) m h r l (diagTile i) := by
  have hi : (i 1).val < 8 := (i 1).isLt
  fin_cases h
  · exact (slab3 arg12.view _ 3 rfl _ _ _ _ r l).trans ((if_neg (by decide)).trans ((slab3 arg12.view _ 2 rfl _ _ _ _ r l).trans ((if_neg (by decide)).trans ((slab3 arg12.view _ 1 rfl _ _ _ _ r l).trans ((if_neg (by decide)).trans ((slab3 arg12.view _ 0 rfl _ _ _ _ r l).trans ((if_pos rfl).trans ((first_acc (bodyOdd.sl.v236 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13) _ r l).trans (Finset.sum_congr rfl fun x _ => congrArg₂ (fun a b : EReal => a * b) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 0 rfl (off5_eq i) _ _ r x).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 0 r x)) (load2 (Val := Elt Ideal) arg5.view X5 (256 * (i 1).val) 0 (off33_eq i) _ (by omega) (by omega) x l))))))))))
  · exact (slab3 arg12.view _ 3 rfl _ _ _ _ r l).trans ((if_neg (by decide)).trans ((slab3 arg12.view _ 2 rfl _ _ _ _ r l).trans ((if_neg (by decide)).trans ((slab3 arg12.view _ 1 rfl _ _ _ _ r l).trans ((if_pos rfl).trans ((first_acc (bodyOdd.sl.v252 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13) _ r l).trans (Finset.sum_congr rfl fun x _ => congrArg₂ (fun a b : EReal => a * b) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 1 rfl (off6_eq i) _ _ r x).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 1 r x)) (load2 (Val := Elt Ideal) arg5.view X5 (256 * (i 1).val) 128 (off34_eq i) _ (by omega) (by omega) x l))))))))
  · exact (slab3 arg12.view _ 3 rfl _ _ _ _ r l).trans ((if_neg (by decide)).trans ((slab3 arg12.view _ 2 rfl _ _ _ _ r l).trans ((if_pos rfl).trans ((first_acc (bodyOdd.sl.v268 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13) _ r l).trans (Finset.sum_congr rfl fun x _ => congrArg₂ (fun a b : EReal => a * b) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 2 rfl (off7_eq i) _ _ r x).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 2 r x)) (load2 (Val := Elt Ideal) arg5.view X5 (256 * (i 1).val) 256 (off35_eq i) _ (by omega) (by omega) x l))))))
  · exact (slab3 arg12.view _ 3 rfl _ _ _ _ r l).trans ((if_pos rfl).trans ((first_acc (bodyOdd.sl.v284 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13) _ r l).trans (Finset.sum_congr rfl fun x _ => congrArg₂ (fun a b : EReal => a * b) ((weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (fun h r l => (hM h r l).trans (hM h r 0).symm) (diagTile i) 3 rfl (off8_eq i) _ _ r x).trans (weight_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) (diagTile i) le_rfl 3 r x)) (load2 (Val := Elt Ideal) arg5.view X5 (256 * (i 1).val) 384 (off36_eq i) _ (by omega) (by omega) x l))))

theorem odd_loop_sums  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (h : Fin 4) (r : Fin 512) (l : Fin 128) :
    ((arg11.view.read (Elt Ideal) (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg11.view.writes (Elt Ideal) arg11.view.junk (bodyOdd.sl.H11_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13)) (k0_t3_loop i).trips)) (ix3 h r l) : EReal) = laneM (i 1).val (arg9.view.read (Elt Ideal) (arg9.view.writes (Elt Ideal) arg9.view.junk (bodyOdd.sl.H9_4 (F := Ideal) arg3 X3))) (arg4.view.read (Elt Ideal) X4) m h r l (diagTile i) + ∑ j : Fin 8, if j.1 < 2 * ((i 1).val / 2) then laneM (i 1).val (arg9.view.read (Elt Ideal) (arg9.view.writes (Elt Ideal) arg9.view.junk (bodyOdd.sl.H9_4 (F := Ideal) arg3 X3))) (arg4.view.read (Elt Ideal) X4) m h r l j else 0 := by
  have htr := trips3 i
  have hT : ∀ j : Fin 8, j.1 ≤ (i 1).val → laneSum (arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (arg13.view.read (Elt Ideal) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4))) h r l j = laneM (i 1).val (arg9.view.read (Elt Ideal) (arg9.view.writes (Elt Ideal) arg9.view.junk (bodyOdd.sl.H9_4 (F := Ideal) arg3 X3))) (arg4.view.read (Elt Ideal) X4) m h r l j := fun j hj => lane_real hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) h r l j hj
  refine (sums_read 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) _ (fun h r l => (hM h r l).trans (hM h r 0).symm) h r l _ le_rfl).trans ((congrArg₂ (fun a b : EReal => a + b) (odd_first_sums 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM h r l) (sum_real (2 * (k0_t3_loop i).trips) (i 1).val (by omega) hT)).trans ?_)
  rw [trips3 i]

theorem odd_loop_weighted  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (h : Fin 4) (r : Fin 512) (l : Fin 128) :
    ((arg12.view.read (Elt Ideal) (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg12.view.writes (Elt Ideal) arg12.view.junk (bodyOdd.sl.H12_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 X5 g13)) (k0_t3_loop i).trips)) (ix3 h r l) : EReal) = tileM (i 1).val (arg9.view.read (Elt Ideal) (arg9.view.writes (Elt Ideal) arg9.view.junk (bodyOdd.sl.H9_4 (F := Ideal) arg3 X3))) (arg4.view.read (Elt Ideal) X4) (arg5.view.read (Elt Ideal) X5) m h r l (diagTile i) + ∑ j : Fin 8, if j.1 < 2 * ((i 1).val / 2) then tileM (i 1).val (arg9.view.read (Elt Ideal) (arg9.view.writes (Elt Ideal) arg9.view.junk (bodyOdd.sl.H9_4 (F := Ideal) arg3 X3))) (arg4.view.read (Elt Ideal) X4) (arg5.view.read (Elt Ideal) X5) m h r l j else 0 := by
  have htr := trips3 i
  have hT : ∀ j : Fin 8, j.1 ≤ (i 1).val → tileSum (arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (arg13.view.read (Elt Ideal) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4))) (arg5.view.read (Elt Ideal) X5) h r l j = tileM (i 1).val (arg9.view.read (Elt Ideal) (arg9.view.writes (Elt Ideal) arg9.view.junk (bodyOdd.sl.H9_4 (F := Ideal) arg3 X3))) (arg4.view.read (Elt Ideal) X4) (arg5.view.read (Elt Ideal) X5) m h r l j := fun j hj => tile_real (arg5.view.read (Elt Ideal) X5) hM (odd_scores 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13) h r l j hj
  refine (weighted_read 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) _ (fun h r l => (hM h r l).trans (hM h r 0).symm) h r l _ le_rfl).trans ((congrArg₂ (fun a b : EReal => a + b) (odd_first_weighted 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM h r l) (sum_real (2 * (k0_t3_loop i).trips) (i 1).val (by omega) hT)).trans ?_)
  rw [trips3 i]

theorem odd_left_weight0  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (r : Fin 512) (cc : Fin 256) :
    (bodyOdd.sl.v545_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) (ix2 r cc) = weightM (i 1).val (arg9.view.read (Elt Ideal) (arg9.view.writes (Elt Ideal) arg9.view.junk (bodyOdd.sl.H9_4 (F := Ideal) arg3 X3))) (arg4.view.read (Elt Ideal) X4) m (leftTile i) 0 r cc := by
  have hodd := odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  refine (weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) arg13.view.junk (bodyOdd.sl.H13_4 (F := Ideal) i arg3 arg4 arg9 hc1 X3 X4)) (fun h r l => (hM h r l).trans (hM h r 0).symm) (leftTile i) 0 rfl (off53_eq i hodd) _ _ r cc).trans ?_
  refine congrArg₂ (fun a b : EReal => Ideal.exp2 (a - b)) ((odd_left 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 _ 0 r cc).trans (scoreM_before ?_).symm) (hM 0 r 0)
  show (i 1).val - 1 < (i 1).val
  omega

theorem odd_left_weight1  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (r : Fin 512) (cc : Fin 256) :
    (bodyOdd.sl.v564_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) (ix2 r cc) = weightM (i 1).val (arg9.view.read (Elt Ideal) (arg9.view.writes (Elt Ideal) arg9.view.junk (bodyOdd.sl.H9_4 (F := Ideal) arg3 X3))) (arg4.view.read (Elt Ideal) X4) m (leftTile i) 1 r cc := by
  have hodd := odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  refine (weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) arg13.view.junk (bodyOdd.sl.H13_4 (F := Ideal) i arg3 arg4 arg9 hc1 X3 X4)) (fun h r l => (hM h r l).trans (hM h r 0).symm) (leftTile i) 1 rfl (off54_eq i hodd) _ _ r cc).trans ?_
  refine congrArg₂ (fun a b : EReal => Ideal.exp2 (a - b)) ((odd_left 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 _ 1 r cc).trans (scoreM_before ?_).symm) (hM 1 r 0)
  show (i 1).val - 1 < (i 1).val
  omega

theorem odd_left_weight2  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (r : Fin 512) (cc : Fin 256) :
    (bodyOdd.sl.v583_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) (ix2 r cc) = weightM (i 1).val (arg9.view.read (Elt Ideal) (arg9.view.writes (Elt Ideal) arg9.view.junk (bodyOdd.sl.H9_4 (F := Ideal) arg3 X3))) (arg4.view.read (Elt Ideal) X4) m (leftTile i) 2 r cc := by
  have hodd := odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  refine (weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) arg13.view.junk (bodyOdd.sl.H13_4 (F := Ideal) i arg3 arg4 arg9 hc1 X3 X4)) (fun h r l => (hM h r l).trans (hM h r 0).symm) (leftTile i) 2 rfl (off55_eq i hodd) _ _ r cc).trans ?_
  refine congrArg₂ (fun a b : EReal => Ideal.exp2 (a - b)) ((odd_left 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 _ 2 r cc).trans (scoreM_before ?_).symm) (hM 2 r 0)
  show (i 1).val - 1 < (i 1).val
  omega

theorem odd_left_weight3  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (r : Fin 512) (cc : Fin 256) :
    (bodyOdd.sl.v602 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) (ix2 r cc) = weightM (i 1).val (arg9.view.read (Elt Ideal) (arg9.view.writes (Elt Ideal) arg9.view.junk (bodyOdd.sl.H9_4 (F := Ideal) arg3 X3))) (arg4.view.read (Elt Ideal) X4) m (leftTile i) 3 r cc := by
  have hodd := odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  refine (weight_load arg10 arg13 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) arg13.view.junk (bodyOdd.sl.H13_4 (F := Ideal) i arg3 arg4 arg9 hc1 X3 X4)) (fun h r l => (hM h r l).trans (hM h r 0).symm) (leftTile i) 3 rfl (off56_eq i hodd) _ _ r cc).trans ?_
  refine congrArg₂ (fun a b : EReal => Ideal.exp2 (a - b)) ((odd_left 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 _ 3 r cc).trans (scoreM_before ?_).symm) (hM 3 r 0)
  show (i 1).val - 1 < (i 1).val
  omega

theorem odd_sums  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (h : Fin 4) (r : Fin 512) (l : Fin 128) :
    ((arg11.view.read (Elt Ideal) (arg11.view.writes (Elt Ideal) arg11.view.junk (bodyOdd.sl.H11_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (ix3 h r l) : EReal) = denomM (i 1).val (arg9.view.read (Elt Ideal) (arg9.view.writes (Elt Ideal) arg9.view.junk (bodyOdd.sl.H9_4 (F := Ideal) arg3 X3))) (arg4.view.read (Elt Ideal) X4) m h r l := by
  have hodd := odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  refine Eq.trans ?_ (up_to_odd (laneM (i 1).val (arg9.view.read (Elt Ideal) (arg9.view.writes (Elt Ideal) arg9.view.junk (bodyOdd.sl.H9_4 (F := Ideal) arg3 X3))) (arg4.view.read (Elt Ideal) X4) m h r l) (diagTile i) (leftTile i) (by show (i 1).val - 1 + 1 = (i 1).val; omega))
  have e2 : ((leftTile i)).1 = 2 * ((i 1).val / 2) := by show (i 1).val - 1 = _; omega
  rw [e2]
  have key := odd_loop_sums 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM h r l
  refine Eq.trans ?_ (congrArg (fun a : EReal => a + laneM (i 1).val (arg9.view.read (Elt Ideal) (arg9.view.writes (Elt Ideal) arg9.view.junk (bodyOdd.sl.H9_4 (F := Ideal) arg3 X3))) (arg4.view.read (Elt Ideal) X4) m h r l (leftTile i)) key)
  fin_cases h
  · exact (slab3 arg11.view _ 3 rfl _ _ _ _ r l).trans ((if_neg (by decide)).trans ((slab3 arg11.view _ 2 rfl _ _ _ _ r l).trans ((if_neg (by decide)).trans ((slab3 arg11.view _ 1 rfl _ _ _ _ r l).trans ((if_neg (by decide)).trans ((slab3 arg11.view _ 0 rfl _ _ _ _ r l).trans ((if_pos rfl).trans ((next_sum _ (bodyOdd.sl.v545_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) r l).trans (congrArg₂ (fun a b : EReal => a + b) (load3 arg11.view (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg11.view.writes (Elt Ideal) arg11.view.junk (bodyOdd.sl.H11_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13)) (k0_t3_loop i).trips) 0 rfl _ 0 r l) (congrArg₂ (fun a b : EReal => a + b) (odd_left_weight0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r _) (odd_left_weight0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r _)))))))))))
  · exact (slab3 arg11.view _ 3 rfl _ _ _ _ r l).trans ((if_neg (by decide)).trans ((slab3 arg11.view _ 2 rfl _ _ _ _ r l).trans ((if_neg (by decide)).trans ((slab3 arg11.view _ 1 rfl _ _ _ _ r l).trans ((if_pos rfl).trans ((next_sum _ (bodyOdd.sl.v564_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) r l).trans (congrArg₂ (fun a b : EReal => a + b) (load3 arg11.view (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg11.view.writes (Elt Ideal) arg11.view.junk (bodyOdd.sl.H11_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13)) (k0_t3_loop i).trips) 1 rfl _ 0 r l) (congrArg₂ (fun a b : EReal => a + b) (odd_left_weight1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r _) (odd_left_weight1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r _)))))))))
  · exact (slab3 arg11.view _ 3 rfl _ _ _ _ r l).trans ((if_neg (by decide)).trans ((slab3 arg11.view _ 2 rfl _ _ _ _ r l).trans ((if_pos rfl).trans ((next_sum _ (bodyOdd.sl.v583_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) r l).trans (congrArg₂ (fun a b : EReal => a + b) (load3 arg11.view (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg11.view.writes (Elt Ideal) arg11.view.junk (bodyOdd.sl.H11_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13)) (k0_t3_loop i).trips) 2 rfl _ 0 r l) (congrArg₂ (fun a b : EReal => a + b) (odd_left_weight2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r _) (odd_left_weight2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r _)))))))
  · exact (slab3 arg11.view _ 3 rfl _ _ _ _ r l).trans ((if_pos rfl).trans ((next_sum _ (bodyOdd.sl.v602 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) r l).trans (congrArg₂ (fun a b : EReal => a + b) (load3 arg11.view (sumsAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg11.view.writes (Elt Ideal) arg11.view.junk (bodyOdd.sl.H11_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 g13)) (k0_t3_loop i).trips) 3 rfl _ 0 r l) (congrArg₂ (fun a b : EReal => a + b) (odd_left_weight3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r _) (odd_left_weight3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r _)))))

theorem odd_weighted  (m : Fin 4 → Fin 512 → ℝ) (hM : ∀ h r l, ((arg10.view.read (Elt Ideal) (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4))) (ix3 h r l) : EReal) = (m h r : EReal)) (h : Fin 4) (r : Fin 512) (l : Fin 128) :
    ((arg12.view.read (Elt Ideal) (arg12.view.writes (Elt Ideal) arg12.view.junk (bodyOdd.sl.H12_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (ix3 h r l) : EReal) = numerM (i 1).val (arg9.view.read (Elt Ideal) (arg9.view.writes (Elt Ideal) arg9.view.junk (bodyOdd.sl.H9_4 (F := Ideal) arg3 X3))) (arg4.view.read (Elt Ideal) X4) (arg5.view.read (Elt Ideal) X5) m h r l := by
  have hodd := odd_parity 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  have hi : (i 1).val < 8 := (i 1).isLt
  refine Eq.trans ?_ (up_to_odd (tileM (i 1).val (arg9.view.read (Elt Ideal) (arg9.view.writes (Elt Ideal) arg9.view.junk (bodyOdd.sl.H9_4 (F := Ideal) arg3 X3))) (arg4.view.read (Elt Ideal) X4) (arg5.view.read (Elt Ideal) X5) m h r l) (diagTile i) (leftTile i) (by show (i 1).val - 1 + 1 = (i 1).val; omega))
  have e2 : ((leftTile i)).1 = 2 * ((i 1).val / 2) := by show (i 1).val - 1 = _; omega
  rw [e2]
  have key := odd_loop_weighted 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM h r l
  refine Eq.trans ?_ (congrArg (fun a : EReal => a + tileM (i 1).val (arg9.view.read (Elt Ideal) (arg9.view.writes (Elt Ideal) arg9.view.junk (bodyOdd.sl.H9_4 (F := Ideal) arg3 X3))) (arg4.view.read (Elt Ideal) X4) (arg5.view.read (Elt Ideal) X5) m h r l (leftTile i)) key)
  fin_cases h
  · exact (slab3 arg12.view _ 3 rfl _ _ _ _ r l).trans ((if_neg (by decide)).trans ((slab3 arg12.view _ 2 rfl _ _ _ _ r l).trans ((if_neg (by decide)).trans ((slab3 arg12.view _ 1 rfl _ _ _ _ r l).trans ((if_neg (by decide)).trans ((slab3 arg12.view _ 0 rfl _ _ _ _ r l).trans ((if_pos rfl).trans ((next_acc _ (bodyOdd.sl.v545_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) _ r l).trans (congrArg₂ (fun a b : EReal => a + b) (load3 arg12.view (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg12.view.writes (Elt Ideal) arg12.view.junk (bodyOdd.sl.H12_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 X5 g13)) (k0_t3_loop i).trips) 0 rfl _ 0 r l) (Finset.sum_congr rfl fun x _ => congrArg₂ (fun a b : EReal => a * b) (odd_left_weight0 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r x) (load2 (Val := Elt Ideal) arg5.view X5 (256 * ((i 1).val - 1)) 0 (off57_eq i hodd) _ (by omega) (by omega) x l)))))))))))
  · exact (slab3 arg12.view _ 3 rfl _ _ _ _ r l).trans ((if_neg (by decide)).trans ((slab3 arg12.view _ 2 rfl _ _ _ _ r l).trans ((if_neg (by decide)).trans ((slab3 arg12.view _ 1 rfl _ _ _ _ r l).trans ((if_pos rfl).trans ((next_acc _ (bodyOdd.sl.v564_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) _ r l).trans (congrArg₂ (fun a b : EReal => a + b) (load3 arg12.view (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg12.view.writes (Elt Ideal) arg12.view.junk (bodyOdd.sl.H12_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 X5 g13)) (k0_t3_loop i).trips) 1 rfl _ 0 r l) (Finset.sum_congr rfl fun x _ => congrArg₂ (fun a b : EReal => a * b) (odd_left_weight1 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r x) (load2 (Val := Elt Ideal) arg5.view X5 (256 * ((i 1).val - 1)) 128 (off58_eq i hodd) _ (by omega) (by omega) x l)))))))))
  · exact (slab3 arg12.view _ 3 rfl _ _ _ _ r l).trans ((if_neg (by decide)).trans ((slab3 arg12.view _ 2 rfl _ _ _ _ r l).trans ((if_pos rfl).trans ((next_acc _ (bodyOdd.sl.v583_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) _ r l).trans (congrArg₂ (fun a b : EReal => a + b) (load3 arg12.view (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg12.view.writes (Elt Ideal) arg12.view.junk (bodyOdd.sl.H12_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 X5 g13)) (k0_t3_loop i).trips) 2 rfl _ 0 r l) (Finset.sum_congr rfl fun x _ => congrArg₂ (fun a b : EReal => a * b) (odd_left_weight2 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r x) (load2 (Val := Elt Ideal) arg5.view X5 (256 * ((i 1).val - 1)) 256 (off59_eq i hodd) _ (by omega) (by omega) x l)))))))
  · exact (slab3 arg12.view _ 3 rfl _ _ _ _ r l).trans ((if_pos rfl).trans ((next_acc _ (bodyOdd.sl.v602 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4) _ r l).trans (congrArg₂ (fun a b : EReal => a + b) (load3 arg12.view (weightedAt (F := Ideal) 𝒱 c bd i arg2 harg2 arg3 harg3 arg4 harg4 arg5 harg5 arg6 harg6 arg7 harg7 arg8 harg8 arg9 harg9 arg10 harg10 arg11 harg11 arg12 harg12 arg13 harg13 X5 (arg10.view.writes (Elt Ideal) arg10.view.junk (bodyOdd.sl.H10_8 (F := Ideal) 𝒱 c bd i arg2 harg2 arg3 harg3 arg4 harg4 arg5 harg5 arg6 harg6 arg7 harg7 arg8 harg8 arg9 harg9 arg10 harg10 arg11 harg11 arg12 harg12 arg13 harg13 hc1 X3 X4)) (arg13.view.writes (Elt Ideal) (scoresAt (F := Ideal) 𝒱 c bd i arg2 harg2 arg3 harg3 arg4 harg4 arg5 harg5 arg6 harg6 arg7 harg7 arg8 harg8 arg9 harg9 arg10 harg10 arg11 harg11 arg12 harg12 arg13 harg13 (arg9.view.writes (Elt Ideal) arg9.view.junk (bodyOdd.sl.H9_4 (F := Ideal) arg3 X3)) X4 (arg13.view.writes (Elt Ideal) g13 (odd_start i arg3 arg4 arg9 X3 X4)) (k0_t1_loop i).trips) (bodyOdd.sl.H13_4 (F := Ideal) i arg3 arg4 arg9 hc1 X3 X4)) (arg12.view.writes (Elt Ideal) arg12.view.junk (bodyOdd.sl.H12_4 (F := Ideal) 𝒱 c bd i arg2 harg2 arg3 harg3 arg4 harg4 arg5 harg5 arg6 harg6 arg7 harg7 arg8 harg8 arg9 harg9 arg10 harg10 arg11 harg11 arg12 harg12 arg13 harg13 hc1 X3 X4 X5 g13)) (k0_t3_loop i).trips) 3 rfl _ 0 r l) (Finset.sum_congr rfl fun x _ => congrArg₂ (fun a b : EReal => a * b) (odd_left_weight3 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM r x) (load2 (Val := Elt Ideal) arg5.view X5 (256 * ((i 1).val - 1)) 384 (off60_eq i hodd) _ (by omega) (by omega) x l)))))

/-- The output block at an index. -/
theorem odd_out  (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (f8 : BufTy.Contents (Elt Ideal) arg8.view.ty)
    (hF : ∀ j h r cc, Cert.Proof.Fin' (scoreOf (arg9.view.read (Elt Ideal) (arg9.view.writes (Elt Ideal) arg9.view.junk (bodyOdd.sl.H9_4 (F := Ideal) arg3 X3))) (arg4.view.read (Elt Ideal) X4) j h r cc)) : ∃ m : Fin 4 → Fin 512 → ℝ, ∀ (r : Fin 256) (h : Fin 4) (l : Fin 128),
    arg8.view.read (Elt Ideal) (arg8.view.writes (Elt Ideal) f8 (bodyOdd (F := Ideal) 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g9 g10 g11 g12 g13).1) (ix2 r (⟨128 * h.1 + l.1, by omega⟩ : Fin 512))
      = gated (differM (i 1).val (arg9.view.read (Elt Ideal) (arg9.view.writes (Elt Ideal) arg9.view.junk (bodyOdd.sl.H9_4 (F := Ideal) arg3 X3))) (arg4.view.read (Elt Ideal) X4) (arg5.view.read (Elt Ideal) X5) m (lamOf (arg2.view.read (Elt Ideal) X2)) h r) ((arg7.view.read (Elt Ideal) X7) (ix2 (0 : Fin 1) l)) ((arg6.view.read (Elt Ideal) X6) (ix2 r (⟨128 * h.1 + l.1, by omega⟩ : Fin 512))) l := by
  obtain ⟨m, hM⟩ := odd_maxima 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 hF
  refine ⟨m, fun r h l => ?_⟩
  unfold bodyOdd
  dsimp only
  have hL := odd_sums 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM
  have hA := odd_weighted 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 m hM
  have e2 : (arg2.view.readAt (Elt Ideal) (Rect.unit (s := S4x64) ![0, 0] S4x64.size inb_S4x64_S4x64_0_0).toLoadRect X2 : Vec Ideal S4x64 .f32) = (arg2.view.read (Elt Ideal) X2) := whole_load arg2.view X2 _
  have e7 : (arg7.view.readAt (Elt Ideal) (Rect.unit (s := S1x128) ![0, 0] S1x128.size inb_S1x128_S1x128_0_0).toLoadRect X7 : Vec Ideal S1x128 .f32) = (arg7.view.read (Elt Ideal) X7) := whole_load arg7.view X7 _
  have key : ∀ (h : Fin 4) {o : Fin 3 → ℕ} (eo : o = ![h.1, 0, 0]) (inb : ∀ a, o a + S1x512x128.size a ≤ S4x512x128.size a), differ (arg12.view.readAt (Elt Ideal) (Rect.unit (s := S4x512x128) o S1x512x128.size inb).toLoadRect (arg12.view.writes (Elt Ideal) arg12.view.junk (bodyOdd.sl.H12_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (arg11.view.readAt (Elt Ideal) (Rect.unit (s := S4x512x128) o S1x512x128.size inb).toLoadRect (arg11.view.writes (Elt Ideal) arg11.view.junk (bodyOdd.sl.H11_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (lamOf (arg2.view.read (Elt Ideal) X2)) r = differM (i 1).val (arg9.view.read (Elt Ideal) (arg9.view.writes (Elt Ideal) arg9.view.junk (bodyOdd.sl.H9_4 (F := Ideal) arg3 X3))) (arg4.view.read (Elt Ideal) X4) (arg5.view.read (Elt Ideal) X5) m (lamOf (arg2.view.read (Elt Ideal) X2)) h r := by
    intro h o eo inb
    funext d
    unfold differ differM
    have a : ∀ r d, (arg12.view.readAt (Elt Ideal) (Rect.unit (s := S4x512x128) o S1x512x128.size inb).toLoadRect (arg12.view.writes (Elt Ideal) arg12.view.junk (bodyOdd.sl.H12_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13)) (ix3 (0 : Fin 1) r d) : EReal) = numerM (i 1).val (arg9.view.read (Elt Ideal) (arg9.view.writes (Elt Ideal) arg9.view.junk (bodyOdd.sl.H9_4 (F := Ideal) arg3 X3))) (arg4.view.read (Elt Ideal) X4) (arg5.view.read (Elt Ideal) X5) m h r d := fun r d => (load3 arg12.view _ h eo inb 0 r d).trans (hA h r d)
    have b : ∀ r, (∑ x : Fin 128, (arg11.view.readAt (Elt Ideal) (Rect.unit (s := S4x512x128) o S1x512x128.size inb).toLoadRect (arg11.view.writes (Elt Ideal) arg11.view.junk (bodyOdd.sl.H11_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13)) (ix3 (0 : Fin 1) r x) : EReal)) = ∑ x, denomM (i 1).val (arg9.view.read (Elt Ideal) (arg9.view.writes (Elt Ideal) arg9.view.junk (bodyOdd.sl.H9_4 (F := Ideal) arg3 X3))) (arg4.view.read (Elt Ideal) X4) m h r x := fun r => Finset.sum_congr rfl fun x _ => (load3 arg11.view _ h eo inb 0 r x).trans (hL h r x)
    rw [a, a, b, b]
  fin_cases h
  · refine (slab2 arg8.view _ 3 rfl _ _ _ r _ l).trans ((if_neg (by decide)).trans ((slab2 arg8.view _ 2 rfl _ _ _ r _ l).trans ((if_neg (by decide)).trans ((slab2 arg8.view _ 1 rfl _ _ _ r _ l).trans ((if_neg (by decide)).trans ((slab2 arg8.view _ 0 rfl _ _ _ r _ l).trans ((if_pos rfl).trans ((headOut_at (arg12.view.readAt (Elt Ideal) (Rect.unit (s := S4x512x128) ![0, 0, 0] S1x512x128.size inb_S4x512x128_S1x512x128_0_0_0).toLoadRect (arg12.view.writes (Elt Ideal) arg12.view.junk (bodyOdd.sl.H12_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (arg11.view.readAt (Elt Ideal) (Rect.unit (s := S4x512x128) ![0, 0, 0] S1x512x128.size inb_S4x512x128_S1x512x128_0_0_0).toLoadRect (arg11.view.writes (Elt Ideal) arg11.view.junk (bodyOdd.sl.H11_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (arg2.view.readAt (Elt Ideal) (Rect.unit (s := S4x64) ![0, 0] S4x64.size inb_S4x64_S4x64_0_0).toLoadRect X2) (arg6.view.readAt (Elt Ideal) (Rect.unit (s := S256x512) ![0, 0] S256x128.size inb_S256x512_S256x128_0_0).toLoadRect X6) (arg7.view.readAt (Elt Ideal) (Rect.unit (s := S1x128) ![0, 0] S1x128.size inb_S1x128_S1x128_0_0).toLoadRect X7) r l).trans ?_))))))))
    rw [e2, e7]
    exact congrArg₂ (fun o z => gated o _ z l) (key 0 rfl _) (load2 (Val := Elt Ideal) arg6.view X6 0 0 rfl _ (by omega) (by omega) r l |>.trans (congrArg (fun y : Fin 256 => (arg6.view.read (Elt Ideal) X6) (ix2 y (⟨0 + l.1, by omega⟩ : Fin 512))) (Fin.ext (Nat.zero_add r.1))))
  · refine (slab2 arg8.view _ 3 rfl _ _ _ r _ l).trans ((if_neg (by decide)).trans ((slab2 arg8.view _ 2 rfl _ _ _ r _ l).trans ((if_neg (by decide)).trans ((slab2 arg8.view _ 1 rfl _ _ _ r _ l).trans ((if_pos rfl).trans ((headOut_at (arg12.view.readAt (Elt Ideal) (Rect.unit (s := S4x512x128) ![1, 0, 0] S1x512x128.size inb_S4x512x128_S1x512x128_1_0_0).toLoadRect (arg12.view.writes (Elt Ideal) arg12.view.junk (bodyOdd.sl.H12_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (arg11.view.readAt (Elt Ideal) (Rect.unit (s := S4x512x128) ![1, 0, 0] S1x512x128.size inb_S4x512x128_S1x512x128_1_0_0).toLoadRect (arg11.view.writes (Elt Ideal) arg11.view.junk (bodyOdd.sl.H11_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (arg2.view.readAt (Elt Ideal) (Rect.unit (s := S4x64) ![0, 0] S4x64.size inb_S4x64_S4x64_0_0).toLoadRect X2) (arg6.view.readAt (Elt Ideal) (Rect.unit (s := S256x512) ![0, 128] S256x128.size inb_S256x512_S256x128_0_128).toLoadRect X6) (arg7.view.readAt (Elt Ideal) (Rect.unit (s := S1x128) ![0, 0] S1x128.size inb_S1x128_S1x128_0_0).toLoadRect X7) r l).trans ?_))))))
    rw [e2, e7]
    exact congrArg₂ (fun o z => gated o _ z l) (key 1 rfl _) (load2 (Val := Elt Ideal) arg6.view X6 0 128 rfl _ (by omega) (by omega) r l |>.trans (congrArg (fun y : Fin 256 => (arg6.view.read (Elt Ideal) X6) (ix2 y (⟨128 + l.1, by omega⟩ : Fin 512))) (Fin.ext (Nat.zero_add r.1))))
  · refine (slab2 arg8.view _ 3 rfl _ _ _ r _ l).trans ((if_neg (by decide)).trans ((slab2 arg8.view _ 2 rfl _ _ _ r _ l).trans ((if_pos rfl).trans ((headOut_at (arg12.view.readAt (Elt Ideal) (Rect.unit (s := S4x512x128) ![2, 0, 0] S1x512x128.size inb_S4x512x128_S1x512x128_2_0_0).toLoadRect (arg12.view.writes (Elt Ideal) arg12.view.junk (bodyOdd.sl.H12_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (arg11.view.readAt (Elt Ideal) (Rect.unit (s := S4x512x128) ![2, 0, 0] S1x512x128.size inb_S4x512x128_S1x512x128_2_0_0).toLoadRect (arg11.view.writes (Elt Ideal) arg11.view.junk (bodyOdd.sl.H11_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (arg2.view.readAt (Elt Ideal) (Rect.unit (s := S4x64) ![0, 0] S4x64.size inb_S4x64_S4x64_0_0).toLoadRect X2) (arg6.view.readAt (Elt Ideal) (Rect.unit (s := S256x512) ![0, 256] S256x128.size inb_S256x512_S256x128_0_256).toLoadRect X6) (arg7.view.readAt (Elt Ideal) (Rect.unit (s := S1x128) ![0, 0] S1x128.size inb_S1x128_S1x128_0_0).toLoadRect X7) r l).trans ?_))))
    rw [e2, e7]
    exact congrArg₂ (fun o z => gated o _ z l) (key 2 rfl _) (load2 (Val := Elt Ideal) arg6.view X6 0 256 rfl _ (by omega) (by omega) r l |>.trans (congrArg (fun y : Fin 256 => (arg6.view.read (Elt Ideal) X6) (ix2 y (⟨256 + l.1, by omega⟩ : Fin 512))) (Fin.ext (Nat.zero_add r.1))))
  · refine (slab2 arg8.view _ 3 rfl _ _ _ r _ l).trans ((if_pos rfl).trans ((headOut_at (arg12.view.readAt (Elt Ideal) (Rect.unit (s := S4x512x128) ![3, 0, 0] S1x512x128.size inb_S4x512x128_S1x512x128_3_0_0).toLoadRect (arg12.view.writes (Elt Ideal) arg12.view.junk (bodyOdd.sl.H12_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (arg11.view.readAt (Elt Ideal) (Rect.unit (s := S4x512x128) ![3, 0, 0] S1x512x128.size inb_S4x512x128_S1x512x128_3_0_0).toLoadRect (arg11.view.writes (Elt Ideal) arg11.view.junk (bodyOdd.sl.H11_4_1 (F := Ideal) 𝒱 c bd i arg2 harg2 arg3 harg3 arg4 harg4 arg5 harg5 arg6 harg6 arg7 harg7 arg8 harg8 arg9 harg9 arg10 harg10 arg11 harg11 arg12 harg12 arg13 harg13 hc1 hc2 X3 X4 X5 g13))) (arg2.view.readAt (Elt Ideal) (Rect.unit (s := S4x64) ![0, 0] S4x64.size inb_S4x64_S4x64_0_0).toLoadRect X2) (arg6.view.readAt (Elt Ideal) (Rect.unit (s := S256x512) ![0, 384] S256x128.size inb_S256x512_S256x128_0_384).toLoadRect X6) (arg7.view.readAt (Elt Ideal) (Rect.unit (s := S1x128) ![0, 0] S1x128.size inb_S1x128_S1x128_0_0).toLoadRect X7) r l).trans ?_))
    rw [e2, e7]
    exact congrArg₂ (fun o z => gated o _ z l) (key 3 rfl _) (load2 (Val := Elt Ideal) arg6.view X6 0 384 rfl _ (by omega) (by omega) r l |>.trans (congrArg (fun y : Fin 256 => (arg6.view.read (Elt Ideal) X6) (ix2 y (⟨384 + l.1, by omega⟩ : Fin 512))) (Fin.ext (Nat.zero_add r.1))))

end

end Cert.KernelIdeal.Attn

end
-- ==== Proof.AttnReference.lean ====
/-
  The reference's attention: the composed term its run ends with, read at an index.
-/
module

public import proofs.«01_k».proof.Proof.Gen.ReferenceIdeal.Run
public import proofs.«01_k».proof.Proof.AttnParts

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe Idealize.SL.Sem
open Cert.KernelIdeal.Attn (lamOf gated)

/-! ## The mathematics -/

/-- The scaled score of row `s` against column `t`, columns after the row masked. -/
def score (q k : FVec Ideal S16x2048x4x2x64 .f32) (b : Fin 16) (h : Fin 4) (c : Fin 2) (s t : Fin 2048) : EReal :=
  if t.1 ≤ s.1 then (∑ x : Fin 64, (q (ix5 b s h c x) : EReal) * k (ix5 b t h c x)) * Ideal.ofBits .f32 0x3E000000#32 else Ideal.ofBits .f32 0xFF800000#32

/-- The softmax's weight before the division. -/
def expW (S : Fin 2048 → EReal) (t : Fin 2048) : EReal :=
  Ideal.exp (S t - max (Ideal.ofBits .f32 0xFF800000#32) (Finset.fold max (Ideal.ofBits .f32 0xFF800000#32) S Finset.univ))

def prob (S : Fin 2048 → EReal) (t : Fin 2048) : EReal := Ideal.div (expW S t) (∑ x, expW S x)

/-- The values weighted by one softmax less `lam` times the other. -/
def mixed (q k : FVec Ideal S16x2048x4x2x64 .f32) (v : FVec Ideal S16x2048x512 .f32) (lam : EReal) (b : Fin 16) (s : Fin 2048) (h : Fin 4) (d : Fin 128) : EReal :=
  ∑ t : Fin 2048, (v (ix3 b t (⟨h.1 * 128 + d.1, by omega⟩ : Fin 512)) : EReal) * (prob (score q k b h 0 s) t - lam * prob (score q k b h 1 s) t)

/-! ## The reference's stages -/

def masked (q k : FVec Ideal S16x2048x4x2x64 .f32) : FVec Ideal S16x4x2x2048x2048 .f32 :=
  (select (broadcastInDim S16x4x2x2048x2048 ![3, 4] bcast_S2048x2048_S16x4x2x2048x2048_3_4 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (mulf (Host.dotGeneral dot_S16x2048x4x2x64_S16x2048x4x2x64_S16x4x2x2048x2048_4_4_1_1_023_023 none q k) (broadcastInDim S16x4x2x2048x2048 ![] bcast_S_S16x4x2x2048x2048 (constant S_ .f32 0x3E000000#32))) (broadcastInDim S16x4x2x2048x2048 ![] bcast_S_S16x4x2x2048x2048 (id (constant S_ .f32 0xFF800000#32))))

def weighed (S : FVec Ideal S16x4x2x2048x2048 .f32) : FVec Ideal S16x4x2x2048x2048 .f32 :=
  (Host.exp (subf S (broadcastInDim S16x4x2x2048x2048 ![0, 1, 2, 3, 4] bcast_S16x4x2x2048x1_S16x4x2x2048x2048_0_1_2_3_4 (broadcastInDim S16x4x2x2048x1 ![0, 1, 2, 3] bcast_S16x4x2x2048_S16x4x2x2048x1_0_1_2_3 (maximumf (broadcastInDim S16x4x2x2048 ![] bcast_S_S16x4x2x2048 (constant S_ .f32 0xFF800000#32)) (Host.reduce FloatOps.maximumf S (constant S_ .f32 0xFF800000#32) reducesTo_S16x4x2x2048x2048_S16x4x2x2048_d4 h_S_))))))

def divided (E : FVec Ideal S16x4x2x2048x2048 .f32) : FVec Ideal S16x4x2x2048x2048 .f32 :=
  (Host.divf E (broadcastInDim S16x4x2x2048x2048 ![0, 1, 2, 3, 4] bcast_S16x4x2x2048x1_S16x4x2x2048x2048_0_1_2_3_4 (broadcastInDim S16x4x2x2048x1 ![0, 1, 2, 3] bcast_S16x4x2x2048_S16x4x2x2048x1_0_1_2_3 (Host.reduceAdd E (constant S_ .f32 0x00000000#32) reducesTo_S16x4x2x2048x2048_S16x4x2x2048_d4 h_S_))))

def lambda (lv : FVec Ideal S4x64 .f32) : FVec Ideal S_ .f32 :=
  (addf (subf (Host.exp (Host.reduceAdd (mulf (shapeCast S64 (extractStridedSlice S1x64 ![0, 0] lv slices_S4x64_S1x64_0_0) shapeCasts_S1x64_S64) (shapeCast S64 (extractStridedSlice S1x64 ![1, 0] lv slices_S4x64_S1x64_1_0) shapeCasts_S1x64_S64)) (constant S_ .f32 0x00000000#32) reducesTo_S64_S_d0 h_S_)) (Host.exp (Host.reduceAdd (mulf (shapeCast S64 (extractStridedSlice S1x64 ![2, 0] lv slices_S4x64_S1x64_2_0) shapeCasts_S1x64_S64) (shapeCast S64 (extractStridedSlice S1x64 ![3, 0] lv slices_S4x64_S1x64_3_0) shapeCasts_S1x64_S64)) (constant S_ .f32 0x00000000#32) reducesTo_S64_S_d0 h_S_))) (constant S_ .f32 0x3EB60549#32))

def combined (P : FVec Ideal S16x4x2x2048x2048 .f32) (lam : FVec Ideal S_ .f32) (v : FVec Ideal S16x2048x512 .f32) : FVec Ideal S16x2048x4x128 .f32 :=
  (transpose S16x2048x4x128 [0, 3, 1, 2] (Host.dotGeneral dot_S16x2048x4x128_S16x4x2048x2048_S16x4x128x2048_1_3_3_2_02_01 none (shapeCast S16x2048x4x128 v shapeCasts_S16x2048x512_S16x2048x4x128) (subf (shapeCast S16x4x2048x2048 (extractStridedSlice S16x4x1x2048x2048 ![0, 0, 0, 0, 0] P slices_S16x4x2x2048x2048_S16x4x1x2048x2048_0_0_0_0_0) shapeCasts_S16x4x1x2048x2048_S16x4x2048x2048) (mulf (broadcastInDim S16x4x2048x2048 ![] bcast_S_S16x4x2048x2048 lam) (shapeCast S16x4x2048x2048 (extractStridedSlice S16x4x1x2048x2048 ![0, 0, 1, 0, 0] P slices_S16x4x2x2048x2048_S16x4x1x2048x2048_0_0_1_0_0) shapeCasts_S16x4x1x2048x2048_S16x4x2048x2048)))) transposes_S16x4x128x2048_S16x2048x4x128_0_3_1_2)

def finished (o : FVec Ideal S16x2048x4x128 .f32) (z : FVec Ideal S16x2048x512 .f32) (sub : FVec Ideal S128 .f32) : FVec Ideal S32768x512 .bf16 :=
  (truncf .bf16 (shapeCast S32768x512 (mulf (shapeCast S16x2048x512 (mulf (mulf (mulf o (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf o o) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32)))))) (broadcastInDim S16x2048x4x128 ![0, 1, 2, 3] bcast_S1x1x1x128_S16x2048x4x128_0_1_2_3 (broadcastInDim S1x1x1x128 ![3] bcast_S128_S1x1x1x128_3 sub))) (broadcastInDim S16x2048x4x128 ![] bcast_S_S16x2048x4x128 (constant S_ .f32 0x3F24FD5C#32))) shapeCasts_S16x2048x4x128_S16x2048x512) (mulf z (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf z)))))) shapeCasts_S16x2048x512_S32768x512) bitsLt_bf16_f32)

theorem sge_small (a b : ℕ) (ha : a < 2048) (hb : b < 2048) : IntOp.cmpi CmpIPredicate.sge (BitVec.ofNat 32 a) (BitVec.ofNat 32 b) = if b ≤ a then 1#1 else 0#1 := by
  rw [WordCmp.cmpi_sge_ofNat (by norm_num; omega) (by norm_num; omega)]
  by_cases h : b ≤ a <;> simp [h]

theorem masked_at (q k : FVec Ideal S16x2048x4x2x64 .f32) (b : Fin 16) (h : Fin 4) (c : Fin 2) (s t : Fin 2048) :
    masked q k (ix5 b h c s t) = score q k b h c s t := by
  have e : masked q k (ix5 b h c s t) = Scalar.select (IntOp.cmpi CmpIPredicate.sge (BitVec.ofNat 32 s.1) (BitVec.ofNat 32 t.1))
      ((∑ x : Fin 64, (q (ix5 b s h c x) : EReal) * k (ix5 b t h c x)) * Ideal.ofBits .f32 0x3E000000#32) (Ideal.ofBits .f32 0xFF800000#32) := by
    pointwise [masked]
    rfl
  rw [e, sge_small _ _ s.isLt t.isLt, Cert.KernelIdeal.Attn.select_ite]
  rfl

theorem fold_at {n0 n1 n2 n3 n4 : ℕ} {t u : Shape} (hr : (⟨5, ![n0, n1, n2, n3, n4]⟩ : Shape).ReducesTo [4] t) (hu : 0 < u.numel) (v : FVec Ideal ⟨5, ![n0, n1, n2, n3, n4]⟩ .f32)
    (i : FVec Ideal u .f32) (j : t.Idx) :
    Host.reduce FloatOps.maximumf v i hr hu j
      = Finset.fold (FloatOps.maximumf (F := Ideal) (φ := .f32)) (i (Shape.Idx.first hu))
        (fun k => v (ix5 ⟨(j ⟨0, hr.lt_r5_a4_0⟩).val, Shape.coordLt (j ⟨0, hr.lt_r5_a4_0⟩) hr.size_r5_a4_0⟩ ⟨(j ⟨1, hr.lt_r5_a4_1⟩).val, Shape.coordLt (j ⟨1, hr.lt_r5_a4_1⟩) hr.size_r5_a4_1⟩ ⟨(j ⟨2, hr.lt_r5_a4_2⟩).val, Shape.coordLt (j ⟨2, hr.lt_r5_a4_2⟩) hr.size_r5_a4_2⟩ ⟨(j ⟨3, hr.lt_r5_a4_3⟩).val, Shape.coordLt (j ⟨3, hr.lt_r5_a4_3⟩) hr.size_r5_a4_3⟩ k))
        (Finset.univ : Finset (Fin n4)) :=
  (Host.reduce_eq_fold _ v i hr hu j).trans (hr.fold_fiber_r5_a4 j (FloatOps.maximumf (F := Ideal) (φ := .f32)) (i (Shape.Idx.first hu)) v)

theorem max_at (S : FVec Ideal S16x4x2x2048x2048 .f32) (b : Fin 16) (h : Fin 4) (c : Fin 2) (s : Fin 2048) :
    (Host.reduce FloatOps.maximumf S (constant S_ .f32 0xFF800000#32) reducesTo_S16x4x2x2048x2048_S16x4x2x2048_d4 h_S_) (ix4 b h c s)
      = Finset.fold max (Ideal.ofBits .f32 0xFF800000#32) (fun t : Fin 2048 => (S (ix5 b h c s t) : EReal)) Finset.univ :=
  fold_at reducesTo_S16x4x2x2048x2048_S16x4x2x2048_d4 h_S_ S _ (ix4 b h c s)

theorem exp_at (S : FVec Ideal S16x4x2x2048x2048 .f32) (r : FVec Ideal S16x4x2x2048 .f32) (b : Fin 16) (h : Fin 4) (c : Fin 2) (s t : Fin 2048) :
    (Host.exp (subf S (broadcastInDim S16x4x2x2048x2048 ![0, 1, 2, 3, 4] bcast_S16x4x2x2048x1_S16x4x2x2048x2048_0_1_2_3_4 (broadcastInDim S16x4x2x2048x1 ![0, 1, 2, 3] bcast_S16x4x2x2048_S16x4x2x2048x1_0_1_2_3 (maximumf (broadcastInDim S16x4x2x2048 ![] bcast_S_S16x4x2x2048 (constant S_ .f32 0xFF800000#32)) r))))) (ix5 b h c s t) = Ideal.exp (S (ix5 b h c s t) - max (Ideal.ofBits .f32 0xFF800000#32) (r (ix4 b h c s))) := by
  pointwise []

theorem weighed_at (S : FVec Ideal S16x4x2x2048x2048 .f32) (b : Fin 16) (h : Fin 4) (c : Fin 2) (s t : Fin 2048) :
    weighed S (ix5 b h c s t) = expW (fun t => S (ix5 b h c s t)) t := by
  unfold weighed
  rw [exp_at, max_at]
  rfl

theorem divided_at (E : FVec Ideal S16x4x2x2048x2048 .f32) (b : Fin 16) (h : Fin 4) (c : Fin 2) (s t : Fin 2048) :
    divided E (ix5 b h c s t) = Ideal.div (E (ix5 b h c s t)) (∑ x : Fin 2048, (E (ix5 b h c s x) : EReal)) := by
  pointwise [divided]

theorem lambda_at (lv : FVec Ideal S4x64 .f32) (i : S_.Idx) : lambda lv i = lamOf lv := by
  pointwise [lambda, lamOf]

theorem combined_at (P : FVec Ideal S16x4x2x2048x2048 .f32) (lam : FVec Ideal S_ .f32) (L : EReal) (hL : ∀ i, lam i = L) (v : FVec Ideal S16x2048x512 .f32) (b : Fin 16) (s : Fin 2048) (h : Fin 4) (d : Fin 128) :
    combined P lam v (ix4 b s h d) = ∑ t : Fin 2048, (v (ix3 b t (⟨h.1 * 128 + d.1, by omega⟩ : Fin 512)) : EReal) * (P (ix5 b h (0 : Fin 2) s t) - L * P (ix5 b h (1 : Fin 2) s t)) := by
  pointwise [combined, hL]

theorem finished_at (o : FVec Ideal S16x2048x4x128 .f32) (z : FVec Ideal S16x2048x512 .f32) (sub : FVec Ideal S128 .f32) (r : Fin 32768) (x : Fin 512) :
    finished o z sub (ix2 r x) = gated (fun d => o (ix4 (⟨r.1 / 2048, by omega⟩ : Fin 16) (⟨r.1 % 2048, by omega⟩ : Fin 2048) (⟨x.1 / 128, by omega⟩ : Fin 4) d)) (sub (ix1 (⟨x.1 % 128, by omega⟩ : Fin 128)))
      (z (ix3 (⟨r.1 / 2048, by omega⟩ : Fin 16) (⟨r.1 % 2048, by omega⟩ : Fin 2048) x)) ⟨x.1 % 128, by omega⟩ := by
  have e : ∀ y : EReal, 0 - y = -y := fun y => by rw [sub_eq_add_neg, zero_add]
  pointwise [finished, gated, e]

variable (m : (ℓ : Loc nD τ sig) → Buf (Elt Ideal) ℓ) (c : Dev nD)

theorem stages : res_out0 (F := Ideal) m c = finished (combined (divided (weighed (masked (m ((c.tc : Thread nD τ).loc main_arg0)) (m ((c.tc : Thread nD τ).loc main_arg1))))) (lambda (m ((c.tc : Thread nD τ).loc main_arg5))) (m ((c.tc : Thread nD τ).loc main_arg2)))
    (m ((c.tc : Thread nD τ).loc main_arg3)) (m ((c.tc : Thread nD τ).loc main_arg6)) := rfl

/-- What the attention computes: each head's mixed values normalised, scaled and gated. -/
def attnOf (q k : FVec Ideal S16x2048x4x2x64 .f32) (v z : FVec Ideal S16x2048x512 .f32) (lv : FVec Ideal S4x64 .f32) (sub : FVec Ideal S128 .f32) (r : Fin 32768) (x : Fin 512) : EReal :=
  gated (mixed q k v (lamOf lv) ⟨r.1 / 2048, by omega⟩ ⟨r.1 % 2048, by omega⟩ ⟨x.1 / 128, by omega⟩) (sub (ix1 (⟨x.1 % 128, by omega⟩ : Fin 128)))
    (z (ix3 (⟨r.1 / 2048, by omega⟩ : Fin 16) (⟨r.1 % 2048, by omega⟩ : Fin 2048) x)) ⟨x.1 % 128, by omega⟩

theorem result_at (q k : FVec Ideal S16x2048x4x2x64 .f32) (v z : FVec Ideal S16x2048x512 .f32) (lv : FVec Ideal S4x64 .f32) (sub : FVec Ideal S128 .f32) (r : Fin 32768) (x : Fin 512) :
    finished (combined (divided (weighed (masked q k))) (lambda lv) v) z sub (ix2 r x) = attnOf q k v z lv sub r x := by
  rw [finished_at]
  unfold attnOf
  congr 1
  funext d
  rw [combined_at _ _ _ (lambda_at lv)]
  unfold mixed
  have e : ∀ b h c s t, divided (weighed (masked q k)) (ix5 b h c s t) = prob (score q k b h c s) t := fun b h c s t => by
    have es : ∀ t, weighed (masked q k) (ix5 b h c s t) = expW (score q k b h c s) t := fun t => by
      rw [weighed_at, show (fun t => masked q k (ix5 b h c s t)) = score q k b h c s from funext fun t => masked_at q k b h c s t]
    rw [divided_at, es]
    simp only [es]
    rfl
  simp only [e]

end Cert.ReferenceIdeal.Attn

end
-- ==== Proof.AttnSoftmax.lean ====
/-
  The softmax over the columns up to a row's own, in real numbers: the kernel's powers of two over any number of the row
  and the reference's exponentials over the row's maximum are both multiples of one exponential.
-/
module

public import proofs.«01_k».proof.Proof.AttnReference
public import proofs.«01_k».proof.Proof.Softmax

@[expose] public section

noncomputable section

namespace Cert.Proof

open Idealize.ShloMosaic
open Cert.ReferenceIdeal.Attn (expW prob)

/-- The exponentials of the first columns, zero after them. -/
def cut (N : ℕ) (σ : Fin 2048 → ℝ) (t : Fin 2048) : ℝ := if t.1 ≤ N then Real.exp (σ t) else 0

theorem cut_nonneg (N : ℕ) (σ : Fin 2048 → ℝ) (t : Fin 2048) : 0 ≤ cut N σ t := by
  unfold cut
  split
  · exact (Real.exp_pos _).le
  · exact le_rfl

theorem cut_sum_pos (N : ℕ) (σ : Fin 2048 → ℝ) : 0 < ∑ t, cut N σ t := by
  refine Finset.sum_pos' (fun t _ => cut_nonneg N σ t) ⟨(0 : Fin 2048), Finset.mem_univ _, ?_⟩
  exact (Real.exp_pos (σ 0)).trans_eq (if_pos (show ((0 : Fin 2048) : ℕ) ≤ N from Nat.zero_le _)).symm

theorem power_real (s m : ℝ) : Ideal.exp2 (((s * (Real.log 2)⁻¹ : ℝ) : EReal) - (m : EReal)) = ((Real.exp s * Real.exp (-(m * Real.log 2)) : ℝ) : EReal) := by
  have h : Real.log 2 ≠ 0 := (Real.log_pos (by norm_num)).ne'
  have e : s * (Real.log 2)⁻¹ - m = (s + -(m * Real.log 2)) * (Real.log 2)⁻¹ := by
    field_simp
    ring
  rw [← EReal.coe_sub, e, exp2_coe, Real.exp_add]

theorem power_bot (m : ℝ) : Ideal.exp2 ((⊥ : EReal) - (m : EReal)) = 0 := by
  rw [EReal.bot_sub]
  exact Ideal.exp2_bot

theorem prob_real (N : ℕ) (σ : Fin 2048 → ℝ) (S : Fin 2048 → EReal) (hS : ∀ t, S t = if t.1 ≤ N then (σ t : EReal) else Ideal.ofBits .f32 0xFF800000#32) (t : Fin 2048) :
    prob S t = ((cut N σ t * (∑ x, cut N σ x)⁻¹ : ℝ) : EReal) := by
  obtain ⟨t₀, h, hle⟩ := sup_attained S
  have h0 : S 0 = (σ 0 : EReal) := (hS 0).trans (if_pos (Nat.zero_le _))
  have hin : t₀.1 ≤ N := by
    by_contra hn
    have := hle 0
    rw [hS t₀, if_neg hn, bot_f32, h0] at this
    exact EReal.coe_ne_bot _ (le_bot_iff.mp this)
  have hM : S t₀ = (σ t₀ : EReal) := (hS t₀).trans (if_pos hin)
  have hw : ∀ t, expW S t = ((cut N σ t * Real.exp (-σ t₀) : ℝ) : EReal) := fun t => by
    unfold expW cut
    rw [fold_max, h, hM, bot_f32, max_eq_right bot_le, hS t]
    split
    · rw [← EReal.coe_sub, ← Real.exp_add]
      rfl
    · rw [bot_f32, EReal.bot_sub, zero_mul]
      rfl
  have hpos := cut_sum_pos N σ
  have hex := Real.exp_pos (-σ t₀)
  have e : (∑ x, expW S x) = (((∑ x, cut N σ x) * Real.exp (-σ t₀) : ℝ) : EReal) := by
    rw [Finset.sum_mul, ← coe_sum]
    exact Finset.sum_congr rfl fun x _ => hw x
  unfold prob
  rw [hw, e, div_coe _ (mul_pos hpos hex).ne', ← EReal.coe_mul]
  congr 1
  field_simp

/-- A row's 2048 columns are eight tiles of 256. -/
theorem flat_sum (f : Fin 2048 → ℝ) : (∑ j : Fin 8, ∑ x : Fin 256, f ⟨256 * j.1 + x.1, by omega⟩) = ∑ t, f t := by
  rw [← Fintype.sum_prod_type' (f := fun (j : Fin 8) (x : Fin 256) => f ⟨256 * j.1 + x.1, by omega⟩)]
  refine Fintype.sum_equiv (finProdFinEquiv (m := 8) (n := 256)) _ _ fun x => congrArg f (Fin.ext ?_)
  show 256 * x.1.1 + x.2.1 = x.2.1 + 256 * x.1.1
  omega

theorem half_sum (f : Fin 256 → ℝ) : (∑ l : Fin 128, (f ⟨l.1, by omega⟩ + f ⟨128 + l.1, by omega⟩)) = ∑ x, f x := by
  rw [Finset.sum_add_distrib]
  exact (Fin.sum_univ_add (a := 128) (b := 128) f).symm

end Cert.Proof

end
-- ==== Proof.AttnMath.lean ====
/-
  One head's rows of the attention: with finite queries, keys, values and lambda, the kernel's two quotients differ as the
  reference's two softmaxes do.
-/
module

public import proofs.«01_k».proof.Proof.AttnSpec
public import proofs.«01_k».proof.Proof.AttnSoftmax

@[expose] public section

noncomputable section

namespace Cert.KernelIdeal.Attn

open Cert.KernelIdeal Cert.KernelIdeal.Gen
open Idealize.ShloMosaic Idealize.ShloMosaic.TcCoe
open Cert.Proof (Fin' cut coe_sum)
open Cert.ReferenceIdeal.Attn (prob)

theorem scale_named : Named.named (F := Ideal) (φ := .f32) κ "q_scale" 0x3E38AA3B#32 = (((8 : ℝ)⁻¹ * (Real.log 2)⁻¹ : ℝ) : EReal) :=
  IdealRules.named_const.ideal_named_scalar _ _ _ _ rfl

theorem eighth : Ideal.ofBits .f32 0x3E000000#32 = (((8 : ℝ)⁻¹ : ℝ) : EReal) := by
  simp [Ideal.ofBits, Ideal.ieee, -EReal.coe_mul]; norm_num

/-- A row of the doubled queries is one of the two halves of the head. -/
def rowOf (c : Fin 2) (r : Fin 256) : Fin 512 := ⟨256 * c.1 + r.1, by omega⟩

/-- The product with a row of the doubled queries is over 64 lanes. -/
theorem query_sum (f : Fin 256 → Fin 128 → EReal) (K : Fin 128 → EReal) (c : Fin 2) (r : Fin 256) :
    (∑ l : Fin 128, queryOf f (rowOf c r) l * K l)
      = ∑ x : Fin 64, f r ⟨64 * c.1 + x.1, by omega⟩ * Named.named (F := Ideal) (φ := .f32) κ "q_scale" 0x3E38AA3B#32 * K ⟨64 * c.1 + x.1, by omega⟩ := by
  refine (Fin.sum_univ_add (a := 64) (b := 64) (fun l : Fin 128 => queryOf f (rowOf c r) l * K l)).trans ?_
  fin_cases c
  · have h1 : ∀ x : Fin 64, queryOf f (rowOf 0 r) ⟨x.1, by omega⟩ = f r ⟨64 * 0 + x.1, by omega⟩ * Named.named (F := Ideal) (φ := .f32) κ "q_scale" 0x3E38AA3B#32 := fun x => by
      have e : (rowOf 0 r).1 < 256 := by show 256 * 0 + r.1 < 256; omega
      refine (dif_pos e).trans ((if_pos x.isLt).trans ?_)
      congr 2 <;> exact Fin.ext (by show _ = _; simp [rowOf])
    have h2 : ∀ x : Fin 64, queryOf f (rowOf 0 r) ⟨64 + x.1, by omega⟩ = 0 := fun x => by
      have e : (rowOf 0 r).1 < 256 := by show 256 * 0 + r.1 < 256; omega
      exact (dif_pos e).trans (if_neg (by show ¬ 64 + x.1 < 64; omega))
    refine (congrArg₂ (fun a b : EReal => a + b) (Finset.sum_congr rfl fun x _ => ?_) (Finset.sum_eq_zero fun x _ => ?_)).trans (add_zero _)
    · exact congrArg₂ (fun a b : EReal => a * b) (h1 x) (congrArg K (Fin.ext (by show x.1 = 64 * 0 + x.1; omega)))
    · exact (congrArg (fun a : EReal => a * _) (h2 x)).trans (zero_mul _)
  · have h1 : ∀ x : Fin 64, queryOf f (rowOf 1 r) ⟨x.1, by omega⟩ = 0 := fun x => by
      have e : ¬ (rowOf 1 r).1 < 256 := by show ¬ 256 * 1 + r.1 < 256; omega
      exact (dif_neg e).trans (if_neg (by show ¬ 64 ≤ x.1; omega))
    have h2 : ∀ x : Fin 64, queryOf f (rowOf 1 r) ⟨64 + x.1, by omega⟩ = f r ⟨64 * 1 + x.1, by omega⟩ * Named.named (F := Ideal) (φ := .f32) κ "q_scale" 0x3E38AA3B#32 := fun x => by
      have e : ¬ (rowOf 1 r).1 < 256 := by show ¬ 256 * 1 + r.1 < 256; omega
      refine (dif_neg e).trans ((if_pos (by show 64 ≤ 64 + x.1; omega)).trans ?_)
      congr 2 <;> exact Fin.ext (by simp [rowOf])
    refine (congrArg₂ (fun a b : EReal => a + b) (Finset.sum_eq_zero fun x _ => ?_) (Finset.sum_congr rfl fun x _ => ?_)).trans (zero_add _)
    · exact (congrArg (fun a : EReal => a * _) (h1 x)).trans (zero_mul _)
    · exact congrArg (fun a : EReal => a * _) (h2 x)

/-- The scores of a row against a column, before the mask. -/
def rawScore (x3 : Vec Ideal S256x512 .bf16) (x4 : Vec Ideal S2048x512 .bf16) (h : Fin 4) (c : Fin 2) (r : Fin 256) (t : Fin 2048) : EReal :=
  (∑ x : Fin 64, (x3 (ix2 r (⟨128 * h.1 + (64 * c.1 + x.1), by omega⟩ : Fin 512)) : EReal) * x4 (ix2 t (⟨128 * h.1 + (64 * c.1 + x.1), by omega⟩ : Fin 512)))
    * Ideal.ofBits .f32 0x3E000000#32

theorem raw_finite (x3 : Vec Ideal S256x512 .bf16) (x4 : Vec Ideal S2048x512 .bf16) (h3 : ∀ r x, Fin' (x3 (ix2 r x))) (h4 : ∀ r x, Fin' (x4 (ix2 r x))) (h : Fin 4) (c : Fin 2) (r : Fin 256) :
    ∃ σ : Fin 2048 → ℝ, ∀ t, rawScore x3 x4 h c r t = (σ t : EReal) := by
  have e : ∀ t, ∃ s : ℝ, rawScore x3 x4 h c r t = (s : EReal) := fun t =>
    Fin'.mul (Fin'.sum _ fun x => Fin'.mul (h3 _ _) (h4 _ _)) ⟨_, eighth⟩
  choose σ hσ using e
  exact ⟨σ, hσ⟩

/-- The kernel's score is the reference's over log 2. -/
theorem scoreOf_eq (Q : Vec Ideal S4x512x128 .bf16) (x3 : Vec Ideal S256x512 .bf16) (x4 : Vec Ideal S2048x512 .bf16)
    (hQ : ∀ (h : Fin 4) (r : Fin 512) (l : Fin 128), (Q (ix3 h r l) : EReal) = queryOf (fun r l => x3 (ix2 r (⟨128 * h.1 + l.1, by omega⟩ : Fin 512))) r l)
    (h3 : ∀ r x, Fin' (x3 (ix2 r x))) (h4 : ∀ r x, Fin' (x4 (ix2 r x))) (j : Fin 8) (h : Fin 4) (c : Fin 2) (r : Fin 256) (cc : Fin 256) :
    scoreOf Q x4 j h (rowOf c r) cc = rawScore x3 x4 h c r ⟨256 * j.1 + cc.1, by omega⟩ * (((Real.log 2)⁻¹ : ℝ) : EReal) := by
  unfold scoreOf
  simp only [hQ]
  refine (query_sum _ (fun l => x4 (ix2 (⟨256 * j.1 + cc.1, by omega⟩ : Fin 2048) (⟨128 * h.1 + l.1, by omega⟩ : Fin 512))) c r).trans ?_
  unfold rawScore
  rw [scale_named, eighth]
  choose a ha using fun x : Fin 64 => h3 r (⟨128 * h.1 + (64 * c.1 + x.1), by omega⟩ : Fin 512)
  choose b hb using fun x : Fin 64 => h4 (⟨256 * j.1 + cc.1, by omega⟩ : Fin 2048) (⟨128 * h.1 + (64 * c.1 + x.1), by omega⟩ : Fin 512)
  have e1 : ∀ x : Fin 64, (x3 (ix2 r (⟨128 * h.1 + (64 * c.1 + x.1), by omega⟩ : Fin 512)) : EReal) * (((8 : ℝ)⁻¹ * (Real.log 2)⁻¹ : ℝ) : EReal) * x4 (ix2 (⟨256 * j.1 + cc.1, by omega⟩ : Fin 2048) (⟨128 * h.1 + (64 * c.1 + x.1), by omega⟩ : Fin 512))
      = ((a x * b x * ((8 : ℝ)⁻¹ * (Real.log 2)⁻¹) : ℝ) : EReal) := fun x => by
    rw [ha, hb, ← EReal.coe_mul, ← EReal.coe_mul]
    congr 1
    ring
  have e2 : ∀ x : Fin 64, (x3 (ix2 r (⟨128 * h.1 + (64 * c.1 + x.1), by omega⟩ : Fin 512)) : EReal) * x4 (ix2 (⟨256 * j.1 + cc.1, by omega⟩ : Fin 2048) (⟨128 * h.1 + (64 * c.1 + x.1), by omega⟩ : Fin 512))
      = ((a x * b x : ℝ) : EReal) := fun x => by
    rw [ha, hb, ← EReal.coe_mul]
  refine (Finset.sum_congr rfl fun x _ => e1 x).trans (Eq.trans ?_ (congrArg (fun y : EReal => y * _ * _) (Finset.sum_congr rfl fun x _ => e2 x)).symm)
  rw [coe_sum, coe_sum, ← EReal.coe_mul, ← EReal.coe_mul, ← Finset.sum_mul, mul_assoc]

section

variable (n : Fin 8) (Q : Vec Ideal S4x512x128 .bf16) (x4 x5 : Vec Ideal S2048x512 .bf16) (m : Fin 4 → Fin 512 → ℝ) (h : Fin 4) (c : Fin 2) (r : Fin 256) (σ : Fin 2048 → ℝ)
  (hσ : ∀ (j : Fin 8) (cc : Fin 256), scoreOf Q x4 j h (rowOf c r) cc = ((σ ⟨256 * j.1 + cc.1, by omega⟩ * (Real.log 2)⁻¹ : ℝ) : EReal))

include hσ

/-- A kernel's weight is a multiple of the column's exponential. -/
theorem weight_cut (j : Fin 8) (cc : Fin 256) :
    (if j.1 ≤ n.1 then weightM n.1 Q x4 m j h (rowOf c r) cc else 0)
      = ((cut (256 * n.1 + r.1) σ ⟨256 * j.1 + cc.1, by omega⟩ * Real.exp (-(m h (rowOf c r) * Real.log 2)) : ℝ) : EReal) := by
  have hr : (rowOf c r).1 % 256 = r.1 := by show (256 * c.1 + r.1) % 256 = r.1; omega
  unfold cut
  by_cases hj : j.1 ≤ n.1
  · rw [if_pos hj]
    unfold weightM
    by_cases hlt : j.1 < n.1
    · rw [scoreM_before hlt, hσ, Cert.Proof.power_real, if_pos (by show 256 * j.1 + cc.1 ≤ 256 * n.1 + r.1; omega)]
    · have he : j.1 = n.1 := by omega
      rw [scoreM_diagonal he, hr]
      by_cases hc : cc.1 ≤ r.1
      · rw [if_pos hc, hσ, Cert.Proof.power_real, if_pos (by show 256 * j.1 + cc.1 ≤ 256 * n.1 + r.1; omega)]
      · rw [if_neg hc, Cert.Proof.power_bot, if_neg (by show ¬ 256 * j.1 + cc.1 ≤ 256 * n.1 + r.1; omega), zero_mul]
        rfl
  · rw [if_neg hj, if_neg (by show ¬ 256 * j.1 + cc.1 ≤ 256 * n.1 + r.1; omega), zero_mul]
    rfl

theorem denom_cut : (∑ l, denomM n.1 Q x4 m h (rowOf c r) l)
    = (((∑ t, cut (256 * n.1 + r.1) σ t) * Real.exp (-(m h (rowOf c r) * Real.log 2)) : ℝ) : EReal) := by
  have hw := weight_cut n Q x4 m h c r σ hσ
  have e : ∀ l : Fin 128, denomM n.1 Q x4 m h (rowOf c r) l = ((∑ j : Fin 8, (cut (256 * n.1 + r.1) σ ⟨256 * j.1 + l.1, by omega⟩ * Real.exp (-(m h (rowOf c r) * Real.log 2))
      + cut (256 * n.1 + r.1) σ ⟨256 * j.1 + (128 + l.1), by omega⟩ * Real.exp (-(m h (rowOf c r) * Real.log 2))) : ℝ) : EReal) := fun l => by
    rw [← coe_sum]
    refine Finset.sum_congr rfl fun j _ => ?_
    rw [EReal.coe_add]
    refine Eq.trans ?_ (congrArg₂ (fun a b : EReal => a + b) (hw j ⟨l.1, by omega⟩) (hw j ⟨128 + l.1, by omega⟩))
    by_cases hj : j.1 ≤ n.1
    · simp only [if_pos hj]
      rfl
    · simp only [if_neg hj]
      exact (add_zero _).symm
  rw [Finset.sum_congr rfl fun l _ => e l, coe_sum]
  congr 1
  rw [Finset.sum_comm, Finset.sum_mul, ← Cert.Proof.flat_sum]
  exact Finset.sum_congr rfl fun j _ => Cert.Proof.half_sum fun x => cut (256 * n.1 + r.1) σ ⟨256 * j.1 + x.1, by omega⟩ * Real.exp (-(m h (rowOf c r) * Real.log 2))

theorem numer_cut (v : Fin 2048 → ℝ) (d : Fin 128) (hv : ∀ t, (x5 (ix2 t (⟨128 * h.1 + d.1, by omega⟩ : Fin 512)) : EReal) = (v t : EReal)) :
    numerM n.1 Q x4 x5 m h (rowOf c r) d = (((∑ t, cut (256 * n.1 + r.1) σ t * v t) * Real.exp (-(m h (rowOf c r) * Real.log 2)) : ℝ) : EReal) := by
  have hw := weight_cut n Q x4 m h c r σ hσ
  rw [Finset.sum_mul, ← Cert.Proof.flat_sum, ← coe_sum]
  refine Finset.sum_congr rfl fun j _ => ?_
  rw [← coe_sum]
  refine Eq.trans (b := ∑ x : Fin 256, (if j.1 ≤ n.1 then weightM n.1 Q x4 m j h (rowOf c r) x else 0) * x5 (ix2 (⟨256 * j.1 + x.1, by omega⟩ : Fin 2048) (⟨128 * h.1 + d.1, by omega⟩ : Fin 512))) ?_ (Finset.sum_congr rfl fun x _ => ?_)
  · by_cases hj : j.1 ≤ n.1
    · simp only [if_pos hj]
      rfl
    · simp only [if_neg hj]
      exact (Finset.sum_eq_zero fun x _ => zero_mul _).symm
  · rw [hw, hv, ← EReal.coe_mul]
    congr 1
    ring

end

/-- What the kernel's two quotients come to. -/
theorem differM_eq (n : Fin 8) (Q : Vec Ideal S4x512x128 .bf16) (x3 : Vec Ideal S256x512 .bf16) (x4 x5 : Vec Ideal S2048x512 .bf16) (m : Fin 4 → Fin 512 → ℝ) (lam : EReal)
    (hQ : ∀ (h : Fin 4) (r : Fin 512) (l : Fin 128), (Q (ix3 h r l) : EReal) = queryOf (fun r l => x3 (ix2 r (⟨128 * h.1 + l.1, by omega⟩ : Fin 512))) r l)
    (h3 : ∀ r x, Fin' (x3 (ix2 r x))) (h4 : ∀ r x, Fin' (x4 (ix2 r x))) (h5 : ∀ r x, Fin' (x5 (ix2 r x))) (hl : Fin' lam) (h : Fin 4) (r : Fin 256) (d : Fin 128)
    (S : Fin 2 → Fin 2048 → EReal) (hS : ∀ c t, S c t = if t.1 ≤ 256 * n.1 + r.1 then rawScore x3 x4 h c r t else Ideal.ofBits .f32 0xFF800000#32) :
    differM n.1 Q x4 x5 m lam h r d
      = ∑ t : Fin 2048, (x5 (ix2 t (⟨128 * h.1 + d.1, by omega⟩ : Fin 512)) : EReal) * (prob (S 0) t - lam * prob (S 1) t) := by
  choose σ hσ using fun c => raw_finite x3 x4 h3 h4 h c r
  choose v hv using fun t => h5 t (⟨128 * h.1 + d.1, by omega⟩ : Fin 512)
  obtain ⟨lam', rfl⟩ := hl
  have hk : ∀ c (j : Fin 8) (cc : Fin 256), scoreOf Q x4 j h (rowOf c r) cc = ((σ c ⟨256 * j.1 + cc.1, by omega⟩ * (Real.log 2)⁻¹ : ℝ) : EReal) := fun c j cc => by
    rw [scoreOf_eq Q x3 x4 hQ h3 h4 j h c r cc, hσ, ← EReal.coe_mul]
  have hp : ∀ c t, prob (S c) t = ((cut (256 * n.1 + r.1) (σ c) t * (∑ x, cut (256 * n.1 + r.1) (σ c) x)⁻¹ : ℝ) : EReal) := fun c t =>
    Cert.Proof.prob_real _ _ _ (fun t => by rw [hS, hσ]) t
  have hq : ∀ c, Ideal.div (numerM n.1 Q x4 x5 m h (rowOf c r) d) (∑ l, denomM n.1 Q x4 m h (rowOf c r) l)
      = (((∑ t, cut (256 * n.1 + r.1) (σ c) t * v t) * (∑ x, cut (256 * n.1 + r.1) (σ c) x)⁻¹ : ℝ) : EReal) := fun c => by
    have hpos := Cert.Proof.cut_sum_pos (256 * n.1 + r.1) (σ c)
    have hex := Real.exp_pos (-(m h (rowOf c r) * Real.log 2))
    rw [denom_cut n Q x4 m h c r (σ c) (hk c), numer_cut n Q x4 x5 m h c r (σ c) (hk c) v d hv, Cert.Proof.div_coe _ (mul_pos hpos hex).ne', ← EReal.coe_mul]
    congr 1
    field_simp
  have e0 : (⟨r.1, by omega⟩ : Fin 512) = rowOf 0 r := Fin.ext (by show r.1 = 256 * 0 + r.1; omega)
  have e1 : (⟨256 + r.1, by omega⟩ : Fin 512) = rowOf 1 r := Fin.ext (by show 256 + r.1 = 256 * 1 + r.1; omega)
  have right : ∀ t, (x5 (ix2 t (⟨128 * h.1 + d.1, by omega⟩ : Fin 512)) : EReal) * (prob (S 0) t - (lam' : EReal) * prob (S 1) t)
      = ((v t * (cut (256 * n.1 + r.1) (σ 0) t * (∑ x, cut (256 * n.1 + r.1) (σ 0) x)⁻¹ - lam' * (cut (256 * n.1 + r.1) (σ 1) t * (∑ x, cut (256 * n.1 + r.1) (σ 1) x)⁻¹)) : ℝ) : EReal) := fun t => by
    rw [hv, hp, hp, ← EReal.coe_mul, ← EReal.coe_sub, ← EReal.coe_mul]
  unfold differM
  rw [e0, e1, hq, hq, Finset.sum_congr rfl fun t _ => right t, coe_sum, ← EReal.coe_mul, ← EReal.coe_sub]
  congr 1
  simp only [Finset.sum_mul, Finset.mul_sum]
  rw [← Finset.sum_sub_distrib]
  refine Finset.sum_congr rfl fun t _ => ?_
  ring

end Cert.KernelIdeal.Attn

end
-- ==== Proof.AttnBlock.lean ====
/-
  One grid point of the differential attention: the block it writes, as a function of the blocks it reads, at either
  parity of the query tile's number.
-/
module

public import proofs.«01_k».proof.Proof.AttnEven
public import proofs.«01_k».proof.Proof.AttnOdd
public import proofs.«01_k».proof.Proof.AttnMath

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Proof (Fin')
open Cert.ReferenceIdeal.Attn (prob)

/-- The scores of a row of query tile `n` with every key, the later keys at minus infinity. -/
def maskedScore (n : ℕ) (x3 : Vec Ideal S256x512 .bf16) (x4 : Vec Ideal S2048x512 .bf16) (h : Fin 4) (r : Fin 256) (c : Fin 2) (t : Fin 2048) : EReal :=
  if t.1 ≤ 256 * n + r.1 then rawScore x3 x4 h c r t else Ideal.ofBits .f32 0xFF800000#32

/-- One head's rows of the block: the values weighted by one softmax less lambda times the other. -/
def blockMix (n : ℕ) (x2 : Vec Ideal S4x64 .f32) (x3 : Vec Ideal S256x512 .bf16) (x4 x5 : Vec Ideal S2048x512 .bf16) (h : Fin 4) (r : Fin 256) (d : Fin 128) : EReal :=
  ∑ t : Fin 2048, (x5 (ix2 t (⟨128 * h.1 + d.1, by omega⟩ : Fin 512)) : EReal)
    * (prob (maskedScore n x3 x4 h r 0) t - lamOf x2 * prob (maskedScore n x3 x4 h r 1) t)

/-- The block written at query tile `n`. -/
def blockOut (n : ℕ) (x2 : Vec Ideal S4x64 .f32) (x3 : Vec Ideal S256x512 .bf16) (x4 x5 : Vec Ideal S2048x512 .bf16) (x6 : Vec Ideal S256x512 .bf16)
    (x7 : Vec Ideal S1x128 .f32) : Vec Ideal S256x512 .bf16 := fun i =>
  have h1 : (i 1 : ℕ) < 512 := (i 1).isLt
  gated (blockMix n x2 x3 x4 x5 ⟨(i 1 : ℕ) / 128, by omega⟩ (i 0)) (x7 (ix2 (0 : Fin 1) (⟨(i 1 : ℕ) % 128, by omega⟩ : Fin 128))) (x6 i) ⟨(i 1 : ℕ) % 128, by omega⟩

theorem blockOut_at (n : ℕ) (x2 : Vec Ideal S4x64 .f32) (x3 : Vec Ideal S256x512 .bf16) (x4 x5 : Vec Ideal S2048x512 .bf16) (x6 : Vec Ideal S256x512 .bf16)
    (x7 : Vec Ideal S1x128 .f32) (r : Fin 256) (h : Fin 4) (l : Fin 128) :
    blockOut n x2 x3 x4 x5 x6 x7 (ix2 r (⟨128 * h.1 + l.1, by omega⟩ : Fin 512))
      = gated (blockMix n x2 x3 x4 x5 h r) (x7 (ix2 (0 : Fin 1) l)) (x6 (ix2 r (⟨128 * h.1 + l.1, by omega⟩ : Fin 512))) l := by
  have eh : (⟨(128 * h.1 + l.1) / 128, by omega⟩ : Fin 4) = h := Fin.ext (by show (128 * h.1 + l.1) / 128 = h.1; omega)
  have el : (⟨(128 * h.1 + l.1) % 128, by omega⟩ : Fin 128) = l := Fin.ext (by show (128 * h.1 + l.1) % 128 = l.1; omega)
  show gated (blockMix n x2 x3 x4 x5 ⟨(128 * h.1 + l.1) / 128, _⟩ r) (x7 (ix2 (0 : Fin 1) (⟨(128 * h.1 + l.1) % 128, _⟩ : Fin 128)))
    (x6 (ix2 r (⟨128 * h.1 + l.1, _⟩ : Fin 512))) ⟨(128 * h.1 + l.1) % 128, _⟩ = _
  rw [eh, el]

/-- A block is known from its heads. -/
theorem block_ext (B : Vec Ideal S256x512 .bf16) (n : ℕ) (x2 : Vec Ideal S4x64 .f32) (x3 : Vec Ideal S256x512 .bf16) (x4 x5 : Vec Ideal S2048x512 .bf16)
    (x6 : Vec Ideal S256x512 .bf16) (x7 : Vec Ideal S1x128 .f32)
    (h : ∀ (r : Fin 256) (h : Fin 4) (l : Fin 128), B (ix2 r (⟨128 * h.1 + l.1, by omega⟩ : Fin 512))
      = gated (blockMix n x2 x3 x4 x5 h r) (x7 (ix2 (0 : Fin 1) l)) (x6 (ix2 r (⟨128 * h.1 + l.1, by omega⟩ : Fin 512))) l) :
    B = blockOut n x2 x3 x4 x5 x6 x7 := by
  funext y
  obtain ⟨r, k, rfl⟩ : ∃ (r : Fin 256) (k : Fin 512), y = ix2 r k := ⟨y 0, y 1, eq_ix2 (n0 := 256) (n1 := 512) y⟩
  have e : k = (⟨128 * (⟨k.1 / 128, by omega⟩ : Fin 4).1 + (⟨k.1 % 128, by omega⟩ : Fin 128).1, by show 128 * (k.1 / 128) + k.1 % 128 < 512; omega⟩ : Fin 512) :=
    Fin.ext (by show k.1 = 128 * (k.1 / 128) + k.1 % 128; omega)
  rw [e]
  exact (h r ⟨k.1 / 128, by omega⟩ ⟨k.1 % 128, by omega⟩).trans (blockOut_at n x2 x3 x4 x5 x6 x7 r ⟨k.1 / 128, by omega⟩ ⟨k.1 % 128, by omega⟩).symm

/-- The scores of finite queries and keys are finite. -/
theorem scores_finite (Q : Vec Ideal S4x512x128 .bf16) (x3 : Vec Ideal S256x512 .bf16) (x4 : Vec Ideal S2048x512 .bf16)
    (hQ : ∀ (h : Fin 4) (r : Fin 512) (l : Fin 128), (Q (ix3 h r l) : EReal) = queryOf (fun r l => x3 (ix2 r (⟨128 * h.1 + l.1, by omega⟩ : Fin 512))) r l)
    (h3 : ∀ r x, Fin' (x3 (ix2 r x))) (h4 : ∀ r x, Fin' (x4 (ix2 r x))) (j : Fin 8) (h : Fin 4) (r : Fin 512) (cc : Fin 256) : Fin' (scoreOf Q x4 j h r cc) := by
  have er : r = rowOf ⟨r.1 / 256, by omega⟩ ⟨r.1 % 256, by omega⟩ := Fin.ext (by show r.1 = 256 * (r.1 / 256) + r.1 % 256; omega)
  rw [er, scoreOf_eq Q x3 x4 hQ h3 h4]
  obtain ⟨σ, hσ⟩ := raw_finite x3 x4 h3 h4 h ⟨r.1 / 256, by omega⟩ ⟨r.1 % 256, by omega⟩
  exact Fin'.mul ⟨_, hσ _⟩ ⟨_, rfl⟩

section Even

variable (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole) (hc1 : ¬ k0_cond1 i = 1#1) (hc2 : ¬ k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (g13 : BufTy.Contents (Elt Ideal) arg13.view.ty)

theorem even_block (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (f8 : BufTy.Contents (Elt Ideal) arg8.view.ty)
    (x2 : Vec Ideal S4x64 .f32) (x3 : Vec Ideal S256x512 .bf16) (x4 x5 : Vec Ideal S2048x512 .bf16) (x6 : Vec Ideal S256x512 .bf16) (x7 : Vec Ideal S1x128 .f32)
    (e2 : arg2.view.read (Elt Ideal) X2 = x2) (e3 : arg3.view.read (Elt Ideal) X3 = x3) (e4 : arg4.view.read (Elt Ideal) X4 = x4)
    (e5 : arg5.view.read (Elt Ideal) X5 = x5) (e6 : arg6.view.read (Elt Ideal) X6 = x6) (e7 : arg7.view.read (Elt Ideal) X7 = x7)
    (h3 : ∀ r x, Fin' (x3 (ix2 r x))) (h4 : ∀ r x, Fin' (x4 (ix2 r x))) (h5 : ∀ r x, Fin' (x5 (ix2 r x))) (hl : Fin' (lamOf x2)) :
    arg8.view.read (Elt Ideal) (arg8.view.writes (Elt Ideal) f8 (bodyEven (F := Ideal) 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g9 g10 g11 g12 g13).1)
      = blockOut (i 1).val x2 x3 x4 x5 x6 x7 := by
  subst e2 e3 e4 e5 e6 e7
  have hQ := even_queries 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  obtain ⟨m, hm⟩ := even_out 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 g9 g10 g11 g12 f8 (scores_finite _ _ _ hQ h3 h4)
  refine block_ext _ _ _ _ _ _ _ _ fun r h l => (hm r h l).trans ?_
  refine congrArg (fun o => gated o _ _ l) (funext fun d => ?_)
  exact differM_eq (diagTile i) _ _ _ _ m _ hQ h3 h4 h5 hl h r d (maskedScore (i 1).val (arg3.view.read (Elt Ideal) X3) (arg4.view.read (Elt Ideal) X4) h r) (fun _ _ => rfl)

end Even

section Odd

variable (𝒱 : Variants) (c : Dev nD) (bd : Option 𝒱.V) (i : grid0.Coords) (arg2 : Memref sig .tc .vmem S4x64 .f32) (harg2 : arg2.IsWhole) (arg3 : Memref sig .tc .vmem S256x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x512 .bf16) (harg8 : arg8.IsWhole) (arg9 : Memref sig .tc .vmem S4x512x128 .bf16) (harg9 : arg9.IsWhole) (arg10 : Memref sig .tc .vmem S4x512x128 .f32) (harg10 : arg10.IsWhole) (arg11 : Memref sig .tc .vmem S4x512x128 .f32) (harg11 : arg11.IsWhole) (arg12 : Memref sig .tc .vmem S4x512x128 .f32) (harg12 : arg12.IsWhole) (arg13 : Memref sig .tc .vmem S8x4x512x256 .f32) (harg13 : arg13.IsWhole) (hc1 : k0_cond1 i = 1#1) (hc2 : k0_cond2 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (g13 : BufTy.Contents (Elt Ideal) arg13.view.ty)

theorem odd_block (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (f8 : BufTy.Contents (Elt Ideal) arg8.view.ty)
    (x2 : Vec Ideal S4x64 .f32) (x3 : Vec Ideal S256x512 .bf16) (x4 x5 : Vec Ideal S2048x512 .bf16) (x6 : Vec Ideal S256x512 .bf16) (x7 : Vec Ideal S1x128 .f32)
    (e2 : arg2.view.read (Elt Ideal) X2 = x2) (e3 : arg3.view.read (Elt Ideal) X3 = x3) (e4 : arg4.view.read (Elt Ideal) X4 = x4)
    (e5 : arg5.view.read (Elt Ideal) X5 = x5) (e6 : arg6.view.read (Elt Ideal) X6 = x6) (e7 : arg7.view.read (Elt Ideal) X7 = x7)
    (h3 : ∀ r x, Fin' (x3 (ix2 r x))) (h4 : ∀ r x, Fin' (x4 (ix2 r x))) (h5 : ∀ r x, Fin' (x5 (ix2 r x))) (hl : Fin' (lamOf x2)) :
    arg8.view.read (Elt Ideal) (arg8.view.writes (Elt Ideal) f8 (bodyOdd (F := Ideal) 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g9 g10 g11 g12 g13).1)
      = blockOut (i 1).val x2 x3 x4 x5 x6 x7 := by
  subst e2 e3 e4 e5 e6 e7
  have hQ := odd_queries 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13
  obtain ⟨m, hm⟩ := odd_out 𝒱 c bd i arg2 harg2 arg3 harg3 arg4 harg4 arg5 harg5 arg6 harg6 arg7 harg7 arg8 harg8 arg9 harg9 arg10 harg10 arg11 harg11 arg12 harg12 arg13 harg13 hc1 hc2 X2 X3 X4 X5 X6 X7 g13 g9 g10 g11 g12 f8 (scores_finite _ _ _ hQ h3 h4)
  refine block_ext _ _ _ _ _ _ _ _ fun r h l => (hm r h l).trans ?_
  refine congrArg (fun o => gated o _ _ l) (funext fun d => ?_)
  exact differM_eq (diagTile i) _ _ _ _ m _ hQ h3 h4 h5 hl h r d (maskedScore (i 1).val (arg3.view.read (Elt Ideal) X3) (arg4.view.read (Elt Ideal) X4) h r) (fun _ _ => rfl)

end Odd

end Cert.KernelIdeal.Attn

end
-- ==== Proof.AttnArray.lean ====
/-
  The differential attention, the whole array: what the blocks hold in terms of the arguments, and the result as the
  blocks tile it.
-/
module

public import proofs.«01_k».proof.Proof.AttnBlock
public import proofs.«01_k».proof.Proof.AttnFrame
public import Idealize.ShloMosaic.Lib.Tactic
public import Idealize.ShloMosaic.Lib.StableHlo.ReadAt

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Proof (Fin')
open Cert.ReferenceIdeal.Attn (prob score mixed attnOf)

variable (m : (ℓ : Loc nD τ sig) → Buf (Elt Ideal) ℓ) (ρ : Dev nD → PrngReg)

abbrev argQ (c : Dev nD) : FVec Ideal S16x2048x4x2x64 .f32 := m ((c.tc : Thread nD τ).loc main_arg0)
abbrev argK (c : Dev nD) : FVec Ideal S16x2048x4x2x64 .f32 := m ((c.tc : Thread nD τ).loc main_arg1)
abbrev argV (c : Dev nD) : FVec Ideal S16x2048x512 .f32 := m ((c.tc : Thread nD τ).loc main_arg2)
abbrev argZ (c : Dev nD) : FVec Ideal S16x2048x512 .f32 := m ((c.tc : Thread nD τ).loc main_arg3)
abbrev argL (c : Dev nD) : FVec Ideal S4x64 .f32 := m ((c.tc : Thread nD τ).loc main_arg5)
abbrev argS (c : Dev nD) : FVec Ideal S128 .f32 := m ((c.tc : Thread nD τ).loc main_arg6)

/-! ## The host operations before the call -/

theorem hostQ (c : Dev nD) (r : Fin 32768) (h : Fin 4) (a : Fin 2) (x : Fin 64) :
    V m c main_v5 (ix2 r (⟨128 * h.1 + (64 * a.1 + x.1), by omega⟩ : Fin 8192)) = argQ m c (ix5 ⟨r.1 / 2048, by omega⟩ ⟨r.1 % 2048, by omega⟩ h a x) := by
  unfold V; after_reads_at; after_reads_at
  refine (dif_pos (by omega)).trans ?_
  rfl

theorem hostK (c : Dev nD) (r : Fin 32768) (h : Fin 4) (a : Fin 2) (x : Fin 64) :
    V m c main_v5 (ix2 r (⟨512 + (128 * h.1 + (64 * a.1 + x.1)), by omega⟩ : Fin 8192)) = argK m c (ix5 ⟨r.1 / 2048, by omega⟩ ⟨r.1 % 2048, by omega⟩ h a x) := by
  unfold V; after_reads_at; after_reads_at
  refine (dif_pos (by omega)).trans ?_
  rfl

theorem hostV (c : Dev nD) (r : Fin 32768) (k : Fin 512) :
    V m c main_v5 (ix2 r (⟨1024 + k.1, by omega⟩ : Fin 8192)) = argV m c (ix3 ⟨r.1 / 2048, by omega⟩ ⟨r.1 % 2048, by omega⟩ k) := by
  unfold V; after_reads_at; after_reads_at
  refine (dif_neg (by omega)).trans ?_
  refine (dif_neg (by omega)).trans ?_
  refine (dif_pos (by omega)).trans ?_
  refine congrArg (fun y : Fin 512 => argV m c (ix3 (⟨r.1 / 2048, by omega⟩ : Fin 16) (⟨r.1 % 2048, by omega⟩ : Fin 2048) y)) (Fin.ext ?_)
  dsimp only; omega

theorem hostZ (c : Dev nD) (r : Fin 32768) (k : Fin 512) :
    V m c main_v5 (ix2 r (⟨1536 + k.1, by omega⟩ : Fin 8192)) = argZ m c (ix3 ⟨r.1 / 2048, by omega⟩ ⟨r.1 % 2048, by omega⟩ k) := by
  unfold V; after_reads_at; after_reads_at
  refine (dif_neg (by omega)).trans ?_
  refine (dif_neg (by omega)).trans ?_
  refine (dif_neg (by omega)).trans ?_
  refine (dif_pos (by omega)).trans ?_
  refine congrArg (fun y : Fin 512 => argZ m c (ix3 (⟨r.1 / 2048, by omega⟩ : Fin 16) (⟨r.1 % 2048, by omega⟩ : Fin 2048) y)) (Fin.ext ?_)
  dsimp only; omega

theorem hostS (c : Dev nD) (l : Fin 128) : V m c main_v6 (ix2 (0 : Fin 1) l) = argS m c (ix1 l) := by
  unfold V; after_reads_at

/-! ## The blocks -/

theorem index_facts : ∀ t : Fin cfg0.N,
    (win0_0.index t (0 : Fin 2) = 0 ∧ win0_0.index t (1 : Fin 2) = 0) ∧ (win0_1.index t (0 : Fin 2) = t.1 ∧ win0_1.index t (1 : Fin 2) = 0)
    ∧ (win0_2.index t (0 : Fin 2) = t.1 / 8 ∧ win0_2.index t (1 : Fin 2) = 1) ∧ (win0_3.index t (0 : Fin 2) = t.1 / 8 ∧ win0_3.index t (1 : Fin 2) = 2)
    ∧ (win0_4.index t (0 : Fin 2) = t.1 ∧ win0_4.index t (1 : Fin 2) = 3) ∧ (win0_5.index t (0 : Fin 2) = 0 ∧ win0_5.index t (1 : Fin 2) = 0)
    ∧ (win0_6.index t (0 : Fin 2) = t.1 ∧ win0_6.index t (1 : Fin 2) = 0) ∧ (grid0.coords t (1 : Fin 2)).val = t.1 % 8 :=
  (by decide +kernel : ∀ t : Fin grid0.N, _)

theorem lt128 (t : Fin cfg0.N) : t.1 < 128 := lt_of_lt_of_eq t.isLt N_0

theorem blk0 (c : Dev nD) (t : Fin cfg0.N) (r : Fin 4) (k : Fin 64) :
    iblk m c 0 t (ix2 r k) = V m c main_arg5 (ix2 r k) := by
  show V m c main_arg5 ((win0_0.rect t).emb (ix2 r k)) = _
  congr 1; funext a; apply Fin.ext; refine (Pipeline.Window.rect_emb_val win0_0 t (ix2 r k) a).trans ?_
  have h := (index_facts t).1
  match a with
  | ⟨0, _⟩ => show win0_0.index t (0 : Fin 2) * 4 + r.1 = r.1; rw [h.1]; omega
  | ⟨1, _⟩ => show win0_0.index t (1 : Fin 2) * 64 + k.1 = k.1; rw [h.2]; omega

theorem blk1 (c : Dev nD) (t : Fin cfg0.N) (r : Fin 256) (k : Fin 512) :
    iblk m c 1 t (ix2 r k) = V m c main_v5 (ix2 (⟨t.1 * 256 + r.1, by have := lt128 t; omega⟩ : Fin 32768) (⟨k.1, by omega⟩ : Fin 8192)) := by
  show V m c main_v5 ((win0_1.rect t).emb (ix2 r k)) = _
  congr 1; funext a; apply Fin.ext; refine (Pipeline.Window.rect_emb_val win0_1 t (ix2 r k) a).trans ?_
  have h := (index_facts t).2.1
  match a with
  | ⟨0, _⟩ => show win0_1.index t (0 : Fin 2) * 256 + r.1 = t.1 * 256 + r.1; rw [h.1]
  | ⟨1, _⟩ => show win0_1.index t (1 : Fin 2) * 512 + k.1 = k.1; rw [h.2]; omega

theorem blk2 (c : Dev nD) (t : Fin cfg0.N) (r : Fin 2048) (k : Fin 512) :
    iblk m c 2 t (ix2 r k) = V m c main_v5 (ix2 (⟨t.1 / 8 * 2048 + r.1, by have := lt128 t; omega⟩ : Fin 32768) (⟨512 + k.1, by omega⟩ : Fin 8192)) := by
  show V m c main_v5 ((win0_2.rect t).emb (ix2 r k)) = _
  congr 1; funext a; apply Fin.ext; refine (Pipeline.Window.rect_emb_val win0_2 t (ix2 r k) a).trans ?_
  have h := (index_facts t).2.2.1
  match a with
  | ⟨0, _⟩ => show win0_2.index t (0 : Fin 2) * 2048 + r.1 = t.1 / 8 * 2048 + r.1; rw [h.1]
  | ⟨1, _⟩ => show win0_2.index t (1 : Fin 2) * 512 + k.1 = 512 + k.1; rw [h.2]

theorem blk3 (c : Dev nD) (t : Fin cfg0.N) (r : Fin 2048) (k : Fin 512) :
    iblk m c 3 t (ix2 r k) = V m c main_v5 (ix2 (⟨t.1 / 8 * 2048 + r.1, by have := lt128 t; omega⟩ : Fin 32768) (⟨1024 + k.1, by omega⟩ : Fin 8192)) := by
  show V m c main_v5 ((win0_3.rect t).emb (ix2 r k)) = _
  congr 1; funext a; apply Fin.ext; refine (Pipeline.Window.rect_emb_val win0_3 t (ix2 r k) a).trans ?_
  have h := (index_facts t).2.2.2.1
  match a with
  | ⟨0, _⟩ => show win0_3.index t (0 : Fin 2) * 2048 + r.1 = t.1 / 8 * 2048 + r.1; rw [h.1]
  | ⟨1, _⟩ => show win0_3.index t (1 : Fin 2) * 512 + k.1 = 1024 + k.1; rw [h.2]

theorem blk4 (c : Dev nD) (t : Fin cfg0.N) (r : Fin 256) (k : Fin 512) :
    iblk m c 4 t (ix2 r k) = V m c main_v5 (ix2 (⟨t.1 * 256 + r.1, by have := lt128 t; omega⟩ : Fin 32768) (⟨1536 + k.1, by omega⟩ : Fin 8192)) := by
  show V m c main_v5 ((win0_4.rect t).emb (ix2 r k)) = _
  congr 1; funext a; apply Fin.ext; refine (Pipeline.Window.rect_emb_val win0_4 t (ix2 r k) a).trans ?_
  have h := (index_facts t).2.2.2.2.1
  match a with
  | ⟨0, _⟩ => show win0_4.index t (0 : Fin 2) * 256 + r.1 = t.1 * 256 + r.1; rw [h.1]
  | ⟨1, _⟩ => show win0_4.index t (1 : Fin 2) * 512 + k.1 = 1536 + k.1; rw [h.2]

theorem blk5 (c : Dev nD) (t : Fin cfg0.N) (r : Fin 1) (k : Fin 128) :
    iblk m c 5 t (ix2 r k) = V m c main_v6 (ix2 r k) := by
  show V m c main_v6 ((win0_5.rect t).emb (ix2 r k)) = _
  congr 1; funext a; apply Fin.ext; refine (Pipeline.Window.rect_emb_val win0_5 t (ix2 r k) a).trans ?_
  have h := (index_facts t).2.2.2.2.2.1
  match a with
  | ⟨0, _⟩ => show win0_5.index t (0 : Fin 2) * 1 + r.1 = r.1; rw [h.1]; omega
  | ⟨1, _⟩ => show win0_5.index t (1 : Fin 2) * 128 + k.1 = k.1; rw [h.2]; omega

/-- The batch and the sequence position of a row of point `t`. -/
abbrev batchOf (t : Fin cfg0.N) : Fin 16 := ⟨t.1 / 8, by have := lt128 t; omega⟩
abbrev posOf (t : Fin cfg0.N) (r : Fin 256) : Fin 2048 := ⟨256 * (t.1 % 8) + r.1, by omega⟩

theorem row_batch (t : Fin cfg0.N) (r : Fin 256) (h : (t.1 * 256 + r.1) / 2048 < 16) : (⟨(t.1 * 256 + r.1) / 2048, h⟩ : Fin 16) = batchOf t :=
  Fin.ext (by show (t.1 * 256 + r.1) / 2048 = t.1 / 8; omega)
theorem row_pos (t : Fin cfg0.N) (r : Fin 256) (h : (t.1 * 256 + r.1) % 2048 < 2048) : (⟨(t.1 * 256 + r.1) % 2048, h⟩ : Fin 2048) = posOf t r :=
  Fin.ext (by show (t.1 * 256 + r.1) % 2048 = 256 * (t.1 % 8) + r.1; omega)
theorem key_batch (t : Fin cfg0.N) (s : Fin 2048) (h : (t.1 / 8 * 2048 + s.1) / 2048 < 16) : (⟨(t.1 / 8 * 2048 + s.1) / 2048, h⟩ : Fin 16) = batchOf t :=
  Fin.ext (by show (t.1 / 8 * 2048 + s.1) / 2048 = t.1 / 8; omega)
theorem key_pos (t : Fin cfg0.N) (s : Fin 2048) (h : (t.1 / 8 * 2048 + s.1) % 2048 < 2048) : (⟨(t.1 / 8 * 2048 + s.1) % 2048, h⟩ : Fin 2048) = s :=
  Fin.ext (by show (t.1 / 8 * 2048 + s.1) % 2048 = s.1; omega)

theorem blockQ (c : Dev nD) (t : Fin cfg0.N) (r : Fin 256) (h : Fin 4) (a : Fin 2) (x : Fin 64) :
    iblk m c 1 t (ix2 r (⟨128 * h.1 + (64 * a.1 + x.1), by omega⟩ : Fin 512)) = argQ m c (ix5 (batchOf t) (posOf t r) h a x) := by
  rw [blk1]
  refine (hostQ m c _ h a x).trans ?_
  rw [row_batch, row_pos]

theorem blockK (c : Dev nD) (t : Fin cfg0.N) (s : Fin 2048) (h : Fin 4) (a : Fin 2) (x : Fin 64) :
    iblk m c 2 t (ix2 s (⟨128 * h.1 + (64 * a.1 + x.1), by omega⟩ : Fin 512)) = argK m c (ix5 (batchOf t) s h a x) := by
  rw [blk2]
  refine (hostK m c _ h a x).trans ?_
  rw [key_batch, key_pos]

theorem blockV (c : Dev nD) (t : Fin cfg0.N) (s : Fin 2048) (k : Fin 512) : iblk m c 3 t (ix2 s k) = argV m c (ix3 (batchOf t) s k) := by
  rw [blk3, hostV, key_batch, key_pos]

theorem blockZ (c : Dev nD) (t : Fin cfg0.N) (r : Fin 256) (k : Fin 512) : iblk m c 4 t (ix2 r k) = argZ m c (ix3 (batchOf t) (posOf t r) k) := by
  rw [blk4, hostZ, row_batch, row_pos]

theorem blockL (c : Dev nD) (t : Fin cfg0.N) : (iblk m c 0 t : FVec Ideal S4x64 .f32) = argL m c := by
  funext y
  obtain ⟨r, k, rfl⟩ : ∃ (r : Fin 4) (k : Fin 64), y = ix2 r k := ⟨y 0, y 1, eq_ix2 (n0 := 4) (n1 := 64) y⟩
  exact (blk0 m c t r k).trans (congrFun (V_main_arg5 m c) _)

theorem blockS (c : Dev nD) (t : Fin cfg0.N) (l : Fin 128) : iblk m c 5 t (ix2 (0 : Fin 1) l) = argS m c (ix1 l) :=
  (blk5 m c t 0 l).trans (hostS m c l)

/-- The result as a function of the arguments. -/
def result (c : Dev nD) : FVec Ideal S32768x512 .bf16 := fun i =>
  attnOf (argQ m c) (argK m c) (argV m c) (argZ m c) (argL m c) (argS m c) (i 0) (i 1)

/-- What point `t` writes. -/
def outBlock (c : Dev nD) (t : Fin cfg0.N) : Vec Ideal S256x512 .bf16 :=
  blockOut (t.1 % 8) (iblk m c 0 t) (iblk m c 1 t) (iblk m c 2 t) (iblk m c 3 t) (iblk m c 4 t) (iblk m c 5 t)

theorem raw_eq (c : Dev nD) (t : Fin cfg0.N) (h : Fin 4) (r : Fin 256) (a : Fin 2) :
    maskedScore (t.1 % 8) (iblk m c 1 t) (iblk m c 2 t) h r a = score (argQ m c) (argK m c) (batchOf t) h a (posOf t r) := by
  funext s
  unfold maskedScore score rawScore
  simp only [blockQ, blockK]

theorem mix_eq (c : Dev nD) (t : Fin cfg0.N) (h : Fin 4) (r : Fin 256) :
    blockMix (t.1 % 8) (iblk m c 0 t) (iblk m c 1 t) (iblk m c 2 t) (iblk m c 3 t) h r
      = mixed (argQ m c) (argK m c) (argV m c) (lamOf (argL m c)) (batchOf t) (posOf t r) h := by
  funext d
  unfold blockMix mixed
  rw [raw_eq, raw_eq, blockL]
  refine Finset.sum_congr rfl fun s _ => ?_
  rw [blockV]
  congr 3
  exact Fin.ext (by show 128 * h.1 + d.1 = h.1 * 128 + d.1; omega)

theorem attnOf_row (q k : FVec Ideal S16x2048x4x2x64 .f32) (v z : FVec Ideal S16x2048x512 .f32) (lv : FVec Ideal S4x64 .f32) (sub : FVec Ideal S128 .f32)
    (R : Fin 32768) (x : Fin 512) (b : Fin 16) (s : Fin 2048) (hb : R.1 / 2048 = b.1) (hs : R.1 % 2048 = s.1) :
    attnOf q k v z lv sub R x = gated (mixed q k v (lamOf lv) b s ⟨x.1 / 128, by omega⟩) (sub (ix1 (⟨x.1 % 128, by omega⟩ : Fin 128)))
      (z (ix3 b s x)) ⟨x.1 % 128, by omega⟩ := by
  obtain ⟨b, _⟩ := b
  obtain ⟨s, _⟩ := s
  dsimp only at hb hs
  subst hb hs
  rfl

/-- The block of point `t` is rows `256 t …` of the result. -/
theorem outBlock_eq (c : Dev nD) (t : Fin cfg0.N) (r : Fin 256) (k : Fin 512) :
    outBlock m c t (ix2 r k) = result m c (ix2 (⟨t.1 * 256 + r.1, by have := lt128 t; omega⟩ : Fin 32768) k) := by
  refine Eq.trans ?_ (attnOf_row (argQ m c) (argK m c) (argV m c) (argZ m c) (argL m c) (argS m c) _ k (batchOf t) (posOf t r)
    (by show (t.1 * 256 + r.1) / 2048 = t.1 / 8; omega) (by show (t.1 * 256 + r.1) % 2048 = 256 * (t.1 % 8) + r.1; omega)).symm
  show gated (blockMix (t.1 % 8) (iblk m c 0 t) (iblk m c 1 t) (iblk m c 2 t) (iblk m c 3 t) ⟨k.1 / 128, _⟩ r)
      (iblk m c 5 t (ix2 (0 : Fin 1) (⟨k.1 % 128, _⟩ : Fin 128))) (iblk m c 4 t (ix2 r k)) ⟨k.1 % 128, _⟩ = _
  rw [mix_eq, blockS, blockZ]

theorem flushed_eq (c : Dev nD) (t : Fin cfg0.N) (_ : (cfg0.win 6).flush t = true) :
    (dats m (outBlock m) 0 c).flushed 6 t = ((cfg0.win 6).blk t).view.read (Elt Ideal) (result m c) := by
  show (cfg0.win 6).cut (grid0.coords t) ((dats m (outBlock m) 0 c).after 6 t) = _
  rw [after_6]
  funext y
  show outBlock m c t y = result m c ((win0_6.rect t).emb y)
  obtain ⟨r, k, rfl⟩ : ∃ (r : Fin 256) (k : Fin 512), y = ix2 r k := ⟨y 0, y 1, eq_ix2 (n0 := 256) (n1 := 512) y⟩
  rw [outBlock_eq]
  congr 1; funext a; apply Fin.ext; refine Eq.trans ?_ (Pipeline.Window.rect_emb_val win0_6 t (ix2 r k) a).symm
  have h := (index_facts t).2.2.2.2.2.2.1
  match a with
  | ⟨0, _⟩ => show t.1 * 256 + r.1 = win0_6.index t (0 : Fin 2) * 256 + r.1; rw [h.1]
  | ⟨1, _⟩ => show k.1 = win0_6.index t (1 : Fin 2) * 512 + k.1; rw [h.2]; omega

/-- The 128 blocks cover the array. -/
theorem final (c : Dev nD) : (dats m (outBlock m) 0 c).arrAt 6 cfg0.N = result m c :=
  (dats m (outBlock m) 0 c).arrAt_eq_of_cover 6 (result m c) (flushed_eq m c) fun (i : S32768x512.Idx) => by
    have h0 : (i 0 : ℕ) < 32768 := (i 0).isLt
    have h1 : (i 1 : ℕ) < 512 := (i 1).isLt
    have ht : (i 0 : ℕ) / 256 < cfg0.N := lt_of_lt_of_eq (by omega) N_0.symm
    have h := (index_facts ⟨(i 0 : ℕ) / 256, ht⟩).2.2.2.2.2.2.1
    refine ⟨⟨(i 0 : ℕ) / 256, ht⟩, flush0_6 _, ?_⟩
    show i ∈ ((View.whole main_v7).slice (win0_6.rect ⟨(i 0 : ℕ) / 256, ht⟩)).set
    rw [View.set_slice_whole, Rect.mem_set_unit]
    intro a
    match a with
    | ⟨0, _⟩ => show win0_6.index ⟨(i 0 : ℕ) / 256, ht⟩ (0 : Fin 2) * 256 ≤ (i 0 : ℕ) ∧ (i 0 : ℕ) < win0_6.index ⟨(i 0 : ℕ) / 256, ht⟩ (0 : Fin 2) * 256 + 256
                rw [h.1]; dsimp only; omega
    | ⟨1, _⟩ => show win0_6.index ⟨(i 0 : ℕ) / 256, ht⟩ (1 : Fin 2) * 512 ≤ (i 1 : ℕ) ∧ (i 1 : ℕ) < win0_6.index ⟨(i 0 : ℕ) / 256, ht⟩ (1 : Fin 2) * 512 + 512
                rw [h.2]; omega

end Cert.KernelIdeal.Attn

end
-- ==== Proof.AttnRun.lean ====
/-
  The launch of the differential attention with the output's array named, for blocks known at every point; and those
  blocks for finite queries, keys, values and lambda vectors.
-/
module

public import proofs.«01_k».proof.Proof.AttnArray

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof (Fin')

section Launch

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (O : Dev nD → Fin cfg0.N → Vec F S256x512 .bf16)

/-- What the body is called with at a point and what it returns, the output's block known. -/
def exactPre (c : Dev nD) (t : Fin cfg0.N) : sProp 𝕄 :=
  iprop((dats m O 0 c).Φ t.castSucc ∗ (dats m O 0 c).owesAt () t.castSucc ∗ (∃ d, owns (c : Thread nD τ) (st0_0 t) fullShare ((dats m O 0 c).before 0 t d)) ∗ (∃ d, owns (c : Thread nD τ) (st0_1 t) fullShare ((dats m O 0 c).before 1 t d)) ∗ (∃ d, owns (c : Thread nD τ) (st0_2 t) fullShare ((dats m O 0 c).before 2 t d)) ∗ (∃ d, owns (c : Thread nD τ) (st0_3 t) fullShare ((dats m O 0 c).before 3 t d)) ∗ (∃ d, owns (c : Thread nD τ) (st0_4 t) fullShare ((dats m O 0 c).before 4 t d)) ∗ (∃ d, owns (c : Thread nD τ) (st0_5 t) fullShare ((dats m O 0 c).before 5 t d)) ∗ (∃ d, owns (c : Thread nD τ) (st0_6 t) fullShare ((dats m O 0 c).before 6 t d)))
def exactPost (c : Dev nD) (t : Fin cfg0.N) : sProp 𝕄 :=
  iprop((dats m O 0 c).Φ t.succ ∗ (dats m O 0 c).owesAt () t.succ ∗ owns (c : Thread nD τ) (st0_0 t) fullShare ((dats m O 0 c).after 0 t) ∗ owns (c : Thread nD τ) (st0_1 t) fullShare ((dats m O 0 c).after 1 t) ∗ owns (c : Thread nD τ) (st0_2 t) fullShare ((dats m O 0 c).after 2 t) ∗ owns (c : Thread nD τ) (st0_3 t) fullShare ((dats m O 0 c).after 3 t) ∗ owns (c : Thread nD τ) (st0_4 t) fullShare ((dats m O 0 c).after 4 t) ∗ owns (c : Thread nD τ) (st0_5 t) fullShare ((dats m O 0 c).after 5 t) ∗ owns (c : Thread nD τ) (st0_6 t) fullShare ((dats m O 0 c).after 6 t))

theorem sound_exact (c : Dev nD) (t : Fin cfg0.N) (key : PointHolds m c t (fun d => d = O c t)) :
    exactPre m O c t ⊢ wp Idealize.ShloMosaic.frame (wpE (defs₀ (F := F)) Variants.none c none) Set.univ (bodyAt0 t) (fun _ => exactPost m O c t) := by
  unfold PointHolds at key
  unfold exactPre exactPost
  simp only [before_0, before_1, before_2, before_3, before_4, before_5]
  rw [show (dats m O 0 c).Φ t.succ = (dats m O 0 c).Φ t.castSucc from rfl,
    show (dats m O 0 c).owesAt () t.succ = (dats m O 0 c).owesAt () t.castSucc from rfl,
    after_0, after_1, after_2, after_3, after_4, after_5, after_6,
    show (dats m O 0 c).Φ t.castSucc = Pipeline.ΦA spec0 c from rfl]
  unfold Pipeline.ΦA
  rw [scratch_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩⟩
  iapply (wp_wand_r Idealize.ShloMosaic.frame (wpE (defs₀ (F := F)) Variants.none (c : Thread nD τ) none) Set.univ)
  isplitl [H0 H1 H2 H3 H4 H5 H6 S0 S1 S2 S3 S4]
  · iapply key
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    iexact S4
  · iintro %_ ⟨H0, H1, H2, H3, H4, H5, ⟨%d, H6, %hP⟩, S0, S1, S2, S3, S4⟩
    subst hP
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem exact_obligation (c : Dev nD) (key : ∀ t, PointHolds m c t (fun d => d = O c t)) :
    BodyObligation (dats (F := F) m O 0 c) (defs₀ (F := F)) Variants.none () Set.univ := fun t => by
  rw [bigSep_W0, bigSep_W0, row_eq]
  exact triple_restated (sound_exact m O c t (key t)) rfl .rfl fun _ => .rfl

set_option backward.isDefEq.respectTransparency.types false in
theorem run_exact (key : ∀ c t, PointHolds m c t (fun d => d = O c t)) :
    θ_run defs (onTc (τ := τ) (main (F := F))) (s₀ m ρ) (fun r => (Pipeline.FramePost cfgs (dats m O) 0 (V m)) r ∧ r.2.sem = fun _ => 0) :=
  Pipeline.θ_run_frame_shared (Q' := _) cfgs (dats m O) (0 : Fin 1) launch₀0 defs₀ Variants.none m ρ main
    (hbody := fun c => (exact_obligation m O c (key c)).loose) (hq := fun _ _ _ => rfl) (howed := fun _ _ => rfl)
    (V := V m) (hmain := hmain m Variants.none) (hA := A_eq m O) (hΦ := fun _ _ => rfl)

/-- The run with the result's array named and the arguments unchanged. -/
theorem run_array (key : ∀ c t, PointHolds m c t (fun d => d = O c t)) :
    θ_run defs (onTc (τ := τ) (main (F := F))) ⟨m, fun _ => 0, ρ⟩ (fun r => ∀ c : Dev nD,
      r.2.mem ((c.tc : Thread nD τ).loc main_v7) = (dats m O 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_exact m ρ O key)
  have hc := h.1 c
  refine ⟨hc.1 6, ?_, ?_, ?_, ?_, ?_, ?_, ?_⟩
  · exact (hc.2 main_arg0 (Pipeline.mem_restRefs_of main_arg0 (by decide) (by decide))).trans (V_main_arg0 m c)
  · exact (hc.2 main_arg1 (Pipeline.mem_restRefs_of main_arg1 (by decide) (by decide))).trans (V_main_arg1 m c)
  · exact (hc.2 main_arg2 (Pipeline.mem_restRefs_of main_arg2 (by decide) (by decide))).trans (V_main_arg2 m c)
  · exact (hc.2 main_arg3 (Pipeline.mem_restRefs_of main_arg3 (by decide) (by decide))).trans (V_main_arg3 m c)
  · exact (hc.2 main_arg4 (Pipeline.mem_restRefs_of main_arg4 (by decide) (by decide))).trans (V_main_arg4 m c)
  · exact (hc.1 0).trans (((dats m O 0 c).arrAt_in 0 rfl _).trans (V_main_arg5 m c))
  · exact (hc.2 main_arg6 (Pipeline.mem_restRefs_of main_arg6 (by decide) (by decide))).trans (V_main_arg6 m c)

end Launch

section Values

variable (m : (ℓ : Loc nD τ sig) → Buf (Elt Ideal) ℓ) (ρ : Dev nD → PrngReg)

/-- Finite lambda vectors give a finite lambda. -/
theorem lam_finite (x2 : Vec Ideal S4x64 .f32) (h : ∀ i, Fin' (x2 i)) : Fin' (lamOf x2) := by
  obtain ⟨a, ha⟩ := Fin'.sum Finset.univ (fun x : Fin 64 => Fin'.mul (h (ix2 (0 : Fin 4) x)) (h (ix2 (1 : Fin 4) x)))
  obtain ⟨b, hb⟩ := Fin'.sum Finset.univ (fun x : Fin 64 => Fin'.mul (h (ix2 (2 : Fin 4) x)) (h (ix2 (3 : Fin 4) x)))
  have e : ∃ k : ℝ, Ideal.ofBits FTy.f32 1052116297#32 = (k : EReal) := ⟨_, by simp [Ideal.ofBits, Ideal.ieee, -EReal.coe_mul]; rfl⟩
  obtain ⟨k, hk⟩ := e
  refine ⟨Real.exp a - Real.exp b + k, ?_⟩
  unfold lamOf
  rw [ha, hb, hk, EReal.coe_add, EReal.coe_sub]
  rfl

/-- With finite queries, keys, values and lambda vectors every point writes its rows of the result. -/
theorem pointHolds_out (c : Dev nD) (hq : ∀ i, Fin' (argQ m c i)) (hk : ∀ i, Fin' (argK m c i)) (hv : ∀ i, Fin' (argV m c i))
    (hl : ∀ i, Fin' (argL m c i)) (t : Fin cfg0.N) : PointHolds (F := Ideal) m c t (fun d => d = outBlock m c t) := by
  have en : outBlock m c t = blockOut (grid0.coords t 1).val (iblk m c 0 t) (iblk m c 1 t) (iblk m c 2 t) (iblk m c 3 t) (iblk m c 4 t) (iblk m c 5 t) := by
    unfold outBlock
    rw [← (index_facts t).2.2.2.2.2.2.2]
  have split : ∀ x : Fin 512, ∃ (h : Fin 4) (a : Fin 2) (y : Fin 64), x = (⟨128 * h.1 + (64 * a.1 + y.1), by omega⟩ : Fin 512) := fun x =>
    ⟨⟨x.1 / 128, by omega⟩, ⟨x.1 / 64 % 2, by omega⟩, ⟨x.1 % 64, by omega⟩, Fin.ext (by show x.1 = 128 * (x.1 / 128) + (64 * (x.1 / 64 % 2) + x.1 % 64); omega)⟩
  have h3 : ∀ (r : Fin 256) (x : Fin 512), Fin' (iblk m c 1 t (ix2 r x)) := fun r x => by
    obtain ⟨h, a, y, rfl⟩ := split x
    rw [blockQ]; exact hq _
  have h4 : ∀ (r : Fin 2048) (x : Fin 512), Fin' (iblk m c 2 t (ix2 r x)) := fun r x => by
    obtain ⟨h, a, y, rfl⟩ := split x
    rw [blockK]; exact hk _
  have h5 : ∀ (r : Fin 2048) (x : Fin 512), Fin' (iblk m c 3 t (ix2 r x)) := fun r x => by
    rw [blockV]; exact hv _
  have h2 : Fin' (lamOf (iblk m c 0 t)) := by
    rw [blockL]; exact lam_finite _ hl
  rw [en]
  unfold PointHolds bodyAt0
  exact point (F := Ideal) Variants.none c none Set.univ (grid0.coords t) _ _ _ _ _ _ _ _ _ _ _ _ _ _ _ _ _ _ _ _ _ _ _ _
    _ _ _ _ _ _ (fun d => d = blockOut (grid0.coords t 1).val (iblk m c 0 t) (iblk m c 1 t) (iblk m c 2 t) (iblk m c 3 t) (iblk m c 4 t) (iblk m c 5 t))
    (fun c1 c2 X2 X3 X4 X5 X6 X7 g9 g10 g11 g12 g13 f8 e2 e3 e4 e5 e6 e7 => even_block Variants.none c none (grid0.coords t) _ _ _ _ _ _ _ _ _ _ _ _ _ _ _ _ _ _ _ _ _ _ _ _
      c1 c2 X2 X3 X4 X5 X6 X7 g13 g9 g10 g11 g12 f8 _ _ _ _ _ _ e2 e3 e4 e5 e6 e7 h3 h4 h5 h2)
    (fun c1 c2 X2 X3 X4 X5 X6 X7 g9 g10 g11 g12 g13 f8 e2 e3 e4 e5 e6 e7 => odd_block Variants.none c none (grid0.coords t) _ _ _ _ _ _ _ _ _ _ _ _ _ _ _ _ _ _ _ _ _ _ _ _
      c1 c2 X2 X3 X4 X5 X6 X7 g13 g9 g10 g11 g12 f8 _ _ _ _ _ _ e2 e3 e4 e5 e6 e7 h3 h4 h5 h2)

/-- The attention's run: its result is the function of the arguments. -/
theorem run_result (hq : ∀ c i, Fin' (argQ m c i)) (hk : ∀ c i, Fin' (argK m c i)) (hv : ∀ c i, Fin' (argV m c i)) (hl : ∀ c i, Fin' (argL m c i)) :
    θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final m c), (h c).2⟩)
    (run_array (F := Ideal) m ρ (outBlock m) fun c t => pointHolds_out m c (hq c) (hk c) (hv c) (hl c) t)

end Values

end Cert.KernelIdeal.Attn

end
-- ==== Proof.InProjBlock.lean ====
/-
  The input projection, one block of 512 rows: the projections' columns, the rotated queries and keys.
-/
module

public import proofs.«01_k».proof.Proof.Gen.Kernel2Ideal.Value
public import proofs.«01_k».proof.Proof.Rms
public import Idealize.ShloMosaic.Lib.WholeRead

@[expose] public section

set_option maxRecDepth 16384

noncomputable section

namespace Cert.Kernel2Ideal.InProj

open Cert.Kernel2Ideal Cert.Kernel2Ideal.Gen Idealize.ShloMosaic Idealize.ShloMosaic.TcCoe Idealize.SL.Sem
open Cert.Proof (rms)

/-- One column of the projection of a normalised row. -/
def proj (x g : Fin 1024 → EReal) (w : Fin 1024 → EReal) : EReal :=
  ∑ k : Fin 1024, rms (Ideal.ofBits .f32 0x44800000#32) x g k * w k

/-- Entry `j` of 512 columns each multiplied by the inverse root of its group's mean square, the group given by the
columns of `ones`, and by a gain. -/
def grouped (p : Fin 512 → EReal) (ones : Fin 512 → Fin 512 → EReal) (g : Fin 512 → EReal) (j : Fin 512) : EReal :=
  p j * Ideal.rsqrt ((∑ k : Fin 512, p k * p k * ones k j) * Ideal.ofBits .f32 0x3C800000#32 + Ideal.ofBits .f32 0x358637BD#32) * g j

/-- Entry `j` of 128 columns turned by two angles tables: the column times the first, the column eight after times the
second and the column eight before times the third. -/
def turned (t a b c : Fin 128 → EReal) (j : Fin 128) : EReal :=
  t j * a j + t ⟨(j.1 + 8) % 128, by omega⟩ * b j + t ⟨(j.1 + 120) % 128, by omega⟩ * c j

theorem readAt_ld {sig : RefSig} {κ : Kind} {sp : Space} {s : Shape} {e : EltTy} {Val : EltTy → Type} {m : Memref sig κ sp s e} (h : m.IsWhole)
    (X : s.Idx → Val e) (R : Rect s) : View.readAt Val m.view R.toLoadRect (h.unread X) = View.ld (Val := Val) X R :=
  funext fun x => Memref.IsWhole.readAt_unread h X _ x

theorem pay3_at (x0 : Vec Ideal S512x1024 .f32) (x1 : Vec Ideal S1x1024 .f32) (r : Fin 512) (k : Fin 1024) :
    k0_pay3 x0 x1 (ix2 r k) = rms (Ideal.ofBits .f32 0x44800000#32) (fun k => x0 (ix2 r k)) (fun k => x1 (ix2 0 k)) k := by
  pointwise [k0_pay3, rms]

theorem pay47_at (p s : FVec Ideal S512x512 .f32) (g : Vec Ideal S1x512 .f32) (r j : Fin 512) :
    k0_pay47 p s g (ix2 r j) = p (ix2 r j) * Ideal.rsqrt (s (ix2 r j) * Ideal.ofBits .f32 0x3C800000#32 + Ideal.ofBits .f32 0x358637BD#32) * g (ix2 0 j) := by
  pointwise [k0_pay47]

theorem pay57_at (p s : FVec Ideal S512x512 .f32) (g : Vec Ideal S1x512 .f32) (r j : Fin 512) :
    k0_pay57 p s g (ix2 r j) = p (ix2 r j) * Ideal.rsqrt (s (ix2 r j) * Ideal.ofBits .f32 0x3C800000#32 + Ideal.ofBits .f32 0x358637BD#32) * g (ix2 0 j) := by
  pointwise [k0_pay57]

theorem pay44_at (p : FVec Ideal S512x512 .f32) (o : Vec Ideal S512x512 .bf16) (r j : Fin 512) :
    k0_pay44 p o (ix2 r j) = ∑ k : Fin 512, p (ix2 r k) * p (ix2 r k) * o (ix2 k j) := by
  pointwise [k0_pay44]

theorem pay55_at (p : FVec Ideal S512x512 .f32) (o : Vec Ideal S512x512 .bf16) (r j : Fin 512) :
    k0_pay55 p o (ix2 r j) = ∑ k : Fin 512, p (ix2 r k) * p (ix2 r k) * o (ix2 k j) := by
  pointwise [k0_pay55]

theorem pay48_at (a b c : FVec Ideal S512x128 .f32) (p s : FVec Ideal S512x512 .f32) (g : Vec Ideal S1x512 .f32) (r : Fin 512) (j : Fin 128) :
    k0_pay48 a b c p s g (ix2 r j) = turned (fun j => k0_pay47 p s g (ix2 r ⟨0 + j.1, by omega⟩)) (fun j => a (ix2 r j)) (fun j => b (ix2 r j)) (fun j => c (ix2 r j)) j := by
  have e1 : j.1 + 128 - 120 = j.1 + 8 := by omega
  have e2 : j.1 + 128 - 8 = j.1 + 120 := by omega
  pointwise [k0_pay48, turned]
  simp only [e1, e2]

theorem pay49_at (a b c : FVec Ideal S512x128 .f32) (p s : FVec Ideal S512x512 .f32) (g : Vec Ideal S1x512 .f32) (r : Fin 512) (j : Fin 128) :
    k0_pay49 a b c p s g (ix2 r j) = turned (fun j => k0_pay47 p s g (ix2 r ⟨128 + j.1, by omega⟩)) (fun j => a (ix2 r j)) (fun j => b (ix2 r j)) (fun j => c (ix2 r j)) j := by
  have e1 : j.1 + 128 - 120 = j.1 + 8 := by omega
  have e2 : j.1 + 128 - 8 = j.1 + 120 := by omega
  pointwise [k0_pay49, turned]
  simp only [e1, e2]

theorem pay50_at (a b c : FVec Ideal S512x128 .f32) (p s : FVec Ideal S512x512 .f32) (g : Vec Ideal S1x512 .f32) (r : Fin 512) (j : Fin 128) :
    k0_pay50 a b c p s g (ix2 r j) = turned (fun j => k0_pay47 p s g (ix2 r ⟨256 + j.1, by omega⟩)) (fun j => a (ix2 r j)) (fun j => b (ix2 r j)) (fun j => c (ix2 r j)) j := by
  have e1 : j.1 + 128 - 120 = j.1 + 8 := by omega
  have e2 : j.1 + 128 - 8 = j.1 + 120 := by omega
  pointwise [k0_pay50, turned]
  simp only [e1, e2]

theorem pay58_at (a b c : FVec Ideal S512x128 .f32) (p s : FVec Ideal S512x512 .f32) (g : Vec Ideal S1x512 .f32) (r : Fin 512) (j : Fin 128) :
    k0_pay58 a b c p s g (ix2 r j) = turned (fun j => k0_pay57 p s g (ix2 r ⟨0 + j.1, by omega⟩)) (fun j => a (ix2 r j)) (fun j => b (ix2 r j)) (fun j => c (ix2 r j)) j := by
  have e1 : j.1 + 128 - 120 = j.1 + 8 := by omega
  have e2 : j.1 + 128 - 8 = j.1 + 120 := by omega
  pointwise [k0_pay58, turned]
  simp only [e1, e2]

theorem pay59_at (a b c : FVec Ideal S512x128 .f32) (p s : FVec Ideal S512x512 .f32) (g : Vec Ideal S1x512 .f32) (r : Fin 512) (j : Fin 128) :
    k0_pay59 a b c p s g (ix2 r j) = turned (fun j => k0_pay57 p s g (ix2 r ⟨128 + j.1, by omega⟩)) (fun j => a (ix2 r j)) (fun j => b (ix2 r j)) (fun j => c (ix2 r j)) j := by
  have e1 : j.1 + 128 - 120 = j.1 + 8 := by omega
  have e2 : j.1 + 128 - 8 = j.1 + 120 := by omega
  pointwise [k0_pay59, turned]
  simp only [e1, e2]

theorem pay60_at (a b c : FVec Ideal S512x128 .f32) (p s : FVec Ideal S512x512 .f32) (g : Vec Ideal S1x512 .f32) (r : Fin 512) (j : Fin 128) :
    k0_pay60 a b c p s g (ix2 r j) = turned (fun j => k0_pay57 p s g (ix2 r ⟨256 + j.1, by omega⟩)) (fun j => a (ix2 r j)) (fun j => b (ix2 r j)) (fun j => c (ix2 r j)) j := by
  have e1 : j.1 + 128 - 120 = j.1 + 8 := by omega
  have e2 : j.1 + 128 - 8 = j.1 + 120 := by omega
  pointwise [k0_pay60, turned]
  simp only [e1, e2]

theorem pay52_at (a b c : FVec Ideal S512x128 .f32) (t : FVec Ideal S512x512 .f32) (r : Fin 512) (j : Fin 128) :
    k0_pay52 a b c t (ix2 r j) = turned (fun j => t (ix2 r ⟨384 + j.1, by omega⟩)) (fun j => a (ix2 r j)) (fun j => b (ix2 r j)) (fun j => c (ix2 r j)) j := by
  have e1 : j.1 + 128 - 120 = j.1 + 8 := by omega
  have e2 : j.1 + 128 - 8 = j.1 + 120 := by omega
  pointwise [k0_pay52, turned]
  simp only [e1, e2]

theorem pay61_at (a b c : FVec Ideal S512x128 .f32) (t : FVec Ideal S512x512 .f32) (r : Fin 512) (j : Fin 128) :
    k0_pay61 a b c t (ix2 r j) = turned (fun j => t (ix2 r ⟨384 + j.1, by omega⟩)) (fun j => a (ix2 r j)) (fun j => b (ix2 r j)) (fun j => c (ix2 r j)) j := by
  have e1 : j.1 + 128 - 120 = j.1 + 8 := by omega
  have e2 : j.1 + 128 - 8 = j.1 + 120 := by omega
  pointwise [k0_pay61, turned]
  simp only [e1, e2]

/-- The projections' columns: the first 512 normalised by groups and turned, the next 512 likewise with another gain, the
others as they are. -/
def mainBlock (x0 : Vec Ideal S512x1024 .f32) (x1 : Vec Ideal S1x1024 .f32) (x2 : Vec Ideal S1024x8192 .bf16) (x4 x5 : Vec Ideal S1x512 .f32)
    (x6 x7 x8 : Vec Ideal S512x128 .f32) (x9 : Vec Ideal S512x512 .bf16) : Vec Ideal S512x8192 .bf16 := fun i =>
  have hi : (i 1 : ℕ) < 8192 := (i 1).isLt
  let p : Fin 8192 → EReal := fun c => proj (fun k => x0 (ix2 (i 0) k)) (fun k => x1 (ix2 0 k)) (fun k => x2 (ix2 k c))
  if h : (i 1 : ℕ) < 512 then
    turned (fun j => grouped (fun k => p ⟨k.1, by omega⟩) (fun k j => x9 (ix2 k j)) (fun j => x4 (ix2 0 j)) ⟨(i 1 : ℕ) / 128 * 128 + j.1, by omega⟩)
      (fun j => x6 (ix2 (i 0) j)) (fun j => x7 (ix2 (i 0) j)) (fun j => x8 (ix2 (i 0) j)) ⟨(i 1 : ℕ) % 128, by omega⟩
  else if h' : (i 1 : ℕ) < 1024 then
    turned (fun j => grouped (fun k => p ⟨512 + k.1, by omega⟩) (fun k j => x9 (ix2 k j)) (fun j => x5 (ix2 0 j))
        ⟨((i 1 : ℕ) - 512) / 128 * 128 + j.1, by omega⟩)
      (fun j => x6 (ix2 (i 0) j)) (fun j => x7 (ix2 (i 0) j)) (fun j => x8 (ix2 (i 0) j)) ⟨((i 1 : ℕ) - 512) % 128, by omega⟩
  else p ⟨(i 1 : ℕ), hi⟩

def loraBlock (x0 : Vec Ideal S512x1024 .f32) (x1 : Vec Ideal S1x1024 .f32) (x3 : Vec Ideal S1024x128 .bf16) : Vec Ideal S512x128 .f32 := fun i =>
  proj (fun k => x0 (ix2 (i 0) k)) (fun k => x1 (ix2 0 k)) (fun k => x3 (ix2 k (i 1)))

end Cert.Kernel2Ideal.InProj

end
-- ==== Proof.InProjHost.lean ====
/-
  The input projection, the arrays the host prepares for it: the reordered weights, the tiled gains, the
  rotary tables and the matrix of ones within a head.
-/
module

public import proofs.«01_k».proof.Proof.InProjBlock
public import Idealize.ShloMosaic.Lib.Tactic
public import Idealize.ShloMosaic.Lib.StableHlo.ReadAt

@[expose] public section

set_option maxRecDepth 16384

noncomputable section

namespace Cert.Kernel2Ideal.InProj

open Cert.Kernel2Ideal Cert.Kernel2Ideal.Gen Idealize.ShloMosaic Idealize.ShloMosaic.TcCoe Idealize.SL.Sem

/-- The rotary angle of position `s` at frequency `j`. -/
def angle (s j : ℕ) : EReal :=
  FloatOps.sitofp (F := Ideal) FTy.f32 (BitVec.ofNat 32 s) * Ideal.div 1 (Ideal.pow (Ideal.ofBits .f32 1223959552#32)
    (Ideal.div (Ideal.ofBits .f32 1073741824#32 * FloatOps.sitofp (F := Ideal) FTy.f32 (BitVec.ofNat 32 j)) (Ideal.ofBits .f32 1098907648#32)))

/-- The three rotary tables: what multiplies the lane itself, the lane eight above and the lane eight below. -/
def tabSelf (s j : ℕ) : EReal :=
  if j % 64 < 8 then Ideal.cos (angle s (j % 64)) else if j % 64 < 16 then Ideal.cos (angle s (j % 64 - 8)) else 1
def tabAbove (s j : ℕ) : EReal := if j % 64 < 8 then -Ideal.sin (angle s (j % 64)) else 0
def tabBelow (s j : ℕ) : EReal :=
  if j % 64 < 8 then 0 else if j % 64 < 16 then Ideal.sin (angle s (j % 64 - 8)) else 0

variable (m : (ℓ : Loc nD τ sig) → Buf (Elt Ideal) ℓ) (ρ : Dev nD → PrngReg)

theorem V26 (c : Dev nD) (r : Fin 32768) (k : Fin 1024) : V m c main_v26 (ix2 r k)
    = (m ((c : Thread nD τ).loc main_arg0) : FVec Ideal S16x2048x1024 .f32) (ix3 ⟨r.1 / 2048, by omega⟩ ⟨r.1 % 2048, by omega⟩ k) := by
  unfold V; after_reads_at
theorem V27 (c : Dev nD) (k : Fin 1024) : V m c main_v27 (ix2 0 k)
    = (m ((c : Thread nD τ).loc main_arg1) : FVec Ideal S1024 .f32) (ix1 k) := by
  unfold V; after_reads_at

/-- The main columns are those of the weights without the 128 low-rank ones. -/
theorem V6 (c : Dev nD) (k : Fin 1024) (j : Fin 8192) : V m c main_v6 (ix2 k j)
    = (m ((c : Thread nD τ).loc main_arg2) : FVec Ideal S1024x8320 .f32) (ix2 k ⟨if j.1 < 3584 then j.1 else j.1 + 128, by split <;> omega⟩) := by
  have key : ∀ (a b : Fin 8320), a.1 = b.1 → (m ((c : Thread nD τ).loc main_arg2) : FVec Ideal S1024x8320 .f32) (ix2 k a)
      = (m ((c : Thread nD τ).loc main_arg2) : FVec Ideal S1024x8320 .f32) (ix2 k b) := fun a b h => by rw [Fin.ext h]
  unfold V; after_reads_at
  split
  · rename_i h
    after_reads_at
    exact key _ _ (by show j.1 = if j.1 < 3584 then j.1 else j.1 + 128; rw [if_pos (by omega)])
  · rename_i h
    after_reads_at
    by_cases h1 : j.1 - 2048 < 1536
    · rw [dif_pos h1]
      exact key _ _ (by show 2048 + (j.1 - 2048) = if j.1 < 3584 then j.1 else j.1 + 128; rw [if_pos (by omega)]; omega)
    · rw [dif_neg h1]
      by_cases h2 : j.1 - 2048 - 1536 < 512
      · rw [dif_pos h2]
        exact key _ _ (by show 3712 + (j.1 - 2048 - 1536) = if j.1 < 3584 then j.1 else j.1 + 128; rw [if_neg (by omega)]; omega)
      · rw [dif_neg h2]
        exact key _ _ (by show 4224 + (j.1 - 2048 - 1536 - 512) = if j.1 < 3584 then j.1 else j.1 + 128; rw [if_neg (by omega)]; omega)
theorem V7 (c : Dev nD) (k : Fin 1024) (j : Fin 128) : V m c main_v7 (ix2 k j)
    = (m ((c : Thread nD τ).loc main_arg2) : FVec Ideal S1024x8320 .f32) (ix2 k ⟨3584 + j.1, by omega⟩) := by
  unfold V; after_reads_at

/-- The gain of the queries carries the attention's scale. -/
theorem V13 (c : Dev nD) (j : Fin 512) : V m c main_v13 (ix2 0 j)
    = @HMul.hMul EReal EReal EReal _ ((m ((c : Thread nD τ).loc main_arg3) : FVec Ideal S64 .f32) (ix1 ⟨j.1 % 64, by omega⟩)) (Ideal.ofBits .f32 0x3E38AA3B#32) := by
  unfold V; after_reads_at
theorem V17 (c : Dev nD) (j : Fin 512) : V m c main_v17 (ix2 0 j)
    = (m ((c : Thread nD τ).loc main_arg4) : FVec Ideal S64 .f32) (ix1 ⟨j.1 % 64, by omega⟩) := by
  unfold V; after_reads_at
theorem V64 (c : Dev nD) (r : Fin 4096) (j : Fin 512) : V m c main_v64 (ix2 r j)
    = (m ((c : Thread nD τ).loc main_arg6) : FVec Ideal S16x256x512 .f32) (ix3 ⟨r.1 / 256, by omega⟩ ⟨r.1 % 256, by omega⟩ j) := by
  unfold V; after_reads_at
theorem V66 (c : Dev nD) (r : Fin 4096) (j : Fin 512) : V m c main_v66 (ix2 r j)
    = (m ((c : Thread nD τ).loc main_arg7) : FVec Ideal S16x256x512 .f32) (ix3 ⟨r.1 / 256, by omega⟩ ⟨r.1 % 256, by omega⟩ j) := by
  unfold V; after_reads_at
theorem V67 (c : Dev nD) (k : Fin 128) : V m c main_v67 (ix2 0 k)
    = (m ((c : Thread nD τ).loc main_arg5) : FVec Ideal S128 .f32) (ix1 k) := by
  unfold V; after_reads_at

theorem one_f32 : Ideal.ofBits .f32 0x3F800000#32 = 1 := by
  rw [show (1 : EReal) = ((1 : ℝ) : EReal) by norm_cast]
  simp [Ideal.ofBits, Ideal.ieee, -EReal.coe_mul]; norm_num
theorem zero_f32 : Ideal.ofBits .f32 0x00000000#32 = 0 := by
  simp [Ideal.ofBits, Ideal.ieee]

theorem tabSelf_1 {s j : ℕ} (h : j % 64 < 8) : tabSelf s j = Ideal.cos (angle s (j % 64)) := by unfold tabSelf; rw [if_pos h]
theorem tabSelf_2 {s j : ℕ} (h : ¬ j % 64 < 8) (h' : j % 64 < 16) : tabSelf s j = Ideal.cos (angle s (j % 64 - 8)) := by unfold tabSelf; rw [if_neg h, if_pos h']
theorem tabSelf_3 {s j : ℕ} (h : ¬ j % 64 < 8) (h' : ¬ j % 64 < 16) : tabSelf s j = 1 := by unfold tabSelf; rw [if_neg h, if_neg h']
theorem tabAbove_1 {s j : ℕ} (h : j % 64 < 8) : tabAbove s j = -Ideal.sin (angle s (j % 64)) := by unfold tabAbove; rw [if_pos h]
theorem tabAbove_2 {s j : ℕ} (h : ¬ j % 64 < 8) (_ : j % 64 < 16) : tabAbove s j = 0 := by unfold tabAbove; rw [if_neg h]
theorem tabAbove_3 {s j : ℕ} (h : ¬ j % 64 < 8) (_ : ¬ j % 64 < 16) : tabAbove s j = 0 := by unfold tabAbove; rw [if_neg h]
theorem tabBelow_1 {s j : ℕ} (h : j % 64 < 8) : tabBelow s j = 0 := by unfold tabBelow; rw [if_pos h]
theorem tabBelow_2 {s j : ℕ} (h : ¬ j % 64 < 8) (h' : j % 64 < 16) : tabBelow s j = Ideal.sin (angle s (j % 64 - 8)) := by unfold tabBelow; rw [if_neg h, if_pos h']
theorem tabBelow_3 {s j : ℕ} (h : ¬ j % 64 < 8) (h' : ¬ j % 64 < 16) : tabBelow s j = 0 := by unfold tabBelow; rw [if_neg h, if_neg h']

theorem V56 (c : Dev nD) (s : Fin 2048) (j : Fin 128) : V m c main_v56 (ix2 s j) = tabSelf s.1 j.1 := by
  unfold V; after_reads_at
  by_cases h : j.1 % 64 < 8
  · refine (dif_pos h).trans ((Eq.trans ?_ (tabSelf_1 h).symm)); after_reads_at; rfl
  · refine (dif_neg h).trans ?_
    by_cases h1 : j.1 % 64 - 8 < 8
    · have h2 : j.1 % 64 < 16 := by clear * - h h1; omega
      refine (dif_pos h1).trans (Eq.trans ?_ (tabSelf_2 h h2).symm); after_reads_at; rfl
    · have h2 : ¬ j.1 % 64 < 16 := by clear * - h1; omega
      refine (dif_neg h1).trans (Eq.trans ?_ (tabSelf_3 h h2).symm); after_reads_at
theorem V59 (c : Dev nD) (s : Fin 2048) (j : Fin 128) : V m c main_v59 (ix2 s j) = tabAbove s.1 j.1 := by
  unfold V; after_reads_at
  by_cases h : j.1 % 64 < 8
  · refine (dif_pos h).trans ((Eq.trans ?_ (tabAbove_1 h).symm)); after_reads_at; rfl
  · refine (dif_neg h).trans ?_
    by_cases h1 : j.1 % 64 - 8 < 8
    · have h2 : j.1 % 64 < 16 := by clear * - h h1; omega
      refine (dif_pos h1).trans (Eq.trans ?_ (tabAbove_2 h h2).symm); after_reads_at
    · have h2 : ¬ j.1 % 64 < 16 := by clear * - h1; omega
      refine (dif_neg h1).trans (Eq.trans ?_ (tabAbove_3 h h2).symm); after_reads_at
theorem V62 (c : Dev nD) (s : Fin 2048) (j : Fin 128) : V m c main_v62 (ix2 s j) = tabBelow s.1 j.1 := by
  unfold V; after_reads_at
  by_cases h : j.1 % 64 < 8
  · refine (dif_pos h).trans ((Eq.trans ?_ (tabBelow_1 h).symm)); after_reads_at
  · refine (dif_neg h).trans ?_
    by_cases h1 : j.1 % 64 - 8 < 8
    · have h2 : j.1 % 64 < 16 := by clear * - h h1; omega
      refine (dif_pos h1).trans (Eq.trans ?_ (tabBelow_2 h h2).symm); after_reads_at; rfl
    · have h2 : ¬ j.1 % 64 < 16 := by clear * - h1; omega
      refine (dif_neg h1).trans (Eq.trans ?_ (tabBelow_3 h h2).symm); after_reads_at

/-- The number of the head of a lane, as the host computes it. -/
def headOf (x : BitVec 32) : BitVec 32 :=
  Scalar.select
    (IntOp.andi
      (IntOp.cmpi CmpIPredicate.ne (if x = 0 then (0 : BitVec 32) else if x.msb = true then -1 else 1)
        (if 64#32 = 0 then (0 : BitVec 32) else if BitVec.msb 64#32 = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem headOf_eq : ∀ s : Fin 512, headOf (BitVec.ofNat 32 s.1) = BitVec.ofNat 32 (s.1 / 64) := by decide +kernel

theorem cmp_head : ∀ a b : Fin 8, IntOp.cmpi CmpIPredicate.eq (BitVec.ofNat 32 a.1) (BitVec.ofNat 32 b.1) = if a = b then 1#1 else 0#1 := by decide +kernel

/-- One within a head and zero across heads. -/
theorem V25 (c : Dev nD) (s j : Fin 512) : V m c main_v25 (ix2 s j) = if s.1 / 64 = j.1 / 64 then (1 : EReal) else 0 := by
  unfold V; after_reads_at
  show FloatOps.uitofp (F := Ideal) FTy.bf16 (IntOp.cmpi CmpIPredicate.eq (headOf (BitVec.ofNat 32 s.1)) (headOf (BitVec.ofNat 32 j.1))) = _
  rw [headOf_eq, headOf_eq, cmp_head ⟨s.1 / 64, by omega⟩ ⟨j.1 / 64, by omega⟩]
  by_cases h : s.1 / 64 = j.1 / 64
  · rw [if_pos h, if_pos (Fin.ext h)]; simp [FloatOps.uitofp]
  · rw [if_neg h, if_neg (fun e => h (Fin.ext_iff.1 e))]; simp [FloatOps.uitofp]

end Cert.Kernel2Ideal.InProj

end
-- ==== Proof.InProjSpec.lean ====
/-
  The input projection in plain mathematics: one row's projections, the normalised heads turned by the rotary
  angles, and how the kernel's forms (a matrix of ones for the sums within heads, three tables for the turn) come to them.
-/
module

public import proofs.«01_k».proof.Proof.InProjHost

@[expose] public section

set_option maxRecDepth 16384

noncomputable section

namespace Cert.Kernel2Ideal.InProj

open Idealize.ShloMosaic
open Cert.Proof (rms)

/-- A head turned by the rotary angles of position `s`: the first sixteen entries in pairs eight apart, the rest as they are. -/
def rope (s : ℕ) (t : Fin 64 → EReal) (j : Fin 64) : EReal :=
  if h : j.1 < 8 then t j * Ideal.cos (angle s j.1) - t ⟨j.1 + 8, by omega⟩ * Ideal.sin (angle s j.1)
  else if h' : j.1 < 16 then t j * Ideal.cos (angle s (j.1 - 8)) + t ⟨j.1 - 8, by omega⟩ * Ideal.sin (angle s (j.1 - 8))
  else t j

/-- Column `c` of the main result, of the row's projections `p`: queries, keys, the columns before and those after the low-rank ones. -/
def mainRow (s : ℕ) (p : Fin 8320 → EReal) (qg kg : Fin 64 → EReal) (c : Fin 8192) : EReal :=
  if h : c.1 < 512 then
    rope s (rms (Ideal.ofBits .f32 0x42800000#32) (fun k => p ⟨c.1 / 64 * 64 + k.1, by omega⟩) qg) ⟨c.1 % 64, by omega⟩ * Ideal.ofBits .f32 0x3E38AA3B#32
  else if h' : c.1 < 1024 then
    rope s (rms (Ideal.ofBits .f32 0x42800000#32) (fun k => p ⟨512 + ((c.1 - 512) / 64 * 64 + k.1), by omega⟩) kg) ⟨(c.1 - 512) % 64, by omega⟩
  else p ⟨if c.1 < 3584 then c.1 else c.1 + 128, by split <;> omega⟩

theorem sixtyfour : Ideal.ofBits .f32 0x42800000#32 = ((64 : ℝ) : EReal) := by
  simp [Ideal.ofBits, Ideal.ieee, -EReal.coe_mul]; norm_num
theorem sixtyfourth : Ideal.ofBits .f32 0x3C800000#32 = ((1 / 64 : ℝ) : EReal) := by
  simp [Ideal.ofBits, Ideal.ieee, -EReal.coe_mul]; norm_num
theorem scale_real : ∃ r : ℝ, 0 ≤ r ∧ Ideal.ofBits .f32 0x3E38AA3B#32 = (r : EReal) := by
  refine ⟨_, ?_, by simp [Ideal.ofBits, Ideal.ieee, -EReal.coe_mul]; rfl⟩
  positivity

theorem mul_sixtyfourth (x : EReal) : x * Ideal.ofBits .f32 0x3C800000#32 = Ideal.div x (Ideal.ofBits .f32 0x42800000#32) := by
  rw [sixtyfour, sixtyfourth, Ideal.div, if_neg (by norm_num), ← EReal.coe_inv]
  norm_num

/-- The sum over 512 lanes against the indicator of a head is the sum over the head. -/
theorem sum_head (f : Fin 512 → EReal) (c : Fin 512) :
    (∑ k : Fin 512, f k * (if k.1 / 64 = c.1 / 64 then (1 : EReal) else 0)) = ∑ k : Fin 64, f ⟨c.1 / 64 * 64 + k.1, by omega⟩ := by
  simp only [mul_ite, mul_one, mul_zero]
  rw [← Finset.sum_filter]
  symm
  refine Finset.sum_bij (fun (k : Fin 64) _ => (⟨c.1 / 64 * 64 + k.1, by omega⟩ : Fin 512)) ?_ ?_ ?_ ?_
  · intro k _
    simp only [Finset.mem_filter, Finset.mem_univ, true_and]
    omega
  · intro a _ b _ h
    have := congrArg Fin.val h
    exact Fin.ext (by simp only at this; omega)
  · intro b hb
    simp only [Finset.mem_filter, Finset.mem_univ, true_and] at hb
    exact ⟨⟨b.1 % 64, by omega⟩, Finset.mem_univ _, Fin.ext (by simp only; omega)⟩
  · intro _ _; rfl

/-- The kernel's grouped normalisation is the head's own. -/
theorem grouped_eq (p g : Fin 512 → EReal) (gh : Fin 64 → EReal) (κ : EReal) (hg : ∀ j, g j = gh ⟨j.1 % 64, by omega⟩ * κ) (c : Fin 512) :
    grouped p (fun k j => if k.1 / 64 = j.1 / 64 then (1 : EReal) else 0) g c
      = rms (Ideal.ofBits .f32 0x42800000#32) (fun k => p ⟨c.1 / 64 * 64 + k.1, by omega⟩) gh ⟨c.1 % 64, by omega⟩ * κ := by
  have hc : (⟨c.1 / 64 * 64 + c.1 % 64, by omega⟩ : Fin 512) = c := Fin.ext (by simp only; omega)
  unfold grouped rms
  rw [sum_head (fun k => p k * p k), mul_sixtyfourth, hg]
  dsimp only
  rw [hc, mul_assoc, mul_assoc, mul_assoc]

/-- The kernel's turn by three tables is the rotary turn, a common factor kept outside. -/
theorem turned_eq (s : ℕ) (T : Fin 512 → EReal) (t : Fin 64 → EReal) (r : ℝ) (hr : 0 ≤ r) (c : Fin 512)
    (hT : ∀ j : Fin 64, T ⟨c.1 / 64 * 64 + j.1, by omega⟩ = t j * (r : EReal)) :
    turned (fun j => T ⟨c.1 / 128 * 128 + j.1, by omega⟩) (fun j => tabSelf s j.1) (fun j => tabAbove s j.1) (fun j => tabBelow s j.1) ⟨c.1 % 128, by omega⟩
      = rope s t ⟨c.1 % 64, by omega⟩ * (r : EReal) := by
  have hT' : ∀ (a : Fin 512) (j : Fin 64), a.1 = c.1 / 64 * 64 + j.1 → T a = t j * (r : EReal) := fun a j h => by
    rw [← hT j]; exact congrArg T (Fin.ext h)
  have hm : c.1 % 128 % 64 = c.1 % 64 := by omega
  have hd : ∀ a b : EReal, (a + b) * (r : EReal) = a * r + b * r := fun a b =>
    EReal.right_distrib_of_nonneg_of_ne_top (EReal.coe_nonneg.2 hr) (EReal.coe_ne_top r) a b
  have comm : ∀ a b : EReal, a * (r : EReal) * b = a * b * r := fun a b => mul_right_comm _ _ _
  unfold turned rope
  dsimp only
  have h0 := hT' ⟨c.1 / 128 * 128 + c.1 % 128, by omega⟩ ⟨c.1 % 64, by omega⟩ (by simp only; omega)
  rw [h0]
  by_cases h : c.1 % 64 < 8
  · have h8 := hT' ⟨c.1 / 128 * 128 + (c.1 % 128 + 8) % 128, by omega⟩ ⟨c.1 % 64 + 8, by omega⟩ (by simp only; omega)
    rw [dif_pos h, h8, tabSelf_1 (by omega), tabAbove_1 (by omega), tabBelow_1 (by omega), hm, mul_zero, add_zero, sub_eq_add_neg, hd, comm, comm, mul_neg]
  · by_cases h' : c.1 % 64 < 16
    · have h8 := hT' ⟨c.1 / 128 * 128 + (c.1 % 128 + 120) % 128, by omega⟩ ⟨c.1 % 64 - 8, by omega⟩ (by simp only; omega)
      rw [dif_neg h, dif_pos h', h8, tabSelf_2 (by omega) (by omega), tabAbove_2 (by omega) (by omega), tabBelow_2 (by omega) (by omega), hm, mul_zero, add_zero, hd, comm, comm]
    · rw [dif_neg h, dif_neg h', tabSelf_3 (by omega) (by omega), tabAbove_3 (by omega) (by omega), tabBelow_3 (by omega) (by omega), mul_zero, mul_zero, add_zero, add_zero, mul_one]

end Cert.Kernel2Ideal.InProj

end
-- ==== Proof.InProjLora.lean ====
/-
  The input projection, one block of 512 rows: what the run leaves of the projections' columns and of the low-rank columns.
-/
module

public import proofs.«01_k».proof.Proof.InProjBlock

@[expose] public section

set_option maxRecDepth 16384

noncomputable section

namespace Cert.Kernel2Ideal.InProj

open Cert.Kernel2Ideal Cert.Kernel2Ideal.Gen Idealize.ShloMosaic Idealize.ShloMosaic.TcCoe Idealize.SL.Sem
open Cert.Proof (rms)

theorem out14_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x8192 .bf16) (harg3 : arg3.IsWhole) (arg4 : Memref sig .tc .vmem S1024x128 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S1x128 .f32) (harg13 : arg13.IsWhole) (arg14 : Memref sig .tc .vmem S512x8192 .bf16) (harg14 : arg14.IsWhole) (arg15 : Memref sig .tc .vmem S512x128 .f32) (harg15 : arg15.IsWhole) (arg16 : Memref sig .tc .vmem S512x512 .bf16) (harg16 : arg16.IsWhole)
    (x0 : Vec Ideal S512x1024 .f32) (x1 : Vec Ideal S1x1024 .f32) (x2 : Vec Ideal S1024x8192 .bf16) (x3 : Vec Ideal S1024x128 .bf16) (x4 : Vec Ideal S1x512 .f32) (x5 : Vec Ideal S1x512 .f32) (x6 : Vec Ideal S512x128 .f32) (x7 : Vec Ideal S512x128 .f32) (x8 : Vec Ideal S512x128 .f32) (x9 : Vec Ideal S512x512 .bf16) (x10 : Vec Ideal S256x512 .bf16) (x11 : Vec Ideal S256x512 .bf16) (x12 : Vec Ideal S1x128 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 = loraBlock x0 x1 x3 := by
  funext y
  unfold out0_A_14
  refine View.read_writes_apply_of_pieces _ _ (loraBlock x0 x1 x3) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y)
  unfold kernelRun0_A
  dsimp only
  intro p hp
  simp only [List.mem_cons, List.not_mem_nil, or_false] at hp
  rcases hp with rfl
  intro q
  idx_vars q
  have he : (Rect.unit ![0, 0] ![512, 128] inb_S512x128_S512x128_0_0 : Rect S512x128).emb (ix2 q0 q1) = (ix2 q0 q1 : S512x128.Idx) := by
    funext d; apply Fin.ext; rw [Rect.emb_apply]; match d with
    | ⟨0, _⟩ => show 0 + 1 * q0.1 = q0.1; omega
    | ⟨1, _⟩ => show 0 + 1 * q1.1 = q1.1; omega
  rw [he]
  simp only [kernelRun0_A.sl.r, readAt_ld]
  pointwise [k0_pay2, pay3_at, loraBlock, proj]

end Cert.Kernel2Ideal.InProj

end
-- ==== Proof.InProjMain.lean ====
/-
  The input projection, one block of 512 rows: what the run leaves of the projections' columns.
-/
module

public import proofs.«01_k».proof.Proof.InProjBlock

@[expose] public section

set_option maxRecDepth 16384

noncomputable section

namespace Cert.Kernel2Ideal.InProj

open Cert.Kernel2Ideal Cert.Kernel2Ideal.Gen Idealize.ShloMosaic Idealize.ShloMosaic.TcCoe Idealize.SL.Sem
open Cert.Proof (rms)

theorem out13_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x8192 .bf16) (harg3 : arg3.IsWhole) (arg4 : Memref sig .tc .vmem S1024x128 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S1x128 .f32) (harg13 : arg13.IsWhole) (arg14 : Memref sig .tc .vmem S512x8192 .bf16) (harg14 : arg14.IsWhole) (arg15 : Memref sig .tc .vmem S512x128 .f32) (harg15 : arg15.IsWhole) (arg16 : Memref sig .tc .vmem S512x512 .bf16) (harg16 : arg16.IsWhole)
    (x0 : Vec Ideal S512x1024 .f32) (x1 : Vec Ideal S1x1024 .f32) (x2 : Vec Ideal S1024x8192 .bf16) (x3 : Vec Ideal S1024x128 .bf16) (x4 : Vec Ideal S1x512 .f32) (x5 : Vec Ideal S1x512 .f32) (x6 : Vec Ideal S512x128 .f32) (x7 : Vec Ideal S512x128 .f32) (x8 : Vec Ideal S512x128 .f32) (x9 : Vec Ideal S512x512 .bf16) (x10 : Vec Ideal S256x512 .bf16) (x11 : Vec Ideal S256x512 .bf16) (x12 : Vec Ideal S1x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 = mainBlock x0 x1 x2 x4 x5 x6 x7 x8 x9 := by
  funext y
  unfold out0_A_13
  refine View.read_writes_apply_of_pieces _ _ (mainBlock x0 x1 x2 x4 x5 x6 x7 x8 x9) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y)
  unfold kernelRun0_A
  dsimp only
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl
  all_goals
    intro q
    idx_vars q
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.cst_104, readAt_ld]
  · have he : (Rect.unit ![0, 7680] ![512, 512] inb_S512x8192_S512x512_0_7680 : Rect S512x8192).emb (ix2 q0 q1) = (ix2 q0 ⟨7680 + q1.1, by omega⟩ : S512x8192.Idx) := by
      funext d; apply Fin.ext; rw [Rect.emb_apply]; match d with
      | ⟨0, _⟩ => show 0 + 1 * q0.1 = q0.1; omega
      | ⟨1, _⟩ => show 7680 + 1 * q1.1 = 7680 + q1.1; omega
    rw [he]
    have n1 : ¬ 7680 + q1.1 < 512 := by omega
    have n2 : ¬ 7680 + q1.1 < 1024 := by omega
    pointwise [k0_pay1, k0_pay45, k0_pay7, k0_pay16, k0_pay35, pay3_at, mainBlock, proj]
    simp only [n1, n2, dif_neg, not_false_eq_true]
  · have he : (Rect.unit ![0, 7168] ![512, 512] inb_S512x8192_S512x512_0_7168 : Rect S512x8192).emb (ix2 q0 q1) = (ix2 q0 ⟨7168 + q1.1, by omega⟩ : S512x8192.Idx) := by
      funext d; apply Fin.ext; rw [Rect.emb_apply]; match d with
      | ⟨0, _⟩ => show 0 + 1 * q0.1 = q0.1; omega
      | ⟨1, _⟩ => show 7168 + 1 * q1.1 = 7168 + q1.1; omega
    rw [he]
    have n1 : ¬ 7168 + q1.1 < 512 := by omega
    have n2 : ¬ 7168 + q1.1 < 1024 := by omega
    pointwise [k0_pay65, k0_pay45, k0_pay7, k0_pay16, k0_pay35, pay3_at, mainBlock, proj]
    simp only [n1, n2, dif_neg, not_false_eq_true]
  · have he : (Rect.unit ![0, 6656] ![512, 512] inb_S512x8192_S512x512_0_6656 : Rect S512x8192).emb (ix2 q0 q1) = (ix2 q0 ⟨6656 + q1.1, by omega⟩ : S512x8192.Idx) := by
      funext d; apply Fin.ext; rw [Rect.emb_apply]; match d with
      | ⟨0, _⟩ => show 0 + 1 * q0.1 = q0.1; omega
      | ⟨1, _⟩ => show 6656 + 1 * q1.1 = 6656 + q1.1; omega
    rw [he]
    have n1 : ¬ 6656 + q1.1 < 512 := by omega
    have n2 : ¬ 6656 + q1.1 < 1024 := by omega
    pointwise [k0_pay64, k0_pay45, k0_pay7, k0_pay16, k0_pay35, pay3_at, mainBlock, proj]
    simp only [n1, n2, dif_neg, not_false_eq_true]
  · have he : (Rect.unit ![0, 6144] ![512, 512] inb_S512x8192_S512x512_0_6144 : Rect S512x8192).emb (ix2 q0 q1) = (ix2 q0 ⟨6144 + q1.1, by omega⟩ : S512x8192.Idx) := by
      funext d; apply Fin.ext; rw [Rect.emb_apply]; match d with
      | ⟨0, _⟩ => show 0 + 1 * q0.1 = q0.1; omega
      | ⟨1, _⟩ => show 6144 + 1 * q1.1 = 6144 + q1.1; omega
    rw [he]
    have n1 : ¬ 6144 + q1.1 < 512 := by omega
    have n2 : ¬ 6144 + q1.1 < 1024 := by omega
    pointwise [k0_pay63, k0_pay45, k0_pay7, k0_pay16, k0_pay35, pay3_at, mainBlock, proj]
    simp only [n1, n2, dif_neg, not_false_eq_true]
  · have he : (Rect.unit ![0, 5632] ![512, 512] inb_S512x8192_S512x512_0_5632 : Rect S512x8192).emb (ix2 q0 q1) = (ix2 q0 ⟨5632 + q1.1, by omega⟩ : S512x8192.Idx) := by
      funext d; apply Fin.ext; rw [Rect.emb_apply]; match d with
      | ⟨0, _⟩ => show 0 + 1 * q0.1 = q0.1; omega
      | ⟨1, _⟩ => show 5632 + 1 * q1.1 = 5632 + q1.1; omega
    rw [he]
    have n1 : ¬ 5632 + q1.1 < 512 := by omega
    have n2 : ¬ 5632 + q1.1 < 1024 := by omega
    pointwise [k0_pay62, k0_pay45, k0_pay7, k0_pay16, k0_pay35, pay3_at, mainBlock, proj]
    simp only [n1, n2, dif_neg, not_false_eq_true]
  · have he : (Rect.unit ![0, 896] ![512, 128] inb_S512x8192_S512x128_0_896 : Rect S512x8192).emb (ix2 q0 q1) = (ix2 q0 ⟨896 + q1.1, by omega⟩ : S512x8192.Idx) := by
      funext d; apply Fin.ext; rw [Rect.emb_apply]; match d with
      | ⟨0, _⟩ => show 0 + 1 * q0.1 = q0.1; omega
      | ⟨1, _⟩ => show 896 + 1 * q1.1 = 896 + q1.1; omega
    rw [he]
    have n1 : ¬ 896 + q1.1 < 512 := by omega
    have n2 : 896 + q1.1 < 1024 := by omega
    have e1 : (896 + q1.1 - 512) / 128 = 3 := by omega
    have e2 : (896 + q1.1 - 512) % 128 = q1.1 := by omega
    pointwise [pay61_at, pay57_at, pay55_at, k0_pay4, k0_pay5, k0_pay6, k0_pay30, pay3_at, mainBlock, grouped, proj]
    simp only [n1, n2, e1, e2, dif_neg, dif_pos, not_false_eq_true]
  · have he : (Rect.unit ![0, 768] ![512, 128] inb_S512x8192_S512x128_0_768 : Rect S512x8192).emb (ix2 q0 q1) = (ix2 q0 ⟨768 + q1.1, by omega⟩ : S512x8192.Idx) := by
      funext d; apply Fin.ext; rw [Rect.emb_apply]; match d with
      | ⟨0, _⟩ => show 0 + 1 * q0.1 = q0.1; omega
      | ⟨1, _⟩ => show 768 + 1 * q1.1 = 768 + q1.1; omega
    rw [he]
    have n1 : ¬ 768 + q1.1 < 512 := by omega
    have n2 : 768 + q1.1 < 1024 := by omega
    have e1 : (768 + q1.1 - 512) / 128 = 2 := by omega
    have e2 : (768 + q1.1 - 512) % 128 = q1.1 := by omega
    pointwise [pay60_at, pay57_at, pay55_at, k0_pay4, k0_pay5, k0_pay6, k0_pay30, pay3_at, mainBlock, grouped, proj]
    simp only [n1, n2, e1, e2, dif_neg, dif_pos, not_false_eq_true]
  · have he : (Rect.unit ![0, 640] ![512, 128] inb_S512x8192_S512x128_0_640 : Rect S512x8192).emb (ix2 q0 q1) = (ix2 q0 ⟨640 + q1.1, by omega⟩ : S512x8192.Idx) := by
      funext d; apply Fin.ext; rw [Rect.emb_apply]; match d with
      | ⟨0, _⟩ => show 0 + 1 * q0.1 = q0.1; omega
      | ⟨1, _⟩ => show 640 + 1 * q1.1 = 640 + q1.1; omega
    rw [he]
    have n1 : ¬ 640 + q1.1 < 512 := by omega
    have n2 : 640 + q1.1 < 1024 := by omega
    have e1 : (640 + q1.1 - 512) / 128 = 1 := by omega
    have e2 : (640 + q1.1 - 512) % 128 = q1.1 := by omega
    pointwise [pay59_at, pay57_at, pay55_at, k0_pay4, k0_pay5, k0_pay6, k0_pay30, pay3_at, mainBlock, grouped, proj]
    simp only [n1, n2, e1, e2, dif_neg, dif_pos, not_false_eq_true]
  · have he : (Rect.unit ![0, 512] ![512, 128] inb_S512x8192_S512x128_0_512 : Rect S512x8192).emb (ix2 q0 q1) = (ix2 q0 ⟨512 + q1.1, by omega⟩ : S512x8192.Idx) := by
      funext d; apply Fin.ext; rw [Rect.emb_apply]; match d with
      | ⟨0, _⟩ => show 0 + 1 * q0.1 = q0.1; omega
      | ⟨1, _⟩ => show 512 + 1 * q1.1 = 512 + q1.1; omega
    rw [he]
    have n1 : ¬ 512 + q1.1 < 512 := by omega
    have n2 : 512 + q1.1 < 1024 := by omega
    have e1 : (512 + q1.1 - 512) / 128 = 0 := by omega
    have e2 : (512 + q1.1 - 512) % 128 = q1.1 := by omega
    pointwise [pay58_at, pay57_at, pay55_at, k0_pay4, k0_pay5, k0_pay6, k0_pay30, pay3_at, mainBlock, grouped, proj]
    simp only [n1, n2, e1, e2, dif_neg, dif_pos, not_false_eq_true]
    have e3 : q1.1 / 128 = 0 := by omega
    have e4 : q1.1 % 128 = q1.1 := by omega
    simp only [e3, e4, Nat.zero_mul, zero_add, Fin.eta]
  · have he : (Rect.unit ![0, 5120] ![512, 512] inb_S512x8192_S512x512_0_5120 : Rect S512x8192).emb (ix2 q0 q1) = (ix2 q0 ⟨5120 + q1.1, by omega⟩ : S512x8192.Idx) := by
      funext d; apply Fin.ext; rw [Rect.emb_apply]; match d with
      | ⟨0, _⟩ => show 0 + 1 * q0.1 = q0.1; omega
      | ⟨1, _⟩ => show 5120 + 1 * q1.1 = 5120 + q1.1; omega
    rw [he]
    have n1 : ¬ 5120 + q1.1 < 512 := by omega
    have n2 : ¬ 5120 + q1.1 < 1024 := by omega
    pointwise [k0_pay56, k0_pay45, k0_pay7, k0_pay16, k0_pay35, pay3_at, mainBlock, proj]
    simp only [n1, n2, dif_neg, not_false_eq_true]
  · have he : (Rect.unit ![0, 3584] ![512, 512] inb_S512x8192_S512x512_0_3584 : Rect S512x8192).emb (ix2 q0 q1) = (ix2 q0 ⟨3584 + q1.1, by omega⟩ : S512x8192.Idx) := by
      funext d; apply Fin.ext; rw [Rect.emb_apply]; match d with
      | ⟨0, _⟩ => show 0 + 1 * q0.1 = q0.1; omega
      | ⟨1, _⟩ => show 3584 + 1 * q1.1 = 3584 + q1.1; omega
    rw [he]
    have n1 : ¬ 3584 + q1.1 < 512 := by omega
    have n2 : ¬ 3584 + q1.1 < 1024 := by omega
    pointwise [k0_pay54, k0_pay45, k0_pay7, k0_pay16, k0_pay35, pay3_at, mainBlock, proj]
    simp only [n1, n2, dif_neg, not_false_eq_true]
  · have he : (Rect.unit ![0, 3072] ![512, 512] inb_S512x8192_S512x512_0_3072 : Rect S512x8192).emb (ix2 q0 q1) = (ix2 q0 ⟨3072 + q1.1, by omega⟩ : S512x8192.Idx) := by
      funext d; apply Fin.ext; rw [Rect.emb_apply]; match d with
      | ⟨0, _⟩ => show 0 + 1 * q0.1 = q0.1; omega
      | ⟨1, _⟩ => show 3072 + 1 * q1.1 = 3072 + q1.1; omega
    rw [he]
    have n1 : ¬ 3072 + q1.1 < 512 := by omega
    have n2 : ¬ 3072 + q1.1 < 1024 := by omega
    pointwise [k0_pay53, k0_pay45, k0_pay7, k0_pay16, k0_pay35, pay3_at, mainBlock, proj]
    simp only [n1, n2, dif_neg, not_false_eq_true]
  · have he : (Rect.unit ![0, 384] ![512, 128] inb_S512x8192_S512x128_0_384 : Rect S512x8192).emb (ix2 q0 q1) = (ix2 q0 ⟨384 + q1.1, by omega⟩ : S512x8192.Idx) := by
      funext d; apply Fin.ext; rw [Rect.emb_apply]; match d with
      | ⟨0, _⟩ => show 0 + 1 * q0.1 = q0.1; omega
      | ⟨1, _⟩ => show 384 + 1 * q1.1 = 384 + q1.1; omega
    rw [he]
    have n1 : 384 + q1.1 < 512 := by omega
    have e1 : (384 + q1.1) / 128 = 3 := by omega
    have e2 : (384 + q1.1) % 128 = q1.1 := by omega
    pointwise [pay52_at, pay47_at, pay44_at, k0_pay4, k0_pay5, k0_pay6, k0_pay20, pay3_at, mainBlock, grouped, proj]
    simp only [n1, e1, e2, dif_pos]
  · have he : (Rect.unit ![0, 256] ![512, 128] inb_S512x8192_S512x128_0_256 : Rect S512x8192).emb (ix2 q0 q1) = (ix2 q0 ⟨256 + q1.1, by omega⟩ : S512x8192.Idx) := by
      funext d; apply Fin.ext; rw [Rect.emb_apply]; match d with
      | ⟨0, _⟩ => show 0 + 1 * q0.1 = q0.1; omega
      | ⟨1, _⟩ => show 256 + 1 * q1.1 = 256 + q1.1; omega
    rw [he]
    have n1 : 256 + q1.1 < 512 := by omega
    have e1 : (256 + q1.1) / 128 = 2 := by omega
    have e2 : (256 + q1.1) % 128 = q1.1 := by omega
    pointwise [k0_pay51, pay50_at, pay47_at, pay44_at, k0_pay4, k0_pay5, k0_pay6, k0_pay20, pay3_at, mainBlock, grouped, proj]
    simp only [n1, e1, e2, dif_pos]
  · have he : (Rect.unit ![0, 128] ![512, 128] inb_S512x8192_S512x128_0_128 : Rect S512x8192).emb (ix2 q0 q1) = (ix2 q0 ⟨128 + q1.1, by omega⟩ : S512x8192.Idx) := by
      funext d; apply Fin.ext; rw [Rect.emb_apply]; match d with
      | ⟨0, _⟩ => show 0 + 1 * q0.1 = q0.1; omega
      | ⟨1, _⟩ => show 128 + 1 * q1.1 = 128 + q1.1; omega
    rw [he]
    have n1 : 128 + q1.1 < 512 := by omega
    have e1 : (128 + q1.1) / 128 = 1 := by omega
    have e2 : (128 + q1.1) % 128 = q1.1 := by omega
    pointwise [pay49_at, pay47_at, pay44_at, k0_pay4, k0_pay5, k0_pay6, k0_pay20, pay3_at, mainBlock, grouped, proj]
    simp only [n1, e1, e2, dif_pos]
  · have he : (Rect.unit ![0, 0] ![512, 128] inb_S512x8192_S512x128_0_0 : Rect S512x8192).emb (ix2 q0 q1) = (ix2 q0 ⟨q1.1, by omega⟩ : S512x8192.Idx) := by
      funext d; apply Fin.ext; rw [Rect.emb_apply]; match d with
      | ⟨0, _⟩ => show 0 + 1 * q0.1 = q0.1; omega
      | ⟨1, _⟩ => show 0 + 1 * q1.1 = q1.1; omega
    rw [he]
    have n1 : q1.1 < 512 := by omega
    have e1 : (q1.1) / 128 = 0 := by omega
    have e2 : (q1.1) % 128 = q1.1 := by omega
    pointwise [pay48_at, pay47_at, pay44_at, k0_pay4, k0_pay5, k0_pay6, k0_pay20, pay3_at, mainBlock, grouped, proj]
    simp only [n1, e1, e2, dif_pos, Nat.zero_mul, zero_add, Fin.eta]
  · have he : (Rect.unit ![0, 2560] ![512, 512] inb_S512x8192_S512x512_0_2560 : Rect S512x8192).emb (ix2 q0 q1) = (ix2 q0 ⟨2560 + q1.1, by omega⟩ : S512x8192.Idx) := by
      funext d; apply Fin.ext; rw [Rect.emb_apply]; match d with
      | ⟨0, _⟩ => show 0 + 1 * q0.1 = q0.1; omega
      | ⟨1, _⟩ => show 2560 + 1 * q1.1 = 2560 + q1.1; omega
    rw [he]
    have n1 : ¬ 2560 + q1.1 < 512 := by omega
    have n2 : ¬ 2560 + q1.1 < 1024 := by omega
    pointwise [k0_pay46, k0_pay45, k0_pay7, k0_pay16, k0_pay35, pay3_at, mainBlock, proj]
    simp only [n1, n2, dif_neg, not_false_eq_true]
  · have he : (Rect.unit ![0, 2048] ![512, 512] inb_S512x8192_S512x512_0_2048 : Rect S512x8192).emb (ix2 q0 q1) = (ix2 q0 ⟨2048 + q1.1, by omega⟩ : S512x8192.Idx) := by
      funext d; apply Fin.ext; rw [Rect.emb_apply]; match d with
      | ⟨0, _⟩ => show 0 + 1 * q0.1 = q0.1; omega
      | ⟨1, _⟩ => show 2048 + 1 * q1.1 = 2048 + q1.1; omega
    rw [he]
    have n1 : ¬ 2048 + q1.1 < 512 := by omega
    have n2 : ¬ 2048 + q1.1 < 1024 := by omega
    pointwise [k0_pay43, k0_pay45, k0_pay7, k0_pay16, k0_pay35, pay3_at, mainBlock, proj]
    simp only [n1, n2, dif_neg, not_false_eq_true]
  · have he : (Rect.unit ![0, 1536] ![512, 512] inb_S512x8192_S512x512_0_1536 : Rect S512x8192).emb (ix2 q0 q1) = (ix2 q0 ⟨1536 + q1.1, by omega⟩ : S512x8192.Idx) := by
      funext d; apply Fin.ext; rw [Rect.emb_apply]; match d with
      | ⟨0, _⟩ => show 0 + 1 * q0.1 = q0.1; omega
      | ⟨1, _⟩ => show 1536 + 1 * q1.1 = 1536 + q1.1; omega
    rw [he]
    have n1 : ¬ 1536 + q1.1 < 512 := by omega
    have n2 : ¬ 1536 + q1.1 < 1024 := by omega
    pointwise [k0_pay42, k0_pay45, k0_pay7, k0_pay16, k0_pay35, pay3_at, mainBlock, proj]
    simp only [n1, n2, dif_neg, not_false_eq_true]
  · have he : (Rect.unit ![0, 1024] ![512, 512] inb_S512x8192_S512x512_0_1024 : Rect S512x8192).emb (ix2 q0 q1) = (ix2 q0 ⟨1024 + q1.1, by omega⟩ : S512x8192.Idx) := by
      funext d; apply Fin.ext; rw [Rect.emb_apply]; match d with
      | ⟨0, _⟩ => show 0 + 1 * q0.1 = q0.1; omega
      | ⟨1, _⟩ => show 1024 + 1 * q1.1 = 1024 + q1.1; omega
    rw [he]
    have n1 : ¬ 1024 + q1.1 < 512 := by omega
    have n2 : ¬ 1024 + q1.1 < 1024 := by omega
    pointwise [k0_pay36, k0_pay45, k0_pay7, k0_pay16, k0_pay35, pay3_at, mainBlock, proj]
    simp only [n1, n2, dif_neg, not_false_eq_true]
  · have he : (Rect.unit ![0, 4608] ![512, 512] inb_S512x8192_S512x512_0_4608 : Rect S512x8192).emb (ix2 q0 q1) = (ix2 q0 ⟨4608 + q1.1, by omega⟩ : S512x8192.Idx) := by
      funext d; apply Fin.ext; rw [Rect.emb_apply]; match d with
      | ⟨0, _⟩ => show 0 + 1 * q0.1 = q0.1; omega
      | ⟨1, _⟩ => show 4608 + 1 * q1.1 = 4608 + q1.1; omega
    rw [he]
    have n1 : ¬ 4608 + q1.1 < 512 := by omega
    have n2 : ¬ 4608 + q1.1 < 1024 := by omega
    pointwise [k0_pay17, k0_pay45, k0_pay7, k0_pay16, k0_pay35, pay3_at, mainBlock, proj]
    simp only [n1, n2, dif_neg, not_false_eq_true]
  · have he : (Rect.unit ![0, 4096] ![512, 512] inb_S512x8192_S512x512_0_4096 : Rect S512x8192).emb (ix2 q0 q1) = (ix2 q0 ⟨4096 + q1.1, by omega⟩ : S512x8192.Idx) := by
      funext d; apply Fin.ext; rw [Rect.emb_apply]; match d with
      | ⟨0, _⟩ => show 0 + 1 * q0.1 = q0.1; omega
      | ⟨1, _⟩ => show 4096 + 1 * q1.1 = 4096 + q1.1; omega
    rw [he]
    have n1 : ¬ 4096 + q1.1 < 512 := by omega
    have n2 : ¬ 4096 + q1.1 < 1024 := by omega
    pointwise [k0_pay8, k0_pay45, k0_pay7, k0_pay16, k0_pay35, pay3_at, mainBlock, proj]
    simp only [n1, n2, dif_neg, not_false_eq_true]

end Cert.Kernel2Ideal.InProj

end
-- ==== Proof.InProjCross.lean ====
/-
  The input projection, one block of 512 rows: the cross-attention of its queries over the memory's 256 keys and values.
-/
module

public import proofs.«01_k».proof.Proof.InProjBlock

@[expose] public section

set_option maxRecDepth 16384

noncomputable section

namespace Cert.Kernel2Ideal.InProj

open Cert.Kernel2Ideal Cert.Kernel2Ideal.Gen Idealize.ShloMosaic Idealize.ShloMosaic.TcCoe Idealize.SL.Sem
open Cert.Proof (rms)

/-- The score of a query against key `t`. -/
def score (q : Fin 128 → EReal) (km : Fin 256 → Fin 128 → EReal) (t : Fin 256) : EReal := ∑ k : Fin 128, q k * km t k

/-- The weight of key `t` before division: the power of two of its score less the greatest. -/
def weight (q : Fin 128 → EReal) (km : Fin 256 → Fin 128 → EReal) (t : Fin 256) : EReal :=
  Ideal.exp2 (score q km t - Finset.fold max (Ideal.ofBits .f32 0xFF800000#32) (fun t => score q km t) Finset.univ)

/-- Column of the weighted values, divided by the weights' sum. -/
def attended (q : Fin 128 → EReal) (km : Fin 256 → Fin 128 → EReal) (v : Fin 256 → EReal) : EReal :=
  Ideal.div (∑ t : Fin 256, weight q km t * v t) (∑ t : Fin 256, weight q km t)

def gate (z : EReal) : EReal := z * Ideal.div 1 (1 + Ideal.exp (0 - z))

/-- The query of head `h`: its 128 projected columns, normalised, with the scale in the gain. -/
def query (p : Fin 512 → EReal) (g : Fin 128 → EReal) (κ : EReal) (h : Fin 4) (k : Fin 128) : EReal :=
  rms (Ideal.ofBits .f32 0x43000000#32) (fun k => p ⟨h.1 * 128 + k.1, by omega⟩) (fun k => g k * κ) k

def crossBlock (x0 : Vec Ideal S512x1024 .f32) (x1 : Vec Ideal S1x1024 .f32) (x2 : Vec Ideal S1024x8192 .bf16)
    (x10 x11 : Vec Ideal S256x512 .bf16) (x12 : Vec Ideal S1x128 .f32) : Vec Ideal S512x512 .bf16 := fun i =>
  have hi : (i 1 : ℕ) < 512 := (i 1).isLt
  let p : Fin 8192 → EReal := fun c => proj (fun k => x0 (ix2 (i 0) k)) (fun k => x1 (ix2 0 k)) (fun k => x2 (ix2 k c))
  attended (query (fun k => p ⟨4096 + k.1, by omega⟩) (fun k => x12 (ix2 0 k)) (Named.named (F := Ideal) (φ := .f32) κ "c_scale" 0x3E0293EE#32) ⟨(i 1 : ℕ) / 128, by omega⟩)
    (fun t k => x10 (ix2 t ⟨(i 1 : ℕ) / 128 * 128 + k.1, by omega⟩)) (fun t => x11 (ix2 t ⟨(i 1 : ℕ), hi⟩))
    * gate (p ⟨4608 + (i 1 : ℕ), by omega⟩)

theorem pay7_at (x0 : Vec Ideal S512x1024 .f32) (x1 : Vec Ideal S1x1024 .f32) (w : Vec Ideal S1024x512 .bf16) (r j : Fin 512) :
    k0_pay7 x0 x1 w (ix2 r j) = proj (fun k => x0 (ix2 r k)) (fun k => x1 (ix2 0 k)) (fun k => w (ix2 k j)) := by
  pointwise [k0_pay7, pay3_at, proj]

theorem pay16_at (x0 : Vec Ideal S512x1024 .f32) (x1 : Vec Ideal S1x1024 .f32) (w : Vec Ideal S1024x512 .bf16) (r j : Fin 512) :
    k0_pay16 (k0_pay3 x0 x1) w (ix2 r j) = proj (fun k => x0 (ix2 r k)) (fun k => x1 (ix2 0 k)) (fun k => w (ix2 k j)) := by
  pointwise [k0_pay16, pay3_at, proj]

theorem pay37_at (z : FVec Ideal S512x512 .f32) (l : FVec Ideal S512x1 .f32) (a : FVec Ideal S512x128 .f32) (r : Fin 512) (j : Fin 128) :
    k0_pay37 z l a (ix2 r j) = Ideal.div (a (ix2 r j)) (l (ix2 r 0)) * gate (z (ix2 r ⟨0 + j.1, by omega⟩)) := by
  pointwise [k0_pay37, gate]

theorem pay38_at (z : FVec Ideal S512x512 .f32) (l : FVec Ideal S512x1 .f32) (a : FVec Ideal S512x128 .f32) (r : Fin 512) (j : Fin 128) :
    k0_pay38 z l a (ix2 r j) = Ideal.div (a (ix2 r j)) (l (ix2 r 0)) * gate (z (ix2 r ⟨128 + j.1, by omega⟩)) := by
  pointwise [k0_pay38, gate]

theorem pay39_at (z : FVec Ideal S512x512 .f32) (l : FVec Ideal S512x1 .f32) (a : FVec Ideal S512x128 .f32) (r : Fin 512) (j : Fin 128) :
    k0_pay39 z l a (ix2 r j) = Ideal.div (a (ix2 r j)) (l (ix2 r 0)) * gate (z (ix2 r ⟨256 + j.1, by omega⟩)) := by
  pointwise [k0_pay39, gate]

theorem pay41_at (z : FVec Ideal S512x512 .f32) (l : FVec Ideal S512x1 .f32) (a : FVec Ideal S512x128 .f32) (r : Fin 512) (j : Fin 128) :
    k0_pay41 z l a (ix2 r j) = Ideal.div (a (ix2 r j)) (l (ix2 r 0)) * gate (z (ix2 r ⟨384 + j.1, by omega⟩)) := by
  pointwise [k0_pay41, gate]

theorem out15_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x8192 .bf16) (harg3 : arg3.IsWhole) (arg4 : Memref sig .tc .vmem S1024x128 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S1x128 .f32) (harg13 : arg13.IsWhole) (arg14 : Memref sig .tc .vmem S512x8192 .bf16) (harg14 : arg14.IsWhole) (arg15 : Memref sig .tc .vmem S512x128 .f32) (harg15 : arg15.IsWhole) (arg16 : Memref sig .tc .vmem S512x512 .bf16) (harg16 : arg16.IsWhole)
    (x0 : Vec Ideal S512x1024 .f32) (x1 : Vec Ideal S1x1024 .f32) (x2 : Vec Ideal S1024x8192 .bf16) (x3 : Vec Ideal S1024x128 .bf16) (x4 : Vec Ideal S1x512 .f32) (x5 : Vec Ideal S1x512 .f32) (x6 : Vec Ideal S512x128 .f32) (x7 : Vec Ideal S512x128 .f32) (x8 : Vec Ideal S512x128 .f32) (x9 : Vec Ideal S512x512 .bf16) (x10 : Vec Ideal S256x512 .bf16) (x11 : Vec Ideal S256x512 .bf16) (x12 : Vec Ideal S1x128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 = crossBlock x0 x1 x2 x10 x11 x12 := by
  funext y
  unfold out0_A_15
  refine View.read_writes_apply_of_pieces _ _ (crossBlock x0 x1 x2 x10 x11 x12) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y)
  unfold kernelRun0_A
  dsimp only
  intro p hp
  simp only [List.mem_cons, List.not_mem_nil, or_false] at hp
  rcases hp with rfl | rfl | rfl | rfl
  all_goals
    intro q
    idx_vars q
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.cst_104, readAt_ld]
  · have he : (Rect.unit ![0, 384] ![512, 128] inb_S512x512_S512x128_0_384 : Rect S512x512).emb (ix2 q0 q1) = (ix2 q0 ⟨384 + q1.1, by omega⟩ : S512x512.Idx) := by
      funext d; apply Fin.ext; rw [Rect.emb_apply]; match d with
      | ⟨0, _⟩ => show 0 + 1 * q0.1 = q0.1; omega
      | ⟨1, _⟩ => show 384 + 1 * q1.1 = 384 + q1.1; omega
    rw [he]
    have e1 : (384 + q1.1) / 128 = 3 := by omega
    pointwise [pay37_at, pay38_at, pay39_at, k0_pay40, pay41_at, pay7_at, k0_pay9, k0_pay10, k0_pay11, k0_pay12, k0_pay13, k0_pay14, k0_pay15, pay16_at, k0_pay18, k0_pay19, k0_pay21, k0_pay22, k0_pay23, k0_pay24, k0_pay25, k0_pay26, k0_pay27, k0_pay28, k0_pay29, k0_pay31, k0_pay32, k0_pay33, k0_pay34, crossBlock, attended, weight, score, query, rms]
    simp only [e1, Nat.reduceMul, Nat.zero_mul, zero_add]
    rfl
  · have he : (Rect.unit ![0, 256] ![512, 128] inb_S512x512_S512x128_0_256 : Rect S512x512).emb (ix2 q0 q1) = (ix2 q0 ⟨256 + q1.1, by omega⟩ : S512x512.Idx) := by
      funext d; apply Fin.ext; rw [Rect.emb_apply]; match d with
      | ⟨0, _⟩ => show 0 + 1 * q0.1 = q0.1; omega
      | ⟨1, _⟩ => show 256 + 1 * q1.1 = 256 + q1.1; omega
    rw [he]
    have e1 : (256 + q1.1) / 128 = 2 := by omega
    pointwise [pay37_at, pay38_at, pay39_at, k0_pay40, pay41_at, pay7_at, k0_pay9, k0_pay10, k0_pay11, k0_pay12, k0_pay13, k0_pay14, k0_pay15, pay16_at, k0_pay18, k0_pay19, k0_pay21, k0_pay22, k0_pay23, k0_pay24, k0_pay25, k0_pay26, k0_pay27, k0_pay28, k0_pay29, k0_pay31, k0_pay32, k0_pay33, k0_pay34, crossBlock, attended, weight, score, query, rms]
    simp only [e1, Nat.reduceMul, Nat.zero_mul, zero_add]
    rfl
  · have he : (Rect.unit ![0, 128] ![512, 128] inb_S512x512_S512x128_0_128 : Rect S512x512).emb (ix2 q0 q1) = (ix2 q0 ⟨128 + q1.1, by omega⟩ : S512x512.Idx) := by
      funext d; apply Fin.ext; rw [Rect.emb_apply]; match d with
      | ⟨0, _⟩ => show 0 + 1 * q0.1 = q0.1; omega
      | ⟨1, _⟩ => show 128 + 1 * q1.1 = 128 + q1.1; omega
    rw [he]
    have e1 : (128 + q1.1) / 128 = 1 := by omega
    pointwise [pay37_at, pay38_at, pay39_at, k0_pay40, pay41_at, pay7_at, k0_pay9, k0_pay10, k0_pay11, k0_pay12, k0_pay13, k0_pay14, k0_pay15, pay16_at, k0_pay18, k0_pay19, k0_pay21, k0_pay22, k0_pay23, k0_pay24, k0_pay25, k0_pay26, k0_pay27, k0_pay28, k0_pay29, k0_pay31, k0_pay32, k0_pay33, k0_pay34, crossBlock, attended, weight, score, query, rms]
    simp only [e1, Nat.reduceMul, Nat.zero_mul, zero_add]
    rfl
  · have he : (Rect.unit ![0, 0] ![512, 128] inb_S512x512_S512x128_0_0 : Rect S512x512).emb (ix2 q0 q1) = (ix2 q0 ⟨q1.1, by omega⟩ : S512x512.Idx) := by
      funext d; apply Fin.ext; rw [Rect.emb_apply]; match d with
      | ⟨0, _⟩ => show 0 + 1 * q0.1 = q0.1; omega
      | ⟨1, _⟩ => show 0 + 1 * q1.1 = q1.1; omega
    rw [he]
    have e1 : (q1.1) / 128 = 0 := by omega
    pointwise [pay37_at, pay38_at, pay39_at, k0_pay40, pay41_at, pay7_at, k0_pay9, k0_pay10, k0_pay11, k0_pay12, k0_pay13, k0_pay14, k0_pay15, pay16_at, k0_pay18, k0_pay19, k0_pay21, k0_pay22, k0_pay23, k0_pay24, k0_pay25, k0_pay26, k0_pay27, k0_pay28, k0_pay29, k0_pay31, k0_pay32, k0_pay33, k0_pay34, crossBlock, attended, weight, score, query, rms]
    simp only [e1, Nat.reduceMul, Nat.zero_mul, zero_add]
    rfl

end Cert.Kernel2Ideal.InProj

end
-- ==== Proof.InProjArray.lean ====
/-
  The input projection, the whole arrays: each of the 64 points writes 512 rows of the three results.
-/
module

public import proofs.«01_k».proof.Proof.InProjSpec
public import proofs.«01_k».proof.Proof.InProjLora
public import proofs.«01_k».proof.Proof.InProjMain
public import proofs.«01_k».proof.Proof.InProjCross

@[expose] public section

set_option maxRecDepth 16384

noncomputable section

namespace Cert.Kernel2Ideal.InProj

open Cert.Kernel2Ideal Cert.Kernel2Ideal.Gen Idealize.ShloMosaic Idealize.ShloMosaic.TcCoe Idealize.SL.Sem
open Idealize.ShloMosaic.Pipeline (Dat)
open Cert.Proof (rms)

/-- The projections of one row of the input. -/
def rowProj (x : FVec Ideal S16x2048x1024 .f32) (g : FVec Ideal S1024 .f32) (w : FVec Ideal S1024x8320 .f32) (b : Fin 16) (s : Fin 2048) (c : Fin 8320) : EReal :=
  proj (fun k => x (ix3 b s k)) (fun k => g (ix1 k)) (fun k => w (ix2 k c))

/-- The main result as a function of the arguments. -/
def mainOf (x : FVec Ideal S16x2048x1024 .f32) (g : FVec Ideal S1024 .f32) (w : FVec Ideal S1024x8320 .f32) (qg kg : FVec Ideal S64 .f32) :
    FVec Ideal S32768x8192 .bf16 := fun i =>
  have h0 : (i 0 : ℕ) < 32768 := (i 0).isLt
  mainRow ((i 0 : ℕ) % 2048) (rowProj x g w ⟨(i 0 : ℕ) / 2048, by omega⟩ ⟨(i 0 : ℕ) % 2048, by omega⟩) (fun j => qg (ix1 j)) (fun j => kg (ix1 j)) (i 1)

/-- The low-rank projections. -/
def loraOf (x : FVec Ideal S16x2048x1024 .f32) (g : FVec Ideal S1024 .f32) (w : FVec Ideal S1024x8320 .f32) :
    FVec Ideal S32768x128 .f32 := fun i =>
  have h0 : (i 0 : ℕ) < 32768 := (i 0).isLt
  have h1 : (i 1 : ℕ) < 128 := (i 1).isLt
  rowProj x g w ⟨(i 0 : ℕ) / 2048, by omega⟩ ⟨(i 0 : ℕ) % 2048, by omega⟩ ⟨3584 + (i 1 : ℕ), by omega⟩

/-- One entry of the gated attention over the memory, as the kernel computes it. -/
def crossRow (p : Fin 8320 → EReal) (cg : Fin 128 → EReal) (km : Fin 256 → Fin 512 → EReal) (v : Fin 256 → EReal) (c : Fin 512) : EReal :=
  attended (query (fun k => p ⟨4224 + k.1, by omega⟩) cg (Named.named (F := Ideal) (φ := .f32) κ "c_scale" 0x3E0293EE#32) ⟨c.1 / 128, by omega⟩)
    (fun t k => km t ⟨c.1 / 128 * 128 + k.1, by omega⟩) v * gate (p ⟨4736 + c.1, by omega⟩)

def crossOf (x : FVec Ideal S16x2048x1024 .f32) (g : FVec Ideal S1024 .f32) (w : FVec Ideal S1024x8320 .f32) (cg : FVec Ideal S128 .f32)
    (km vm : FVec Ideal S16x256x512 .f32) : FVec Ideal S32768x512 .bf16 := fun i =>
  have h0 : (i 0 : ℕ) < 32768 := (i 0).isLt
  crossRow (rowProj x g w ⟨(i 0 : ℕ) / 2048, by omega⟩ ⟨(i 0 : ℕ) % 2048, by omega⟩) (fun j => cg (ix1 j))
    (fun t k => km (ix3 ⟨(i 0 : ℕ) / 2048, by omega⟩ t k)) (fun t => vm (ix3 ⟨(i 0 : ℕ) / 2048, by omega⟩ t (i 1))) (i 1)

variable (m : (ℓ : Loc nD τ sig) → Buf (Elt Ideal) ℓ) (ρ : Dev nD → PrngReg)

def argX (c : Dev nD) : FVec Ideal S16x2048x1024 .f32 := m ((c : Thread nD τ).loc main_arg0)
def argG (c : Dev nD) : FVec Ideal S1024 .f32 := m ((c : Thread nD τ).loc main_arg1)
def argW (c : Dev nD) : FVec Ideal S1024x8320 .f32 := m ((c : Thread nD τ).loc main_arg2)
def argQ (c : Dev nD) : FVec Ideal S64 .f32 := m ((c : Thread nD τ).loc main_arg3)
def argK (c : Dev nD) : FVec Ideal S64 .f32 := m ((c : Thread nD τ).loc main_arg4)
def argC (c : Dev nD) : FVec Ideal S128 .f32 := m ((c : Thread nD τ).loc main_arg5)
def argKm (c : Dev nD) : FVec Ideal S16x256x512 .f32 := m ((c : Thread nD τ).loc main_arg6)
def argVm (c : Dev nD) : FVec Ideal S16x256x512 .f32 := m ((c : Thread nD τ).loc main_arg7)

def result13 (c : Dev nD) : FVec Ideal S32768x8192 .bf16 := mainOf (argX m c) (argG m c) (argW m c) (argQ m c) (argK m c)
def result14 (c : Dev nD) : FVec Ideal S32768x128 .f32 := loraOf (argX m c) (argG m c) (argW m c)
def result15 (c : Dev nD) : FVec Ideal S32768x512 .bf16 := crossOf (argX m c) (argG m c) (argW m c) (argC m c) (argKm m c) (argVm m c)

theorem rms_congr {p p' : Fin 64 → EReal} (hp : p = p') (g : Fin 64 → EReal) {j j' : Fin 64} (hj : j = j') :
    rms (Ideal.ofBits .f32 0x42800000#32) p g j = rms (Ideal.ofBits .f32 0x42800000#32) p' g j' := by rw [hp, hj]
theorem attended_congr {q q' : Fin 128 → EReal} {km km' : Fin 256 → Fin 128 → EReal} {v v' : Fin 256 → EReal} (hq : q = q') (hk : km = km') (hv : v = v') :
    attended q km v = attended q' km' v' := by rw [hq, hk, hv]
theorem query_congr {p p' : Fin 512 → EReal} {g g' : Fin 128 → EReal} (hp : p = p') (hg : g = g') (κ : EReal) (h : Fin 4) :
    query p g κ h = query p' g' κ h := by rw [hp, hg]

/-! ## The blocks -/

theorem index_facts : ∀ t : Fin cfg0.N,
    (win0_0.index t (0 : Fin 2) = t.1 ∧ win0_0.index t (1 : Fin 2) = 0) ∧ (win0_1.index t (0 : Fin 2) = 0 ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) ∧ (win0_6.index t (0 : Fin 2) = t.1 % 4 ∧ win0_6.index t (1 : Fin 2) = 0) ∧ (win0_7.index t (0 : Fin 2) = t.1 % 4 ∧ win0_7.index t (1 : Fin 2) = 0) ∧ (win0_8.index t (0 : Fin 2) = t.1 % 4 ∧ win0_8.index t (1 : Fin 2) = 0) ∧ (win0_9.index t (0 : Fin 2) = 0 ∧ win0_9.index t (1 : Fin 2) = 0) ∧ (win0_10.index t (0 : Fin 2) = t.1 / 4 ∧ win0_10.index t (1 : Fin 2) = 0) ∧ (win0_11.index t (0 : Fin 2) = t.1 / 4 ∧ win0_11.index t (1 : Fin 2) = 0) ∧ (win0_12.index t (0 : Fin 2) = 0 ∧ win0_12.index t (1 : Fin 2) = 0) ∧ (win0_13.index t (0 : Fin 2) = t.1 ∧ win0_13.index t (1 : Fin 2) = 0) ∧ (win0_14.index t (0 : Fin 2) = t.1 ∧ win0_14.index t (1 : Fin 2) = 0) ∧ (win0_15.index t (0 : Fin 2) = t.1 ∧ win0_15.index t (1 : Fin 2) = 0) :=
  (by decide +kernel : ∀ t : Fin grid0.N, _)

theorem lt64 (t : Fin cfg0.N) : t.1 < 64 := lt_of_lt_of_eq t.isLt N_0

theorem blk0 (c : Dev nD) (t : Fin cfg0.N) (r : Fin 512) (k : Fin 1024) :
    iblk m c 0 t (ix2 r k) = V m c main_v26 (ix2 ⟨t.1 * 512 + r.1, by have := lt64 t; omega⟩ k) := by
  show V m c main_v26 ((win0_0.rect t).emb (ix2 r k)) = _
  congr 1; funext a; apply Fin.ext; refine (Pipeline.Window.rect_emb_val win0_0 t (ix2 r k) a).trans ?_
  have h := (index_facts t).1
  match a with
  | ⟨0, _⟩ => show win0_0.index t (0 : Fin 2) * 512 + r.1 = t.1 * 512 + r.1; rw [h.1]
  | ⟨1, _⟩ => show win0_0.index t (1 : Fin 2) * 1024 + k.1 = k.1; rw [h.2]; omega

theorem blk1 (c : Dev nD) (t : Fin cfg0.N) (r : Fin 1) (k : Fin 1024) :
    iblk m c 1 t (ix2 r k) = V m c main_v27 (ix2 r k) := by
  show V m c main_v27 ((win0_1.rect t).emb (ix2 r k)) = _
  congr 1; funext a; apply Fin.ext; refine (Pipeline.Window.rect_emb_val win0_1 t (ix2 r k) a).trans ?_
  have h := (index_facts t).2.1
  match a with
  | ⟨0, _⟩ => show win0_1.index t (0 : Fin 2) * 1 + r.1 = r.1; rw [h.1]; omega
  | ⟨1, _⟩ => show win0_1.index t (1 : Fin 2) * 1024 + k.1 = k.1; rw [h.2]; omega

theorem blk2 (c : Dev nD) (t : Fin cfg0.N) (r : Fin 1024) (k : Fin 8192) :
    iblk m c 2 t (ix2 r k) = V m c main_v6 (ix2 r k) := by
  show V m c main_v6 ((win0_2.rect t).emb (ix2 r k)) = _
  congr 1; funext a; apply Fin.ext; refine (Pipeline.Window.rect_emb_val win0_2 t (ix2 r k) a).trans ?_
  have h := (index_facts t).2.2.1
  match a with
  | ⟨0, _⟩ => show win0_2.index t (0 : Fin 2) * 1024 + r.1 = r.1; rw [h.1]; omega
  | ⟨1, _⟩ => show win0_2.index t (1 : Fin 2) * 8192 + k.1 = k.1; rw [h.2]; omega

theorem blk3 (c : Dev nD) (t : Fin cfg0.N) (r : Fin 1024) (k : Fin 128) :
    iblk m c 3 t (ix2 r k) = V m c main_v7 (ix2 r k) := by
  show V m c main_v7 ((win0_3.rect t).emb (ix2 r k)) = _
  congr 1; funext a; apply Fin.ext; refine (Pipeline.Window.rect_emb_val win0_3 t (ix2 r k) a).trans ?_
  have h := (index_facts t).2.2.2.1
  match a with
  | ⟨0, _⟩ => show win0_3.index t (0 : Fin 2) * 1024 + r.1 = r.1; rw [h.1]; omega
  | ⟨1, _⟩ => show win0_3.index t (1 : Fin 2) * 128 + k.1 = k.1; rw [h.2]; omega

theorem blk4 (c : Dev nD) (t : Fin cfg0.N) (r : Fin 1) (k : Fin 512) :
    iblk m c 4 t (ix2 r k) = V m c main_v13 (ix2 r k) := by
  show V m c main_v13 ((win0_4.rect t).emb (ix2 r k)) = _
  congr 1; funext a; apply Fin.ext; refine (Pipeline.Window.rect_emb_val win0_4 t (ix2 r k) a).trans ?_
  have h := (index_facts t).2.2.2.2.1
  match a with
  | ⟨0, _⟩ => show win0_4.index t (0 : Fin 2) * 1 + r.1 = r.1; rw [h.1]; omega
  | ⟨1, _⟩ => show win0_4.index t (1 : Fin 2) * 512 + k.1 = k.1; rw [h.2]; omega

theorem blk5 (c : Dev nD) (t : Fin cfg0.N) (r : Fin 1) (k : Fin 512) :
    iblk m c 5 t (ix2 r k) = V m c main_v17 (ix2 r k) := by
  show V m c main_v17 ((win0_5.rect t).emb (ix2 r k)) = _
  congr 1; funext a; apply Fin.ext; refine (Pipeline.Window.rect_emb_val win0_5 t (ix2 r k) a).trans ?_
  have h := (index_facts t).2.2.2.2.2.1
  match a with
  | ⟨0, _⟩ => show win0_5.index t (0 : Fin 2) * 1 + r.1 = r.1; rw [h.1]; omega
  | ⟨1, _⟩ => show win0_5.index t (1 : Fin 2) * 512 + k.1 = k.1; rw [h.2]; omega

theorem blk6 (c : Dev nD) (t : Fin cfg0.N) (r : Fin 512) (k : Fin 128) :
    iblk m c 6 t (ix2 r k) = V m c main_v56 (ix2 ⟨t.1 % 4 * 512 + r.1, by have := lt64 t; omega⟩ k) := by
  show V m c main_v56 ((win0_6.rect t).emb (ix2 r k)) = _
  congr 1; funext a; apply Fin.ext; refine (Pipeline.Window.rect_emb_val win0_6 t (ix2 r k) a).trans ?_
  have h := (index_facts t).2.2.2.2.2.2.1
  match a with
  | ⟨0, _⟩ => show win0_6.index t (0 : Fin 2) * 512 + r.1 = t.1 % 4 * 512 + r.1; rw [h.1]
  | ⟨1, _⟩ => show win0_6.index t (1 : Fin 2) * 128 + k.1 = k.1; rw [h.2]; omega

theorem blk7 (c : Dev nD) (t : Fin cfg0.N) (r : Fin 512) (k : Fin 128) :
    iblk m c 7 t (ix2 r k) = V m c main_v59 (ix2 ⟨t.1 % 4 * 512 + r.1, by have := lt64 t; omega⟩ k) := by
  show V m c main_v59 ((win0_7.rect t).emb (ix2 r k)) = _
  congr 1; funext a; apply Fin.ext; refine (Pipeline.Window.rect_emb_val win0_7 t (ix2 r k) a).trans ?_
  have h := (index_facts t).2.2.2.2.2.2.2.1
  match a with
  | ⟨0, _⟩ => show win0_7.index t (0 : Fin 2) * 512 + r.1 = t.1 % 4 * 512 + r.1; rw [h.1]
  | ⟨1, _⟩ => show win0_7.index t (1 : Fin 2) * 128 + k.1 = k.1; rw [h.2]; omega

theorem blk8 (c : Dev nD) (t : Fin cfg0.N) (r : Fin 512) (k : Fin 128) :
    iblk m c 8 t (ix2 r k) = V m c main_v62 (ix2 ⟨t.1 % 4 * 512 + r.1, by have := lt64 t; omega⟩ k) := by
  show V m c main_v62 ((win0_8.rect t).emb (ix2 r k)) = _
  congr 1; funext a; apply Fin.ext; refine (Pipeline.Window.rect_emb_val win0_8 t (ix2 r k) a).trans ?_
  have h := (index_facts t).2.2.2.2.2.2.2.2.1
  match a with
  | ⟨0, _⟩ => show win0_8.index t (0 : Fin 2) * 512 + r.1 = t.1 % 4 * 512 + r.1; rw [h.1]
  | ⟨1, _⟩ => show win0_8.index t (1 : Fin 2) * 128 + k.1 = k.1; rw [h.2]; omega

theorem blk9 (c : Dev nD) (t : Fin cfg0.N) (r : Fin 512) (k : Fin 512) :
    iblk m c 9 t (ix2 r k) = V m c main_v25 (ix2 r k) := by
  show V m c main_v25 ((win0_9.rect t).emb (ix2 r k)) = _
  congr 1; funext a; apply Fin.ext; refine (Pipeline.Window.rect_emb_val win0_9 t (ix2 r k) a).trans ?_
  have h := (index_facts t).2.2.2.2.2.2.2.2.2.1
  match a with
  | ⟨0, _⟩ => show win0_9.index t (0 : Fin 2) * 512 + r.1 = r.1; rw [h.1]; omega
  | ⟨1, _⟩ => show win0_9.index t (1 : Fin 2) * 512 + k.1 = k.1; rw [h.2]; omega

theorem blk10 (c : Dev nD) (t : Fin cfg0.N) (r : Fin 256) (k : Fin 512) :
    iblk m c 10 t (ix2 r k) = V m c main_v64 (ix2 ⟨t.1 / 4 * 256 + r.1, by have := lt64 t; omega⟩ k) := by
  show V m c main_v64 ((win0_10.rect t).emb (ix2 r k)) = _
  congr 1; funext a; apply Fin.ext; refine (Pipeline.Window.rect_emb_val win0_10 t (ix2 r k) a).trans ?_
  have h := (index_facts t).2.2.2.2.2.2.2.2.2.2.1
  match a with
  | ⟨0, _⟩ => show win0_10.index t (0 : Fin 2) * 256 + r.1 = t.1 / 4 * 256 + r.1; rw [h.1]
  | ⟨1, _⟩ => show win0_10.index t (1 : Fin 2) * 512 + k.1 = k.1; rw [h.2]; omega

theorem blk11 (c : Dev nD) (t : Fin cfg0.N) (r : Fin 256) (k : Fin 512) :
    iblk m c 11 t (ix2 r k) = V m c main_v66 (ix2 ⟨t.1 / 4 * 256 + r.1, by have := lt64 t; omega⟩ k) := by
  show V m c main_v66 ((win0_11.rect t).emb (ix2 r k)) = _
  congr 1; funext a; apply Fin.ext; refine (Pipeline.Window.rect_emb_val win0_11 t (ix2 r k) a).trans ?_
  have h := (index_facts t).2.2.2.2.2.2.2.2.2.2.2.1
  match a with
  | ⟨0, _⟩ => show win0_11.index t (0 : Fin 2) * 256 + r.1 = t.1 / 4 * 256 + r.1; rw [h.1]
  | ⟨1, _⟩ => show win0_11.index t (1 : Fin 2) * 512 + k.1 = k.1; rw [h.2]; omega

theorem blk12 (c : Dev nD) (t : Fin cfg0.N) (r : Fin 1) (k : Fin 128) :
    iblk m c 12 t (ix2 r k) = V m c main_v67 (ix2 r k) := by
  show V m c main_v67 ((win0_12.rect t).emb (ix2 r k)) = _
  congr 1; funext a; apply Fin.ext; refine (Pipeline.Window.rect_emb_val win0_12 t (ix2 r k) a).trans ?_
  have h := (index_facts t).2.2.2.2.2.2.2.2.2.2.2.2.1
  match a with
  | ⟨0, _⟩ => show win0_12.index t (0 : Fin 2) * 1 + r.1 = r.1; rw [h.1]; omega
  | ⟨1, _⟩ => show win0_12.index t (1 : Fin 2) * 128 + k.1 = k.1; rw [h.2]; omega

theorem rowProj_congr (c : Dev nD) (t : Fin cfg0.N) (r : Fin 512) (b : Fin 16) (s : Fin 2048) (hb : b.1 = (t.1 * 512 + r.1) / 2048) (hs : s.1 = (t.1 * 512 + r.1) % 2048)
    (w : Fin 1024 → EReal) (d : Fin 8320) (hw : ∀ k, w k = argW m c (ix2 k d)) :
    proj (fun k => iblk m c 0 t (ix2 r k)) (fun k => iblk m c 1 t (ix2 0 k)) w = rowProj (argX m c) (argG m c) (argW m c) b s d := by
  have hx : (fun k : Fin 1024 => (iblk m c 0 t (ix2 r k) : EReal)) = fun k => argX m c (ix3 b s k) := funext fun k => by
    rw [show b = ⟨(t.1 * 512 + r.1) / 2048, by have := lt64 t; omega⟩ from Fin.ext hb, show s = ⟨(t.1 * 512 + r.1) % 2048, by omega⟩ from Fin.ext hs]
    exact (blk0 m c t r k).trans (V26 m c _ k)
  have hg : (fun k : Fin 1024 => (iblk m c 1 t (ix2 0 k) : EReal)) = fun k => argG m c (ix1 k) := funext fun k => (blk1 m c t 0 k).trans (V27 m c k)
  have hw' : w = fun k => argW m c (ix2 k d) := funext hw
  unfold rowProj
  rw [← hx, ← hg, hw']

theorem weight_at (c : Dev nD) (t : Fin cfg0.N) (k : Fin 1024) (j : Fin 8192) (d : Fin 8320) (h : d.1 = if j.1 < 3584 then j.1 else j.1 + 128) :
    iblk m c 2 t (ix2 k j) = argW m c (ix2 k d) := by
  rw [show d = ⟨if j.1 < 3584 then j.1 else j.1 + 128, by split <;> omega⟩ from Fin.ext h]
  exact (blk2 m c t k j).trans (V6 m c k j)

/-- The low-rank block is 512 rows of the low-rank result. -/
theorem block14_eq (c : Dev nD) (t : Fin cfg0.N) (r : Fin 512) (k : Fin 128) :
    loraBlock (iblk m c 0 t) (iblk m c 1 t) (iblk m c 3 t) (ix2 r k) = result14 m c (ix2 ⟨t.1 * 512 + r.1, by have := lt64 t; omega⟩ k) :=
  rowProj_congr m c t r _ _ rfl rfl _ ⟨3584 + k.1, by omega⟩ fun d => (blk3 m c t d k).trans (V7 m c d k)

theorem flushed14_eq (c : Dev nD) (t : Fin cfg0.N) (_ : (cfg0.win 14).flush t = true) :
    (dats m 0 c).flushed 14 t = ((cfg0.win 14).blk t).view.read (Elt Ideal) (result14 m c) := by
  rw [Value.flushed14_A, out14_eq]
  funext y
  show loraBlock (iblk m c 0 t) (iblk m c 1 t) (iblk m c 3 t) y = result14 m c ((win0_14.rect t).emb y)
  obtain ⟨r, k, rfl⟩ : ∃ (r : Fin 512) (k : Fin 128), y = ix2 r k := ⟨y 0, y 1, eq_ix2 (n0 := 512) (n1 := 128) y⟩
  rw [block14_eq]
  congr 1; funext a; apply Fin.ext; refine Eq.trans ?_ (Pipeline.Window.rect_emb_val win0_14 t (ix2 r k) a).symm
  have h := (index_facts t).2.2.2.2.2.2.2.2.2.2.2.2.2.2.1
  match a with
  | ⟨0, _⟩ => show t.1 * 512 + r.1 = win0_14.index t (0 : Fin 2) * 512 + r.1; rw [h.1]
  | ⟨1, _⟩ => show k.1 = win0_14.index t (1 : Fin 2) * 128 + k.1; rw [h.2]; omega

/-- The 64 blocks cover the array. -/
theorem final14 (c : Dev nD) : (dats m 0 c).arrAt 14 cfg0.N = result14 m c :=
  (dats m 0 c).arrAt_eq_of_cover 14 (result14 m c) (flushed14_eq m c) fun (i : S32768x128.Idx) => by
    have h0 : (i 0 : ℕ) < 32768 := (i 0).isLt
    have h1 : (i 1 : ℕ) < 128 := (i 1).isLt
    have ht : (i 0 : ℕ) / 512 < cfg0.N := lt_of_lt_of_eq (by omega) N_0.symm
    have h := (index_facts ⟨(i 0 : ℕ) / 512, ht⟩).2.2.2.2.2.2.2.2.2.2.2.2.2.2.1
    refine ⟨⟨(i 0 : ℕ) / 512, ht⟩, flush0_14 _, ?_⟩
    show i ∈ ((View.whole main_v68_1).slice (win0_14.rect ⟨(i 0 : ℕ) / 512, ht⟩)).set
    rw [View.set_slice_whole, Rect.mem_set_unit]
    intro a
    match a with
    | ⟨0, _⟩ => show win0_14.index ⟨(i 0 : ℕ) / 512, ht⟩ (0 : Fin 2) * 512 ≤ (i 0 : ℕ) ∧ (i 0 : ℕ) < win0_14.index ⟨(i 0 : ℕ) / 512, ht⟩ (0 : Fin 2) * 512 + 512
                rw [h.1]; dsimp only; omega
    | ⟨1, _⟩ => show win0_14.index ⟨(i 0 : ℕ) / 512, ht⟩ (1 : Fin 2) * 128 ≤ (i 1 : ℕ) ∧ (i 1 : ℕ) < win0_14.index ⟨(i 0 : ℕ) / 512, ht⟩ (1 : Fin 2) * 128 + 128
                rw [h.2]; omega

/-- The gated attention's block is 512 rows of its result. -/
theorem block15_eq (c : Dev nD) (t : Fin cfg0.N) (r k : Fin 512) :
    crossBlock (iblk m c 0 t) (iblk m c 1 t) (iblk m c 2 t) (iblk m c 10 t) (iblk m c 11 t) (iblk m c 12 t) (ix2 r k) = result15 m c (ix2 ⟨t.1 * 512 + r.1, by have := lt64 t; omega⟩ k) := by
  have ht := lt64 t
  have hp : ∀ (j : Fin 8192) (d : Fin 8320), d.1 = (if j.1 < 3584 then j.1 else j.1 + 128) →
      proj (fun k => iblk m c 0 t (ix2 r k)) (fun k => iblk m c 1 t (ix2 0 k)) (fun k => iblk m c 2 t (ix2 k j))
        = rowProj (argX m c) (argG m c) (argW m c) ⟨(t.1 * 512 + r.1) / 2048, by omega⟩ ⟨(t.1 * 512 + r.1) % 2048, by omega⟩ d :=
    fun j d h => rowProj_congr m c t r _ _ rfl rfl _ d fun k => weight_at m c t k j d h
  have hk : ∀ (u : Fin 256) (d : Fin 512), (iblk m c 10 t (ix2 u d) : EReal) = argKm m c (ix3 ⟨(t.1 * 512 + r.1) / 2048, by omega⟩ u d) := fun u d => by
    refine ((blk10 m c t u d).trans (V64 m c _ d)).trans (congrArg (argKm m c) ?_)
    rw [show (⟨(t.1 / 4 * 256 + u.1) / 256, by omega⟩ : Fin 16) = ⟨(t.1 * 512 + r.1) / 2048, by omega⟩ from Fin.ext (by simp only; omega),
      show (⟨(t.1 / 4 * 256 + u.1) % 256, by omega⟩ : Fin 256) = u from Fin.ext (by simp only; omega)]
  have hv : ∀ (u : Fin 256) (d : Fin 512), (iblk m c 11 t (ix2 u d) : EReal) = argVm m c (ix3 ⟨(t.1 * 512 + r.1) / 2048, by omega⟩ u d) := fun u d => by
    refine ((blk11 m c t u d).trans (V66 m c _ d)).trans (congrArg (argVm m c) ?_)
    rw [show (⟨(t.1 / 4 * 256 + u.1) / 256, by omega⟩ : Fin 16) = ⟨(t.1 * 512 + r.1) / 2048, by omega⟩ from Fin.ext (by simp only; omega),
      show (⟨(t.1 / 4 * 256 + u.1) % 256, by omega⟩ : Fin 256) = u from Fin.ext (by simp only; omega)]
  have hc : ∀ d : Fin 128, (iblk m c 12 t (ix2 0 d) : EReal) = argC m c (ix1 d) := fun d => (blk12 m c t 0 d).trans (V67 m c d)
  unfold crossBlock result15 crossOf crossRow
  dsimp only [ix2]
  refine congrArg₂ (fun a b : EReal => a * b) ?_ (congrArg gate (hp _ _ ?_))
  · refine attended_congr (query_congr (funext fun d => hp _ _ ?_) (funext hc) _ _) (funext fun u => funext fun d => hk u _) (funext fun u => hv u _)
    show 4224 + d.1 = if 4096 + d.1 < 3584 then 4096 + d.1 else 4096 + d.1 + 128
    rw [if_neg (by omega)]; omega
  · show 4736 + k.1 = if 4608 + k.1 < 3584 then 4608 + k.1 else 4608 + k.1 + 128
    rw [if_neg (by omega)]; omega

theorem flushed15_eq (c : Dev nD) (t : Fin cfg0.N) (_ : (cfg0.win 15).flush t = true) :
    (dats m 0 c).flushed 15 t = ((cfg0.win 15).blk t).view.read (Elt Ideal) (result15 m c) := by
  rw [Value.flushed15_A, out15_eq]
  funext y
  show crossBlock (iblk m c 0 t) (iblk m c 1 t) (iblk m c 2 t) (iblk m c 10 t) (iblk m c 11 t) (iblk m c 12 t) y = result15 m c ((win0_15.rect t).emb y)
  obtain ⟨r, k, rfl⟩ : ∃ (r : Fin 512) (k : Fin 512), y = ix2 r k := ⟨y 0, y 1, eq_ix2 (n0 := 512) (n1 := 512) y⟩
  rw [block15_eq]
  congr 1; funext a; apply Fin.ext; refine Eq.trans ?_ (Pipeline.Window.rect_emb_val win0_15 t (ix2 r k) a).symm
  have h := (index_facts t).2.2.2.2.2.2.2.2.2.2.2.2.2.2.2
  match a with
  | ⟨0, _⟩ => show t.1 * 512 + r.1 = win0_15.index t (0 : Fin 2) * 512 + r.1; rw [h.1]
  | ⟨1, _⟩ => show k.1 = win0_15.index t (1 : Fin 2) * 512 + k.1; rw [h.2]; omega

/-- The 64 blocks cover the array. -/
theorem final15 (c : Dev nD) : (dats m 0 c).arrAt 15 cfg0.N = result15 m c :=
  (dats m 0 c).arrAt_eq_of_cover 15 (result15 m c) (flushed15_eq m c) fun (i : S32768x512.Idx) => by
    have h0 : (i 0 : ℕ) < 32768 := (i 0).isLt
    have h1 : (i 1 : ℕ) < 512 := (i 1).isLt
    have ht : (i 0 : ℕ) / 512 < cfg0.N := lt_of_lt_of_eq (by omega) N_0.symm
    have h := (index_facts ⟨(i 0 : ℕ) / 512, ht⟩).2.2.2.2.2.2.2.2.2.2.2.2.2.2.2
    refine ⟨⟨(i 0 : ℕ) / 512, ht⟩, flush0_15 _, ?_⟩
    show i ∈ ((View.whole main_v68_2).slice (win0_15.rect ⟨(i 0 : ℕ) / 512, ht⟩)).set
    rw [View.set_slice_whole, Rect.mem_set_unit]
    intro a
    match a with
    | ⟨0, _⟩ => show win0_15.index ⟨(i 0 : ℕ) / 512, ht⟩ (0 : Fin 2) * 512 ≤ (i 0 : ℕ) ∧ (i 0 : ℕ) < win0_15.index ⟨(i 0 : ℕ) / 512, ht⟩ (0 : Fin 2) * 512 + 512
                rw [h.1]; dsimp only; omega
    | ⟨1, _⟩ => show win0_15.index ⟨(i 0 : ℕ) / 512, ht⟩ (1 : Fin 2) * 512 ≤ (i 1 : ℕ) ∧ (i 1 : ℕ) < win0_15.index ⟨(i 0 : ℕ) / 512, ht⟩ (1 : Fin 2) * 512 + 512
                rw [h.2]; omega

/-- The main block is 512 rows of the main result. -/
theorem block13_eq (c : Dev nD) (t : Fin cfg0.N) (r : Fin 512) (k : Fin 8192) :
    mainBlock (iblk m c 0 t) (iblk m c 1 t) (iblk m c 2 t) (iblk m c 4 t) (iblk m c 5 t) (iblk m c 6 t) (iblk m c 7 t) (iblk m c 8 t) (iblk m c 9 t) (ix2 r k) = result13 m c (ix2 ⟨t.1 * 512 + r.1, by have := lt64 t; omega⟩ k) := by
  have ht := lt64 t
  have hp : ∀ (j : Fin 8192) (d : Fin 8320), d.1 = (if j.1 < 3584 then j.1 else j.1 + 128) →
      proj (fun k => iblk m c 0 t (ix2 r k)) (fun k => iblk m c 1 t (ix2 0 k)) (fun k => iblk m c 2 t (ix2 k j))
        = rowProj (argX m c) (argG m c) (argW m c) ⟨(t.1 * 512 + r.1) / 2048, by omega⟩ ⟨(t.1 * 512 + r.1) % 2048, by omega⟩ d :=
    fun j d h => rowProj_congr m c t r _ _ rfl rfl _ d fun k => weight_at m c t k j d h
  have hpos : t.1 % 4 * 512 + r.1 = (t.1 * 512 + r.1) % 2048 := by omega
  have h6 : (fun j : Fin 128 => (iblk m c 6 t (ix2 r j) : EReal)) = fun j => tabSelf ((t.1 * 512 + r.1) % 2048) j.1 := funext fun j => by
    rw [← hpos]; exact (blk6 m c t r j).trans (V56 m c _ j)
  have h7 : (fun j : Fin 128 => (iblk m c 7 t (ix2 r j) : EReal)) = fun j => tabAbove ((t.1 * 512 + r.1) % 2048) j.1 := funext fun j => by
    rw [← hpos]; exact (blk7 m c t r j).trans (V59 m c _ j)
  have h8 : (fun j : Fin 128 => (iblk m c 8 t (ix2 r j) : EReal)) = fun j => tabBelow ((t.1 * 512 + r.1) % 2048) j.1 := funext fun j => by
    rw [← hpos]; exact (blk8 m c t r j).trans (V62 m c _ j)
  have h9 : (fun a b : Fin 512 => (iblk m c 9 t (ix2 a b) : EReal)) = fun a b => if a.1 / 64 = b.1 / 64 then (1 : EReal) else 0 :=
    funext fun a => funext fun b => (blk9 m c t a b).trans (V25 m c a b)
  have h4 : ∀ j : Fin 512, (iblk m c 4 t (ix2 0 j) : EReal) = @HMul.hMul EReal EReal EReal _ (argQ m c (ix1 ⟨j.1 % 64, by omega⟩)) (Ideal.ofBits .f32 0x3E38AA3B#32) :=
    fun j => (blk4 m c t 0 j).trans (V13 m c j)
  have h5 : ∀ j : Fin 512, (iblk m c 5 t (ix2 0 j) : EReal) = @HMul.hMul EReal EReal EReal _ (argK m c (ix1 ⟨j.1 % 64, by omega⟩)) 1 :=
    fun j => ((blk5 m c t 0 j).trans (V17 m c j)).trans (mul_one (M := EReal) _).symm
  obtain ⟨q, hq0, hq⟩ := scale_real
  unfold mainBlock result13 mainOf mainRow
  dsimp only [ix2]
  by_cases hk : k.1 < 512
  · refine (dif_pos hk).trans (Eq.trans ?_ (dif_pos hk).symm)
    rw [h6, h7, h8, h9, hq]
    refine turned_eq _ (grouped _ _ _) _ q hq0 ⟨k.1, hk⟩ fun j => ?_
    refine (grouped_eq _ _ (fun j => argQ m c (ix1 j)) q (fun j => ?_) _).trans ?_
    · rw [← hq]; exact h4 j
    refine congrArg (fun a : EReal => a * q) (rms_congr (funext fun d => hp _ _ ?_) _ (Fin.ext ?_))
    · show k.1 / 64 * 64 + d.1 = if (k.1 / 64 * 64 + j.1) / 64 * 64 + d.1 < 3584 then (k.1 / 64 * 64 + j.1) / 64 * 64 + d.1 else (k.1 / 64 * 64 + j.1) / 64 * 64 + d.1 + 128
      rw [if_pos (by omega)]; omega
    · show (k.1 / 64 * 64 + j.1) % 64 = j.1
      omega
  · refine (dif_neg hk).trans (Eq.trans ?_ (dif_neg hk).symm)
    by_cases hk' : k.1 < 1024
    · refine (dif_pos hk').trans (Eq.trans ?_ (dif_pos hk').symm)
      rw [h6, h7, h8, h9]
      refine (turned_eq _ (grouped _ _ _) _ 1 zero_le_one ⟨k.1 - 512, by omega⟩ fun j => ?_).trans (mul_one _)
      refine (grouped_eq _ _ (fun j => argK m c (ix1 j)) ((1 : ℝ) : EReal) (fun j => ?_) _).trans ?_
      · exact h5 j
      refine congrArg (fun a : EReal => a * ((1 : ℝ) : EReal)) (rms_congr (funext fun d => hp _ _ ?_) _ (Fin.ext ?_))
      · show 512 + ((k.1 - 512) / 64 * 64 + d.1) = if 512 + (((k.1 - 512) / 64 * 64 + j.1) / 64 * 64 + d.1) < 3584 then 512 + (((k.1 - 512) / 64 * 64 + j.1) / 64 * 64 + d.1) else 512 + (((k.1 - 512) / 64 * 64 + j.1) / 64 * 64 + d.1) + 128
        rw [if_pos (by omega)]; omega
      · show ((k.1 - 512) / 64 * 64 + j.1) % 64 = j.1
        omega
    · refine (dif_neg hk').trans (Eq.trans ?_ (dif_neg hk').symm)
      exact hp _ _ rfl

theorem flushed13_eq (c : Dev nD) (t : Fin cfg0.N) (_ : (cfg0.win 13).flush t = true) :
    (dats m 0 c).flushed 13 t = ((cfg0.win 13).blk t).view.read (Elt Ideal) (result13 m c) := by
  rw [Value.flushed13_A, out13_eq]
  funext y
  show mainBlock (iblk m c 0 t) (iblk m c 1 t) (iblk m c 2 t) (iblk m c 4 t) (iblk m c 5 t) (iblk m c 6 t) (iblk m c 7 t) (iblk m c 8 t) (iblk m c 9 t) y = result13 m c ((win0_13.rect t).emb y)
  obtain ⟨r, k, rfl⟩ : ∃ (r : Fin 512) (k : Fin 8192), y = ix2 r k := ⟨y 0, y 1, eq_ix2 (n0 := 512) (n1 := 8192) y⟩
  rw [block13_eq]
  congr 1; funext a; apply Fin.ext; refine Eq.trans ?_ (Pipeline.Window.rect_emb_val win0_13 t (ix2 r k) a).symm
  have h := (index_facts t).2.2.2.2.2.2.2.2.2.2.2.2.2.1
  match a with
  | ⟨0, _⟩ => show t.1 * 512 + r.1 = win0_13.index t (0 : Fin 2) * 512 + r.1; rw [h.1]
  | ⟨1, _⟩ => show k.1 = win0_13.index t (1 : Fin 2) * 8192 + k.1; rw [h.2]; omega

/-- The 64 blocks cover the array. -/
theorem final13 (c : Dev nD) : (dats m 0 c).arrAt 13 cfg0.N = result13 m c :=
  (dats m 0 c).arrAt_eq_of_cover 13 (result13 m c) (flushed13_eq m c) fun (i : S32768x8192.Idx) => by
    have h0 : (i 0 : ℕ) < 32768 := (i 0).isLt
    have h1 : (i 1 : ℕ) < 8192 := (i 1).isLt
    have ht : (i 0 : ℕ) / 512 < cfg0.N := lt_of_lt_of_eq (by omega) N_0.symm
    have h := (index_facts ⟨(i 0 : ℕ) / 512, ht⟩).2.2.2.2.2.2.2.2.2.2.2.2.2.1
    refine ⟨⟨(i 0 : ℕ) / 512, ht⟩, flush0_13 _, ?_⟩
    show i ∈ ((View.whole main_v68_0).slice (win0_13.rect ⟨(i 0 : ℕ) / 512, ht⟩)).set
    rw [View.set_slice_whole, Rect.mem_set_unit]
    intro a
    match a with
    | ⟨0, _⟩ => show win0_13.index ⟨(i 0 : ℕ) / 512, ht⟩ (0 : Fin 2) * 512 ≤ (i 0 : ℕ) ∧ (i 0 : ℕ) < win0_13.index ⟨(i 0 : ℕ) / 512, ht⟩ (0 : Fin 2) * 512 + 512
                rw [h.1]; dsimp only; omega
    | ⟨1, _⟩ => show win0_13.index ⟨(i 0 : ℕ) / 512, ht⟩ (1 : Fin 2) * 8192 ≤ (i 1 : ℕ) ∧ (i 1 : ℕ) < win0_13.index ⟨(i 0 : ℕ) / 512, ht⟩ (1 : Fin 2) * 8192 + 8192
                rw [h.2]; omega

end Cert.Kernel2Ideal.InProj

end
-- ==== Proof.InProjCrossSpec.lean ====
/-
  The gated attention over the memory in plain mathematics, and how the kernel's form (the scale in the queries' gain,
  powers of two, one division at the end) comes to it where the scores are finite.
-/
module

public import proofs.«01_k».proof.Proof.InProjArray
public import proofs.«01_k».proof.Proof.Softmax

@[expose] public section

set_option maxRecDepth 16384

noncomputable section

namespace Cert.Kernel2Ideal.InProj

open Cert.Kernel2Ideal Idealize.ShloMosaic
open Cert.Proof

/-- The score of key `t` under head `h`: the normalised query against the key, over the root of the dimension. -/
def refScore (p : Fin 8320 → EReal) (cg : Fin 128 → EReal) (km : Fin 256 → Fin 512 → EReal) (h : Fin 4) (t : Fin 256) : EReal :=
  (∑ k : Fin 128, rms (Ideal.ofBits .f32 0x43000000#32) (fun k : Fin 128 => p ⟨4224 + (h.1 * 128 + k.1), by omega⟩) cg k * km t ⟨h.1 * 128 + k.1, by omega⟩)
    * Ideal.rsqrt (Ideal.ofBits .f32 0x43000000#32)

/-- The weight of a key before division. -/
def refWeight (sc : Fin 256 → EReal) (t : Fin 256) : EReal :=
  Ideal.exp (sc t - max (Ideal.ofBits .f32 0xFF800000#32) (Finset.fold max (Ideal.ofBits .f32 0xFF800000#32) sc Finset.univ))

/-- One entry of the attention, gated. -/
def refCross (p : Fin 8320 → EReal) (cg : Fin 128 → EReal) (km : Fin 256 → Fin 512 → EReal) (v : Fin 256 → EReal) (c : Fin 512) : EReal :=
  (∑ t : Fin 256, v t * Ideal.div (refWeight (refScore p cg km ⟨c.1 / 128, by omega⟩) t) (∑ t : Fin 256, refWeight (refScore p cg km ⟨c.1 / 128, by omega⟩) t))
    * (p ⟨4736 + c.1, by omega⟩ * Ideal.div 1 (1 + Ideal.exp (-p ⟨4736 + c.1, by omega⟩)))

theorem scale_named : Named.named (F := Ideal) (φ := .f32) κ "c_scale" 0x3E0293EE#32 = (((Real.sqrt 128)⁻¹ * (Real.log 2)⁻¹ : ℝ) : EReal) :=
  IdealRules.named_const.ideal_named_scalar _ _ _ _ rfl

/-- The kernel's score is the reference's over log 2, and both are finite. -/
theorem scores (p : Fin 8320 → EReal) (cg : Fin 128 → EReal) (km : Fin 256 → Fin 512 → EReal) (hp : ∀ c, Fin' (p c)) (hg : ∀ j, Fin' (cg j))
    (hk : ∀ t c, Fin' (km t c)) (h : Fin 4) : ∃ σ : Fin 256 → ℝ, (∀ t, refScore p cg km h t = (σ t : EReal))
      ∧ ∀ t, score (query (fun k => p ⟨4224 + k.1, by omega⟩) cg (Named.named (F := Ideal) (φ := .f32) κ "c_scale" 0x3E0293EE#32) h)
          (fun t k => km t ⟨h.1 * 128 + k.1, by omega⟩) t = ((σ t * (Real.log 2)⁻¹ : ℝ) : EReal) := by
  have hr : ∀ k : Fin 128, Fin' (rms (Ideal.ofBits .f32 0x43000000#32) (fun k : Fin 128 => p ⟨4224 + (h.1 * 128 + k.1), by omega⟩) cg k) := fun k => by
    rw [f32_128]; exact Fin'.rms (by norm_num) (fun _ => hp _) hg k
  choose R hR using hr
  choose K hK using hk
  have hq : ∀ k : Fin 128, query (fun k => p ⟨4224 + k.1, by omega⟩) cg (Named.named (F := Ideal) (φ := .f32) κ "c_scale" 0x3E0293EE#32) h k
      = ((R k * ((Real.sqrt 128)⁻¹ * (Real.log 2)⁻¹) : ℝ) : EReal) := fun k => by
    rw [scale_named, EReal.coe_mul (R k), ← hR k]
    unfold query rms
    exact (mul_assoc _ _ _).symm
  refine ⟨fun t => (∑ k : Fin 128, R k * K t ⟨h.1 * 128 + k.1, by omega⟩) * (Real.sqrt 128)⁻¹, fun t => ?_, fun t => ?_⟩
  · unfold refScore
    rw [f32_128, rsqrt_coe (by norm_num), EReal.coe_mul, ← coe_sum]
    refine congrArg (fun a : EReal => a * (((Real.sqrt 128)⁻¹ : ℝ) : EReal)) (Finset.sum_congr rfl fun k _ => ?_)
    rw [EReal.coe_mul, ← hK, ← hR k, f32_128]
  · unfold score
    dsimp only
    rw [Finset.sum_mul, Finset.sum_mul, ← coe_sum]
    refine Finset.sum_congr rfl fun k _ => ?_
    rw [hq k, hK, ← EReal.coe_mul]
    congr 1; ring

/-- Where what the scores are made of is finite, the kernel's entry is the reference's. -/
theorem crossRow_eq (p : Fin 8320 → EReal) (cg : Fin 128 → EReal) (km : Fin 256 → Fin 512 → EReal) (v : Fin 256 → EReal) (hp : ∀ c, Fin' (p c))
    (hg : ∀ j, Fin' (cg j)) (hk : ∀ t c, Fin' (km t c)) (c : Fin 512) : crossRow p cg km v c = refCross p cg km v c := by
  obtain ⟨σ, hσ, hσ'⟩ := scores p cg km hp hg hk ⟨c.1 / 128, by omega⟩
  obtain ⟨e, hpos, he, he'⟩ := weights σ
  have hw : ∀ t, refWeight (refScore p cg km ⟨c.1 / 128, by omega⟩) t = (e t : EReal) := fun t => by
    unfold refWeight; rw [show refScore p cg km ⟨c.1 / 128, by omega⟩ = fun t => (σ t : EReal) from funext hσ]; exact he t
  have hw' : ∀ t, weight (query (fun k => p ⟨4224 + k.1, by omega⟩) cg (Named.named (F := Ideal) (φ := .f32) κ "c_scale" 0x3E0293EE#32) ⟨c.1 / 128, by omega⟩)
      (fun t k => km t ⟨c.1 / 128 * 128 + k.1, by omega⟩) t = (e t : EReal) := fun t => by
    unfold weight; rw [hσ' t, show (fun t => score _ _ t) = fun t => ((σ t * (Real.log 2)⁻¹ : ℝ) : EReal) from funext hσ']; exact he' t
  have hl : 0 < ∑ t, e t := Finset.sum_pos (fun t _ => hpos t) ⟨0, Finset.mem_univ _⟩
  unfold crossRow refCross attended gate
  simp only [hw, hw', zero_sub]
  rw [coe_sum, div_sum e v hl]

/-- A row's projections of finite entries are finite. -/
theorem rowProj_finite (x : FVec Ideal S16x2048x1024 .f32) (g : FVec Ideal S1024 .f32) (w : FVec Ideal S1024x8320 .f32) (hx : ∀ i, Fin' (x i)) (hg : ∀ i, Fin' (g i))
    (hw : ∀ i, Fin' (w i)) (b : Fin 16) (s : Fin 2048) (c : Fin 8320) : Fin' (rowProj x g w b s c) := by
  unfold rowProj proj
  refine Fin'.sum _ fun k => Fin'.mul ?_ (hw _)
  rw [f32_1024]
  exact Fin'.rms (by norm_num) (fun _ => hx _) (fun _ => hg _) k

end Cert.Kernel2Ideal.InProj

end
-- ==== Proof.InProjReference.lean ====
/-
  The reference's input projection: the composed terms its run ends with, read at an index.
-/
module

public import proofs.«01_k».proof.Proof.Gen.Reference2Ideal.Run
public import proofs.«01_k».proof.Proof.InProjCrossSpec

@[expose] public section

set_option maxRecDepth 16384

noncomputable section

namespace Cert.Reference2Ideal.InProj

open Cert.Reference2Ideal Cert.Reference2Ideal.Gen Cert.Reference2Ideal.Value Idealize.ShloMosaic Idealize.ShloMosaic.TcCoe Idealize.SL.Sem
open Cert.Kernel2Ideal.InProj (rowProj proj angle rope refScore refWeight)
open Cert.Proof (rms)

variable (V0 : Valuation τ sig (Elt Ideal))

def inX : FVec Ideal S16x2048x1024 .f32 := V0 (Proc.devRef .tc main_arg0)
def inG : FVec Ideal S1024 .f32 := V0 (Proc.devRef .tc main_arg1)
def inW : FVec Ideal S1024x8320 .f32 := V0 (Proc.devRef .tc main_arg2)
def inQ : FVec Ideal S64 .f32 := V0 (Proc.devRef .tc main_arg3)
def inK : FVec Ideal S64 .f32 := V0 (Proc.devRef .tc main_arg4)
def inC : FVec Ideal S128 .f32 := V0 (Proc.devRef .tc main_arg5)
def inKm : FVec Ideal S16x256x512 .f32 := V0 (Proc.devRef .tc main_arg6)
def inVm : FVec Ideal S16x256x512 .f32 := V0 (Proc.devRef .tc main_arg7)

theorem v32_at (b : Fin 16) (s : Fin 2048) (c : Fin 8320) :
    res_main_v32 (F := Ideal) V0 (ix3 b s c) = rowProj (inX V0) (inG V0) (inW V0) b s c := by
  pointwise [res_main_v32, rowProj, proj, rms, inX, inG, inW]

theorem v35_at (b : Fin 16) (s : Fin 2048) (h : Fin 4) (u : Fin 2) (j : Fin 64) :
    res_main_v35 (F := Ideal) V0 (ix5 b s h u j) = rowProj (inX V0) (inG V0) (inW V0) b s ⟨h.1 * 128 + u.1 * 64 + j.1, by omega⟩ := by
  pointwise [res_main_v35, v32_at]

theorem v71_at (b : Fin 16) (s : Fin 2048) (h : Fin 4) (u : Fin 2) (j : Fin 64) :
    res_main_v71 (F := Ideal) V0 (ix5 b s h u j) = rowProj (inX V0) (inG V0) (inW V0) b s ⟨512 + (h.1 * 128 + u.1 * 64 + j.1), by omega⟩ := by
  pointwise [res_main_v71, v32_at]

theorem v48_at (b : Fin 16) (s : Fin 2048) (h : Fin 4) (u : Fin 2) (j : Fin 64) :
    res_main_v48 (F := Ideal) V0 (ix5 b s h u j)
      = rms (Ideal.ofBits .f32 0x42800000#32) (fun k => rowProj (inX V0) (inG V0) (inW V0) b s ⟨h.1 * 128 + u.1 * 64 + k.1, by omega⟩) (fun j => inQ V0 (ix1 j)) j := by
  pointwise [res_main_v48, v35_at, rms, inQ]

theorem v84_at (b : Fin 16) (s : Fin 2048) (h : Fin 4) (u : Fin 2) (j : Fin 64) :
    res_main_v84 (F := Ideal) V0 (ix5 b s h u j)
      = rms (Ideal.ofBits .f32 0x42800000#32) (fun k => rowProj (inX V0) (inG V0) (inW V0) b s ⟨512 + (h.1 * 128 + u.1 * 64 + k.1), by omega⟩) (fun j => inK V0 (ix1 j)) j := by
  pointwise [res_main_v84, v71_at, rms, inK]

theorem v16_at (s : Fin 2048) (j : Fin 8) : res_main_v16 (F := Ideal) V0 (ix2 s j) = angle s.1 j.1 := by
  pointwise [res_main_v16, angle]
theorem v17_at (s : Fin 2048) (j : Fin 8) : res_main_v17 (F := Ideal) V0 (ix2 s j) = Ideal.cos (angle s.1 j.1) := by
  pointwise [res_main_v17, v16_at]
theorem v18_at (s : Fin 2048) (j : Fin 8) : res_main_v18 (F := Ideal) V0 (ix2 s j) = Ideal.sin (angle s.1 j.1) := by
  pointwise [res_main_v18, v16_at]

theorem v115_at (b : Fin 16) (s : Fin 2048) (h : Fin 4) (j : Fin 128) :
    res_main_v115 (F := Ideal) V0 (ix4 b s h j) = rowProj (inX V0) (inG V0) (inW V0) b s ⟨4224 + (h.1 * 128 + j.1), by omega⟩ := by
  pointwise [res_main_v115, v32_at]

theorem v132_at (b : Fin 16) (h : Fin 4) (s : Fin 2048) (t : Fin 256) :
    res_main_v132 (F := Ideal) V0 (ix4 b h s t)
      = refScore (rowProj (inX V0) (inG V0) (inW V0) b s) (fun j => inC V0 (ix1 j)) (fun t k => inKm V0 (ix3 b t k)) h t := by
  pointwise [res_main_v132, v115_at, refScore, rms, inC, inKm]

theorem fold_at {n0 n1 n2 n3 : ℕ} {t u : Shape} (hr : (⟨4, ![n0, n1, n2, n3]⟩ : Shape).ReducesTo [3] t) (hu : 0 < u.numel) (v : FVec Ideal ⟨4, ![n0, n1, n2, n3]⟩ .f32)
    (i : FVec Ideal u .f32) (j : t.Idx) :
    Host.reduce FloatOps.maximumf v i hr hu j
      = Finset.fold (FloatOps.maximumf (F := Ideal) (φ := .f32)) (i (Shape.Idx.first hu))
        (fun k => v (ix4 ⟨(j ⟨0, hr.lt_r4_a3_0⟩).val, Shape.coordLt (j ⟨0, hr.lt_r4_a3_0⟩) hr.size_r4_a3_0⟩ ⟨(j ⟨1, hr.lt_r4_a3_1⟩).val, Shape.coordLt (j ⟨1, hr.lt_r4_a3_1⟩) hr.size_r4_a3_1⟩ ⟨(j ⟨2, hr.lt_r4_a3_2⟩).val, Shape.coordLt (j ⟨2, hr.lt_r4_a3_2⟩) hr.size_r4_a3_2⟩ k))
        (Finset.univ : Finset (Fin n3)) :=
  (Host.reduce_eq_fold _ v i hr hu j).trans (hr.fold_fiber_r4_a3 j (FloatOps.maximumf (F := Ideal) (φ := .f32)) (i (Shape.Idx.first hu)) v)

theorem max_at (v : FVec Ideal S16x4x2048x256 .f32) (b : Fin 16) (h : Fin 4) (s : Fin 2048) :
    Host.reduce FloatOps.maximumf v (constant S_ .f32 0xFF800000#32) reducesTo_S16x4x2048x256_S16x4x2048_d3 h_S_ (ix3 b h s)
      = Finset.fold max (Ideal.ofBits .f32 0xFF800000#32) (fun t : Fin 256 => (v (ix4 b h s t) : EReal)) Finset.univ :=
  fold_at reducesTo_S16x4x2048x256_S16x4x2048_d3 h_S_ v _ (ix3 b h s)

theorem exp_at (v : FVec Ideal S16x4x2048x256 .f32) (r : FVec Ideal S16x4x2048 .f32) (b : Fin 16) (h : Fin 4) (s : Fin 2048) (t : Fin 256) :
    Host.exp (subf v (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) r)))) (ix4 b h s t)
      = Ideal.exp (v (ix4 b h s t) - max (Ideal.ofBits .f32 0xFF800000#32) (r (ix3 b h s))) := by
  pointwise []

theorem v139_at (b : Fin 16) (h : Fin 4) (s : Fin 2048) (t : Fin 256) :
    res_main_v139 (F := Ideal) V0 (ix4 b h s t)
      = refWeight (refScore (rowProj (inX V0) (inG V0) (inW V0) b s) (fun j => inC V0 (ix1 j)) (fun t k => inKm V0 (ix3 b t k)) h) t := by
  unfold res_main_v139
  rw [exp_at, max_at]
  simp only [v132_at]
  rfl

end Cert.Reference2Ideal.InProj

end
-- ==== Proof.InProjResults.lean ====
/-
  The reference's input projection: each of its three results as a function of the arguments.
-/
module

public import proofs.«01_k».proof.Proof.InProjReference

@[expose] public section
set_option maxRecDepth 16384
noncomputable section
namespace Cert.Reference2Ideal.InProj
open Cert.Reference2Ideal Cert.Reference2Ideal.Gen Cert.Reference2Ideal.Value Idealize.ShloMosaic Idealize.ShloMosaic.TcCoe Idealize.SL.Sem
open Cert.Kernel2Ideal.InProj (rowProj proj angle rope refScore refWeight refCross mainOf loraOf crossOf mainRow)
open Cert.Proof (rms)

variable (V0 : Valuation τ sig (Elt Ideal))

/-- The partial rotation as the reference writes it: the two turned groups of eight lanes, then the lanes left as they are. -/
def turned (u v : FVec Ideal S16x2048x4x2x8 .f32) (w : FVec Ideal S16x2048x4x2x64 .f32) (cs sn : FVec Ideal S2048x1x1x8 .f32) : FVec Ideal S16x2048x4x2x64 .f32 :=
  let wide (t : FVec Ideal S2048x1x1x8 .f32) : FVec Ideal S16x2048x4x2x8 .f32 :=
    broadcastInDim S16x2048x4x2x8 ![0, 1, 2, 3, 4] bcast_S1x2048x1x1x8_S16x2048x4x2x8_0_1_2_3_4 (broadcastInDim S1x2048x1x1x8 ![1, 2, 3, 4] bcast_S2048x1x1x8_S1x2048x1x1x8_1_2_3_4 t)
  concatenate S16x2048x4x2x64 4 [⟨S16x2048x4x2x8, subf (mulf u (wide cs)) (mulf v (wide sn))⟩, ⟨S16x2048x4x2x8, addf (mulf v (wide cs)) (mulf u (wide sn))⟩,
    ⟨S16x2048x4x2x48, extractStridedSlice S16x2048x4x2x48 ![0, 0, 0, 0, 16] w slices_S16x2048x4x2x64_S16x2048x4x2x48_0_0_0_0_16⟩]
    concatenates_S16x2048x4x2x8_S16x2048x4x2x8_S16x2048x4x2x48_S16x2048x4x2x64_d4

theorem turned_at (u v : FVec Ideal S16x2048x4x2x8 .f32) (w : FVec Ideal S16x2048x4x2x64 .f32) (cs sn : FVec Ideal S2048x1x1x8 .f32)
    (b : Fin 16) (s : Fin 2048) (h : Fin 4) (e : Fin 2) (j : Fin 64)
    (hu : ∀ k : Fin 8, u (ix5 b s h e k) = w (ix5 b s h e ⟨k.1, by omega⟩))
    (hv : ∀ k : Fin 8, v (ix5 b s h e k) = w (ix5 b s h e ⟨8 + k.1, by omega⟩))
    (hc : ∀ k : Fin 8, cs (ix4 s 0 0 k) = Ideal.cos (angle s.1 k.1)) (hs : ∀ k : Fin 8, sn (ix4 s 0 0 k) = Ideal.sin (angle s.1 k.1)) :
    turned u v w cs sn (ix5 b s h e j) = rope s.1 (fun k => w (ix5 b s h e k)) j := by
  pointwise [turned, hu, hv, hc, hs]
  unfold rope
  by_cases h1 : j.1 < 8
  · have e1 : (⟨8 + j.1, by omega⟩ : Fin 64) = ⟨j.1 + 8, by omega⟩ := Fin.ext (Nat.add_comm _ _)
    refine (dif_pos h1).trans (Eq.trans ?_ (dif_pos h1).symm)
    rw [e1]
  · refine (dif_neg h1).trans (Eq.trans ?_ (dif_neg h1).symm)
    by_cases h2 : j.1 < 16
    · have h3 : j.1 - 8 < 8 := by omega
      have e1 : (⟨8 + (j.1 - 8), by omega⟩ : Fin 64) = j := Fin.ext (by dsimp only; omega)
      refine (dif_pos h3).trans (Eq.trans ?_ (dif_pos h2).symm)
      rw [e1]
    · have h3 : ¬ j.1 - 8 < 8 := by omega
      have e1 : (⟨16 + (j.1 - 8 - 8), by omega⟩ : Fin 64) = j := Fin.ext (by dsimp only; omega)
      refine (dif_neg h3).trans (Eq.trans ?_ (dif_neg h2).symm)
      rw [e1]

/-- The reference's turned queries. -/
def queries : FVec Ideal S16x2048x4x2x64 .f32 := turned (res_main_v49 V0) (res_main_v50 V0) (res_main_v48 V0) (res_main_v52 V0) (res_main_v53 V0)
/-- The reference's turned keys. -/
def keys : FVec Ideal S16x2048x4x2x64 .f32 := turned (res_main_v85 V0) (res_main_v86 V0) (res_main_v84 V0) (res_main_v88 V0) (res_main_v89 V0)

theorem queries_at (b : Fin 16) (s : Fin 2048) (h : Fin 4) (u : Fin 2) (j : Fin 64) :
    queries V0 (ix5 b s h u j) = rope s.1 (rms (Ideal.ofBits .f32 0x42800000#32)
      (fun k => rowProj (inX V0) (inG V0) (inW V0) b s ⟨h.1 * 128 + u.1 * 64 + k.1, by omega⟩) (fun j => inQ V0 (ix1 j))) j := by
  refine (turned_at _ _ _ _ _ b s h u j ?_ ?_ ?_ ?_).trans ?_
  · intro k; pointwise [res_main_v49]
  · intro k; pointwise [res_main_v50]
  · intro k; pointwise [res_main_v52, v17_at]
  · intro k; pointwise [res_main_v53, v18_at]
  · simp only [v48_at]

theorem keys_at (b : Fin 16) (s : Fin 2048) (h : Fin 4) (u : Fin 2) (j : Fin 64) :
    keys V0 (ix5 b s h u j) = rope s.1 (rms (Ideal.ofBits .f32 0x42800000#32)
      (fun k => rowProj (inX V0) (inG V0) (inW V0) b s ⟨512 + (h.1 * 128 + u.1 * 64 + k.1), by omega⟩) (fun j => inK V0 (ix1 j))) j := by
  refine (turned_at _ _ _ _ _ b s h u j ?_ ?_ ?_ ?_).trans ?_
  · intro k; pointwise [res_main_v85]
  · intro k; pointwise [res_main_v86]
  · intro k; pointwise [res_main_v88, v17_at]
  · intro k; pointwise [res_main_v89, v18_at]
  · simp only [v84_at]

/-- The reference's main result. -/
def mainTerm : FVec Ideal S32768x8192 .bf16 :=
  truncf .bf16 (shapeCast _ (concatenate S16x2048x8192 2
    [⟨S16x2048x512, shapeCast S16x2048x512 (mulf (queries V0) (broadcastInDim S16x2048x4x2x64 ![] bcast_S_S16x2048x4x2x64 (constant S_ .f32 0x3E38AA3B#32))) shapeCasts_S16x2048x4x2x64_S16x2048x512⟩,
     ⟨S16x2048x512, shapeCast S16x2048x512 (keys V0) shapeCasts_S16x2048x4x2x64_S16x2048x512⟩,
     ⟨S16x2048x2560, extractStridedSlice S16x2048x2560 ![0, 0, 1024] (res_main_v32 V0) slices_S16x2048x8320_S16x2048x2560_0_0_1024⟩,
     ⟨S16x2048x4608, extractStridedSlice S16x2048x4608 ![0, 0, 3712] (res_main_v32 V0) slices_S16x2048x8320_S16x2048x4608_0_0_3712⟩]
    concatenates_S16x2048x512_S16x2048x512_S16x2048x2560_S16x2048x4608_S16x2048x8192_d2) shapeCasts_S16x2048x8192_S32768x8192) bitsLt_bf16_f32

theorem main_eq : mainTerm V0 = mainOf (inX V0) (inG V0) (inW V0) (inQ V0) (inK V0) := by
  funext i
  idx_vars i
  pointwise [mainTerm, queries_at, keys_at, v32_at, mainOf, mainRow]
  by_cases h1 : i1.1 < 512
  · refine (dif_pos h1).trans (Eq.trans ?_ (dif_pos h1).symm)
    have e : ∀ k : Fin 64, (⟨i1.1 / 128 * 128 + i1.1 / 64 % 2 * 64 + k.1, by omega⟩ : Fin 8320) = ⟨i1.1 / 64 * 64 + k.1, by omega⟩ :=
      fun k => Fin.ext (by dsimp only; omega)
    simp only [e]
  · refine (dif_neg h1).trans (Eq.trans ?_ (dif_neg h1).symm)
    by_cases h2 : i1.1 < 1024
    · have h2' : i1.1 - 512 < 512 := by omega
      refine (dif_pos h2').trans (Eq.trans ?_ (dif_pos h2).symm)
      have e : ∀ k : Fin 64, (⟨512 + ((i1.1 - 512) / 128 * 128 + (i1.1 - 512) / 64 % 2 * 64 + k.1), by omega⟩ : Fin 8320)
          = ⟨512 + ((i1.1 - 512) / 64 * 64 + k.1), by omega⟩ := fun k => Fin.ext (by dsimp only; omega)
      simp only [e]
    · have h2' : ¬ i1.1 - 512 < 512 := by omega
      refine (dif_neg h2').trans (Eq.trans ?_ (dif_neg h2).symm)
      by_cases h3 : i1.1 < 3584
      · have h3' : i1.1 - 512 - 512 < 2560 := by omega
        refine (dif_pos h3').trans ?_
        have e : 1024 + (i1.1 - 512 - 512) = if i1.1 < 3584 then i1.1 else i1.1 + 128 := by rw [if_pos h3]; omega
        exact congrArg _ (Fin.ext e)
      · have h3' : ¬ i1.1 - 512 - 512 < 2560 := by omega
        refine (dif_neg h3').trans ?_
        have e : 3712 + (i1.1 - 512 - 512 - 2560) = if i1.1 < 3584 then i1.1 else i1.1 + 128 := by rw [if_neg h3]; omega
        exact congrArg _ (Fin.ext e)

theorem lora_eq : (shapeCast _ (extractStridedSlice S16x2048x128 ![0, 0, 3584] (res_main_v32 (F := Ideal) V0) slices_S16x2048x8320_S16x2048x128_0_0_3584) shapeCasts_S16x2048x128_S32768x128 : FVec Ideal S32768x128 .f32)
    = loraOf (inX V0) (inG V0) (inW V0) := by
  funext i
  idx_vars i
  pointwise [v32_at, loraOf]

theorem cross_eq : (truncf .bf16 (shapeCast _ (mulf (shapeCast _ (transpose S16x2048x4x128 [0, 3, 1, 2] (Host.dotGeneral dot_S16x256x4x128_S16x4x2048x256_S16x4x128x2048_1_3_3_2_02_01 none (shapeCast _ (inVm V0) shapeCasts_S16x256x512_S16x256x4x128) (Host.divf (res_main_v139 V0) (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd (res_main_v139 V0) (constant S_ .f32 0x00000000#32) reducesTo_S16x4x2048x256_S16x4x2048_d3 h_S_))))) transposes_S16x4x128x2048_S16x2048x4x128_0_3_1_2) shapeCasts_S16x2048x4x128_S16x2048x512) (mulf (res_main_v112 V0) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (res_main_v112 V0))))))) shapeCasts_S16x2048x512_S32768x512) bitsLt_bf16_f32 : FVec Ideal S32768x512 .bf16)
    = fun i : S32768x512.Idx =>
      have hi : (i 0 : ℕ) < 32768 := (i 0).isLt
      refCross (rowProj (inX V0) (inG V0) (inW V0) ⟨(i 0 : ℕ) / 2048, by omega⟩ ⟨(i 0 : ℕ) % 2048, by omega⟩) (fun j => inC V0 (ix1 j))
        (fun t k => inKm V0 (ix3 ⟨(i 0 : ℕ) / 2048, by omega⟩ t k)) (fun t => inVm V0 (ix3 ⟨(i 0 : ℕ) / 2048, by omega⟩ t (i 1))) (i 1) := by
  funext i
  idx_vars i
  pointwise [res_main_v112, v32_at, v139_at, refCross]

end Cert.Reference2Ideal.InProj

end
-- ==== Proof.InProjClaim.lean ====
/-
  The input projection with the attention over the memory: kernel and reference end with the same three arrays.
-/
module

public import proofs.«01_k».proof.Defs
public import proofs.«01_k».proof.Proof.Gen.Pre_finite2
public import proofs.«01_k».proof.Proof.InProjResults

@[expose] public section

set_option maxRecDepth 16384

noncomputable section

namespace Cert.Proof

open Idealize.ShloMosaic Idealize.ShloMosaic.TcCoe Idealize.SL.Sem
open Idealize.ShloMosaic.StableHlo (launchContents)
open Cert.Kernel2Ideal.InProj Cert.Reference2Ideal.InProj

theorem inf_f32 : Ideal.ofBits .f32 0x7F800000#32 = ⊤ := by
  simp [Ideal.ofBits, Ideal.ieee]

/-- What the precondition says of one entry. -/
theorem finite_of {x : EReal} (h : FloatOps.cmpf (F := Ideal) (φ := .f32) .olt (max x (-x)) (Ideal.ofBits .f32 0x7F800000#32) = 1#1) : Fin' x := by
  rw [inf_f32] at h
  induction x using EReal.rec with
  | bot => exact absurd h (by simp; simp [FloatOps.cmpf, Ideal.cmp])
  | top => exact absurd h (by simp; simp [FloatOps.cmpf, Ideal.cmp])
  | coe r => exact ⟨r, rfl⟩

/-- With finite arguments the kernel's attention over the memory is the reference's. -/
theorem cross_agrees (m : (ℓ : Loc Cert.Kernel2Ideal.nD Cert.Kernel2Ideal.τ Cert.Kernel2Ideal.sig) → Buf (Elt Ideal) ℓ) (hpre : Pre_Kernel2Ideal_finite2 m)
    (c : Dev Cert.Kernel2Ideal.nD) (b : Fin 16) (s : Fin 2048) (v : Fin 256 → EReal) (k : Fin 512) :
    crossRow (rowProj (argX m c) (argG m c) (argW m c) b s) (fun j => argC m c (ix1 j)) (fun t k => argKm m c (ix3 b t k)) v k
      = refCross (rowProj (argX m c) (argG m c) (argW m c) b s) (fun j => argC m c (ix1 j)) (fun t k => argKm m c (ix3 b t k)) v k := by
  obtain ⟨hx, hg, hw, hq, hk⟩ := hpre c
  exact crossRow_eq _ _ _ _ (rowProj_finite _ _ _ (fun i => finite_of (congrFun hx i)) (fun i => finite_of (congrFun hg i)) (fun i => finite_of (congrFun hw i)) b s)
    (fun j => finite_of (congrFun hq (ix1 j))) (fun t k => finite_of (congrFun hk (ix3 b t k))) k

theorem inProj_algebraic : algebraic_Kernel2Ideal_Reference2Ideal_pre_finite2 := by
  intro m g m' g' hpre hm
  refine ⟨fun c => result13 m c, fun c => result14 m c, fun c => result15 m c, ?_, ?_⟩
  · exact (θ_run Cert.Kernel2Ideal.defs _ _).mono
      (fun r h c => ⟨(h c).1.trans (final13 m c), (h c).2.1.trans (final14 m c), (h c).2.2.1.trans (final15 m c), (h c).2.2.2⟩)
      (Cert.Kernel2Ideal.Value.run_blocks (F := Ideal) m g)
  · refine (θ_run Cert.Reference2Ideal.defs _ _).mono (fun r h c => ?_) (Cert.Reference2Ideal.Value.run (F := Ideal) m' g')
    obtain ⟨h0, h1, h2, h3, h4, h5, h6, h7⟩ := hm c
    obtain ⟨r0, r1, r2, rest⟩ := h c
    have q0 := r0.trans (main_eq (launchContents m' c))
    have q1 := r1.trans (lora_eq (launchContents m' c))
    have q2 := r2.trans (cross_eq (launchContents m' c))
    have e0 : inX (launchContents m' c) = argX m c := h0
    have e1 : inG (launchContents m' c) = argG m c := h1
    have e2 : inW (launchContents m' c) = argW m c := h2
    have e3 : inQ (launchContents m' c) = argQ m c := h3
    have e4 : inK (launchContents m' c) = argK m c := h4
    have e5 : inC (launchContents m' c) = argC m c := h5
    have e6 : inKm (launchContents m' c) = argKm m c := h6
    have e7 : inVm (launchContents m' c) = argVm m c := h7
    rw [e0, e1, e2, e3, e4] at q0
    rw [e0, e1, e2] at q1
    rw [e0, e1, e2, e5, e6, e7] at q2
    exact ⟨q0, q1, q2.trans (funext fun i => (cross_agrees m hpre c _ _ _ _).symm), rest⟩

end Cert.Proof

end
-- ==== Proof.AttnClaim.lean ====
/-
  The differential attention against its reference: with finite queries, keys, values and lambda vectors both compute
  the same array.
-/
module

public import proofs.«01_k».proof.Defs
public import proofs.«01_k».proof.Proof.AttnRun
public import proofs.«01_k».proof.Proof.InProjClaim
public import proofs.«01_k».proof.Proof.Gen.Pre_finite

@[expose] public section

set_option maxRecDepth 16384

noncomputable section

namespace Cert.Proof

open Idealize.ShloMosaic Idealize.ShloMosaic.TcCoe Idealize.SL.Sem
open Idealize.ShloMosaic.StableHlo (launchContents)
open Cert.KernelIdeal.Attn (argQ argK argV argZ argL argS result run_result)

/-- The reference's result is the same function of its own arguments. -/
theorem attn_reference (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m' c = fun i => Cert.ReferenceIdeal.Attn.attnOf
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (i 0) (i 1) := by
  rw [Cert.ReferenceIdeal.Attn.stages]
  funext i
  obtain ⟨r, x, rfl⟩ : ∃ (r : Fin 32768) (x : Fin 512), i = ix2 r x := ⟨i 0, i 1, eq_ix2 (n0 := 32768) (n1 := 512) i⟩
  exact Cert.ReferenceIdeal.Attn.result_at _ _ _ _ _ _ r x

theorem attn_algebraic : algebraic_KernelIdeal_ReferenceIdeal_pre_finite := by
  intro m g m' g' hpre hm
  refine ⟨fun c => result m c, ?_, ?_⟩
  · exact run_result m g (fun c i => finite_of (congrFun (hpre c).1 i)) (fun c i => finite_of (congrFun (hpre c).2.1 i))
      (fun c i => finite_of (congrFun (hpre c).2.2.1 i)) (fun c i => finite_of (congrFun (hpre c).2.2.2 i))
  · refine (θ_run Cert.ReferenceIdeal.defs _ _).mono (fun r h c => ?_) (Cert.ReferenceIdeal.Value.run (F := Ideal) m' g')
    obtain ⟨h0, h1, h2, h3, h4, h5, h6⟩ := hm c
    obtain ⟨r0, rest⟩ := h c
    refine ⟨(r0.trans (attn_reference m' c)).trans ?_, rest⟩
    rw [h0, h1, h2, h3, h5, h6]
    rfl

end Cert.Proof

end
-- ==== Proof.MergeBlock.lean ====
/-
  The merge call, one block of 1024 rows: what the two halves of the body store is one function of the input blocks.
-/
module

public import proofs.«01_k».proof.Proof.Gen.Kernel3Ideal.Value
public import Idealize.ShloMosaic.Lib.Pointwise

@[expose] public section

set_option maxRecDepth 16384

noncomputable section

namespace Cert.Kernel3Ideal.Merge

open Cert.Kernel3Ideal Cert.Kernel3Ideal.Gen Idealize.ShloMosaic Idealize.ShloMosaic.TcCoe Idealize.SL.Sem

/-- The logistic function as both programs write it. -/
def logistic (g : EReal) : EReal := Ideal.div 1 (1 + Ideal.exp (-g))

/-- One row of the merge: `x + (Σⱼ σ(gⱼ) · (yⱼ · wⱼ)) · w_out`. -/
def row (x : Fin 1024 → EReal) (y : Fin 3 → Fin 512 → EReal) (g : Fin 3 → Fin 1024 → EReal)
    (wb : Fin 3 → Fin 512 → Fin 1024 → EReal) (wo : Fin 1024 → Fin 1024 → EReal) (c : Fin 1024) : EReal :=
  x c + ∑ d : Fin 1024, (∑ j : Fin 3, logistic (g j d) * ∑ k : Fin 512, y j k * wb j k d) * wo d c

/-- The block of the result, from the blocks of the inputs. -/
def block (x0 : Vec Ideal S1024x1024 .f32) (x1 x2 x3 : Vec Ideal S1024x512 .bf16) (x4 x5 x6 : Vec Ideal S1024x1024 .bf16)
    (x7 : Vec Ideal S3x512x1024 .bf16) (x8 : Vec Ideal S1024x1024 .bf16) : Vec Ideal S1024x1024 .f32 := fun i =>
  row (fun k => x0 (ix2 (i 0) k)) (fun j k => ![x1, x2, x3] j (ix2 (i 0) k)) (fun j k => ![x4, x5, x6] j (ix2 (i 0) k))
    (fun j k d => x7 (ix3 j k d)) (fun d c => x8 (ix2 d c)) (i 1)

theorem out_eq (x0 : Vec Ideal S1024x1024 .f32) (x1 x2 x3 : Vec Ideal S1024x512 .bf16) (x4 x5 x6 : Vec Ideal S1024x1024 .bf16)
    (x7 : Vec Ideal S3x512x1024 .bf16) (x8 : Vec Ideal S1024x1024 .bf16) :
    out0_9 x0 x1 x2 x3 x4 x5 x6 x7 x8 = block x0 x1 x2 x3 x4 x5 x6 x7 x8 := by
  funext y
  unfold out0_9
  refine View.canon_apply_of_pieces _ _ ?_ y (cover0_9 _ _ y)
  intro p hp
  simp only [List.mem_cons, List.not_mem_nil, or_false] at hp
  rcases hp with rfl | rfl
  · intro q
    idx_vars q
    have he : r0_5.emb (ix2 q0 q1) = (ix2 ⟨512 + q0.1, by omega⟩ q1 : S1024x1024.Idx) := by
      funext d; apply Fin.ext; rw [Rect.emb_apply]; match d with
      | ⟨0, _⟩ => show 512 + 1 * q0.1 = 512 + q0.1; omega
      | ⟨1, _⟩ => show 0 + 1 * q1.1 = q1.1; omega
    rw [he]
    pointwise [k0_pay1, k0_pay5, k0_pay6, k0_pay7, block, row, logistic, Fin.sum_univ_three]
    simp only [zero_sub]
  · intro q
    idx_vars q
    have he : r0_0.emb (ix2 q0 q1) = (ix2 ⟨q0.1, by omega⟩ q1 : S1024x1024.Idx) := by
      funext d; apply Fin.ext; rw [Rect.emb_apply]; match d with
      | ⟨0, _⟩ => show 0 + 1 * q0.1 = q0.1; omega
      | ⟨1, _⟩ => show 0 + 1 * q1.1 = q1.1; omega
    rw [he]
    pointwise [k0_pay2, k0_pay3, k0_pay4, k0_pay8, block, row, logistic, Fin.sum_univ_three]
    simp only [zero_sub]

end Cert.Kernel3Ideal.Merge
end
-- ==== Proof.MergeArray.lean ====
/-
  The merge call, the whole array: row `r` of the result is the merge of row `r` of its operands.
-/
module

public import proofs.«01_k».proof.Proof.MergeBlock
public import Idealize.ShloMosaic.Lib.Tactic
public import Idealize.ShloMosaic.Lib.StableHlo.ReadAt

@[expose] public section

set_option maxRecDepth 16384

noncomputable section

namespace Cert.Kernel3Ideal.Merge

open Cert.Kernel3Ideal Cert.Kernel3Ideal.Gen Idealize.ShloMosaic Idealize.ShloMosaic.TcCoe Idealize.SL.Sem
open Idealize.ShloMosaic.Pipeline (Dat)

/-- The result of the merge as a function of the seven arguments. -/
def merged (x : FVec Ideal S16x2048x1024 .f32) (ya yb yc : FVec Ideal S16x2048x512 .f32) (g : FVec Ideal S16x2048x3072 .f32)
    (wb : FVec Ideal S3x512x1024 .f32) (wo : FVec Ideal S1024x1024 .f32) : FVec Ideal S32768x1024 .f32 := fun i =>
  have hi : (i 0 : ℕ) < 32768 := (i 0).isLt
  row (fun k => x (ix3 ⟨(i 0 : ℕ) / 2048, by omega⟩ ⟨(i 0 : ℕ) % 2048, by omega⟩ k))
    (fun j k => ![ya, yb, yc] j (ix3 ⟨(i 0 : ℕ) / 2048, by omega⟩ ⟨(i 0 : ℕ) % 2048, by omega⟩ k))
    (fun j k => g (ix3 ⟨(i 0 : ℕ) / 2048, by omega⟩ ⟨(i 0 : ℕ) % 2048, by omega⟩ ⟨j * 1024 + k, by omega⟩))
    (fun j k d => wb (ix3 j k d)) (fun d c => wo (ix2 d c)) (i 1)

variable (m : (ℓ : Loc nD τ sig) → Buf (Elt Ideal) ℓ) (ρ : Dev nD → PrngReg)

/-- The result array of the run from memory `m`. -/
def result (c : Dev nD) : FVec Ideal S32768x1024 .f32 :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The host operations before the call -/

theorem V4 (c : Dev nD) (r : Fin 32768) (k : Fin 1024) : V m c main_v4 (ix2 r k)
    = (m ((c : Thread nD τ).loc main_arg0) : FVec Ideal S16x2048x1024 .f32) (ix3 ⟨r.1 / 2048, by omega⟩ ⟨r.1 % 2048, by omega⟩ k) := by
  unfold V; after_reads_at
theorem V6 (c : Dev nD) (r : Fin 32768) (k : Fin 512) : V m c main_v6 (ix2 r k)
    = (m ((c : Thread nD τ).loc main_arg1) : FVec Ideal S16x2048x512 .f32) (ix3 ⟨r.1 / 2048, by omega⟩ ⟨r.1 % 2048, by omega⟩ k) := by
  unfold V; after_reads_at
theorem V8 (c : Dev nD) (r : Fin 32768) (k : Fin 512) : V m c main_v8 (ix2 r k)
    = (m ((c : Thread nD τ).loc main_arg2) : FVec Ideal S16x2048x512 .f32) (ix3 ⟨r.1 / 2048, by omega⟩ ⟨r.1 % 2048, by omega⟩ k) := by
  unfold V; after_reads_at
theorem V10 (c : Dev nD) (r : Fin 32768) (k : Fin 512) : V m c main_v10 (ix2 r k)
    = (m ((c : Thread nD τ).loc main_arg3) : FVec Ideal S16x2048x512 .f32) (ix3 ⟨r.1 / 2048, by omega⟩ ⟨r.1 % 2048, by omega⟩ k) := by
  unfold V; after_reads_at
theorem V3 (c : Dev nD) (r : Fin 32768) (k : Fin 3072) : V m c main_v3 (ix2 r ⟨5120 + k.1, by omega⟩)
    = (m ((c : Thread nD τ).loc main_arg4) : FVec Ideal S16x2048x3072 .f32) (ix3 ⟨r.1 / 2048, by omega⟩ ⟨r.1 % 2048, by omega⟩ k) := by
  unfold V; after_reads_at; after_reads_at
theorem V11 (c : Dev nD) (j : Fin 3) (k : Fin 512) (d : Fin 1024) : V m c main_v11 (ix3 j k d) = (m ((c : Thread nD τ).loc main_arg5) : FVec Ideal S3x512x1024 .f32) (ix3 j k d) := by
  unfold V; after_reads_at
theorem V12 (c : Dev nD) (r k : Fin 1024) : V m c main_v12 (ix2 r k) = (m ((c : Thread nD τ).loc main_arg6) : FVec Ideal S1024x1024 .f32) (ix2 r k) := by
  unfold V; after_reads_at

/-! ## The blocks of the inputs, read off the arguments -/

theorem index_facts : ∀ t : Fin cfg0.N,
    (win0_0.index t (0 : Fin 2) = t.1 ∧ win0_0.index t (1 : Fin 2) = 0) ∧ (win0_1.index t (0 : Fin 2) = t.1 ∧ win0_1.index t (1 : Fin 2) = 0)
    ∧ (win0_2.index t (0 : Fin 2) = t.1 ∧ win0_2.index t (1 : Fin 2) = 0) ∧ (win0_3.index t (0 : Fin 2) = t.1 ∧ win0_3.index t (1 : Fin 2) = 0)
    ∧ (win0_4.index t (0 : Fin 2) = t.1 ∧ win0_4.index t (1 : Fin 2) = 5) ∧ (win0_5.index t (0 : Fin 2) = t.1 ∧ win0_5.index t (1 : Fin 2) = 6)
    ∧ (win0_6.index t (0 : Fin 2) = t.1 ∧ win0_6.index t (1 : Fin 2) = 7)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0) ∧ (win0_9.index t (0 : Fin 2) = t.1 ∧ win0_9.index t (1 : Fin 2) = 0) :=
  (by decide +kernel : ∀ t : Fin grid0.N, _)

theorem lt32 (t : Fin cfg0.N) : t.1 < 32 := lt_of_lt_of_eq t.isLt N_0

theorem blk0 (c : Dev nD) (t : Fin cfg0.N) (r : Fin 1024) (k : Fin 1024) :
    iblk m c 0 t (ix2 r k) = V m c main_v4 (ix2 ⟨t.1 * 1024 + r.1, by have := lt32 t; omega⟩ k) := by
  show V m c main_v4 ((win0_0.rect t).emb (ix2 r k)) = _
  congr 1; funext a; apply Fin.ext; refine (Pipeline.Window.rect_emb_val win0_0 t (ix2 r k) a).trans ?_
  have h := index_facts t
  match a with
  | ⟨0, _⟩ => show win0_0.index t (0 : Fin 2) * 1024 + r.1 = t.1 * 1024 + r.1; rw [h.1.1]
  | ⟨1, _⟩ => show win0_0.index t (1 : Fin 2) * 1024 + k.1 = k.1; rw [h.1.2]; omega

theorem blk1 (c : Dev nD) (t : Fin cfg0.N) (r : Fin 1024) (k : Fin 512) :
    iblk m c 1 t (ix2 r k) = V m c main_v6 (ix2 ⟨t.1 * 1024 + r.1, by have := lt32 t; omega⟩ k) := by
  show V m c main_v6 ((win0_1.rect t).emb (ix2 r k)) = _
  congr 1; funext a; apply Fin.ext; refine (Pipeline.Window.rect_emb_val win0_1 t (ix2 r k) a).trans ?_
  have h := index_facts t
  match a with
  | ⟨0, _⟩ => show win0_1.index t (0 : Fin 2) * 1024 + r.1 = t.1 * 1024 + r.1; rw [h.2.1.1]
  | ⟨1, _⟩ => show win0_1.index t (1 : Fin 2) * 512 + k.1 = k.1; rw [h.2.1.2]; omega

theorem blk2 (c : Dev nD) (t : Fin cfg0.N) (r : Fin 1024) (k : Fin 512) :
    iblk m c 2 t (ix2 r k) = V m c main_v8 (ix2 ⟨t.1 * 1024 + r.1, by have := lt32 t; omega⟩ k) := by
  show V m c main_v8 ((win0_2.rect t).emb (ix2 r k)) = _
  congr 1; funext a; apply Fin.ext; refine (Pipeline.Window.rect_emb_val win0_2 t (ix2 r k) a).trans ?_
  have h := index_facts t
  match a with
  | ⟨0, _⟩ => show win0_2.index t (0 : Fin 2) * 1024 + r.1 = t.1 * 1024 + r.1; rw [h.2.2.1.1]
  | ⟨1, _⟩ => show win0_2.index t (1 : Fin 2) * 512 + k.1 = k.1; rw [h.2.2.1.2]; omega

theorem blk3 (c : Dev nD) (t : Fin cfg0.N) (r : Fin 1024) (k : Fin 512) :
    iblk m c 3 t (ix2 r k) = V m c main_v10 (ix2 ⟨t.1 * 1024 + r.1, by have := lt32 t; omega⟩ k) := by
  show V m c main_v10 ((win0_3.rect t).emb (ix2 r k)) = _
  congr 1; funext a; apply Fin.ext; refine (Pipeline.Window.rect_emb_val win0_3 t (ix2 r k) a).trans ?_
  have h := index_facts t
  match a with
  | ⟨0, _⟩ => show win0_3.index t (0 : Fin 2) * 1024 + r.1 = t.1 * 1024 + r.1; rw [h.2.2.2.1.1]
  | ⟨1, _⟩ => show win0_3.index t (1 : Fin 2) * 512 + k.1 = k.1; rw [h.2.2.2.1.2]; omega

theorem blk4 (c : Dev nD) (t : Fin cfg0.N) (r : Fin 1024) (k : Fin 1024) :
    iblk m c 4 t (ix2 r k) = V m c main_v3 (ix2 ⟨t.1 * 1024 + r.1, by have := lt32 t; omega⟩ ⟨5120 + k.1, by omega⟩) := by
  show V m c main_v3 ((win0_4.rect t).emb (ix2 r k)) = _
  congr 1; funext a; apply Fin.ext; refine (Pipeline.Window.rect_emb_val win0_4 t (ix2 r k) a).trans ?_
  have h := index_facts t
  match a with
  | ⟨0, _⟩ => show win0_4.index t (0 : Fin 2) * 1024 + r.1 = t.1 * 1024 + r.1; rw [h.2.2.2.2.1.1]
  | ⟨1, _⟩ => show win0_4.index t (1 : Fin 2) * 1024 + k.1 = 5120 + k.1; rw [h.2.2.2.2.1.2]

theorem blk5 (c : Dev nD) (t : Fin cfg0.N) (r : Fin 1024) (k : Fin 1024) :
    iblk m c 5 t (ix2 r k) = V m c main_v3 (ix2 ⟨t.1 * 1024 + r.1, by have := lt32 t; omega⟩ ⟨6144 + k.1, by omega⟩) := by
  show V m c main_v3 ((win0_5.rect t).emb (ix2 r k)) = _
  congr 1; funext a; apply Fin.ext; refine (Pipeline.Window.rect_emb_val win0_5 t (ix2 r k) a).trans ?_
  have h := index_facts t
  match a with
  | ⟨0, _⟩ => show win0_5.index t (0 : Fin 2) * 1024 + r.1 = t.1 * 1024 + r.1; rw [h.2.2.2.2.2.1.1]
  | ⟨1, _⟩ => show win0_5.index t (1 : Fin 2) * 1024 + k.1 = 6144 + k.1; rw [h.2.2.2.2.2.1.2]

theorem blk6 (c : Dev nD) (t : Fin cfg0.N) (r : Fin 1024) (k : Fin 1024) :
    iblk m c 6 t (ix2 r k) = V m c main_v3 (ix2 ⟨t.1 * 1024 + r.1, by have := lt32 t; omega⟩ ⟨7168 + k.1, by omega⟩) := by
  show V m c main_v3 ((win0_6.rect t).emb (ix2 r k)) = _
  congr 1; funext a; apply Fin.ext; refine (Pipeline.Window.rect_emb_val win0_6 t (ix2 r k) a).trans ?_
  have h := index_facts t
  match a with
  | ⟨0, _⟩ => show win0_6.index t (0 : Fin 2) * 1024 + r.1 = t.1 * 1024 + r.1; rw [h.2.2.2.2.2.2.1.1]
  | ⟨1, _⟩ => show win0_6.index t (1 : Fin 2) * 1024 + k.1 = 7168 + k.1; rw [h.2.2.2.2.2.2.1.2]

theorem blk8 (c : Dev nD) (t : Fin cfg0.N) (r : Fin 1024) (k : Fin 1024) :
    iblk m c 8 t (ix2 r k) = V m c main_v12 (ix2 r k) := by
  show V m c main_v12 ((win0_8.rect t).emb (ix2 r k)) = _
  congr 1; funext a; apply Fin.ext; refine (Pipeline.Window.rect_emb_val win0_8 t (ix2 r k) a).trans ?_
  have h := index_facts t
  match a with
  | ⟨0, _⟩ => show win0_8.index t (0 : Fin 2) * 1024 + r.1 = r.1; rw [h.2.2.2.2.2.2.2.2.1.1]; omega
  | ⟨1, _⟩ => show win0_8.index t (1 : Fin 2) * 1024 + k.1 = k.1; rw [h.2.2.2.2.2.2.2.2.1.2]; omega

theorem blk7 (c : Dev nD) (t : Fin cfg0.N) (j : Fin 3) (k : Fin 512) (d : Fin 1024) :
    iblk m c 7 t (ix3 j k d) = V m c main_v11 (ix3 j k d) := by
  show V m c main_v11 ((win0_7.rect t).emb (ix3 j k d)) = _
  congr 1; funext a; apply Fin.ext; refine (Pipeline.Window.rect_emb_val win0_7 t (ix3 j k d) a).trans ?_
  have h := (index_facts t).2.2.2.2.2.2.2.1
  match a with
  | ⟨0, _⟩ => show win0_7.index t (0 : Fin 3) * 3 + j.1 = j.1; rw [h.1]; omega
  | ⟨1, _⟩ => show win0_7.index t (1 : Fin 3) * 512 + k.1 = k.1; rw [h.2.1]; omega
  | ⟨2, _⟩ => show win0_7.index t (2 : Fin 3) * 1024 + d.1 = d.1; rw [h.2.2]; omega

/-- The block of point `t` is rows `1024 t …` of the result. -/
theorem block_eq (c : Dev nD) (t : Fin cfg0.N) (r k : Fin 1024) :
    block (iblk m c 0 t) (iblk m c 1 t) (iblk m c 2 t) (iblk m c 3 t) (iblk m c 4 t) (iblk m c 5 t) (iblk m c 6 t) (iblk m c 7 t) (iblk m c 8 t) (ix2 r k)
      = result m c (ix2 ⟨t.1 * 1024 + r.1, by have := lt32 t; omega⟩ k) := by
  have ht := lt32 t
  unfold result merged block
  congr 1
  · funext k; exact (blk0 m c t r k).trans (V4 m c _ k)
  · funext j k; fin_cases j
    · exact (blk1 m c t r k).trans (V6 m c _ k)
    · exact (blk2 m c t r k).trans (V8 m c _ k)
    · exact (blk3 m c t r k).trans (V10 m c _ k)
  · funext j k; fin_cases j
    · exact (blk4 m c t r k).trans ((congrArg (fun q => V m c main_v3 (ix2 _ q)) (Fin.ext (by show 5120 + k.1 = 5120 + (0 * 1024 + k.1); omega))).trans (V3 m c _ ⟨0 * 1024 + k.1, by omega⟩))
    · exact (blk5 m c t r k).trans ((congrArg (fun q => V m c main_v3 (ix2 _ q)) (Fin.ext (by show 6144 + k.1 = 5120 + (1 * 1024 + k.1); omega))).trans (V3 m c _ ⟨1 * 1024 + k.1, by omega⟩))
    · exact (blk6 m c t r k).trans ((congrArg (fun q => V m c main_v3 (ix2 _ q)) (Fin.ext (by show 7168 + k.1 = 5120 + (2 * 1024 + k.1); omega))).trans (V3 m c _ ⟨2 * 1024 + k.1, by omega⟩))
  · funext j k d; exact (blk7 m c t j k d).trans (V11 m c j k d)
  · funext d k; exact (blk8 m c t d k).trans (V12 m c d k)

theorem flushed_eq (c : Dev nD) (t : Fin cfg0.N) (_ : (cfg0.win 9).flush t = true) :
    (dats m 0 c).flushed 9 t = ((cfg0.win 9).blk t).view.read (Elt Ideal) (result m c) := by
  rw [Value.flushed9, out_eq]
  funext y
  show block (iblk m c 0 t) (iblk m c 1 t) (iblk m c 2 t) (iblk m c 3 t) (iblk m c 4 t) (iblk m c 5 t) (iblk m c 6 t) (iblk m c 7 t) (iblk m c 8 t) y
    = result m c ((win0_9.rect t).emb y)
  obtain ⟨r, k, rfl⟩ : ∃ r k : Fin 1024, y = ix2 r k := ⟨y 0, y 1, eq_ix2 (n0 := 1024) (n1 := 1024) y⟩
  rw [block_eq]
  congr 1; funext a; apply Fin.ext; refine Eq.trans ?_ (Pipeline.Window.rect_emb_val win0_9 t (ix2 r k) a).symm
  have h := (index_facts t).2.2.2.2.2.2.2.2.2
  match a with
  | ⟨0, _⟩ => show t.1 * 1024 + r.1 = win0_9.index t (0 : Fin 2) * 1024 + r.1; rw [h.1]
  | ⟨1, _⟩ => show k.1 = win0_9.index t (1 : Fin 2) * 1024 + k.1; rw [h.2]; omega

/-- The 32 blocks cover the array. -/
theorem final (c : Dev nD) : (dats m 0 c).arrAt 9 cfg0.N = result m c :=
  (dats m 0 c).arrAt_eq_of_cover 9 (result m c) (flushed_eq m c) fun (i : S32768x1024.Idx) => by
    have h0 : (i 0 : ℕ) < 32768 := (i 0).isLt
    have h1 : (i 1 : ℕ) < 1024 := (i 1).isLt
    have ht : (i 0 : ℕ) / 1024 < cfg0.N := lt_of_lt_of_eq (by omega) N_0.symm
    have h := (index_facts ⟨(i 0 : ℕ) / 1024, ht⟩).2.2.2.2.2.2.2.2.2
    refine ⟨⟨(i 0 : ℕ) / 1024, ht⟩, flush0_9 _, ?_⟩
    show i ∈ ((View.whole main_v13).slice (win0_9.rect ⟨(i 0 : ℕ) / 1024, ht⟩)).set
    rw [View.set_slice_whole, Rect.mem_set_unit]
    intro a
    match a with
    | ⟨0, _⟩ => show win0_9.index ⟨(i 0 : ℕ) / 1024, ht⟩ (0 : Fin 2) * 1024 ≤ (i 0 : ℕ) ∧ (i 0 : ℕ) < win0_9.index ⟨(i 0 : ℕ) / 1024, ht⟩ (0 : Fin 2) * 1024 + 1024
                rw [h.1]; dsimp only; omega
    | ⟨1, _⟩ => show win0_9.index ⟨(i 0 : ℕ) / 1024, ht⟩ (1 : Fin 2) * 1024 ≤ (i 1 : ℕ) ∧ (i 1 : ℕ) < win0_9.index ⟨(i 0 : ℕ) / 1024, ht⟩ (1 : Fin 2) * 1024 + 1024
                rw [h.2]; omega

end Cert.Kernel3Ideal.Merge
end
-- ==== Proof.MergeReference.lean ====
/-
  The merge of the reference: the composed term its run ends with, read at an index, is the merge of its arguments.
-/
module

public import proofs.«01_k».proof.Proof.Gen.Reference3Ideal.Run
public import proofs.«01_k».proof.Proof.MergeArray

@[expose] public section

set_option maxRecDepth 16384

noncomputable section

namespace Cert.Reference3Ideal.Merge

open Cert.Reference3Ideal Cert.Reference3Ideal.Gen Idealize.ShloMosaic Idealize.ShloMosaic.TcCoe Idealize.SL.Sem
open Cert.Kernel3Ideal.Merge (merged row)

/-- The reference's result as its run composes it. -/
def composed (x : FVec Ideal S16x2048x1024 .f32) (ya yb yc : FVec Ideal S16x2048x512 .f32) (g : FVec Ideal S16x2048x3072 .f32)
    (wb : FVec Ideal S3x512x1024 .f32) (wo : FVec Ideal S1024x1024 .f32) : FVec Ideal S32768x1024 .f32 :=
  shapeCast _ (addf x (Host.dotGeneral dot_S16x2048x1024_S1024x1024_S16x2048x1024_2_0_01_1_n_n none (Host.reduceAdd (mulf (Host.divf (broadcastInDim S16x2048x3x1024 ![] bcast_S_S16x2048x3x1024 (constant S_ .f32 0x3F800000#32)) (addf (broadcastInDim S16x2048x3x1024 ![] bcast_S_S16x2048x3x1024 (constant S_ .f32 0x3F800000#32)) (Host.exp (Host.negf (shapeCast _ g shapeCasts_S16x2048x3072_S16x2048x3x1024))))) (transpose S16x2048x3x1024 [2, 3, 0, 1] (Host.dotGeneral (φ₂ := .f32) dot_S3x512x1024_S16x2048x3x512_S3x1024x16x2048_1_3_2_01_0_2 none wb ((concatenate S16x2048x3x512 2 [⟨S16x2048x1x512, ((broadcastInDim S16x2048x1x512 ![0, 1, 3] bcast_S16x2048x512_S16x2048x1x512_0_1_3 ya) : (⟨S16x2048x1x512, .f32⟩ : BufTy).Contents (Elt Ideal))⟩, ⟨S16x2048x1x512, ((broadcastInDim S16x2048x1x512 ![0, 1, 3] bcast_S16x2048x512_S16x2048x1x512_0_1_3 yb) : (⟨S16x2048x1x512, .f32⟩ : BufTy).Contents (Elt Ideal))⟩, ⟨S16x2048x1x512, ((broadcastInDim S16x2048x1x512 ![0, 1, 3] bcast_S16x2048x512_S16x2048x1x512_0_1_3 yc) : (⟨S16x2048x1x512, .f32⟩ : BufTy).Contents (Elt Ideal))⟩] concatenates_S16x2048x1x512_S16x2048x1x512_S16x2048x1x512_S16x2048x3x512_d2 : (⟨S16x2048x3x512, .f32⟩ : BufTy).Contents (Elt Ideal)))) transposes_S3x1024x16x2048_S16x2048x3x1024_2_3_0_1)) (constant S_ .f32 0x00000000#32) reducesTo_S16x2048x3x1024_S16x2048x1024_d2 h_S_) wo)) shapeCasts_S16x2048x1024_S32768x1024

theorem composed_eq (x : FVec Ideal S16x2048x1024 .f32) (ya yb yc : FVec Ideal S16x2048x512 .f32) (g : FVec Ideal S16x2048x3072 .f32)
    (wb : FVec Ideal S3x512x1024 .f32) (wo : FVec Ideal S1024x1024 .f32) : composed x ya yb yc g wb wo = merged x ya yb yc g wb wo := by
  funext i
  idx_vars i
  pointwise [composed, merged, row, Cert.Kernel3Ideal.Merge.logistic, Fin.sum_univ_three]
  simp only [mul_comm (wb _)]

end Cert.Reference3Ideal.Merge

end
-- ==== Proof.MergeClaim.lean ====
/-
  The merge call: kernel and reference end with the same array.
-/
module

public import proofs.«01_k».proof.Defs
public import proofs.«01_k».proof.Proof.MergeReference

@[expose] public section

noncomputable section

namespace Cert.Proof

open Idealize.ShloMosaic Idealize.ShloMosaic.TcCoe Idealize.SL.Sem

theorem merge_algebraic : algebraic_Kernel3Ideal_Reference3Ideal := by
  intro m g m' g' _ hm
  refine ⟨fun c => Cert.Kernel3Ideal.Merge.result m c, ?_, ?_⟩
  · exact (θ_run Cert.Kernel3Ideal.defs _ _).mono (fun r h c => ⟨(h c).1.trans (Cert.Kernel3Ideal.Merge.final m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    obtain ⟨h0, h1, h2, h3, h4, h5, h6⟩ := hm c
    refine (Cert.Reference3Ideal.Merge.composed_eq _ _ _ _ _ _ _).trans ?_
    rw [h0, h1, h2, h3, h4, h5, h6]
    rfl

end Cert.Proof

end
-- ==== Proof.MemKvBlock.lean ====
/-
  The call preparing the memory's keys and values, one block of 256 memory rows.
-/
module

public import proofs.«01_k».proof.Proof.Gen.Kernel4Ideal.Value
public import proofs.«01_k».proof.Proof.Rms

@[expose] public section

set_option maxRecDepth 16384

noncomputable section

namespace Cert.Kernel4Ideal.MemKv

open Cert.Kernel4Ideal Cert.Kernel4Ideal.Gen Idealize.ShloMosaic Idealize.ShloMosaic.TcCoe Idealize.SL.Sem
open Cert.Proof (rms)

/-- Column `c` of the projection of one normalised memory row. -/
def proj (x g : Fin 1024 → EReal) (w : Fin 1024 → Fin 1024 → EReal) (c : Fin 1024) : EReal :=
  ∑ k : Fin 1024, rms (Ideal.ofBits .f32 0x44800000#32) x g k * w k c

/-- Entry `j` of head `h` of one row's keys: the head's 128 projected columns, normalised. -/
def key (x g : Fin 1024 → EReal) (w : Fin 1024 → Fin 1024 → EReal) (kg : Fin 128 → EReal) (h : Fin 4) (j : Fin 128) : EReal :=
  rms (Ideal.ofBits .f32 0x43000000#32) (fun j => proj x g w ⟨h.1 * 128 + j.1, by omega⟩) kg j

def keys (x0 : Vec Ideal S256x1024 .f32) (x1 : Vec Ideal S1x1024 .f32) (x2 : Vec Ideal S1024x1024 .bf16) (x3 : Vec Ideal S1x128 .f32) :
    Vec Ideal S256x512 .bf16 := fun i =>
  have hi : (i 1 : ℕ) < 512 := (i 1).isLt
  key (fun k => x0 (ix2 (i 0) k)) (fun k => x1 (ix2 0 k)) (fun k c => x2 (ix2 k c)) (fun j => x3 (ix2 0 j))
    ⟨(i 1 : ℕ) / 128, by omega⟩ ⟨(i 1 : ℕ) % 128, by omega⟩

def values (x0 : Vec Ideal S256x1024 .f32) (x1 : Vec Ideal S1x1024 .f32) (x2 : Vec Ideal S1024x1024 .bf16) :
    Vec Ideal S256x512 .bf16 := fun i =>
  have hi : (i 1 : ℕ) < 512 := (i 1).isLt
  proj (fun k => x0 (ix2 (i 0) k)) (fun k => x1 (ix2 0 k)) (fun k c => x2 (ix2 k c)) ⟨512 + (i 1 : ℕ), by omega⟩

theorem pay3_at (x0 : Vec Ideal S256x1024 .f32) (x1 : Vec Ideal S1x1024 .f32) (x2 : Vec Ideal S1024x1024 .bf16) (r : Fin 256) (c : Fin 1024) :
    k0_pay3 x0 x1 x2 (ix2 r c) = proj (fun k => x0 (ix2 r k)) (fun k => x1 (ix2 0 k)) (fun k c => x2 (ix2 k c)) c := by
  pointwise [k0_pay3, proj, rms]

theorem out5_eq (x0 : Vec Ideal S256x1024 .f32) (x1 : Vec Ideal S1x1024 .f32) (x2 : Vec Ideal S1024x1024 .bf16) (x3 : Vec Ideal S1x128 .f32) :
    out0_5 x0 x1 x2 x3 = values x0 x1 x2 := by
  funext y
  unfold out0_5
  refine View.canon_apply_of_pieces _ _ ?_ y (cover0_5 _ y)
  intro p hp
  simp only [List.mem_cons, List.not_mem_nil, or_false] at hp
  rcases hp with rfl
  intro q
  idx_vars q
  have he : r0_8.emb (ix2 q0 q1) = (ix2 q0 q1 : S256x512.Idx) := by
    funext d; apply Fin.ext; rw [Rect.emb_apply]; match d with
    | ⟨0, _⟩ => show 0 + 1 * q0.1 = q0.1; omega
    | ⟨1, _⟩ => show 0 + 1 * q1.1 = q1.1; omega
  rw [he]
  pointwise [k0_pay2, k0_pay10, pay3_at, values]

theorem out4_eq (x0 : Vec Ideal S256x1024 .f32) (x1 : Vec Ideal S1x1024 .f32) (x2 : Vec Ideal S1024x1024 .bf16) (x3 : Vec Ideal S1x128 .f32) :
    out0_4 x0 x1 x2 x3 = keys x0 x1 x2 x3 := by
  funext y
  unfold out0_4
  refine View.canon_apply_of_pieces _ _ ?_ y (cover0_4 _ _ _ _ y)
  intro p hp
  simp only [List.mem_cons, List.not_mem_nil, or_false] at hp
  rcases hp with rfl | rfl | rfl | rfl
  all_goals
    intro q
    idx_vars q
  · have he : r0_7.emb (ix2 q0 q1) = (ix2 q0 ⟨384 + q1.1, by omega⟩ : S256x512.Idx) := by
      funext d; apply Fin.ext; rw [Rect.emb_apply]; match d with
      | ⟨0, _⟩ => show 0 + 1 * q0.1 = q0.1; omega
      | ⟨1, _⟩ => show 384 + 1 * q1.1 = 384 + q1.1; omega
    have e1 : (384 + q1.1) / 128 = 3 := by omega
    have e2 : (384 + q1.1) % 128 = q1.1 := by omega
    rw [he]
    pointwise [k0_pay1, k0_pay9, k0_pay10, pay3_at, keys, key, rms]
    simp only [e1, e2, Nat.reduceMul, zero_add, Fin.eta]
  · have he : r0_6.emb (ix2 q0 q1) = (ix2 q0 ⟨256 + q1.1, by omega⟩ : S256x512.Idx) := by
      funext d; apply Fin.ext; rw [Rect.emb_apply]; match d with
      | ⟨0, _⟩ => show 0 + 1 * q0.1 = q0.1; omega
      | ⟨1, _⟩ => show 256 + 1 * q1.1 = 256 + q1.1; omega
    have e1 : (256 + q1.1) / 128 = 2 := by omega
    have e2 : (256 + q1.1) % 128 = q1.1 := by omega
    rw [he]
    pointwise [k0_pay8, k0_pay10, pay3_at, keys, key, rms]
    simp only [e1, e2, Nat.reduceMul, zero_add, Fin.eta]
  · have he : r0_5.emb (ix2 q0 q1) = (ix2 q0 ⟨128 + q1.1, by omega⟩ : S256x512.Idx) := by
      funext d; apply Fin.ext; rw [Rect.emb_apply]; match d with
      | ⟨0, _⟩ => show 0 + 1 * q0.1 = q0.1; omega
      | ⟨1, _⟩ => show 128 + 1 * q1.1 = 128 + q1.1; omega
    have e1 : (128 + q1.1) / 128 = 1 := by omega
    have e2 : (128 + q1.1) % 128 = q1.1 := by omega
    rw [he]
    pointwise [k0_pay7, k0_pay6, k0_pay5, k0_pay10, pay3_at, keys, key, rms]
    simp only [e1, e2, Nat.reduceMul, zero_add, Fin.eta]
  · have he : r0_4.emb (ix2 q0 q1) = (ix2 q0 ⟨q1.1, by omega⟩ : S256x512.Idx) := by
      funext d; apply Fin.ext; rw [Rect.emb_apply]; match d with
      | ⟨0, _⟩ => show 0 + 1 * q0.1 = q0.1; omega
      | ⟨1, _⟩ => show 0 + 1 * q1.1 = q1.1; omega
    have e1 : q1.1 / 128 = 0 := by omega
    have e2 : q1.1 % 128 = q1.1 := by omega
    rw [he]
    pointwise [k0_pay4, pay3_at, keys, key, rms]
    simp only [e1, e2, Nat.reduceMul, zero_add, Fin.eta]

end Cert.Kernel4Ideal.MemKv

end
-- ==== Proof.MemKvArray.lean ====
/-
  The call preparing the memory's keys and values, the whole arrays.
-/
module

public import proofs.«01_k».proof.Proof.MemKvBlock
public import Idealize.ShloMosaic.Lib.Tactic
public import Idealize.ShloMosaic.Lib.StableHlo.ReadAt

@[expose] public section

set_option maxRecDepth 16384

noncomputable section

namespace Cert.Kernel4Ideal.MemKv

open Cert.Kernel4Ideal Cert.Kernel4Ideal.Gen Idealize.ShloMosaic Idealize.ShloMosaic.TcCoe Idealize.SL.Sem
open Idealize.ShloMosaic.Pipeline (Dat)

/-- The keys as a function of the four arguments. -/
def keysOf (x : FVec Ideal S16x256x1024 .f32) (g : FVec Ideal S1024 .f32) (w : FVec Ideal S1024x1024 .f32) (kg : FVec Ideal S128 .f32) :
    FVec Ideal S4096x512 .bf16 := fun i =>
  have h0 : (i 0 : ℕ) < 4096 := (i 0).isLt
  have h1 : (i 1 : ℕ) < 512 := (i 1).isLt
  key (fun k => x (ix3 ⟨(i 0 : ℕ) / 256, by omega⟩ ⟨(i 0 : ℕ) % 256, by omega⟩ k)) (fun k => g (ix1 k)) (fun k c => w (ix2 k c))
    (fun j => kg (ix1 j)) ⟨(i 1 : ℕ) / 128, by omega⟩ ⟨(i 1 : ℕ) % 128, by omega⟩

/-- The values as a function of the first three arguments. -/
def valuesOf (x : FVec Ideal S16x256x1024 .f32) (g : FVec Ideal S1024 .f32) (w : FVec Ideal S1024x1024 .f32) :
    FVec Ideal S4096x512 .bf16 := fun i =>
  have h0 : (i 0 : ℕ) < 4096 := (i 0).isLt
  have h1 : (i 1 : ℕ) < 512 := (i 1).isLt
  proj (fun k => x (ix3 ⟨(i 0 : ℕ) / 256, by omega⟩ ⟨(i 0 : ℕ) % 256, by omega⟩ k)) (fun k => g (ix1 k)) (fun k c => w (ix2 k c))
    ⟨512 + (i 1 : ℕ), by omega⟩

variable (m : (ℓ : Loc nD τ sig) → Buf (Elt Ideal) ℓ) (ρ : Dev nD → PrngReg)

def result4 (c : Dev nD) : FVec Ideal S4096x512 .bf16 :=
  keysOf (m ((c : Thread nD τ).loc main_arg0)) (m ((c : Thread nD τ).loc main_arg1)) (m ((c : Thread nD τ).loc main_arg2))
    (m ((c : Thread nD τ).loc main_arg3))

def result5 (c : Dev nD) : FVec Ideal S4096x512 .bf16 :=
  valuesOf (m ((c : Thread nD τ).loc main_arg0)) (m ((c : Thread nD τ).loc main_arg1)) (m ((c : Thread nD τ).loc main_arg2))

/-! ## The host operations before the call -/

theorem V0 (c : Dev nD) (r : Fin 4096) (k : Fin 1024) : V m c main_v0 (ix2 r k)
    = (m ((c : Thread nD τ).loc main_arg0) : FVec Ideal S16x256x1024 .f32) (ix3 ⟨r.1 / 256, by omega⟩ ⟨r.1 % 256, by omega⟩ k) := by
  unfold V; after_reads_at
theorem V1 (c : Dev nD) (k : Fin 1024) : V m c main_v1 (ix2 0 k)
    = (m ((c : Thread nD τ).loc main_arg1) : FVec Ideal S1024 .f32) (ix1 k) := by
  unfold V; after_reads_at
theorem V2 (c : Dev nD) (r k : Fin 1024) : V m c main_v2 (ix2 r k)
    = (m ((c : Thread nD τ).loc main_arg2) : FVec Ideal S1024x1024 .f32) (ix2 r k) := by
  unfold V; after_reads_at
theorem V3 (c : Dev nD) (k : Fin 128) : V m c main_v3 (ix2 0 k)
    = (m ((c : Thread nD τ).loc main_arg3) : FVec Ideal S128 .f32) (ix1 k) := by
  unfold V; after_reads_at

/-! ## The blocks -/

theorem index_facts : ∀ t : Fin cfg0.N,
    (win0_0.index t (0 : Fin 2) = t.1 ∧ win0_0.index t (1 : Fin 2) = 0) ∧ (win0_1.index t (0 : Fin 2) = 0 ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = t.1 ∧ win0_4.index t (1 : Fin 2) = 0) ∧ (win0_5.index t (0 : Fin 2) = t.1 ∧ win0_5.index t (1 : Fin 2) = 0) :=
  (by decide +kernel : ∀ t : Fin grid0.N, _)

theorem lt16 (t : Fin cfg0.N) : t.1 < 16 := lt_of_lt_of_eq t.isLt N_0

theorem blk0 (c : Dev nD) (t : Fin cfg0.N) (r : Fin 256) (k : Fin 1024) :
    iblk m c 0 t (ix2 r k) = V m c main_v0 (ix2 ⟨t.1 * 256 + r.1, by have := lt16 t; omega⟩ k) := by
  show V m c main_v0 ((win0_0.rect t).emb (ix2 r k)) = _
  congr 1; funext a; apply Fin.ext; refine (Pipeline.Window.rect_emb_val win0_0 t (ix2 r k) a).trans ?_
  have h := (index_facts t).1
  match a with
  | ⟨0, _⟩ => show win0_0.index t (0 : Fin 2) * 256 + r.1 = t.1 * 256 + r.1; rw [h.1]
  | ⟨1, _⟩ => show win0_0.index t (1 : Fin 2) * 1024 + k.1 = k.1; rw [h.2]; omega

theorem blk1 (c : Dev nD) (t : Fin cfg0.N) (r : Fin 1) (k : Fin 1024) :
    iblk m c 1 t (ix2 r k) = V m c main_v1 (ix2 r k) := by
  show V m c main_v1 ((win0_1.rect t).emb (ix2 r k)) = _
  congr 1; funext a; apply Fin.ext; refine (Pipeline.Window.rect_emb_val win0_1 t (ix2 r k) a).trans ?_
  have h := (index_facts t).2.1
  match a with
  | ⟨0, _⟩ => show win0_1.index t (0 : Fin 2) * 1 + r.1 = r.1; rw [h.1]; omega
  | ⟨1, _⟩ => show win0_1.index t (1 : Fin 2) * 1024 + k.1 = k.1; rw [h.2]; omega

theorem blk2 (c : Dev nD) (t : Fin cfg0.N) (r : Fin 1024) (k : Fin 1024) :
    iblk m c 2 t (ix2 r k) = V m c main_v2 (ix2 r k) := by
  show V m c main_v2 ((win0_2.rect t).emb (ix2 r k)) = _
  congr 1; funext a; apply Fin.ext; refine (Pipeline.Window.rect_emb_val win0_2 t (ix2 r k) a).trans ?_
  have h := (index_facts t).2.2.1
  match a with
  | ⟨0, _⟩ => show win0_2.index t (0 : Fin 2) * 1024 + r.1 = r.1; rw [h.1]; omega
  | ⟨1, _⟩ => show win0_2.index t (1 : Fin 2) * 1024 + k.1 = k.1; rw [h.2]; omega

theorem blk3 (c : Dev nD) (t : Fin cfg0.N) (r : Fin 1) (k : Fin 128) :
    iblk m c 3 t (ix2 r k) = V m c main_v3 (ix2 r k) := by
  show V m c main_v3 ((win0_3.rect t).emb (ix2 r k)) = _
  congr 1; funext a; apply Fin.ext; refine (Pipeline.Window.rect_emb_val win0_3 t (ix2 r k) a).trans ?_
  have h := (index_facts t).2.2.2.1
  match a with
  | ⟨0, _⟩ => show win0_3.index t (0 : Fin 2) * 1 + r.1 = r.1; rw [h.1]; omega
  | ⟨1, _⟩ => show win0_3.index t (1 : Fin 2) * 128 + k.1 = k.1; rw [h.2]; omega

theorem proj_congr {x x' g g' : Fin 1024 → EReal} {w w' : Fin 1024 → Fin 1024 → EReal} (hx : x = x') (hg : g = g') (hw : w = w') (c : Fin 1024) :
    proj x g w c = proj x' g' w' c := by rw [hx, hg, hw]
theorem key_congr {x x' g g' : Fin 1024 → EReal} {w w' : Fin 1024 → Fin 1024 → EReal} {kg kg' : Fin 128 → EReal} (hx : x = x') (hg : g = g')
    (hw : w = w') (hk : kg = kg') (h : Fin 4) (j : Fin 128) : key x g w kg h j = key x' g' w' kg' h j := by rw [hx, hg, hw, hk]

/-- The keys of point `t` are rows `256 t …` of the result. -/
theorem keys_eq (c : Dev nD) (t : Fin cfg0.N) (r : Fin 256) (k : Fin 512) :
    keys (iblk m c 0 t) (iblk m c 1 t) (iblk m c 2 t) (iblk m c 3 t) (ix2 r k)
      = result4 m c (ix2 ⟨t.1 * 256 + r.1, by have := lt16 t; omega⟩ k) := by
  exact key_congr (funext fun k => (blk0 m c t r k).trans (V0 m c _ k)) (funext fun k => (blk1 m c t 0 k).trans (V1 m c k))
    (funext fun k => funext fun d => (blk2 m c t k d).trans (V2 m c k d)) (funext fun k => (blk3 m c t 0 k).trans (V3 m c k)) _ _

theorem values_eq (c : Dev nD) (t : Fin cfg0.N) (r : Fin 256) (k : Fin 512) :
    values (iblk m c 0 t) (iblk m c 1 t) (iblk m c 2 t) (ix2 r k)
      = result5 m c (ix2 ⟨t.1 * 256 + r.1, by have := lt16 t; omega⟩ k) := by
  exact proj_congr (funext fun k => (blk0 m c t r k).trans (V0 m c _ k)) (funext fun k => (blk1 m c t 0 k).trans (V1 m c k))
    (funext fun k => funext fun d => (blk2 m c t k d).trans (V2 m c k d)) _

theorem flushed4_eq (c : Dev nD) (t : Fin cfg0.N) (_ : (cfg0.win 4).flush t = true) :
    (dats m 0 c).flushed 4 t = ((cfg0.win 4).blk t).view.read (Elt Ideal) (result4 m c) := by
  rw [Value.flushed4, out4_eq]
  funext y
  show keys (iblk m c 0 t) (iblk m c 1 t) (iblk m c 2 t) (iblk m c 3 t) y = result4 m c ((win0_4.rect t).emb y)
  obtain ⟨r, k, rfl⟩ : ∃ (r : Fin 256) (k : Fin 512), y = ix2 r k := ⟨y 0, y 1, eq_ix2 (n0 := 256) (n1 := 512) y⟩
  rw [keys_eq]
  congr 1; funext a; apply Fin.ext; refine Eq.trans ?_ (Pipeline.Window.rect_emb_val win0_4 t (ix2 r k) a).symm
  have h := (index_facts t).2.2.2.2.1
  match a with
  | ⟨0, _⟩ => show t.1 * 256 + r.1 = win0_4.index t (0 : Fin 2) * 256 + r.1; rw [h.1]
  | ⟨1, _⟩ => show k.1 = win0_4.index t (1 : Fin 2) * 512 + k.1; rw [h.2]; omega

/-- The 16 blocks cover the array. -/
theorem final4 (c : Dev nD) : (dats m 0 c).arrAt 4 cfg0.N = result4 m c :=
  (dats m 0 c).arrAt_eq_of_cover 4 (result4 m c) (flushed4_eq m c) fun (i : S4096x512.Idx) => by
    have h0 : (i 0 : ℕ) < 4096 := (i 0).isLt
    have h1 : (i 1 : ℕ) < 512 := (i 1).isLt
    have ht : (i 0 : ℕ) / 256 < cfg0.N := lt_of_lt_of_eq (by omega) N_0.symm
    have h := (index_facts ⟨(i 0 : ℕ) / 256, ht⟩).2.2.2.2.1
    refine ⟨⟨(i 0 : ℕ) / 256, ht⟩, flush0_4 _, ?_⟩
    show i ∈ ((View.whole main_v4_0).slice (win0_4.rect ⟨(i 0 : ℕ) / 256, ht⟩)).set
    rw [View.set_slice_whole, Rect.mem_set_unit]
    intro a
    match a with
    | ⟨0, _⟩ => show win0_4.index ⟨(i 0 : ℕ) / 256, ht⟩ (0 : Fin 2) * 256 ≤ (i 0 : ℕ) ∧ (i 0 : ℕ) < win0_4.index ⟨(i 0 : ℕ) / 256, ht⟩ (0 : Fin 2) * 256 + 256
                rw [h.1]; dsimp only; omega
    | ⟨1, _⟩ => show win0_4.index ⟨(i 0 : ℕ) / 256, ht⟩ (1 : Fin 2) * 512 ≤ (i 1 : ℕ) ∧ (i 1 : ℕ) < win0_4.index ⟨(i 0 : ℕ) / 256, ht⟩ (1 : Fin 2) * 512 + 512
                rw [h.2]; omega

theorem flushed5_eq (c : Dev nD) (t : Fin cfg0.N) (_ : (cfg0.win 5).flush t = true) :
    (dats m 0 c).flushed 5 t = ((cfg0.win 5).blk t).view.read (Elt Ideal) (result5 m c) := by
  rw [Value.flushed5, out5_eq]
  funext y
  show values (iblk m c 0 t) (iblk m c 1 t) (iblk m c 2 t) y = result5 m c ((win0_5.rect t).emb y)
  obtain ⟨r, k, rfl⟩ : ∃ (r : Fin 256) (k : Fin 512), y = ix2 r k := ⟨y 0, y 1, eq_ix2 (n0 := 256) (n1 := 512) y⟩
  rw [values_eq]
  congr 1; funext a; apply Fin.ext; refine Eq.trans ?_ (Pipeline.Window.rect_emb_val win0_5 t (ix2 r k) a).symm
  have h := (index_facts t).2.2.2.2.2
  match a with
  | ⟨0, _⟩ => show t.1 * 256 + r.1 = win0_5.index t (0 : Fin 2) * 256 + r.1; rw [h.1]
  | ⟨1, _⟩ => show k.1 = win0_5.index t (1 : Fin 2) * 512 + k.1; rw [h.2]; omega

/-- The 16 blocks cover the array. -/
theorem final5 (c : Dev nD) : (dats m 0 c).arrAt 5 cfg0.N = result5 m c :=
  (dats m 0 c).arrAt_eq_of_cover 5 (result5 m c) (flushed5_eq m c) fun (i : S4096x512.Idx) => by
    have h0 : (i 0 : ℕ) < 4096 := (i 0).isLt
    have h1 : (i 1 : ℕ) < 512 := (i 1).isLt
    have ht : (i 0 : ℕ) / 256 < cfg0.N := lt_of_lt_of_eq (by omega) N_0.symm
    have h := (index_facts ⟨(i 0 : ℕ) / 256, ht⟩).2.2.2.2.2
    refine ⟨⟨(i 0 : ℕ) / 256, ht⟩, flush0_5 _, ?_⟩
    show i ∈ ((View.whole main_v4_1).slice (win0_5.rect ⟨(i 0 : ℕ) / 256, ht⟩)).set
    rw [View.set_slice_whole, Rect.mem_set_unit]
    intro a
    match a with
    | ⟨0, _⟩ => show win0_5.index ⟨(i 0 : ℕ) / 256, ht⟩ (0 : Fin 2) * 256 ≤ (i 0 : ℕ) ∧ (i 0 : ℕ) < win0_5.index ⟨(i 0 : ℕ) / 256, ht⟩ (0 : Fin 2) * 256 + 256
                rw [h.1]; dsimp only; omega
    | ⟨1, _⟩ => show win0_5.index ⟨(i 0 : ℕ) / 256, ht⟩ (1 : Fin 2) * 512 ≤ (i 1 : ℕ) ∧ (i 1 : ℕ) < win0_5.index ⟨(i 0 : ℕ) / 256, ht⟩ (1 : Fin 2) * 512 + 512
                rw [h.2]; omega

end Cert.Kernel4Ideal.MemKv

end
-- ==== Proof.MemKvReference.lean ====
/-
  The reference's memory keys and values: the composed terms its run ends with, read at an index.
-/
module

public import proofs.«01_k».proof.Proof.Gen.Reference4Ideal.Run
public import proofs.«01_k».proof.Proof.MemKvArray

@[expose] public section

set_option maxRecDepth 16384

noncomputable section

namespace Cert.Reference4Ideal.MemKv

open Cert.Reference4Ideal Cert.Reference4Ideal.Gen Idealize.ShloMosaic Idealize.ShloMosaic.TcCoe Idealize.SL.Sem
open Cert.Kernel4Ideal.MemKv (keysOf valuesOf proj key)
open Cert.Proof (rms)

/-- The normalised memory times the weight. -/
def projected (x : FVec Ideal S16x256x1024 .f32) (g : FVec Ideal S1024 .f32) (w : FVec Ideal S1024x1024 .f32) : FVec Ideal S16x256x1024 .f32 :=
  Host.dotGeneral dot_S16x256x1024_S1024x1024_S16x256x1024_2_0_01_1_n_n none (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) w

/-- Its first half by heads. -/
def headed (x : FVec Ideal S16x256x1024 .f32) (g : FVec Ideal S1024 .f32) (w : FVec Ideal S1024x1024 .f32) : FVec Ideal S16x256x4x128 .f32 :=
  shapeCast _ (extractStridedSlice S16x256x1x4x128 ![0, 0, 0, 0, 0] (shapeCast _ (projected x g w) shapeCasts_S16x256x1024_S16x256x2x4x128) slices_S16x256x2x4x128_S16x256x1x4x128_0_0_0_0_0) shapeCasts_S16x256x1x4x128_S16x256x4x128

def composedKeys (x : FVec Ideal S16x256x1024 .f32) (g : FVec Ideal S1024 .f32) (w : FVec Ideal S1024x1024 .f32) (kg : FVec Ideal S128 .f32) : FVec Ideal S4096x512 .bf16 :=
  truncf .bf16 (shapeCast _ (mulf (mulf (headed x g w) (broadcastInDim S16x256x4x128 ![0, 1, 2, 3] bcast_S16x256x4x1_S16x256x4x128_0_1_2_3 (Host.rsqrt (addf (Host.divf (broadcastInDim S16x256x4x1 ![0, 1, 2] bcast_S16x256x4_S16x256x4x1_0_1_2 (Host.reduceAdd (mulf (headed x g w) (headed x g w)) (constant S_ .f32 0x00000000#32) reducesTo_S16x256x4x128_S16x256x4_d3 h_S_)) (broadcastInDim S16x256x4x1 ![] bcast_S_S16x256x4x1 (constant S_ .f32 0x43000000#32))) (broadcastInDim S16x256x4x1 ![] bcast_S_S16x256x4x1 (constant S_ .f32 0x358637BD#32)))))) (broadcastInDim S16x256x4x128 ![0, 1, 2, 3] bcast_S1x1x1x128_S16x256x4x128_0_1_2_3 (broadcastInDim S1x1x1x128 ![3] bcast_S128_S1x1x1x128_3 kg))) shapeCasts_S16x256x4x128_S4096x512) bitsLt_bf16_f32

def composedValues (x : FVec Ideal S16x256x1024 .f32) (g : FVec Ideal S1024 .f32) (w : FVec Ideal S1024x1024 .f32) : FVec Ideal S4096x512 .bf16 :=
  truncf .bf16 (shapeCast _ (shapeCast _ (extractStridedSlice S16x256x1x4x128 ![0, 0, 1, 0, 0] (shapeCast _ (projected x g w) shapeCasts_S16x256x1024_S16x256x2x4x128) slices_S16x256x2x4x128_S16x256x1x4x128_0_0_1_0_0) shapeCasts_S16x256x1x4x128_S16x256x4x128) shapeCasts_S16x256x4x128_S4096x512) bitsLt_bf16_f32

theorem projected_at (x : FVec Ideal S16x256x1024 .f32) (g : FVec Ideal S1024 .f32) (w : FVec Ideal S1024x1024 .f32) (b : Fin 16) (s : Fin 256) (c : Fin 1024) :
    projected x g w (ix3 b s c) = proj (fun k => x (ix3 b s k)) (fun k => g (ix1 k)) (fun k c => w (ix2 k c)) c := by
  pointwise [projected, proj, rms]

theorem headed_at (x : FVec Ideal S16x256x1024 .f32) (g : FVec Ideal S1024 .f32) (w : FVec Ideal S1024x1024 .f32) (b : Fin 16) (s : Fin 256) (h : Fin 4) (j : Fin 128) :
    headed x g w (ix4 b s h j) = proj (fun k => x (ix3 b s k)) (fun k => g (ix1 k)) (fun k c => w (ix2 k c)) ⟨h.1 * 128 + j.1, by omega⟩ := by
  pointwise [headed, projected_at]

theorem keys_eq (x : FVec Ideal S16x256x1024 .f32) (g : FVec Ideal S1024 .f32) (w : FVec Ideal S1024x1024 .f32) (kg : FVec Ideal S128 .f32) : composedKeys x g w kg = keysOf x g w kg := by
  funext i
  idx_vars i
  pointwise [composedKeys, headed_at, keysOf, key, rms]

theorem values_eq (x : FVec Ideal S16x256x1024 .f32) (g : FVec Ideal S1024 .f32) (w : FVec Ideal S1024x1024 .f32) : composedValues x g w = valuesOf x g w := by
  funext i
  idx_vars i
  pointwise [composedValues, projected_at, valuesOf]
  congr 2; omega

end Cert.Reference4Ideal.MemKv

end
-- ==== Proof.MemKvClaim.lean ====
/-
  The call preparing the memory's keys and values: kernel and reference end with the same two arrays.
-/
module

public import proofs.«01_k».proof.Defs
public import proofs.«01_k».proof.Proof.MemKvReference

@[expose] public section

noncomputable section

namespace Cert.Proof

open Idealize.ShloMosaic Idealize.ShloMosaic.TcCoe Idealize.SL.Sem

theorem memKv_algebraic : algebraic_Kernel4Ideal_Reference4Ideal := by
  intro m g m' g' _ hm
  refine ⟨fun c => Cert.Kernel4Ideal.MemKv.result4 m c, fun c => Cert.Kernel4Ideal.MemKv.result5 m c, ?_, ?_⟩
  · exact (θ_run Cert.Kernel4Ideal.defs _ _).mono
      (fun r h c => ⟨(h c).1.trans (Cert.Kernel4Ideal.MemKv.final4 m c), (h c).2.1.trans (Cert.Kernel4Ideal.MemKv.final5 m c), (h c).2.2⟩)
      (Cert.Kernel4Ideal.Value.run_blocks (F := Ideal) m g)
  · refine (θ_run Cert.Reference4Ideal.defs _ _).mono (fun r h c => ⟨(h c).1.trans ?_, (h c).2.1.trans ?_, (h c).2.2⟩)
      (Cert.Reference4Ideal.Value.run (F := Ideal) m' g')
    · obtain ⟨h0, h1, h2, h3⟩ := hm c
      refine (Cert.Reference4Ideal.MemKv.keys_eq _ _ _ _).trans ?_
      rw [h0, h1, h2, h3]
      rfl
    · obtain ⟨h0, h1, h2, h3⟩ := hm c
      refine (Cert.Reference4Ideal.MemKv.values_eq _ _ _).trans ?_
      rw [h0, h1, h2]
      rfl

end Cert.Proof

end
-- ==== Proof.lean ====
/-
  The claim, assembled from the frames and from one module of value claims per call.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Pre_finite
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Value
public import proofs.«01_k».proof.Proof.Gen.Reference4Ideal.Run
public import proofs.«01_k».proof.Proof.AttnFrame
public import proofs.«01_k».proof.Proof.AttnFrameBits
public import proofs.«01_k».proof.Proof.AttnClaim
public import proofs.«01_k».proof.Proof.InProjClaim
public import proofs.«01_k».proof.Proof.MergeClaim
public import proofs.«01_k».proof.Proof.MemKvClaim

@[expose] public section

noncomputable section

namespace Cert.Proof

open Idealize.ShloMosaic Idealize.SL.Sem

/-- A reference's frame: its run without the value. -/
theorem frame_reference2 : quiescent_Reference2Ideal := fun m ρ _ =>
  (θ_run Cert.Reference2Ideal.defs _ _).mono (fun r h => ⟨fun c => (h c).2.2.2, sem_eq_zero_of_no_sems (by decide) r.2⟩) (Cert.Reference2Ideal.Value.run (F := Ideal) m ρ)

theorem frame_reference3 : quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem frame_reference4 : quiescent_Reference4Ideal := fun m ρ _ =>
  (θ_run Cert.Reference4Ideal.defs _ _).mono (fun r h => ⟨fun c => (h c).2.2, sem_eq_zero_of_no_sems (by decide) r.2⟩) (Cert.Reference4Ideal.Value.run (F := Ideal) m ρ)

theorem frame_reference : quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_kernel : quiescent_KernelIdeal := fun m ρ _ => Cert.KernelIdeal.Attn.frame m ρ

/-- The scale of the attention's scores is the constant it is named after, in each of the four heads. -/
theorem preserves1 : preserves_Kernel_KernelIdeal :=
  IdealRules.named_const.statement Cert.KernelIdeal.κ "q_scale" .f32 0x3E38AA3B#32 ((8⁻¹ * (Real.log 2)⁻¹ : ℝ) : EReal) rfl

/-- The scale of the scores over the memory is the constant it is named after. -/
theorem preserves2 : preserves_Kernel2_Kernel2Ideal :=
  IdealRules.named_const.statement Cert.Kernel2Ideal.κ "c_scale" .f32 0x3E0293EE#32 (((Real.sqrt 128)⁻¹ * (Real.log 2)⁻¹ : ℝ) : EReal) rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts, Cert.Pre_finite2.Gen.facts,
    Cert.KernelIdeal.Attn.frame_bits, frame_kernel, fun m ρ _ => frame_kernel m ρ trivial, frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    preserves1, attn_algebraic, preserves2, inProj_algebraic, trivial, merge_algebraic, trivial, memKv_algebraic⟩

end Cert.Proof

end
